-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_args [hPre_finite_args : Cert.Pre_finite_args.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_args [hPre_finite_args : Cert.Pre_finite_args.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_args [hPre_finite_args : Cert.Pre_finite_args.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_args.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_args [hPre_finite_args : Cert.Pre_finite_args.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_args.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_back_rows_in_range : Cert.Pre_back_rows_in_range.Facts] (m : (ℓ : Loc Cert.Kernel10.nD Cert.Kernel10.τ Cert.Kernel10.sig) → Buf (Elt Bits) ℓ) : Prop :=
  ∀ c : Dev Cert.Kernel10.nD,
    (Cert.Pre_back_rows_in_range.fn (F := Bits) (m ((c.tc : Thread Cert.Kernel10.nD Cert.Kernel10.τ).loc Cert.Kernel10.main_arg0)) (m ((c.tc : Thread Cert.Kernel10.nD Cert.Kernel10.τ).loc Cert.Kernel10.main_arg1))) = (fun _ => 1#1)

def Pre_Kernel10Ideal [hPre_back_rows_in_range : Cert.Pre_back_rows_in_range.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_back_rows_in_range.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_back_rows_in_range [hPre_back_rows_in_range : Cert.Pre_back_rows_in_range.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_back_rows_in_range.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))) = (fun _ => 1#1)

def Pre_Reference10 [hPre_back_rows_in_range : Cert.Pre_back_rows_in_range.Facts] (m : (ℓ : Loc Cert.Reference10.nD Cert.Reference10.τ Cert.Reference10.sig) → Buf (Elt Bits) ℓ) : Prop :=
  ∀ c : Dev Cert.Reference10.nD,
    (Cert.Pre_back_rows_in_range.fn (F := Bits) (m ((c.tc : Thread Cert.Reference10.nD Cert.Reference10.τ).loc Cert.Reference10.main_arg0)) (m ((c.tc : Thread Cert.Reference10.nD Cert.Reference10.τ).loc Cert.Reference10.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_args [hKernel3Ideal : Cert.Kernel3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_args m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_args [hReference3Ideal : Cert.Reference3Ideal.Facts] [hPre_finite_args : Cert.Pre_finite_args.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_args m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_args [hKernel4Ideal : Cert.Kernel4Ideal.Facts] [hPre_finite_args : Cert.Pre_finite_args.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_args m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_args [hReference4Ideal : Cert.Reference4Ideal.Facts] [hPre_finite_args : Cert.Pre_finite_args.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_args m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] [hPre_back_rows_in_range : Cert.Pre_back_rows_in_range.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (Cert.Kernel10.threads (F := Bits)) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] [hPre_back_rows_in_range : Cert.Pre_back_rows_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (Cert.Kernel10Ideal.threads (F := Ideal)) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_back_rows_in_range [hReference10Ideal : Cert.Reference10Ideal.Facts] [hPre_back_rows_in_range : Cert.Pre_back_rows_in_range.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_back_rows_in_range m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10 [hReference10 : Cert.Reference10.Facts] [hPre_back_rows_in_range : Cert.Pre_back_rows_in_range.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0)
      ∧ r.2.mem ((c.tc : Thread Cert.Reference10.nD Cert.Reference10.τ).loc Cert.Reference10.main_arg1) = m ((c.tc : Thread Cert.Reference10.nD Cert.Reference10.τ).loc Cert.Reference10.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_args [hKernel3Ideal : Cert.Kernel3Ideal.Facts] [hReference3Ideal : Cert.Reference3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_args m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_args [hKernel4Ideal : Cert.Kernel4Ideal.Facts] [hReference4Ideal : Cert.Reference4Ideal.Facts] [hPre_finite_args : Cert.Pre_finite_args.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_args m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.bf16_pair.BufferStatement Cert.Kernel5Ideal.S4x32768x2x256 Cert.Kernel5Ideal.S4x32768x1x256
  ∧ IdealRules.bf16_pair.BufferStatement Cert.Kernel5Ideal.S4x256x2x256 Cert.Kernel5Ideal.S4x256x1x256
  ∧ IdealRules.bf16_pair.PackStatement Cert.Kernel5Ideal.S256x1024
  ∧ IdealRules.bf16_pair.Statement Cert.Kernel5Ideal.S1x256x2x256 Cert.Kernel5Ideal.S1x256x1x256

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v20_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] [hPre_back_rows_in_range : Cert.Pre_back_rows_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (Cert.Kernel10Ideal.threads (F := Ideal)) ⟨m, fun _ => 0, g⟩ (fun r => ∀ c : Dev Cert.Kernel10Ideal.nD,
          r.2.mem ((c.tc : Thread Cert.Kernel10Ideal.nD Cert.Kernel10Ideal.τ).loc Cert.Kernel10Ideal.main_v12) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def bitexact_Kernel10_Reference10 [hKernel10 : Cert.Kernel10.Facts] [hReference10 : Cert.Reference10.Facts] [hPre_back_rows_in_range : Cert.Pre_back_rows_in_range.Facts] : Prop :=
  ∀ (m : (ℓ : Loc Cert.Kernel10.nD Cert.Kernel10.τ Cert.Kernel10.sig) → Buf (Elt Bits) ℓ) (g : Dev Cert.Kernel10.nD → PrngReg)
    (m' : (ℓ : Loc Cert.Reference10.nD Cert.Reference10.τ Cert.Reference10.sig) → Buf (Elt Bits) ℓ) (g' : Dev Cert.Reference10.nD → PrngReg), Pre_Kernel10 m →
    (∀ c : Dev Cert.Kernel10.nD,
      m' ((c.tc : Thread Cert.Reference10.nD Cert.Reference10.τ).loc Cert.Reference10.main_arg0) = m ((c.tc : Thread Cert.Kernel10.nD Cert.Kernel10.τ).loc Cert.Kernel10.main_arg0)
      ∧ m' ((c.tc : Thread Cert.Reference10.nD Cert.Reference10.τ).loc Cert.Reference10.main_arg1) = m ((c.tc : Thread Cert.Kernel10.nD Cert.Kernel10.τ).loc Cert.Kernel10.main_arg1)) →
    ∃ (v0 : (c : Dev Cert.Kernel10.nD) → Buf (Elt Bits) ((c.tc : Thread Cert.Kernel10.nD Cert.Kernel10.τ).loc Cert.Kernel10.main_v12)),
      θ_run (Cert.Kernel10.defs (F := Bits)) (Cert.Kernel10.threads (F := Bits)) ⟨m, fun _ => 0, g⟩ (fun r => ∀ c : Dev Cert.Kernel10.nD,
          r.2.mem ((c.tc : Thread Cert.Kernel10.nD Cert.Kernel10.τ).loc Cert.Kernel10.main_v12) = v0 c
          ∧ r.2.mem ((c.tc : Thread Cert.Kernel10.nD Cert.Kernel10.τ).loc Cert.Kernel10.main_arg0) = m ((c.tc : Thread Cert.Kernel10.nD Cert.Kernel10.τ).loc Cert.Kernel10.main_arg0)
          ∧ r.2.mem ((c.tc : Thread Cert.Kernel10.nD Cert.Kernel10.τ).loc Cert.Kernel10.main_arg1) = m ((c.tc : Thread Cert.Kernel10.nD Cert.Kernel10.τ).loc Cert.Kernel10.main_arg1))
      ∧ θ_run (Cert.Reference10.defs (F := Bits)) (onTc (τ := Cert.Reference10.τ) (Cert.Reference10.main (F := Bits))) ⟨m', fun _ => 0, g'⟩ (fun r => ∀ c : Dev Cert.Reference10.nD,
          r.2.mem ((c.tc : Thread Cert.Reference10.nD Cert.Reference10.τ).loc Cert.Reference10.main_v0) = v0 c
          ∧ r.2.mem ((c.tc : Thread Cert.Reference10.nD Cert.Reference10.τ).loc Cert.Reference10.main_arg0) = m' ((c.tc : Thread Cert.Reference10.nD Cert.Reference10.τ).loc Cert.Reference10.main_arg0)
          ∧ r.2.mem ((c.tc : Thread Cert.Reference10.nD Cert.Reference10.τ).loc Cert.Reference10.main_arg1) = m' ((c.tc : Thread Cert.Reference10.nD Cert.Reference10.τ).loc Cert.Reference10.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hReference10 : Cert.Reference10.Facts) (hPre_rows_in_range : Cert.Pre_rows_in_range.Facts) (hPre_finite_args : Cert.Pre_finite_args.Facts) (hPre_back_rows_in_range : Cert.Pre_back_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference) (hPre_rows_in_range := hPre_rows_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_args (hKernel3Ideal := hKernel3Ideal) (hPre_finite_args := hPre_finite_args)
    ∧ quiescent_Reference3Ideal (hReference3Ideal := hReference3Ideal)
    ∧ quiescent_Reference3Ideal_pre_finite_args (hReference3Ideal := hReference3Ideal) (hPre_finite_args := hPre_finite_args)
    ∧ quiescent_Kernel4 (hKernel4 := hKernel4)
    ∧ quiescent_Kernel4Ideal (hKernel4Ideal := hKernel4Ideal)
    ∧ quiescent_Kernel4Ideal_pre_finite_args (hKernel4Ideal := hKernel4Ideal) (hPre_finite_args := hPre_finite_args)
    ∧ quiescent_Reference4Ideal (hReference4Ideal := hReference4Ideal)
    ∧ quiescent_Reference4Ideal_pre_finite_args (hReference4Ideal := hReference4Ideal) (hPre_finite_args := hPre_finite_args)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_back_rows_in_range := hPre_back_rows_in_range)
    ∧ quiescent_Kernel10Ideal (hKernel10Ideal := hKernel10Ideal) (hPre_back_rows_in_range := hPre_back_rows_in_range)
    ∧ quiescent_Reference10Ideal (hReference10Ideal := hReference10Ideal)
    ∧ quiescent_Reference10Ideal_pre_back_rows_in_range (hReference10Ideal := hReference10Ideal) (hPre_back_rows_in_range := hPre_back_rows_in_range)
    ∧ quiescent_Reference10 (hReference10 := hReference10) (hPre_back_rows_in_range := hPre_back_rows_in_range)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_args (hKernel3Ideal := hKernel3Ideal) (hReference3Ideal := hReference3Ideal) (hPre_finite_args := hPre_finite_args)
    ∧ preserves_Kernel4_Kernel4Ideal
    ∧ algebraic_Kernel4Ideal_Reference4Ideal_pre_finite_args (hKernel4Ideal := hKernel4Ideal) (hReference4Ideal := hReference4Ideal) (hPre_finite_args := hPre_finite_args)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal) (hPre_back_rows_in_range := hPre_back_rows_in_range)
    ∧ bitexact_Kernel10_Reference10 (hKernel10 := hKernel10) (hReference10 := hReference10) (hPre_back_rows_in_range := hPre_back_rows_in_range)
-- ==== Pre_back_rows_in_range.lean ====
abbrev S4x73728x256 : Shape := ⟨3, ![4, 73728, 256]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S4x73728x256 32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 73728#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Pre_finite_args.lean ====
abbrev S32768x1536 : Shape := ⟨2, ![32768, 1536]⟩
abbrev S32768x768 : Shape := ⟨2, ![32768, 768]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S32768x768 : S_.BroadcastsInDim S32768x768 (![] : Fin 0 → Fin S32768x768.rank)
  reducesTo_S32768x768_S_d0_1 : S32768x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S64 .f32 := Host.absf main_arg5
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  main_v30

def fn {F : FTy → Type} [FloatOps F] (main_arg0 : FVec F S32768x1536 .bf16) (main_arg1 : FVec F S32768x768 .bf16) (main_arg2 : FVec F S64 .f32) (main_arg3 : FVec F S64 .f32) (main_arg4 : FVec F S64 .f32) (main_arg5 : FVec F S64 .f32) (main_arg6 : FVec F S128 .f32) : IVec S_ 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_c : IVec S_ 1 := constantI S_ 1 1#1
  let main_v4 : IVec S_ 1 := (fun x v => Host.reduce IntOp.andi x v reducesTo_S32768x1536_S_d0_1 h_S_) main_v3 main_c
  let main_v5 : FVec F S32768x768 .f32 := (extf .f32 · bitsLt_bf16_f32) main_arg1
  let main_v6 : FVec F S32768x768 .f32 := Host.absf main_v5
  let main_cst_0 : FVec F S_ .f32 := constant S_ .f32 0x7F800000#32
  let main_v7 : FVec F S32768x768 .f32 := broadcastInDim S32768x768 ![] bcast_S_S32768x768 main_cst_0
  let main_v8 : IVec S32768x768 1 := cmpf .olt main_v6 main_v7
  let main_c_1 : IVec S_ 1 := constantI S_ 1 1#1
  let main_v9 : IVec S_ 1 := (fun x v => Host.reduce IntOp.andi x v reducesTo_S32768x768_S_d0_1 h_S_) main_v8 main_c_1
  let main_v10 : IVec S_ 1 := andi main_v4 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_arg5 main_v15 main_v16 main_cst_4
-- ==== Pre_rows_in_range.lean ====
abbrev S4x32768x256 : Shape := ⟨3, ![4, 32768, 256]⟩
abbrev S73728 : Shape := ⟨1, ![73728]⟩
abbrev S_ : Shape := ⟨0, ![]⟩

class Facts : Prop where
  bcast_S_S73728 : S_.BroadcastsInDim S73728 (![] : Fin 0 → Fin S73728.rank)

variable [Facts]

def fn {F : FTy → Type} [FloatOps F] (main_arg0 : IVec S4x32768x256 32) (main_arg1 : IVec S73728 32) : IVec S73728 1 :=
  let main_c : IVec S_ 32 := constantI S_ 32 0#32
  let main_v0 : IVec S73728 32 := broadcastInDim S73728 ![] bcast_S_S73728 main_c
  let main_v1 : IVec S73728 1 := cmpi .sge main_arg1 main_v0
  let main_c_0 : IVec S_ 32 := constantI S_ 32 32768#32
  let main_v2 : IVec S73728 32 := broadcastInDim S73728 ![] bcast_S_S73728 main_c_0
  let main_v3 : IVec S73728 1 := cmpi .slt main_arg1 main_v2
  let main_v4 : IVec S73728 1 := andi main_v1 main_v3
  main_v4
-- ==== Kernel.lean ====
abbrev S4x32768x256 : Shape := ⟨3, ![4, 32768, 256]⟩
abbrev S73728 : Shape := ⟨1, ![73728]⟩
abbrev S4 : Shape := ⟨1, ![4]⟩
abbrev S4x1 : Shape := ⟨2, ![4, 1]⟩
abbrev S_ : Shape := ⟨0, ![]⟩
abbrev S1x73728 : Shape := ⟨2, ![1, 73728]⟩
abbrev S4x73728 : Shape := ⟨2, ![4, 73728]⟩
abbrev S294912 : Shape := ⟨1, ![294912]⟩
abbrev S131072x256 : Shape := ⟨2, ![131072, 256]⟩
abbrev S1x294912 : Shape := ⟨2, ![1, 294912]⟩
abbrev S294912x256 : Shape := ⟨2, ![294912, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S131072x128 : Shape := ⟨2, ![131072, 128]⟩
abbrev S4x73728x256 : Shape := ⟨3, ![4, 73728, 256]⟩

abbrev nBuf : Table → Nat
  | .hbm => 16
  | .local .scVector .vmem => 2
  | _ => 0

abbrev bufTy : (tb : Table) → Fin (nBuf tb) → BufTy
  | .hbm, ⟨0, _⟩ => ⟨S4x32768x256, .i32⟩
  | .hbm, ⟨1, _⟩ => ⟨S73728, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S1x73728, .i32⟩
  | .hbm, ⟨8, _⟩ => ⟨S4x73728, .i32⟩
  | .hbm, ⟨9, _⟩ => ⟨S4x73728, .i32⟩
  | .hbm, ⟨10, _⟩ => ⟨S4x73728, .i32⟩
  | .hbm, ⟨11, _⟩ => ⟨S294912, .i32⟩
  | .hbm, ⟨12, _⟩ => ⟨S131072x256, .i32⟩
  | .hbm, ⟨13, _⟩ => ⟨S1x294912, .i32⟩
  | .hbm, ⟨14, _⟩ => ⟨S294912x256, .i32⟩
  | .hbm, ⟨15, _⟩ => ⟨S4x73728x256, .i32⟩
  | .local .scVector .vmem, ⟨0, _⟩ => ⟨S2x1x128, .i32⟩
  | .local .scVector .vmem, ⟨1, _⟩ => ⟨S2x128x256, .i32⟩
  | _, _ => ⟨S4x32768x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c72_i32_27_r0 : BitVec 32 := 72#32
  let v32_r0 : BitVec 32 := Scalar.addi c0_i32_26_r0 c72_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c72_i32_62_r0 : BitVec 32 := 72#32
  let v74_r0 : BitVec 1 := Scalar.cmpi .eq v73_r0 c72_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c71_i32_68_r0 : BitVec 32 := 71#32
  let v83_r0 : BitVec 1 := Scalar.cmpi .sge arg5_r0 c71_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c72_i32_62_r0 : BitVec 32 := 72#32
  let v74_r0 : BitVec 1 := Scalar.cmpi .eq v73_r0 c72_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c71_i32_59_r0 : BitVec 32 := 71#32
  let v70_r0 : BitVec 32 := Scalar.select v69_r0 c71_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c72_i32_62_r0 : BitVec 32 := 72#32
  let v74_r0 : BitVec 1 := Scalar.cmpi .eq v73_r0 c72_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c71_i32_55_r0 : BitVec 32 := 71#32
  let v65_r0 : BitVec 1 := Scalar.cmpi .eq arg5_r0 c71_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c71_i32_59_r0 : BitVec 32 := 71#32
  let v70_r0 : BitVec 32 := Scalar.select v69_r0 c71_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c71_i32_59_r0 : BitVec 32 := 71#32
  let v70_r0 : BitVec 32 := Scalar.select v69_r0 c71_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x294912.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x294912.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S294912x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S294912x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x294912.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x294912.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S294912x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S294912x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c71_i32_33_r0 : BitVec 32 := 71#32
  let v37_r0 : BitVec 32 := Scalar.select v36_r0 c71_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S294912x256.size a)
theorem k0_off19_inb : ∀ (i : grid0.Coords) (v33_4_r0 : BitVec 32) (k0_hw5 : k0_chk5 i v33_4_r0), ∀ a, (k0_off19 i v33_4_r0) a + S128x256.size a ≤ S294912x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x32768x256 : Shape := ⟨3, ![4, 32768, 256]⟩
abbrev S73728 : Shape := ⟨1, ![73728]⟩
abbrev S73728x1 : Shape := ⟨2, ![73728, 1]⟩
abbrev S4x73728x256 : Shape := ⟨3, ![4, 73728, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x32768x256, .i32⟩
  | .hbm, ⟨1, _⟩ => ⟨S73728, .i32⟩
  | .hbm, ⟨2, _⟩ => ⟨S73728x1, .i32⟩
  | .hbm, ⟨3, _⟩ => ⟨S4x73728x256, .i32⟩
  | _, _ => ⟨S4x32768x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x6528 : Shape := ⟨2, ![2048, 6528]⟩
abbrev S32768x2048 : Shape := ⟨2, ![32768, 2048]⟩
abbrev S32768x6528 : Shape := ⟨2, ![32768, 6528]⟩
abbrev S512x2048 : Shape := ⟨2, ![512, 2048]⟩
abbrev S2048x2176 : Shape := ⟨2, ![2048, 2176]⟩
abbrev S512x2176 : Shape := ⟨2, ![512, 2176]⟩

abbrev nBuf : Space → Nat
  | .hbm => 5
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x6528, .bf16⟩
  | .hbm, ⟨2, _⟩ => ⟨S32768x2048, .f32⟩
  | .hbm, ⟨3, _⟩ => ⟨S32768x2048, .bf16⟩
  | .hbm, ⟨4, _⟩ => ⟨S32768x6528, .bf16⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S2048x2176, .bf16⟩
  | .local _ .vmem, ⟨4, _⟩ => ⟨S512x2176, .bf16⟩
  | .local _ .vmem, ⟨5, _⟩ => ⟨S512x2176, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x16384x2048 : Shape := ⟨3, ![2, 16384, 2048]⟩
abbrev S2048x6528 : Shape := ⟨2, ![2048, 6528]⟩
abbrev S2x16384x6528 : Shape := ⟨3, ![2, 16384, 6528]⟩
abbrev S32768x6528 : Shape := ⟨2, ![32768, 6528]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6528, .bf16⟩
  | .hbm, ⟨2, _⟩ => ⟨S2048x6528, .f32⟩
  | .hbm, ⟨3, _⟩ => ⟨S2x16384x6528, .f32⟩
  | .hbm, ⟨4, _⟩ => ⟨S32768x6528, .f32⟩
  | .hbm, ⟨5, _⟩ => ⟨S32768x6528, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S32768x1536 : Shape := ⟨2, ![32768, 1536]⟩
abbrev S32768x768 : Shape := ⟨2, ![32768, 768]⟩
abbrev S64 : Shape := ⟨1, ![64]⟩
abbrev S128 : Shape := ⟨1, ![128]⟩
abbrev S1x64 : Shape := ⟨2, ![1, 64]⟩
abbrev S4x64 : Shape := ⟨2, ![4, 64]⟩
abbrev S2x16x1024x6x128 : Shape := ⟨5, ![2, 16, 1024, 6, 128]⟩
abbrev S2x6x16x128x1024 : Shape := ⟨5, ![2, 6, 16, 128, 1024]⟩
abbrev S12x16x128x1024 : Shape := ⟨4, ![12, 16, 128, 1024]⟩
abbrev S_ : Shape := ⟨0, ![]⟩
abbrev S12x16x1x1024 : Shape := ⟨4, ![12, 16, 1, 1024]⟩
abbrev S12x16x15x1024 : Shape := ⟨4, ![12, 16, 15, 1024]⟩
abbrev S12x16x144x1024 : Shape := ⟨4, ![12, 16, 144, 1024]⟩
abbrev S128x1 : Shape := ⟨2, ![128, 1]⟩
abbrev S1024x128 : Shape := ⟨2, ![1024, 128]⟩
abbrev S16384x128 : Shape := ⟨2, ![16384, 128]⟩
abbrev S1x16x144x1024 : Shape := ⟨4, ![1, 16, 144, 1024]⟩
abbrev S2x144x1024 : Shape := ⟨3, ![2, 144, 1024]⟩
abbrev S1x1024 : Shape := ⟨2, ![1, 1024]⟩
abbrev S1x1x144x1024 : Shape := ⟨4, ![1, 1, 144, 1024]⟩
abbrev S144x1024 : Shape := ⟨2, ![144, 1024]⟩
abbrev S1024x1024 : Shape := ⟨2, ![1024, 1024]⟩
abbrev S1024 : Shape := ⟨1, ![1024]⟩
abbrev S1x144x1024 : Shape := ⟨3, ![1, 144, 1024]⟩
abbrev S1x1x64 : Shape := ⟨3, ![1, 1, 64]⟩
abbrev S1 : Shape := ⟨1, ![1]⟩
abbrev S1x1x1 : Shape := ⟨3, ![1, 1, 1]⟩
abbrev S128x1024 : Shape := ⟨2, ![128, 1024]⟩

abbrev nBuf : Space → Nat
  | .hbm => 22
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S32768x768, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S4x64, .f32⟩
  | .hbm, ⟨12, _⟩ => ⟨S2x16x1024x6x128, .bf16⟩
  | .hbm, ⟨13, _⟩ => ⟨S2x6x16x128x1024, .bf16⟩
  | .hbm, ⟨14, _⟩ => ⟨S12x16x128x1024, .bf16⟩
  | .hbm, ⟨15, _⟩ => ⟨S_, .bf16⟩
  | .hbm, ⟨16, _⟩ => ⟨S12x16x1x1024, .bf16⟩
  | .hbm, ⟨17, _⟩ => ⟨S_, .bf16⟩
  | .hbm, ⟨18, _⟩ => ⟨S12x16x15x1024, .bf16⟩
  | .hbm, ⟨19, _⟩ => ⟨S12x16x144x1024, .bf16⟩
  | .hbm, ⟨20, _⟩ => ⟨S128x1, .f32⟩
  | .hbm, ⟨21, _⟩ => ⟨S32768x768, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S1x16x144x1024, .bf16⟩
  | .local _ .vmem, ⟨5, _⟩ => ⟨S1x16x144x1024, .bf16⟩
  | .local _ .vmem, ⟨6, _⟩ => ⟨S4x64, .f32⟩
  | .local _ .vmem, ⟨7, _⟩ => ⟨S128x1, .f32⟩
  | .local _ .vmem, ⟨8, _⟩ => ⟨S1024x128, .bf16⟩
  | .local _ .vmem, ⟨9, _⟩ => ⟨S1024x128, .bf16⟩
  | .local _ .vmem, ⟨10, _⟩ => ⟨S2x144x1024, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 6, 16], ![false, false, false]⟩

@[reducible] def k0_t1_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_7 : BitVec 32 := 1#32
  ⟨c0_i32, v18, c1_i32_7⟩
def k0_mult1 (i : grid0.Coords) (k0_t1 : Fin (k0_t1_loop i).trips) : BitVec 32 :=
  let c0_i32 : BitVec 32 := 0#32
  let c1_i32_7 : BitVec 32 := 1#32
  let arg10 : BitVec 32 := Scf.iv c0_i32 c1_i32_7 k0_t1
  let c1024_i32_65 : BitVec 32 := 1024#32
  let v175 : BitVec 32 := Scalar.muli arg10 c1024_i32_65
  v175
def k0_off1 (i : grid0.Coords) (k0_t1 : Fin (k0_t1_loop i).trips) : Fin 2 → Nat :=
  let c0_i32 : BitVec 32 := 0#32
  let c1_i32_7 : BitVec 32 := 1#32
  let arg10 : BitVec 32 := Scf.iv c0_i32 c1_i32_7 k0_t1
  let c1024_i32_65 : BitVec 32 := 1024#32
  let v175 : BitVec 32 := Scalar.muli arg10 c1024_i32_65
  let v176 : BitVec 32 := v175
  let v177 : Index := Scalar.indexCast v176
  let c0_66 : Index := 0#32
  ![v177.toNat, 0]
def k0_off2 (i : grid0.Coords) (k0_t1 : Fin (k0_t1_loop i).trips) : Fin 4 → Nat :=
  let c0_67 : Index := 0#32
  let c0_i32 : BitVec 32 := 0#32
  let c1_i32_7 : BitVec 32 := 1#32
  let arg10 : BitVec 32 := Scf.iv c0_i32 c1_i32_7 k0_t1
  let v179 : Index := Scalar.indexCast arg10
  let c0_68 : Index := 0#32
  let c0_69 : Index := 0#32
  ![0, v179.toNat, 0, 0]
@[reducible] def k0_t2_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_8 : BitVec 32 := 1#32
  ⟨v18, v15, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let c1024_i32_65 : BitVec 32 := 1024#32
  let v175 : BitVec 32 := Scalar.muli arg10 c1024_i32_65
  v175
def k0_off3 (i : grid0.Coords) (k0_t2 : Fin (k0_t2_loop i).trips) : Fin 2 → Nat :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let c1024_i32_65 : BitVec 32 := 1024#32
  let v175 : BitVec 32 := Scalar.muli arg10 c1024_i32_65
  let v176 : BitVec 32 := v175
  let v177 : Index := Scalar.indexCast v176
  let c0_66 : Index := 0#32
  ![v177.toNat, 0]
def k0_off4 (i : grid0.Coords) (k0_t2 : Fin (k0_t2_loop i).trips) : Fin 4 → Nat :=
  let c0_67 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let v179 : Index := Scalar.indexCast arg10
  let c0_68 : Index := 0#32
  let c0_69 : Index := 0#32
  ![0, v179.toNat, 0, 0]
def k0_mult3 (i : grid0.Coords) : BitVec 32 :=
  let arg2 : BitVec 32 := BitVec.ofNat 32 (i 2).val
  let c1024_i32 : BitVec 32 := 1024#32
  let v21 : BitVec 32 := Scalar.muli arg2 c1024_i32
  v21
def k0_off5 (i : grid0.Coords) : Fin 2 → Nat :=
  let arg2 : BitVec 32 := BitVec.ofNat 32 (i 2).val
  let c1024_i32 : BitVec 32 := 1024#32
  let v21 : BitVec 32 := Scalar.muli arg2 c1024_i32
  let v22 : BitVec 32 := v21
  let v23 : Index := Scalar.indexCast v22
  let c0_9 : Index := 0#32
  ![v23.toNat, 0]
def k0_off6 (i : grid0.Coords) : Fin 4 → Nat :=
  let c0_10 : Index := 0#32
  let arg2 : BitVec 32 := BitVec.ofNat 32 (i 2).val
  let v25 : Index := Scalar.indexCast arg2
  let c0_11 : Index := 0#32
  let c0_12 : Index := 0#32
  ![0, v25.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S32768x1536 : Shape := ⟨2, ![32768, 1536]⟩
abbrev S32768x768 : Shape := ⟨2, ![32768, 768]⟩
abbrev S64 : Shape := ⟨1, ![64]⟩
abbrev S128 : Shape := ⟨1, ![128]⟩
abbrev S2x16384x6x2x64 : Shape := ⟨5, ![2, 16384, 6, 2, 64]⟩
abbrev S2x16384x6x128 : Shape := ⟨4, ![2, 16384, 6, 128]⟩
abbrev S_ : Shape := ⟨0, ![]⟩
abbrev S2x6x2x16384x16384 : Shape := ⟨5, ![2, 6, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x6x2x16384 : Shape := ⟨4, ![2, 6, 2, 16384]⟩
abbrev S2x6x2x16384x1 : Shape := ⟨5, ![2, 6, 2, 16384, 1]⟩
abbrev S2x6x1x16384x16384 : Shape := ⟨5, ![2, 6, 1, 16384, 16384]⟩
abbrev S2x6x16384x16384 : Shape := ⟨4, ![2, 6, 16384, 16384]⟩
abbrev S2x6x128x16384 : Shape := ⟨4, ![2, 6, 128, 16384]⟩
abbrev S2x16384x6 : Shape := ⟨3, ![2, 16384, 6]⟩
abbrev S2x16384x6x1 : Shape := ⟨4, ![2, 16384, 6, 1]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x768, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S32768x768, .bf16⟩
  | .hbm, ⟨8, _⟩ => ⟨S32768x768, .f32⟩
  | .hbm, ⟨9, _⟩ => ⟨S2x16384x6x2x64, .f32⟩
  | .hbm, ⟨10, _⟩ => ⟨S32768x768, .bf16⟩
  | .hbm, ⟨11, _⟩ => ⟨S32768x768, .f32⟩
  | .hbm, ⟨12, _⟩ => ⟨S2x16384x6x2x64, .f32⟩
  | .hbm, ⟨13, _⟩ => ⟨S32768x768, .f32⟩
  | .hbm, ⟨14, _⟩ => ⟨S2x16384x6x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x6x2x16384x16384, .f32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S16384x1, .i32⟩
  | .hbm, ⟨48, _⟩ => ⟨S16384x16384, .i32⟩
  | .hbm, ⟨49, _⟩ => ⟨S16384x16384, .i32⟩
  | .hbm, ⟨50, _⟩ => ⟨S16384x16384, .i1⟩
  | .hbm, ⟨51, _⟩ => ⟨S_, .f32⟩
  | .hbm, ⟨52, _⟩ => ⟨S_, .f32⟩
  | .hbm, ⟨53, _⟩ => ⟨S2x6x2x16384x16384, .i1⟩
  | .hbm, ⟨54, _⟩ => ⟨S2x6x2x16384x16384, .f32⟩
  | .hbm, ⟨55, _⟩ => ⟨S2x6x2x16384x16384, .f32⟩
  | .hbm, ⟨56, _⟩ => ⟨S_, .f32⟩
  | .hbm, ⟨57, _⟩ => ⟨S2x6x2x16384, .f32⟩
  | .hbm, ⟨58, _⟩ => ⟨S2x6x2x16384x1, .f32⟩
  | .hbm, ⟨59, _⟩ => ⟨S2x6x2x16384x16384, .f32⟩
  | .hbm, ⟨60, _⟩ => ⟨S2x6x2x16384x16384, .f32⟩
  | .hbm, ⟨61, _⟩ => ⟨S_, .f32⟩
  | .hbm, ⟨62, _⟩ => ⟨S2x6x2x16384x16384, .f32⟩
  | .hbm, ⟨63, _⟩ => ⟨S2x6x2x16384x16384, .f32⟩
  | .hbm, ⟨64, _⟩ => ⟨S_, .f32⟩
  | .hbm, ⟨65, _⟩ => ⟨S2x6x2x16384, .f32⟩
  | .hbm, ⟨66, _⟩ => ⟨S2x6x2x16384x1, .f32⟩
  | .hbm, ⟨67, _⟩ => ⟨S2x6x2x16384x16384, .f32⟩
  | .hbm, ⟨68, _⟩ => ⟨S2x6x2x16384x16384, .f32⟩
  | .hbm, ⟨69, _⟩ => ⟨S2x6x1x16384x16384, .f32⟩
  | .hbm, ⟨70, _⟩ => ⟨S2x6x16384x16384, .f32⟩
  | .hbm, ⟨71, _⟩ => ⟨S2x6x1x16384x16384, .f32⟩
  | .hbm, ⟨72, _⟩ => ⟨S2x6x16384x16384, .f32⟩
  | .hbm, ⟨73, _⟩ => ⟨S2x6x16384x16384, .f32⟩
  | .hbm, ⟨74, _⟩ => ⟨S2x6x16384x16384, .f32⟩
  | .hbm, ⟨75, _⟩ => ⟨S2x6x16384x16384, .f32⟩
  | .hbm, ⟨76, _⟩ => ⟨S2x6x128x16384, .f32⟩
  | .hbm, ⟨77, _⟩ => ⟨S2x16384x6x128, .f32⟩
  | .hbm, ⟨78, _⟩ => ⟨S2x16384x6x128, .f32⟩
  | .hbm, ⟨79, _⟩ => ⟨S_, .f32⟩
  | .hbm, ⟨80, _⟩ => ⟨S2x16384x6, .f32⟩
  | .hbm, ⟨81, _⟩ => ⟨S2x16384x6x1, .f32⟩
  | .hbm, ⟨82, _⟩ => ⟨S_, .f32⟩
  | .hbm, ⟨83, _⟩ => ⟨S2x16384x6x1, .f32⟩
  | .hbm, ⟨84, _⟩ => ⟨S2x16384x6x1, .f32⟩
  | .hbm, ⟨85, _⟩ => ⟨S_, .f32⟩
  | .hbm, ⟨86, _⟩ => ⟨S2x16384x6x1, .f32⟩
  | .hbm, ⟨87, _⟩ => ⟨S2x16384x6x1, .f32⟩
  | .hbm, ⟨88, _⟩ => ⟨S2x16384x6x1, .f32⟩
  | .hbm, ⟨89, _⟩ => ⟨S2x16384x6x128, .f32⟩
  | .hbm, ⟨90, _⟩ => ⟨S2x16384x6x128, .f32⟩
  | .hbm, ⟨91, _⟩ => ⟨S1x1x1x128, .f32⟩
  | .hbm, ⟨92, _⟩ => ⟨S2x16384x6x128, .f32⟩
  | .hbm, ⟨93, _⟩ => ⟨S2x16384x6x128, .f32⟩
  | .hbm, ⟨94, _⟩ => ⟨S_, .f32⟩
  | .hbm, ⟨95, _⟩ => ⟨S2x16384x6x128, .f32⟩
  | .hbm, ⟨96, _⟩ => ⟨S2x16384x6x128, .f32⟩
  | .hbm, ⟨97, _⟩ => ⟨S32768x768, .f32⟩
  | .hbm, ⟨98, _⟩ => ⟨S32768x768, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_cst_7 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Kernel4.lean ====
abbrev S32768x1536 : Shape := ⟨2, ![32768, 1536]⟩
abbrev S32768x768 : Shape := ⟨2, ![32768, 768]⟩
abbrev S64 : Shape := ⟨1, ![64]⟩
abbrev S128 : Shape := ⟨1, ![128]⟩
abbrev S1x64 : Shape := ⟨2, ![1, 64]⟩
abbrev S4x64 : Shape := ⟨2, ![4, 64]⟩
abbrev S2x16x1024x6x128 : Shape := ⟨5, ![2, 16, 1024, 6, 128]⟩
abbrev S2x6x16x128x1024 : Shape := ⟨5, ![2, 6, 16, 128, 1024]⟩
abbrev S12x16x128x1024 : Shape := ⟨4, ![12, 16, 128, 1024]⟩
abbrev S_ : Shape := ⟨0, ![]⟩
abbrev S12x16x1x1024 : Shape := ⟨4, ![12, 16, 1, 1024]⟩
abbrev S12x16x15x1024 : Shape := ⟨4, ![12, 16, 15, 1024]⟩
abbrev S12x16x144x1024 : Shape := ⟨4, ![12, 16, 144, 1024]⟩
abbrev S128x1 : Shape := ⟨2, ![128, 1]⟩
abbrev S1024x128 : Shape := ⟨2, ![1024, 128]⟩
abbrev S16384x128 : Shape := ⟨2, ![16384, 128]⟩
abbrev S1x16x144x1024 : Shape := ⟨4, ![1, 16, 144, 1024]⟩
abbrev S2x144x1024 : Shape := ⟨3, ![2, 144, 1024]⟩
abbrev S1x1024 : Shape := ⟨2, ![1, 1024]⟩
abbrev S1x1x144x1024 : Shape := ⟨4, ![1, 1, 144, 1024]⟩
abbrev S144x1024 : Shape := ⟨2, ![144, 1024]⟩
abbrev S1024x1024 : Shape := ⟨2, ![1024, 1024]⟩
abbrev S1024 : Shape := ⟨1, ![1024]⟩
abbrev S1x144x1024 : Shape := ⟨3, ![1, 144, 1024]⟩
abbrev S1x1x64 : Shape := ⟨3, ![1, 1, 64]⟩
abbrev S1 : Shape := ⟨1, ![1]⟩
abbrev S1x1x1 : Shape := ⟨3, ![1, 1, 1]⟩
abbrev S128x1024 : Shape := ⟨2, ![128, 1024]⟩

abbrev nBuf : Space → Nat
  | .hbm => 22
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S32768x768, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S4x64, .f32⟩
  | .hbm, ⟨12, _⟩ => ⟨S2x16x1024x6x128, .bf16⟩
  | .hbm, ⟨13, _⟩ => ⟨S2x6x16x128x1024, .bf16⟩
  | .hbm, ⟨14, _⟩ => ⟨S12x16x128x1024, .bf16⟩
  | .hbm, ⟨15, _⟩ => ⟨S_, .bf16⟩
  | .hbm, ⟨16, _⟩ => ⟨S12x16x1x1024, .bf16⟩
  | .hbm, ⟨17, _⟩ => ⟨S_, .bf16⟩
  | .hbm, ⟨18, _⟩ => ⟨S12x16x15x1024, .bf16⟩
  | .hbm, ⟨19, _⟩ => ⟨S12x16x144x1024, .bf16⟩
  | .hbm, ⟨20, _⟩ => ⟨S128x1, .f32⟩
  | .hbm, ⟨21, _⟩ => ⟨S32768x768, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S1x16x144x1024, .bf16⟩
  | .local _ .vmem, ⟨5, _⟩ => ⟨S1x16x144x1024, .bf16⟩
  | .local _ .vmem, ⟨6, _⟩ => ⟨S4x64, .f32⟩
  | .local _ .vmem, ⟨7, _⟩ => ⟨S128x1, .f32⟩
  | .local _ .vmem, ⟨8, _⟩ => ⟨S1024x128, .bf16⟩
  | .local _ .vmem, ⟨9, _⟩ => ⟨S1024x128, .bf16⟩
  | .local _ .vmem, ⟨10, _⟩ => ⟨S2x144x1024, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 6, 16], ![false, false, false]⟩

@[reducible] def k0_t1_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_7 : BitVec 32 := 1#32
  ⟨c0_i32, v18, c1_i32_7⟩
def k0_mult1 (i : grid0.Coords) (k0_t1 : Fin (k0_t1_loop i).trips) : BitVec 32 :=
  let c0_i32 : BitVec 32 := 0#32
  let c1_i32_7 : BitVec 32 := 1#32
  let arg10 : BitVec 32 := Scf.iv c0_i32 c1_i32_7 k0_t1
  let c1024_i32_65 : BitVec 32 := 1024#32
  let v175 : BitVec 32 := Scalar.muli arg10 c1024_i32_65
  v175
def k0_off1 (i : grid0.Coords) (k0_t1 : Fin (k0_t1_loop i).trips) : Fin 2 → Nat :=
  let c0_i32 : BitVec 32 := 0#32
  let c1_i32_7 : BitVec 32 := 1#32
  let arg10 : BitVec 32 := Scf.iv c0_i32 c1_i32_7 k0_t1
  let c1024_i32_65 : BitVec 32 := 1024#32
  let v175 : BitVec 32 := Scalar.muli arg10 c1024_i32_65
  let v176 : BitVec 32 := v175
  let v177 : Index := Scalar.indexCast v176
  let c0_66 : Index := 0#32
  ![v177.toNat, 0]
def k0_off2 (i : grid0.Coords) (k0_t1 : Fin (k0_t1_loop i).trips) : Fin 4 → Nat :=
  let c0_67 : Index := 0#32
  let c0_i32 : BitVec 32 := 0#32
  let c1_i32_7 : BitVec 32 := 1#32
  let arg10 : BitVec 32 := Scf.iv c0_i32 c1_i32_7 k0_t1
  let v179 : Index := Scalar.indexCast arg10
  let c0_68 : Index := 0#32
  let c0_69 : Index := 0#32
  ![0, v179.toNat, 0, 0]
@[reducible] def k0_t2_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_8 : BitVec 32 := 1#32
  ⟨v18, v15, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let c1024_i32_65 : BitVec 32 := 1024#32
  let v175 : BitVec 32 := Scalar.muli arg10 c1024_i32_65
  v175
def k0_off3 (i : grid0.Coords) (k0_t2 : Fin (k0_t2_loop i).trips) : Fin 2 → Nat :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let c1024_i32_65 : BitVec 32 := 1024#32
  let v175 : BitVec 32 := Scalar.muli arg10 c1024_i32_65
  let v176 : BitVec 32 := v175
  let v177 : Index := Scalar.indexCast v176
  let c0_66 : Index := 0#32
  ![v177.toNat, 0]
def k0_off4 (i : grid0.Coords) (k0_t2 : Fin (k0_t2_loop i).trips) : Fin 4 → Nat :=
  let c0_67 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_8 : BitVec 32 := 1#32
  let arg10 : BitVec 32 := Scf.iv v18 c1_i32_8 k0_t2
  let v179 : Index := Scalar.indexCast arg10
  let c0_68 : Index := 0#32
  let c0_69 : Index := 0#32
  ![0, v179.toNat, 0, 0]
def k0_mult3 (i : grid0.Coords) : BitVec 32 :=
  let arg2 : BitVec 32 := BitVec.ofNat 32 (i 2).val
  let c1024_i32 : BitVec 32 := 1024#32
  let v21 : BitVec 32 := Scalar.muli arg2 c1024_i32
  v21
def k0_off5 (i : grid0.Coords) : Fin 2 → Nat :=
  let arg2 : BitVec 32 := BitVec.ofNat 32 (i 2).val
  let c1024_i32 : BitVec 32 := 1024#32
  let v21 : BitVec 32 := Scalar.muli arg2 c1024_i32
  let v22 : BitVec 32 := v21
  let v23 : Index := Scalar.indexCast v22
  let c0_9 : Index := 0#32
  ![v23.toNat, 0]
def k0_off6 (i : grid0.Coords) : Fin 4 → Nat :=
  let c0_10 : Index := 0#32
  let arg2 : BitVec 32 := BitVec.ofNat 32 (i 2).val
  let v25 : Index := Scalar.indexCast arg2
  let c0_11 : Index := 0#32
  let c0_12 : Index := 0#32
  ![0, v25.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S32768x1536 : Shape := ⟨2, ![32768, 1536]⟩
abbrev S32768x768 : Shape := ⟨2, ![32768, 768]⟩
abbrev S64 : Shape := ⟨1, ![64]⟩
abbrev S128 : Shape := ⟨1, ![128]⟩
abbrev S2x16384x6x2x64 : Shape := ⟨5, ![2, 16384, 6, 2, 64]⟩
abbrev S2x16384x6x128 : Shape := ⟨4, ![2, 16384, 6, 128]⟩
abbrev S_ : Shape := ⟨0, ![]⟩
abbrev S2x6x2x16384x16384 : Shape := ⟨5, ![2, 6, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x6x2x16384 : Shape := ⟨4, ![2, 6, 2, 16384]⟩
abbrev S2x6x2x16384x1 : Shape := ⟨5, ![2, 6, 2, 16384, 1]⟩
abbrev S2x6x1x16384x16384 : Shape := ⟨5, ![2, 6, 1, 16384, 16384]⟩
abbrev S2x6x16384x16384 : Shape := ⟨4, ![2, 6, 16384, 16384]⟩
abbrev S2x6x128x16384 : Shape := ⟨4, ![2, 6, 128, 16384]⟩
abbrev S2x16384x6 : Shape := ⟨3, ![2, 16384, 6]⟩
abbrev S2x16384x6x1 : Shape := ⟨4, ![2, 16384, 6, 1]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x768, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S32768x768, .bf16⟩
  | .hbm, ⟨8, _⟩ => ⟨S32768x768, .f32⟩
  | .hbm, ⟨9, _⟩ => ⟨S2x16384x6x2x64, .f32⟩
  | .hbm, ⟨10, _⟩ => ⟨S32768x768, .bf16⟩
  | .hbm, ⟨11, _⟩ => ⟨S32768x768, .f32⟩
  | .hbm, ⟨12, _⟩ => ⟨S2x16384x6x2x64, .f32⟩
  | .hbm, ⟨13, _⟩ => ⟨S32768x768, .f32⟩
  | .hbm, ⟨14, _⟩ => ⟨S2x16384x6x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x6x2x16384x16384, .f32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S16384x1, .i32⟩
  | .hbm, ⟨48, _⟩ => ⟨S16384x16384, .i32⟩
  | .hbm, ⟨49, _⟩ => ⟨S16384x16384, .i32⟩
  | .hbm, ⟨50, _⟩ => ⟨S16384x16384, .i1⟩
  | .hbm, ⟨51, _⟩ => ⟨S_, .f32⟩
  | .hbm, ⟨52, _⟩ => ⟨S_, .f32⟩
  | .hbm, ⟨53, _⟩ => ⟨S2x6x2x16384x16384, .i1⟩
  | .hbm, ⟨54, _⟩ => ⟨S2x6x2x16384x16384, .f32⟩
  | .hbm, ⟨55, _⟩ => ⟨S2x6x2x16384x16384, .f32⟩
  | .hbm, ⟨56, _⟩ => ⟨S_, .f32⟩
  | .hbm, ⟨57, _⟩ => ⟨S2x6x2x16384, .f32⟩
  | .hbm, ⟨58, _⟩ => ⟨S2x6x2x16384x1, .f32⟩
  | .hbm, ⟨59, _⟩ => ⟨S2x6x2x16384x16384, .f32⟩
  | .hbm, ⟨60, _⟩ => ⟨S2x6x2x16384x16384, .f32⟩
  | .hbm, ⟨61, _⟩ => ⟨S_, .f32⟩
  | .hbm, ⟨62, _⟩ => ⟨S2x6x2x16384x16384, .f32⟩
  | .hbm, ⟨63, _⟩ => ⟨S2x6x2x16384x16384, .f32⟩
  | .hbm, ⟨64, _⟩ => ⟨S_, .f32⟩
  | .hbm, ⟨65, _⟩ => ⟨S2x6x2x16384, .f32⟩
  | .hbm, ⟨66, _⟩ => ⟨S2x6x2x16384x1, .f32⟩
  | .hbm, ⟨67, _⟩ => ⟨S2x6x2x16384x16384, .f32⟩
  | .hbm, ⟨68, _⟩ => ⟨S2x6x2x16384x16384, .f32⟩
  | .hbm, ⟨69, _⟩ => ⟨S2x6x1x16384x16384, .f32⟩
  | .hbm, ⟨70, _⟩ => ⟨S2x6x16384x16384, .f32⟩
  | .hbm, ⟨71, _⟩ => ⟨S2x6x1x16384x16384, .f32⟩
  | .hbm, ⟨72, _⟩ => ⟨S2x6x16384x16384, .f32⟩
  | .hbm, ⟨73, _⟩ => ⟨S2x6x16384x16384, .f32⟩
  | .hbm, ⟨74, _⟩ => ⟨S2x6x16384x16384, .f32⟩
  | .hbm, ⟨75, _⟩ => ⟨S2x6x16384x16384, .f32⟩
  | .hbm, ⟨76, _⟩ => ⟨S2x6x128x16384, .f32⟩
  | .hbm, ⟨77, _⟩ => ⟨S2x16384x6x128, .f32⟩
  | .hbm, ⟨78, _⟩ => ⟨S2x16384x6x128, .f32⟩
  | .hbm, ⟨79, _⟩ => ⟨S_, .f32⟩
  | .hbm, ⟨80, _⟩ => ⟨S2x16384x6, .f32⟩
  | .hbm, ⟨81, _⟩ => ⟨S2x16384x6x1, .f32⟩
  | .hbm, ⟨82, _⟩ => ⟨S_, .f32⟩
  | .hbm, ⟨83, _⟩ => ⟨S2x16384x6x1, .f32⟩
  | .hbm, ⟨84, _⟩ => ⟨S2x16384x6x1, .f32⟩
  | .hbm, ⟨85, _⟩ => ⟨S_, .f32⟩
  | .hbm, ⟨86, _⟩ => ⟨S2x16384x6x1, .f32⟩
  | .hbm, ⟨87, _⟩ => ⟨S2x16384x6x1, .f32⟩
  | .hbm, ⟨88, _⟩ => ⟨S2x16384x6x1, .f32⟩
  | .hbm, ⟨89, _⟩ => ⟨S2x16384x6x128, .f32⟩
  | .hbm, ⟨90, _⟩ => ⟨S2x16384x6x128, .f32⟩
  | .hbm, ⟨91, _⟩ => ⟨S1x1x1x128, .f32⟩
  | .hbm, ⟨92, _⟩ => ⟨S2x16384x6x128, .f32⟩
  | .hbm, ⟨93, _⟩ => ⟨S2x16384x6x128, .f32⟩
  | .hbm, ⟨94, _⟩ => ⟨S_, .f32⟩
  | .hbm, ⟨95, _⟩ => ⟨S2x16384x6x128, .f32⟩
  | .hbm, ⟨96, _⟩ => ⟨S2x16384x6x128, .f32⟩
  | .hbm, ⟨97, _⟩ => ⟨S32768x768, .f32⟩
  | .hbm, ⟨98, _⟩ => ⟨S32768x768, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_cst_7 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Kernel5.lean ====
abbrev S32768x512 : Shape := ⟨2, ![32768, 512]⟩
abbrev S32768x768 : Shape := ⟨2, ![32768, 768]⟩
abbrev S32768x2048 : Shape := ⟨2, ![32768, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S512x2048 : Shape := ⟨2, ![512, 2048]⟩
abbrev S768x2048 : Shape := ⟨2, ![768, 2048]⟩
abbrev S1x2048 : Shape := ⟨2, ![1, 2048]⟩
abbrev S4x32768x256 : Shape := ⟨3, ![4, 32768, 256]⟩
abbrev S32768x8 : Shape := ⟨2, ![32768, 8]⟩
abbrev S256x512 : Shape := ⟨2, ![256, 512]⟩
abbrev S256x768 : Shape := ⟨2, ![256, 768]⟩
abbrev S256x2048 : Shape := ⟨2, ![256, 2048]⟩
abbrev S4x256x256 : Shape := ⟨3, ![4, 256, 256]⟩
abbrev S256x8 : Shape := ⟨2, ![256, 8]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S1x256x256 : Shape := ⟨3, ![1, 256, 256]⟩
abbrev S256x128 : Shape := ⟨2, ![256, 128]⟩

abbrev nBuf : Space → Nat
  | .hbm => 37
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S32768x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S512x2048, .f32⟩
  | .hbm, ⟨23, _⟩ => ⟨S512x2048, .bf16⟩
  | .hbm, ⟨24, _⟩ => ⟨S768x2048, .f32⟩
  | .hbm, ⟨25, _⟩ => ⟨S768x2048, .bf16⟩
  | .hbm, ⟨26, _⟩ => ⟨S768x2048, .f32⟩
  | .hbm, ⟨27, _⟩ => ⟨S768x2048, .bf16⟩
  | .hbm, ⟨28, _⟩ => ⟨S2048x128, .bf16⟩
  | .hbm, ⟨29, _⟩ => ⟨S2048x128, .f32⟩
  | .hbm, ⟨30, _⟩ => ⟨S2048x128, .f32⟩
  | .hbm, ⟨31, _⟩ => ⟨S2048x128, .bf16⟩
  | .hbm, ⟨32, _⟩ => ⟨S1x2048, .f32⟩
  | .hbm, ⟨33, _⟩ => ⟨S1x2048, .f32⟩
  | .hbm, ⟨34, _⟩ => ⟨S32768x2048, .f32⟩
  | .hbm, ⟨35, _⟩ => ⟨S4x32768x256, .i32⟩
  | .hbm, ⟨36, _⟩ => ⟨S32768x8, .f32⟩
  | .local _ .vmem, ⟨0, _⟩ => ⟨S256x512, .bf16⟩
  | .local _ .vmem, ⟨1, _⟩ => ⟨S256x512, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x2048, .f32⟩
  | .local _ .vmem, ⟨7, _⟩ => ⟨S256x2048, .f32⟩
  | .local _ .vmem, ⟨8, _⟩ => ⟨S512x2048, .bf16⟩
  | .local _ .vmem, ⟨9, _⟩ => ⟨S768x2048, .bf16⟩
  | .local _ .vmem, ⟨10, _⟩ => ⟨S768x2048, .bf16⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S2048x128, .bf16⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S4x256x256, .i32⟩
  | .local _ .vmem, ⟨19, _⟩ => ⟨S4x256x256, .i32⟩
  | .local _ .vmem, ⟨20, _⟩ => ⟨S256x8, .f32⟩
  | .local _ .vmem, ⟨21, _⟩ => ⟨S256x8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x256 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel5Ideal.lean ====
abbrev S32768x512 : Shape := ⟨2, ![32768, 512]⟩
abbrev S32768x768 : Shape := ⟨2, ![32768, 768]⟩
abbrev S32768x2048 : Shape := ⟨2, ![32768, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S512x2048 : Shape := ⟨2, ![512, 2048]⟩
abbrev S768x2048 : Shape := ⟨2, ![768, 2048]⟩
abbrev S1x2048 : Shape := ⟨2, ![1, 2048]⟩
abbrev S4x32768x2x256 : Shape := ⟨4, ![4, 32768, 2, 256]⟩
abbrev S32768x8 : Shape := ⟨2, ![32768, 8]⟩
abbrev S4x32768x1x256 : Shape := ⟨4, ![4, 32768, 1, 256]⟩
abbrev S4x32768x256 : Shape := ⟨3, ![4, 32768, 256]⟩
abbrev S256x512 : Shape := ⟨2, ![256, 512]⟩
abbrev S256x768 : Shape := ⟨2, ![256, 768]⟩
abbrev S256x2048 : Shape := ⟨2, ![256, 2048]⟩
abbrev S4x256x256 : Shape := ⟨3, ![4, 256, 256]⟩
abbrev S4x256x2x256 : Shape := ⟨4, ![4, 256, 2, 256]⟩
abbrev S4x256x1x256 : Shape := ⟨4, ![4, 256, 1, 256]⟩
abbrev S256x8 : Shape := ⟨2, ![256, 8]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S1x256x256 : Shape := ⟨3, ![1, 256, 256]⟩
abbrev S1x256x2x256 : Shape := ⟨4, ![1, 256, 2, 256]⟩
abbrev S1x256x1x256 : Shape := ⟨4, ![1, 256, 1, 256]⟩
abbrev S256x128 : Shape := ⟨2, ![256, 128]⟩

abbrev nBuf : Space → Nat
  | .hbm => 37
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S32768x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S512x2048, .f32⟩
  | .hbm, ⟨23, _⟩ => ⟨S512x2048, .bf16⟩
  | .hbm, ⟨24, _⟩ => ⟨S768x2048, .f32⟩
  | .hbm, ⟨25, _⟩ => ⟨S768x2048, .bf16⟩
  | .hbm, ⟨26, _⟩ => ⟨S768x2048, .f32⟩
  | .hbm, ⟨27, _⟩ => ⟨S768x2048, .bf16⟩
  | .hbm, ⟨28, _⟩ => ⟨S2048x128, .bf16⟩
  | .hbm, ⟨29, _⟩ => ⟨S2048x128, .f32⟩
  | .hbm, ⟨30, _⟩ => ⟨S2048x128, .f32⟩
  | .hbm, ⟨31, _⟩ => ⟨S2048x128, .bf16⟩
  | .hbm, ⟨32, _⟩ => ⟨S1x2048, .f32⟩
  | .hbm, ⟨33, _⟩ => ⟨S1x2048, .f32⟩
  | .hbm, ⟨34, _⟩ => ⟨S32768x2048, .f32⟩
  | .hbm, ⟨35, _⟩ => ⟨S4x32768x2x256, .bf16⟩
  | .hbm, ⟨36, _⟩ => ⟨S32768x8, .f32⟩
  | .local _ .vmem, ⟨0, _⟩ => ⟨S256x512, .bf16⟩
  | .local _ .vmem, ⟨1, _⟩ => ⟨S256x512, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x2048, .f32⟩
  | .local _ .vmem, ⟨7, _⟩ => ⟨S256x2048, .f32⟩
  | .local _ .vmem, ⟨8, _⟩ => ⟨S512x2048, .bf16⟩
  | .local _ .vmem, ⟨9, _⟩ => ⟨S768x2048, .bf16⟩
  | .local _ .vmem, ⟨10, _⟩ => ⟨S768x2048, .bf16⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S2048x128, .bf16⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S4x256x2x256, .bf16⟩
  | .local _ .vmem, ⟨19, _⟩ => ⟨S4x256x2x256, .bf16⟩
  | .local _ .vmem, ⟨20, _⟩ => ⟨S256x8, .f32⟩
  | .local _ .vmem, ⟨21, _⟩ => ⟨S256x8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, 0, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x2x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S32768x512 : Shape := ⟨2, ![32768, 512]⟩
abbrev S32768x768 : Shape := ⟨2, ![32768, 768]⟩
abbrev S32768x2048 : Shape := ⟨2, ![32768, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S32768x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S32768x512, .f32⟩
  | .hbm, ⟨10, _⟩ => ⟨S32768x768, .f32⟩
  | .hbm, ⟨11, _⟩ => ⟨S32768x768, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel6.lean ====
abbrev S32768x6528 : Shape := ⟨2, ![32768, 6528]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S4x128x1 : Shape := ⟨3, ![4, 128, 1]⟩
abbrev S32768x512 : Shape := ⟨2, ![32768, 512]⟩
abbrev S1024x128 : Shape := ⟨2, ![1024, 128]⟩
abbrev S1x128 : Shape := ⟨2, ![1, 128]⟩
abbrev S1x128x128 : Shape := ⟨3, ![1, 128, 128]⟩
abbrev S1x128x1 : Shape := ⟨3, ![1, 128, 1]⟩
abbrev S1024 : Shape := ⟨1, ![1024]⟩
abbrev S1024x1 : Shape := ⟨2, ![1024, 1]⟩
abbrev S128x128 : Shape := ⟨2, ![128, 128]⟩
abbrev S128x1 : Shape := ⟨2, ![128, 1]⟩

abbrev nBuf : Space → Nat
  | .hbm => 9
  | .vmem => 14
  | .smem => 0
  | _ => 0

abbrev bufTy : (tb : Table) → Fin (tcTables nBuf tb) → BufTy
  | .hbm, ⟨0, _⟩ => ⟨S32768x6528, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S4x128x1, .f32⟩
  | .hbm, ⟨8, _⟩ => ⟨S32768x512, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1024x128, .bf16⟩
  | .local _ .vmem, ⟨13, _⟩ => ⟨S1024x128, .bf16⟩
  | _, _ => ⟨S32768x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S32768x6528 : Shape := ⟨2, ![32768, 6528]⟩
abbrev S512 : Shape := ⟨1, ![512]⟩
abbrev S4x128x128 : Shape := ⟨3, ![4, 128, 128]⟩
abbrev S4x128 : Shape := ⟨2, ![4, 128]⟩
abbrev S32768x512 : Shape := ⟨2, ![32768, 512]⟩
abbrev S2x128x128x4x128 : Shape := ⟨5, ![2, 128, 128, 4, 128]⟩
abbrev S_ : Shape := ⟨0, ![]⟩
abbrev S2x128x128x4 : Shape := ⟨4, ![2, 128, 128, 4]⟩
abbrev S2x128x128x4x1 : Shape := ⟨5, ![2, 128, 128, 4, 1]⟩
abbrev S1x1x1x4x128 : Shape := ⟨5, ![1, 1, 1, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x2x128x128x128 : Shape := ⟨5, ![4, 2, 128, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 104
  | .vmem => 0
  | .smem => 0
  | _ => 0

abbrev bufTy : (tb : Table) → Fin (tcTables nBuf tb) → BufTy
  | .hbm, ⟨0, _⟩ => ⟨S32768x6528, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S32768x512, .bf16⟩
  | .hbm, ⟨6, _⟩ => ⟨S32768x512, .f32⟩
  | .hbm, ⟨7, _⟩ => ⟨S2x128x128x4x128, .f32⟩
  | .hbm, ⟨8, _⟩ => ⟨S32768x512, .bf16⟩
  | .hbm, ⟨9, _⟩ => ⟨S32768x512, .f32⟩
  | .hbm, ⟨10, _⟩ => ⟨S2x128x128x4x128, .f32⟩
  | .hbm, ⟨11, _⟩ => ⟨S_, .f32⟩
  | .hbm, ⟨12, _⟩ => ⟨S2x128x128x4x128, .f32⟩
  | .hbm, ⟨13, _⟩ => ⟨S2x128x128x4x128, .f32⟩
  | .hbm, ⟨14, _⟩ => ⟨S_, .f32⟩
  | .hbm, ⟨15, _⟩ => ⟨S2x128x128x4x128, .f32⟩
  | .hbm, ⟨16, _⟩ => ⟨S2x128x128x4x128, .f32⟩
  | .hbm, ⟨17, _⟩ => ⟨S2x128x128x4x128, .f32⟩
  | .hbm, ⟨18, _⟩ => ⟨S_, .f32⟩
  | .hbm, ⟨19, _⟩ => ⟨S2x128x128x4x128, .f32⟩
  | .hbm, ⟨20, _⟩ => ⟨S2x128x128x4x128, .f32⟩
  | .hbm, ⟨21, _⟩ => ⟨S2x128x128x4x128, .f32⟩
  | .hbm, ⟨22, _⟩ => ⟨S_, .f32⟩
  | .hbm, ⟨23, _⟩ => ⟨S2x128x128x4x128, .f32⟩
  | .hbm, ⟨24, _⟩ => ⟨S2x128x128x4x128, .f32⟩
  | .hbm, ⟨25, _⟩ => ⟨S_, .f32⟩
  | .hbm, ⟨26, _⟩ => ⟨S2x128x128x4x128, .f32⟩
  | .hbm, ⟨27, _⟩ => ⟨S2x128x128x4x128, .f32⟩
  | .hbm, ⟨28, _⟩ => ⟨S2x128x128x4x128, .f32⟩
  | .hbm, ⟨29, _⟩ => ⟨S_, .f32⟩
  | .hbm, ⟨30, _⟩ => ⟨S2x128x128x4x128, .f32⟩
  | .hbm, ⟨31, _⟩ => ⟨S2x128x128x4x128, .f32⟩
  | .hbm, ⟨32, _⟩ => ⟨S2x128x128x4x128, .f32⟩
  | .hbm, ⟨33, _⟩ => ⟨S_, .f32⟩
  | .hbm, ⟨34, _⟩ => ⟨S2x128x128x4, .f32⟩
  | .hbm, ⟨35, _⟩ => ⟨S2x128x128x4x1, .f32⟩
  | .hbm, ⟨36, _⟩ => ⟨S_, .f32⟩
  | .hbm, ⟨37, _⟩ => ⟨S2x128x128x4x1, .f32⟩
  | .hbm, ⟨38, _⟩ => ⟨S2x128x128x4x1, .f32⟩
  | .hbm, ⟨39, _⟩ => ⟨S2x128x128x4x128, .f32⟩
  | .hbm, ⟨40, _⟩ => ⟨S2x128x128x4x128, .f32⟩
  | .hbm, ⟨41, _⟩ => ⟨S2x128x128x4x128, .f32⟩
  | .hbm, ⟨42, _⟩ => ⟨S_, .f32⟩
  | .hbm, ⟨43, _⟩ => ⟨S2x128x128x4, .f32⟩
  | .hbm, ⟨44, _⟩ => ⟨S2x128x128x4x1, .f32⟩
  | .hbm, ⟨45, _⟩ => ⟨S_, .f32⟩
  | .hbm, ⟨46, _⟩ => ⟨S2x128x128x4x1, .f32⟩
  | .hbm, ⟨47, _⟩ => ⟨S2x128x128x4x1, .f32⟩
  | .hbm, ⟨48, _⟩ => ⟨S2x128x128x4x128, .f32⟩
  | .hbm, ⟨49, _⟩ => ⟨S2x128x128x4x128, .f32⟩
  | .hbm, ⟨50, _⟩ => ⟨S_, .f32⟩
  | .hbm, ⟨51, _⟩ => ⟨S2x128x128x4x1, .f32⟩
  | .hbm, ⟨52, _⟩ => ⟨S2x128x128x4x1, .f32⟩
  | .hbm, ⟨53, _⟩ => ⟨S2x128x128x4x1, .f32⟩
  | .hbm, ⟨54, _⟩ => ⟨S2x128x128x4x128, .f32⟩
  | .hbm, ⟨55, _⟩ => ⟨S2x128x128x4x128, .f32⟩
  | .hbm, ⟨56, _⟩ => ⟨S4x128, .f32⟩
  | .hbm, ⟨57, _⟩ => ⟨S1x1x1x4x128, .f32⟩
  | .hbm, ⟨58, _⟩ => ⟨S2x128x128x4x128, .f32⟩
  | .hbm, ⟨59, _⟩ => ⟨S2x128x128x4x128, .f32⟩
  | .hbm, ⟨60, _⟩ => ⟨S4x128, .f32⟩
  | .hbm, ⟨61, _⟩ => ⟨S1x1x1x4x128, .f32⟩
  | .hbm, ⟨62, _⟩ => ⟨S2x128x128x4x128, .f32⟩
  | .hbm, ⟨63, _⟩ => ⟨S2x128x128x4x128, .f32⟩
  | .hbm, ⟨64, _⟩ => ⟨S128, .i32⟩
  | .hbm, ⟨65, _⟩ => ⟨S_, .i32⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i1⟩
  | .hbm, ⟨73, _⟩ => ⟨S128, .i32⟩
  | .hbm, ⟨74, _⟩ => ⟨S128, .i32⟩
  | .hbm, ⟨75, _⟩ => ⟨S_, .i32⟩
  | .hbm, ⟨76, _⟩ => ⟨S128, .i32⟩
  | .hbm, ⟨77, _⟩ => ⟨S128, .i1⟩
  | .hbm, ⟨78, _⟩ => ⟨S128, .i1⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128, .i32⟩
  | .hbm, ⟨83, _⟩ => ⟨S1x128, .i32⟩
  | .hbm, ⟨84, _⟩ => ⟨S128x1, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S1x128x128, .i1⟩
  | .hbm, ⟨89, _⟩ => ⟨S_, .f32⟩
  | .hbm, ⟨90, _⟩ => ⟨S_, .f32⟩
  | .hbm, ⟨91, _⟩ => ⟨S4x128x128, .i1⟩
  | .hbm, ⟨92, _⟩ => ⟨S4x128x128, .f32⟩
  | .hbm, ⟨93, _⟩ => ⟨S4x128x128, .f32⟩
  | .hbm, ⟨94, _⟩ => ⟨S4x2x128x128x128, .f32⟩
  | .hbm, ⟨95, _⟩ => ⟨S2x128x128x4x128, .f32⟩
  | .hbm, ⟨96, _⟩ => ⟨S128x4, .f32⟩
  | .hbm, ⟨97, _⟩ => ⟨S128x4x1, .f32⟩
  | .hbm, ⟨98, _⟩ => ⟨S1x1x128x4x1, .f32⟩
  | .hbm, ⟨99, _⟩ => ⟨S2x128x128x4x128, .f32⟩
  | .hbm, ⟨100, _⟩ => ⟨S2x128x128x4x128, .f32⟩
  | .hbm, ⟨101, _⟩ => ⟨S2x128x128x4x128, .f32⟩
  | .hbm, ⟨102, _⟩ => ⟨S32768x512, .f32⟩
  | .hbm, ⟨103, _⟩ => ⟨S32768x512, .bf16⟩
  | _, _ => ⟨S32768x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_c : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_0 : Ref sig .tc := ⟨.hbm, 79, rfl⟩
abbrev main_call0_v12 : Ref sig .tc := ⟨.hbm, 80, rfl⟩
abbrev main_call0_v13 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== Kernel7.lean ====
abbrev S32768x6528 : Shape := ⟨2, ![32768, 6528]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S32768x1536 : Shape := ⟨2, ![32768, 1536]⟩
abbrev S1024x256 : Shape := ⟨2, ![1024, 256]⟩
abbrev S1024x128 : Shape := ⟨2, ![1024, 128]⟩

abbrev nBuf : Space → Nat
  | .hbm => 26
  | .vmem => 8
  | .smem => 0
  | _ => 0

abbrev bufTy : (tb : Table) → Fin (tcTables nBuf tb) → BufTy
  | .hbm, ⟨0, _⟩ => ⟨S32768x6528, .bf16⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S16384, .f32⟩
  | .hbm, ⟨10, _⟩ => ⟨S16384x1, .f32⟩
  | .hbm, ⟨11, _⟩ => ⟨S1x32, .f32⟩
  | .hbm, ⟨12, _⟩ => ⟨S16384x32, .f32⟩
  | .hbm, ⟨13, _⟩ => ⟨S16384x32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S1x16384x1x32, .f32⟩
  | .hbm, ⟨18, _⟩ => ⟨S1x16384x4x32, .f32⟩
  | .hbm, ⟨19, _⟩ => ⟨S16384x128, .f32⟩
  | .hbm, ⟨20, _⟩ => ⟨S16384x32, .f32⟩
  | .hbm, ⟨21, _⟩ => ⟨S16384x64, .f32⟩
  | .hbm, ⟨22, _⟩ => ⟨S1x16384x1x64, .f32⟩
  | .hbm, ⟨23, _⟩ => ⟨S1x16384x2x64, .f32⟩
  | .hbm, ⟨24, _⟩ => ⟨S16384x128, .f32⟩
  | .hbm, ⟨25, _⟩ => ⟨S32768x1536, .bf16⟩
  | .local _ .vmem, ⟨0, _⟩ => ⟨S1024x256, .bf16⟩
  | .local _ .vmem, ⟨1, _⟩ => ⟨S1024x256, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x256, .bf16⟩
  | .local _ .vmem, ⟨7, _⟩ => ⟨S1024x256, .bf16⟩
  | _, _ => ⟨S32768x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x6528 : Shape := ⟨2, ![32768, 6528]⟩
abbrev S16384 : Shape := ⟨1, ![16384]⟩
abbrev S16384x1 : Shape := ⟨2, ![16384, 1]⟩
abbrev S32 : Shape := ⟨1, ![32]⟩
abbrev S_ : Shape := ⟨0, ![]⟩
abbrev S1x32 : Shape := ⟨2, ![1, 32]⟩
abbrev S16384x32 : Shape := ⟨2, ![16384, 32]⟩
abbrev S1x16384x1x1x32 : Shape := ⟨5, ![1, 16384, 1, 1, 32]⟩
abbrev S32768x768 : Shape := ⟨2, ![32768, 768]⟩
abbrev S2x16384x6x2x64 : Shape := ⟨5, ![2, 16384, 6, 2, 64]⟩
abbrev S2x16384x6x2x32 : Shape := ⟨5, ![2, 16384, 6, 2, 32]⟩
abbrev S32768x1536 : Shape := ⟨2, ![32768, 1536]⟩

abbrev nBuf : Space → Nat
  | .hbm => 58
  | .vmem => 0
  | .smem => 0
  | _ => 0

abbrev bufTy : (tb : Table) → Fin (tcTables nBuf tb) → BufTy
  | .hbm, ⟨0, _⟩ => ⟨S32768x6528, .bf16⟩
  | .hbm, ⟨1, _⟩ => ⟨S16384, .f32⟩
  | .hbm, ⟨2, _⟩ => ⟨S16384x1, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S16384x32, .f32⟩
  | .hbm, ⟨13, _⟩ => ⟨S16384x32, .f32⟩
  | .hbm, ⟨14, _⟩ => ⟨S16384x32, .f32⟩
  | .hbm, ⟨15, _⟩ => ⟨S16384x32, .f32⟩
  | .hbm, ⟨16, _⟩ => ⟨S1x16384x1x1x32, .f32⟩
  | .hbm, ⟨17, _⟩ => ⟨S16384x32, .f32⟩
  | .hbm, ⟨18, _⟩ => ⟨S1x16384x1x1x32, .f32⟩
  | .hbm, ⟨19, _⟩ => ⟨S32768x768, .bf16⟩
  | .hbm, ⟨20, _⟩ => ⟨S32768x768, .f32⟩
  | .hbm, ⟨21, _⟩ => ⟨S2x16384x6x2x64, .f32⟩
  | .hbm, ⟨22, _⟩ => ⟨S2x16384x6x2x32, .f32⟩
  | .hbm, ⟨23, _⟩ => ⟨S2x16384x6x2x32, .f32⟩
  | .hbm, ⟨24, _⟩ => ⟨S2x16384x6x2x32, .f32⟩
  | .hbm, ⟨25, _⟩ => ⟨S2x16384x6x2x32, .f32⟩
  | .hbm, ⟨26, _⟩ => ⟨S2x16384x6x2x32, .f32⟩
  | .hbm, ⟨27, _⟩ => ⟨S2x16384x6x2x32, .f32⟩
  | .hbm, ⟨28, _⟩ => ⟨S2x16384x6x2x32, .f32⟩
  | .hbm, ⟨29, _⟩ => ⟨S2x16384x6x2x32, .f32⟩
  | .hbm, ⟨30, _⟩ => ⟨S2x16384x6x2x32, .f32⟩
  | .hbm, ⟨31, _⟩ => ⟨S2x16384x6x2x32, .f32⟩
  | .hbm, ⟨32, _⟩ => ⟨S2x16384x6x2x32, .f32⟩
  | .hbm, ⟨33, _⟩ => ⟨S2x16384x6x2x32, .f32⟩
  | .hbm, ⟨34, _⟩ => ⟨S2x16384x6x2x64, .f32⟩
  | .hbm, ⟨35, _⟩ => ⟨S32768x768, .f32⟩
  | .hbm, ⟨36, _⟩ => ⟨S_, .f32⟩
  | .hbm, ⟨37, _⟩ => ⟨S32768x768, .f32⟩
  | .hbm, ⟨38, _⟩ => ⟨S32768x768, .f32⟩
  | .hbm, ⟨39, _⟩ => ⟨S32768x768, .bf16⟩
  | .hbm, ⟨40, _⟩ => ⟨S32768x768, .f32⟩
  | .hbm, ⟨41, _⟩ => ⟨S2x16384x6x2x64, .f32⟩
  | .hbm, ⟨42, _⟩ => ⟨S2x16384x6x2x32, .f32⟩
  | .hbm, ⟨43, _⟩ => ⟨S2x16384x6x2x32, .f32⟩
  | .hbm, ⟨44, _⟩ => ⟨S2x16384x6x2x32, .f32⟩
  | .hbm, ⟨45, _⟩ => ⟨S2x16384x6x2x32, .f32⟩
  | .hbm, ⟨46, _⟩ => ⟨S2x16384x6x2x32, .f32⟩
  | .hbm, ⟨47, _⟩ => ⟨S2x16384x6x2x32, .f32⟩
  | .hbm, ⟨48, _⟩ => ⟨S2x16384x6x2x32, .f32⟩
  | .hbm, ⟨49, _⟩ => ⟨S2x16384x6x2x32, .f32⟩
  | .hbm, ⟨50, _⟩ => ⟨S2x16384x6x2x32, .f32⟩
  | .hbm, ⟨51, _⟩ => ⟨S2x16384x6x2x32, .f32⟩
  | .hbm, ⟨52, _⟩ => ⟨S2x16384x6x2x32, .f32⟩
  | .hbm, ⟨53, _⟩ => ⟨S2x16384x6x2x32, .f32⟩
  | .hbm, ⟨54, _⟩ => ⟨S2x16384x6x2x64, .f32⟩
  | .hbm, ⟨55, _⟩ => ⟨S32768x768, .f32⟩
  | .hbm, ⟨56, _⟩ => ⟨S32768x1536, .f32⟩
  | .hbm, ⟨57, _⟩ => ⟨S32768x1536, .bf16⟩
  | _, _ => ⟨S32768x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩

abbrev nD : Nat := 1
abbrev τ : Topo := Topo.v7x

variable {F : FTy → Type} [FloatOps F]
-- ==== Kernel8.lean ====
abbrev S32768x6528 : Shape := ⟨2, ![32768, 6528]⟩
abbrev S6 : Shape := ⟨1, ![6]⟩
abbrev S_ : Shape := ⟨0, ![]⟩
abbrev S1x128 : Shape := ⟨2, ![1, 128]⟩
abbrev S1 : Shape := ⟨1, ![1]⟩
abbrev S2 : Shape := ⟨1, ![2]⟩
abbrev S32768x128 : Shape := ⟨2, ![32768, 128]⟩
abbrev S512x128 : Shape := ⟨2, ![512, 128]⟩
abbrev S64x64 : Shape := ⟨2, ![64, 64]⟩
abbrev S64x128 : Shape := ⟨2, ![64, 128]⟩

abbrev nBuf : Space → Nat
  | .hbm => 20
  | .vmem => 6
  | .smem => 0
  | _ => 0

abbrev bufTy : (tb : Table) → Fin (tcTables nBuf tb) → BufTy
  | .hbm, ⟨0, _⟩ => ⟨S32768x6528, .bf16⟩
  | .hbm, ⟨1, _⟩ => ⟨S6, .f32⟩
  | .hbm, ⟨2, _⟩ => ⟨S6, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S32768x128, .f32⟩
  | .local _ .vmem, ⟨0, _⟩ => ⟨S512x128, .bf16⟩
  | .local _ .vmem, ⟨1, _⟩ => ⟨S512x128, .bf16⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S32768x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c50_i32 : BitVec 32 := 50#32
  let c0_i32 : BitVec 32 := 0#32
  ![arg0.toNat, c50_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S32768x6528 : Shape := ⟨2, ![32768, 6528]⟩
abbrev S6 : Shape := ⟨1, ![6]⟩
abbrev S32768x6 : Shape := ⟨2, ![32768, 6]⟩
abbrev S1x6 : Shape := ⟨2, ![1, 6]⟩
abbrev S_ : Shape := ⟨0, ![]⟩
abbrev S512x64x6 : Shape := ⟨3, ![512, 64, 6]⟩
abbrev S32768x122 : Shape := ⟨2, ![32768, 122]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x6528, .bf16⟩
  | .hbm, ⟨1, _⟩ => ⟨S6, .f32⟩
  | .hbm, ⟨2, _⟩ => ⟨S6, .f32⟩
  | .hbm, ⟨3, _⟩ => ⟨S32768x6, .bf16⟩
  | .hbm, ⟨4, _⟩ => ⟨S32768x6, .f32⟩
  | .hbm, ⟨5, _⟩ => ⟨S6, .f32⟩
  | .hbm, ⟨6, _⟩ => ⟨S6, .f32⟩
  | .hbm, ⟨7, _⟩ => ⟨S1x6, .f32⟩
  | .hbm, ⟨8, _⟩ => ⟨S32768x6, .f32⟩
  | .hbm, ⟨9, _⟩ => ⟨S32768x6, .f32⟩
  | .hbm, ⟨10, _⟩ => ⟨S_, .f32⟩
  | .hbm, ⟨11, _⟩ => ⟨S32768x6, .f32⟩
  | .hbm, ⟨12, _⟩ => ⟨S32768x6, .f32⟩
  | .hbm, ⟨13, _⟩ => ⟨S32768x6, .f32⟩
  | .hbm, ⟨14, _⟩ => ⟨S32768x6, .f32⟩
  | .hbm, ⟨15, _⟩ => ⟨S32768x6, .i1⟩
  | .hbm, ⟨16, _⟩ => ⟨S32768x6, .f32⟩
  | .hbm, ⟨17, _⟩ => ⟨S32768x6, .f32⟩
  | .hbm, ⟨18, _⟩ => ⟨S32768x6, .f32⟩
  | .hbm, ⟨19, _⟩ => ⟨S32768x6, .f32⟩
  | .hbm, ⟨20, _⟩ => ⟨S32768x6, .f32⟩
  | .hbm, ⟨21, _⟩ => ⟨S32768x6, .f32⟩
  | .hbm, ⟨22, _⟩ => ⟨S32768x6, .f32⟩
  | .hbm, ⟨23, _⟩ => ⟨S32768x6, .f32⟩
  | .hbm, ⟨24, _⟩ => ⟨S1x6, .f32⟩
  | .hbm, ⟨25, _⟩ => ⟨S32768x6, .f32⟩
  | .hbm, ⟨26, _⟩ => ⟨S32768x6, .f32⟩
  | .hbm, ⟨27, _⟩ => ⟨S512x64x6, .f32⟩
  | .hbm, ⟨28, _⟩ => ⟨S_, .f32⟩
  | .hbm, ⟨29, _⟩ => ⟨S_, .f32⟩
  | .hbm, ⟨30, _⟩ => ⟨S512x64x6, .f32⟩
  | .hbm, ⟨31, _⟩ => ⟨S32768x122, .bf16⟩
  | .hbm, ⟨32, _⟩ => ⟨S32768x122, .f32⟩
  | .hbm, ⟨33, _⟩ => ⟨S32768x122, .f32⟩
  | .hbm, ⟨34, _⟩ => ⟨S32768x122, .f32⟩
  | .hbm, ⟨35, _⟩ => ⟨S_, .f32⟩
  | .hbm, ⟨36, _⟩ => ⟨S32768x122, .f32⟩
  | .hbm, ⟨37, _⟩ => ⟨S32768x122, .f32⟩
  | .hbm, ⟨38, _⟩ => ⟨S_, .f32⟩
  | .hbm, ⟨39, _⟩ => ⟨S32768x122, .f32⟩
  | .hbm, ⟨40, _⟩ => ⟨S32768x122, .f32⟩
  | .hbm, ⟨41, _⟩ => ⟨S32768x6, .f32⟩
  | .hbm, ⟨42, _⟩ => ⟨S32768x128, .f32⟩
  | _, _ => ⟨S32768x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_call0_cst : Ref sig .tc := ⟨.hbm, 28, rfl⟩
abbrev main_call1_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel9.lean ====
abbrev S32768x6528 : Shape := ⟨2, ![32768, 6528]⟩
abbrev S12x16x144x1024 : Shape := ⟨4, ![12, 16, 144, 1024]⟩
abbrev S1024x128 : Shape := ⟨2, ![1024, 128]⟩
abbrev S1x1x144x1024 : Shape := ⟨4, ![1, 1, 144, 1024]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32768x6528, .bf16⟩
  | .hbm, ⟨1, _⟩ => ⟨S12x16x144x1024, .bf16⟩
  | .local _ .vmem, ⟨0, _⟩ => ⟨S1024x128, .bf16⟩
  | .local _ .vmem, ⟨1, _⟩ => ⟨S1024x128, .bf16⟩
  | .local _ .vmem, ⟨2, _⟩ => ⟨S1x1x144x1024, .bf16⟩
  | .local _ .vmem, ⟨3, _⟩ => ⟨S1x1x144x1024, .bf16⟩
  | _, _ => ⟨S32768x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 6, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c44_i32 : BitVec 32 := 44#32
  let v2 : BitVec 32 := Scalar.addi c44_i32 arg1
  let c0_i32 : BitVec 32 := 0#32
  ![v1.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== Reference9Ideal.lean ====
abbrev S32768x6528 : Shape := ⟨2, ![32768, 6528]⟩
abbrev S32768x768 : Shape := ⟨2, ![32768, 768]⟩
abbrev S2x16x1024x6x128 : Shape := ⟨5, ![2, 16, 1024, 6, 128]⟩
abbrev S2x6x16x128x1024 : Shape := ⟨5, ![2, 6, 16, 128, 1024]⟩
abbrev S12x16x128x1024 : Shape := ⟨4, ![12, 16, 128, 1024]⟩
abbrev S_ : Shape := ⟨0, ![]⟩
abbrev S12x16x1x1024 : Shape := ⟨4, ![12, 16, 1, 1024]⟩
abbrev S12x16x15x1024 : Shape := ⟨4, ![12, 16, 15, 1024]⟩
abbrev S12x16x144x1024 : Shape := ⟨4, ![12, 16, 144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32768x6528, .bf16⟩
  | .hbm, ⟨1, _⟩ => ⟨S32768x768, .bf16⟩
  | .hbm, ⟨2, _⟩ => ⟨S2x16x1024x6x128, .bf16⟩
  | .hbm, ⟨3, _⟩ => ⟨S2x6x16x128x1024, .bf16⟩
  | .hbm, ⟨4, _⟩ => ⟨S12x16x128x1024, .bf16⟩
  | .hbm, ⟨5, _⟩ => ⟨S_, .bf16⟩
  | .hbm, ⟨6, _⟩ => ⟨S12x16x1x1024, .bf16⟩
  | .hbm, ⟨7, _⟩ => ⟨S_, .bf16⟩
  | .hbm, ⟨8, _⟩ => ⟨S12x16x15x1024, .bf16⟩
  | .hbm, ⟨9, _⟩ => ⟨S12x16x144x1024, .bf16⟩
  | _, _ => ⟨S32768x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4x73728x256 : Shape := ⟨3, ![4, 73728, 256]⟩
abbrev S65536 : Shape := ⟨1, ![65536]⟩
abbrev S4 : Shape := ⟨1, ![4]⟩
abbrev S4x1 : Shape := ⟨2, ![4, 1]⟩
abbrev S_ : Shape := ⟨0, ![]⟩
abbrev S1x65536 : Shape := ⟨2, ![1, 65536]⟩
abbrev S4x65536 : Shape := ⟨2, ![4, 65536]⟩
abbrev S262144 : Shape := ⟨1, ![262144]⟩
abbrev S294912x256 : Shape := ⟨2, ![294912, 256]⟩
abbrev S1x262144 : Shape := ⟨2, ![1, 262144]⟩
abbrev S262144x256 : Shape := ⟨2, ![262144, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S294912x128 : Shape := ⟨2, ![294912, 128]⟩
abbrev S4x65536x256 : Shape := ⟨3, ![4, 65536, 256]⟩

abbrev nBuf : Table → Nat
  | .hbm => 16
  | .local .scVector .vmem => 2
  | _ => 0

abbrev bufTy : (tb : Table) → Fin (nBuf tb) → BufTy
  | .hbm, ⟨0, _⟩ => ⟨S4x73728x256, .i32⟩
  | .hbm, ⟨1, _⟩ => ⟨S65536, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S1x65536, .i32⟩
  | .hbm, ⟨8, _⟩ => ⟨S4x65536, .i32⟩
  | .hbm, ⟨9, _⟩ => ⟨S4x65536, .i32⟩
  | .hbm, ⟨10, _⟩ => ⟨S4x65536, .i32⟩
  | .hbm, ⟨11, _⟩ => ⟨S262144, .i32⟩
  | .hbm, ⟨12, _⟩ => ⟨S294912x256, .i32⟩
  | .hbm, ⟨13, _⟩ => ⟨S1x262144, .i32⟩
  | .hbm, ⟨14, _⟩ => ⟨S262144x256, .i32⟩
  | .hbm, ⟨15, _⟩ => ⟨S4x65536x256, .i32⟩
  | .local .scVector .vmem, ⟨0, _⟩ => ⟨S2x1x128, .i32⟩
  | .local .scVector .vmem, ⟨1, _⟩ => ⟨S2x128x256, .i32⟩
  | _, _ => ⟨S4x73728x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S262144x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S262144x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S262144x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S262144x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S262144x256.size a)
theorem k0_off19_inb : ∀ (i : grid0.Coords) (v33_4_r0 : BitVec 32) (k0_hw5 : k0_chk5 i v33_4_r0), ∀ a, (k0_off19 i v33_4_r0) a + S128x256.size a ≤ S262144x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference10.lean ====
abbrev S4x73728x256 : Shape := ⟨3, ![4, 73728, 256]⟩
abbrev S65536 : Shape := ⟨1, ![65536]⟩
abbrev S65536x1 : Shape := ⟨2, ![65536, 1]⟩
abbrev S4x65536x256 : Shape := ⟨3, ![4, 65536, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x73728x256, .i32⟩
  | .hbm, ⟨1, _⟩ => ⟨S65536, .i32⟩
  | .hbm, ⟨2, _⟩ => ⟨S65536x1, .i32⟩
  | .hbm, ⟨3, _⟩ => ⟨S4x65536x256, .i32⟩
  | _, _ => ⟨S4x73728x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Words.lean ====
/-
  The kernel's index arithmetic at the words the loop carries. Vector subcore `(i₀, i₁)` is worker `w = 16·i₀ + i₁` of 32;
  it fetches 72 blocks of 128 row numbers, block `k` being block `72·w + k` of the 2304. Before trip `k` the loop carries
  the number of fetches issued, `min (k+1) 72`, the numbers of blocks consumed and produced, `k` and `k`, the number of
  write-outs waited for, `k - 1`, and the block's number `k` (72 wraps to 0). Each theorem here says what one printed
  offset, condition or side condition is at those words, for all workers and all trips; each is a finite check.
-/
module

public import proofs.«01_k».proof.Proof.Gen.KernelIdeal
public import proofs.«01_k».proof.Proof.Gen.KernelIdeal.Skeleton

@[expose] public section

namespace Cert.Proof.Gather

open Cert.KernelIdeal Cert.KernelIdeal.Gen Idealize.ShloMosaic

/-- The grid's coordinates of core `c`, subcore `s`. -/
def at2 (c : Fin 2) (s : Fin 16) : grid0.Coords :=
  fun | 0 => c | 1 => s | ⟨_ + 2, h⟩ => absurd h (Nat.not_lt.2 (Nat.le_add_left _ _))

/-- Worker `(c, s)`'s first block of the 2304. -/
def blk0 (c : Fin 2) (s : Fin 16) : ℕ := 72 * (16 * c.val + s.val)

/-- The words carried before trip `k`. -/
def w6 (k : ℕ) : BitVec 32 := BitVec.ofNat 32 (min (k + 1) 72)
def w7 (k : ℕ) : BitVec 32 := BitVec.ofNat 32 k
def w9 (k : ℕ) : BitVec 32 := BitVec.ofNat 32 (k - 1)
def w10 (k : ℕ) : BitVec 32 := BitVec.ofNat 32 (k % 72)

theorem trips_eq : k0_t1_loop.trips = 72 := rfl

/-- The next block is fetched at every trip but the last. -/
theorem cond1_at : ∀ (c : Fin 2) (s : Fin 16) (t : Fin 72), k0_cond1 (at2 c s) t (w10 t) = if t.val < 71 then 1#1 else 0#1 := by
  decide +kernel
/-- Every trip waits for its block. -/
theorem cond2_at : ∀ (c : Fin 2) (s : Fin 16) (t : Fin 72), k0_cond2 (at2 c s) t (w10 t) = 1#1 := by decide +kernel
/-- Every trip writes its block out. -/
theorem cond5_at : ∀ (c : Fin 2) (s : Fin 16) (t : Fin 72), k0_cond5 (at2 c s) t (w10 t) = 1#1 := by decide +kernel
/-- Every trip but the first waits for the block before its own to be written out. -/
theorem cond7_at : ∀ (c : Fin 2) (s : Fin 16) (t : Fin 72), k0_cond7 (at2 c s) t (w10 t) = if t.val = 0 then 0#1 else 1#1 := by
  decide +kernel

theorem off4_at : ∀ t : Fin 71, k0_off4 (w6 t) = ![(t.val + 1) % 2, 0, 0] := by decide +kernel
theorem off5_at : ∀ (c : Fin 2) (s : Fin 16) (t : Fin 71), k0_off5 (at2 c s) (w10 t) = ![0, 128 * (blk0 c s + (t.val + 1))] := by decide +kernel
theorem off6_at : ∀ t : Fin 71, k0_off6 (w6 t) = ![(t.val + 1) % 2] := by decide +kernel
theorem off7_at : ∀ t : Fin 72, k0_off7 (w7 t) = ![t.val % 2, 0, 0] := by decide +kernel
theorem off9_at : ∀ t : Fin 72, k0_off9 (w7 t) = ![t.val % 2] := by decide +kernel
theorem off10_at : ∀ t : Fin 72, k0_off10 (w7 t) = ![t.val % 2, 0, 0] := by decide +kernel
theorem off11_at : ∀ t : Fin 72, k0_off11 (w7 t) = ![t.val % 2, 0, 0] := by decide +kernel
theorem off12_at : ∀ t : Fin 72, k0_off12 (w7 t) = ![t.val % 2, 0, 0] := by decide +kernel
theorem off13_at : ∀ (c : Fin 2) (s : Fin 16) (t : Fin 72), k0_off13 (at2 c s) (w10 t) = ![128 * (blk0 c s + t.val), 0] := by decide +kernel
theorem off14_at : ∀ t : Fin 72, k0_off14 (w7 t) = ![t.val % 2] := by decide +kernel
theorem off17_at : ∀ t : Fin 72, t.val ≠ 0 → k0_off17 (w9 t) = ![(t.val + 1) % 2] := by decide +kernel
theorem off20_at : k0_off20 (w9 72) = ![1] := by decide +kernel
theorem off2_at (c : Fin 2) (s : Fin 16) : k0_off2 (at2 c s) = ![0, 128 * (blk0 c s + 0)] := by
  revert c s; decide +kernel

/-- The loop's side conditions hold at the words of every trip, -/
theorem chk1_at : ∀ (c : Fin 2) (s : Fin 16) (t : Fin 72), k0_chk1 (at2 c s) t (w6 t) (w7 t) (w7 t) (w9 t) (w10 t) := by
  unfold k0_chk1; decide +kernel
theorem chk2_at : ∀ t : Fin 72, k0_chk2 (w7 t) := by
  unfold k0_chk2; decide +kernel
theorem chk3_at : ∀ t : Fin 72, k0_chk3 (w7 t) := by
  unfold k0_chk3; decide +kernel
/-- and those behind the loop at the words it leaves. -/
theorem chk4_at : k0_chk4 (w9 72) := by
  unfold k0_chk4; decide +kernel
theorem chk5_at : ∀ (c : Fin 2) (s : Fin 16), k0_chk5 (at2 c s) (w10 72) := by
  unfold k0_chk5; decide +kernel

end Cert.Proof.Gather

end
-- ==== Proof.Views.lean ====
/-
  The pieces of the arrays the transfers move, and what each transfer leaves. The row numbers are a 1 × 294912 array, the
  table a 131072 × 256 array, the result a 294912 × 256 array; each subcore holds two slots of 128 row numbers and two
  slots of 128 × 256 words. For each piece: which elements it covers and where its index `x` lies; then, for each
  transfer, that the piece it writes holds, element by element, the words the result should have there.
-/
module

public import proofs.«01_k».proof.Proof.Gen.KernelIdeal
public import Idealize.ShloMosaic.Lib.ValueIdxCore
public import Idealize.ShloMosaic.Lib.Pipeline.Value
public import Idealize.ShloMosaic.Lib.SparseCore.Stream

@[expose] public section

noncomputable section

namespace Cert.Proof.Gather

open Cert.KernelIdeal Cert.KernelIdeal.Gen Idealize.ShloMosaic
open Idealize.ShloMosaic.ValueIdx (ix2 ix3)

variable {F : FTy → Type}

/-! ## The words -/

/-- Word `(r, c)` of the table. -/
def xAt (X : S131072x256.Idx → BitVec 32) (r c : ℕ) : BitVec 32 :=
  X (ix2 (n0 := 131072) (n1 := 256) ⟨r % 131072, Nat.mod_lt _ (by decide)⟩ ⟨c % 256, Nat.mod_lt _ (by decide)⟩)
/-- Row number `n`. -/
def iAt (I : S1x294912.Idx → BitVec 32) (n : ℕ) : BitVec 32 :=
  I (ix2 (n0 := 1) (n1 := 294912) ⟨0, by decide⟩ ⟨n % 294912, Nat.mod_lt _ (by decide)⟩)
/-- The result: row `n` is the table's row whose number is row number `n`. -/
def outC (X : S131072x256.Idx → BitVec 32) (I : S1x294912.Idx → BitVec 32) : S294912x256.Idx → BitVec 32 :=
  fun y => xAt X (iAt I (y 0).val).toNat (y 1).val
/-- A slot's row numbers after fetching block `b`. -/
def idxC (I : S1x294912.Idx → BitVec 32) (b : ℕ) : S2x1x128.Idx → BitVec 32 := fun y => iAt I (128 * b + (y 2).val)
/-- A slot's rows after gathering block `b`. -/
def slotC (X : S131072x256.Idx → BitVec 32) (I : S1x294912.Idx → BitVec 32) (b : ℕ) : S2x128x256.Idx → BitVec 32 :=
  fun y => xAt X (iAt I (128 * b + (y 1).val)).toNat (y 2).val

/-! ## The pieces -/

abbrev xM : Memref sig .scVector .hbm S131072x256 .i32 := Memref.whole main_v9_scv
abbrev iM : Memref sig .scVector .hbm S1x294912 .i32 := Memref.whole main_v10_scv
abbrev oM : Memref sig .scVector .hbm S294912x256 .i32 := Memref.whole main_v11_scv
abbrev iB : Memref sig .scVector .vmem S2x1x128 .i32 := Memref.whole cc0_scoped0
abbrev oB : Memref sig .scVector .vmem S2x128x256 .i32 := Memref.whole cc0_scoped2

abbrev iSlot (off : Fin 3 → ℕ) (h : ∀ a, off a + S1x1x128.size a ≤ S2x1x128.size a) : Memref sig .scVector .vmem S1x128 .i32 :=
  (iB.slice (Rect.unit (s := S2x1x128) off S1x1x128.size h) (fun _ => rfl)).squeeze S1x128 squeezes_S1x1x128_S1x128
abbrev iBlk (off : Fin 2 → ℕ) (h : ∀ a, off a + S1x128.size a ≤ S1x294912.size a) : Memref sig .scVector .hbm S1x128 .i32 :=
  iM.slice (Rect.unit (s := S1x294912) off S1x128.size h) (fun _ => rfl)
abbrev oSlot (off : Fin 3 → ℕ) (h : ∀ a, off a + S1x128x256.size a ≤ S2x128x256.size a) : Memref sig .scVector .vmem S128x256 .i32 :=
  (oB.slice (Rect.unit (s := S2x128x256) off S1x128x256.size h) (fun _ => rfl)).squeeze S128x256 squeezes_S1x128x256_S128x256
abbrev oBlk (off : Fin 2 → ℕ) (h : ∀ a, off a + S128x256.size a ≤ S294912x256.size a) : Memref sig .scVector .hbm S128x256 .i32 :=
  oM.slice (Rect.unit (s := S294912x256) off S128x256.size h) (fun _ => rfl)
abbrev iList (off : Fin 3 → ℕ) (h : ∀ a, off a + S1x1x128.size a ≤ S2x1x128.size a) (hl : ∀ a, (![0, 0] : Fin 2 → ℕ) a + S1x128.size a ≤ S1x128.size a) :
    Memref sig .scVector .vmem S128 .i32 :=
  ((iSlot off h).slice (Rect.unit (s := S1x128) ![0, 0] S1x128.size hl) (fun _ => rfl)).squeeze S128 squeezes_S1x128_S128
abbrev oHalf (off : Fin 3 → ℕ) (h : ∀ a, off a + S1x128x256.size a ≤ S2x128x256.size a) (c : ℕ)
    (hc : ∀ a, (![0, c] : Fin 2 → ℕ) a + S128x128.size a ≤ S128x256.size a) : Memref sig .scVector .vmem S128x128 .i32 :=
  (oSlot off h).slice (Rect.unit (s := S128x256) ![0, c] S128x128.size hc) (fun _ => rfl)
abbrev xHalf (c : ℕ) (hc : ∀ a, (![0, c] : Fin 2 → ℕ) a + S131072x128.size a ≤ S131072x256.size a) : Memref sig .scVector .hbm S131072x128 .i32 :=
  xM.slice (Rect.unit (s := S131072x256) ![0, c] S131072x128.size hc) (fun _ => rfl)

/-! ## Their elements -/

/-- Slot `p` of the row numbers. -/
def iSlotSet (p : ℕ) : Finset S2x1x128.Idx := Finset.univ.filter fun y => (y 0).val = p
/-- Slot `p` of the rows. -/
def oSlotSet (p : ℕ) : Finset S2x128x256.Idx := Finset.univ.filter fun y => (y 0).val = p
/-- Columns `c … c + 127` of slot `p` of the rows. -/
def oHalfSet (p c : ℕ) : Finset S2x128x256.Idx := Finset.univ.filter fun y => (y 0).val = p ∧ c ≤ (y 2).val ∧ (y 2).val < c + 128
/-- Rows `a … b - 1` of the result. -/
def rowsSet (a b : ℕ) : Finset S294912x256.Idx := Finset.univ.filter fun y => a ≤ (y 0).val ∧ (y 0).val < b

variable (off3 : Fin 3 → ℕ) (off2 : Fin 2 → ℕ) (p r c : ℕ)

theorem iSlot_set (h) (e : off3 = ![p, 0, 0]) : (iSlot off3 h).view.set = iSlotSet p := by
  subst e
  show (((View.whole (cc0_scoped0 : Ref sig .scVector)).slice (Rect.unit (s := S2x1x128) ![p, 0, 0] S1x1x128.size h)).reshape S1x128 squeezes_S1x1x128_S1x128.numel_eq).set = _
  rw [View.set_reshape, View.set_slice_whole]
  ext y
  have h1 : (y 1).val < 1 := (y 1).isLt
  have h2 : (y 2).val < 128 := (y 2).isLt
  simp only [iSlotSet, Finset.mem_filter, Finset.mem_univ, true_and]
  refine Rect.mem_set_unit.trans ⟨fun k => ?_, fun k a => ?_⟩
  · have := k 0; change p ≤ (y 0).val ∧ (y 0).val < p + 1 at this; omega
  · match a with
    | 0 => show p ≤ (y 0).val ∧ (y 0).val < p + 1; omega
    | 1 => show 0 ≤ (y 1).val ∧ (y 1).val < 0 + 1; omega
    | 2 => show 0 ≤ (y 2).val ∧ (y 2).val < 0 + 128; omega

theorem oSlot_set (h) (e : off3 = ![p, 0, 0]) : (oSlot off3 h).view.set = oSlotSet p := by
  subst e
  show (((View.whole (cc0_scoped2 : Ref sig .scVector)).slice (Rect.unit (s := S2x128x256) ![p, 0, 0] S1x128x256.size h)).reshape S128x256 squeezes_S1x128x256_S128x256.numel_eq).set = _
  rw [View.set_reshape, View.set_slice_whole]
  ext y
  have h1 : (y 1).val < 128 := (y 1).isLt
  have h2 : (y 2).val < 256 := (y 2).isLt
  simp only [oSlotSet, Finset.mem_filter, Finset.mem_univ, true_and]
  refine Rect.mem_set_unit.trans ⟨fun k => ?_, fun k a => ?_⟩
  · have := k 0; change p ≤ (y 0).val ∧ (y 0).val < p + 1 at this; omega
  · match a with
    | 0 => show p ≤ (y 0).val ∧ (y 0).val < p + 1; omega
    | 1 => show 0 ≤ (y 1).val ∧ (y 1).val < 0 + 128; omega
    | 2 => show 0 ≤ (y 2).val ∧ (y 2).val < 0 + 256; omega

theorem oBlk_set (h) (e : off2 = ![r, 0]) : (oBlk off2 h).view.set = rowsSet r (r + 128) := by
  subst e
  show ((View.whole (main_v11_scv : Ref sig .scVector)).slice (Rect.unit (s := S294912x256) ![r, 0] S128x256.size h)).set = _
  rw [View.set_slice_whole]
  ext y
  have h2 : (y 1).val < 256 := (y 1).isLt
  simp only [rowsSet, Finset.mem_filter, Finset.mem_univ, true_and]
  refine Rect.mem_set_unit.trans ⟨fun k => k 0, fun k a => ?_⟩
  match a with
  | 0 => exact k
  | 1 => show 0 ≤ (y 1).val ∧ (y 1).val < 0 + 256; omega

theorem iList_set (h hl) (e : off3 = ![p, 0, 0]) : (iList off3 h hl).view.set = iSlotSet p := by
  rw [← iSlot_set off3 p h e]
  show ((((iSlot off3 h).view.slice (Rect.unit (s := S1x128) ![0, 0] S1x128.size hl))).reshape S128 squeezes_S1x128_S128.numel_eq).set = _
  rw [View.set_reshape, View.set_slice]
  have : (Rect.unit (s := S1x128) ![0, 0] S1x128.size hl).set = Finset.univ := by
    ext y
    simp only [Finset.mem_univ, iff_true]
    refine Rect.mem_set_unit.mpr fun a => ?_
    match a with
    | 0 => show 0 ≤ (y 0).val ∧ (y 0).val < 0 + 1; have : (y 0).val < 1 := (y 0).isLt; omega
    | 1 => show 0 ≤ (y 1).val ∧ (y 1).val < 0 + 128; have : (y 1).val < 128 := (y 1).isLt; omega
  rw [this]; rfl

/-! ## Where their indices lie -/

theorem iSlot_emb (h) (e : off3 = ![p, 0, 0]) (x : S1x128.Idx) :
    (((iSlot off3 h).view.emb x : S2x1x128.Idx) 2).val = (x 1).val := by
  subst e
  show 0 + 1 * ((Shape.reshapeEquiv squeezes_S1x1x128_S1x128.numel_eq x) 2).val = _
  rw [Shape.reshapeEquiv_cons_one]
  show 0 + 1 * (x 1).val = _; omega

theorem oSlot_emb (h) (e : off3 = ![p, 0, 0]) (x : S128x256.Idx) :
    (((oSlot off3 h).view.emb x : S2x128x256.Idx) 0).val = p ∧ (((oSlot off3 h).view.emb x : S2x128x256.Idx) 1).val = (x 0).val
      ∧ (((oSlot off3 h).view.emb x : S2x128x256.Idx) 2).val = (x 1).val := by
  subst e
  refine ⟨?_, ?_, ?_⟩
  · show p + 1 * ((Shape.reshapeEquiv squeezes_S1x128x256_S128x256.numel_eq x) 0).val = _
    rw [Shape.reshapeEquiv_cons_one]; show p + 1 * 0 = _; omega
  · show 0 + 1 * ((Shape.reshapeEquiv squeezes_S1x128x256_S128x256.numel_eq x) 1).val = _
    rw [Shape.reshapeEquiv_cons_one]; show 0 + 1 * (x 0).val = _; omega
  · show 0 + 1 * ((Shape.reshapeEquiv squeezes_S1x128x256_S128x256.numel_eq x) 2).val = _
    rw [Shape.reshapeEquiv_cons_one]; show 0 + 1 * (x 1).val = _; omega

theorem oHalf_emb (h hc) (e : off3 = ![p, 0, 0]) (x : S128x128.Idx) :
    (((oHalf off3 h c hc).view.emb x : S2x128x256.Idx) 0).val = p ∧ (((oHalf off3 h c hc).view.emb x : S2x128x256.Idx) 1).val = (x 0).val
      ∧ (((oHalf off3 h c hc).view.emb x : S2x128x256.Idx) 2).val = c + (x 1).val := by
  have k := oSlot_emb off3 p h e ((Rect.unit (s := S128x256) ![0, c] S128x128.size hc).emb x)
  refine ⟨k.1, k.2.1.trans ?_, k.2.2.trans ?_⟩
  · show 0 + 1 * (x 0).val = _; omega
  · show c + 1 * (x 1).val = _; omega

theorem iList_emb (h hl) (e : off3 = ![p, 0, 0]) (x : S128.Idx) :
    (((iList off3 h hl).view.emb x : S2x1x128.Idx) 2).val = (x 0).val := by
  refine (iSlot_emb off3 p h e ((Rect.unit (s := S1x128) ![0, 0] S1x128.size hl).emb (Shape.reshapeEquiv squeezes_S1x128_S128.numel_eq x))).trans ?_
  show 0 + 1 * ((Shape.reshapeEquiv squeezes_S1x128_S128.numel_eq x) 1).val = _
  rw [Shape.reshapeEquiv_cons_one]; show 0 + 1 * (x 0).val = _; omega

theorem oHalf_set (h hc) (e : off3 = ![p, 0, 0]) : (oHalf off3 h c hc).view.set = oHalfSet p c := by
  ext y
  simp only [oHalfSet, Finset.mem_filter, Finset.mem_univ, true_and]
  constructor
  · intro hy
    obtain ⟨x, rfl⟩ := View.exists_emb_of_mem_set (oHalf off3 h c hc).view hy
    have k := oHalf_emb off3 p c h hc e x
    have hx : (x 1).val < 128 := (x 1).isLt
    exact ⟨k.1, by omega, by omega⟩
  · rintro ⟨h0, h1, h2⟩
    have h3 : (y 1).val < 128 := (y 1).isLt
    have k := oHalf_emb off3 p c h hc e (ix2 (n0 := 128) (n1 := 128) ⟨(y 1).val, h3⟩ ⟨(y 2).val - c, by omega⟩)
    have : (oHalf off3 h c hc).view.emb (ix2 (n0 := 128) (n1 := 128) ⟨(y 1).val, h3⟩ ⟨(y 2).val - c, by omega⟩) = y := by
      funext a; apply Fin.ext
      match a with
      | 0 => exact k.1.trans h0.symm
      | 1 => exact k.2.1
      | 2 => refine k.2.2.trans ?_; show c + ((y 2).val - c) = _; omega
    rw [← this]; exact Finset.mem_map_of_mem _ (Finset.mem_univ _)

/-! ## What each transfer leaves -/

variable (X : S131072x256.Idx → BitVec 32) (I : S1x294912.Idx → BitVec 32) (b : ℕ)

/-- Fetching block `b` of the row numbers into slot `p` leaves them there. -/
theorem fetch_eq (fd : S2x1x128.Idx → BitVec 32) (h hb) (e : off3 = ![p, 0, 0]) (eb : off2 = ![0, 128 * b]) :
    ∀ y ∈ iSlotSet p, (iSlot off3 h).view.write (Elt F) fd ((iBlk off2 hb).view.read (Elt F) I) Finset.univ y = idxC I b y := by
  intro y hy
  rw [← iSlot_set off3 p h e] at hy
  obtain ⟨x, rfl⟩ := View.exists_emb_of_mem_set (iSlot off3 h).view hy
  refine (View.write_emb_of_mem _ _ (Finset.mem_univ x)).trans ?_
  show I ((iBlk off2 hb).view.emb x) = iAt I (128 * b + _)
  rw [iSlot_emb off3 p h e x]
  subst eb
  have hx : (x 1).val < 128 := (x 1).isLt
  have hb1 : 128 * b + 128 ≤ 294912 := hb 1
  refine congrArg I (funext fun a => Fin.ext ?_)
  match a with
  | 0 => show 0 + 1 * (x 0).val = 0; have : (x 0).val < 1 := (x 0).isLt; omega
  | 1 => show 128 * b + 1 * (x 1).val = (128 * b + (x 1).val) % 294912; omega

/-- A slot holding block `b`'s row numbers lists them. -/
theorem list_read (h hl) (e : off3 = ![p, 0, 0]) (x : S128.Idx) :
    (iList off3 h hl).view.read (Elt F) (idxC I b) x = iAt I (128 * b + (x 0).val) := by
  show idxC I b ((iList off3 h hl).view.emb x) = _
  unfold idxC; rw [iList_emb off3 p h hl e x]

/-- Every listed row is a row of the table. -/
theorem list_lt (hI : ∀ j, (I j).toNat < 131072) (h hl) (e : off3 = ![p, 0, 0]) :
    ∀ x, ((iList off3 h hl).view.read (Elt F) (idxC I b) x).toNat < S131072x128.size gathers_S131072x128_S128x128.axis := by
  intro x; rw [list_read off3 p I b h hl e x]; exact hI _

/-- Gathering columns `c …` at the listed rows leaves slot `p`'s columns `c …` at block `b`'s rows. -/
theorem gather_eq (hI : ∀ j, (I j).toNat < 131072) (fd : S2x128x256.Idx → BitVec 32) (off3' : Fin 3 → ℕ) (h hc h' hl hx hn hin)
    (e : off3 = ![p, 0, 0]) (e' : off3' = ![p, 0, 0]) :
    ∀ y ∈ oHalfSet p c, (oHalf off3 h c hc).view.write (Elt F) fd
      (SparseCore.gatherPayload gathers_S131072x128_S128x128 ((xHalf c hx).view.read (Elt F) X)
        (SparseCore.rows ((iList off3' h' hl).view.read (Elt F) (idxC I b)) hn hin)) Finset.univ y = slotC X I b y := by
  intro y hy
  rw [← oHalf_set off3 p c h hc e] at hy
  obtain ⟨x, rfl⟩ := View.exists_emb_of_mem_set (oHalf off3 h c hc).view hy
  refine (View.write_emb_of_mem _ _ (Finset.mem_univ x)).trans ?_
  have k := oHalf_emb off3 p c h hc e x
  unfold slotC
  rw [k.2.1, k.2.2]
  have hx1 : (x 1).val < 128 := (x 1).isLt
  have hc1 : c + 128 ≤ 256 := hc 1
  have hr : ∀ j : Fin 128, (SparseCore.rows (F := F) ((iList off3' h' hl).view.read (Elt F) (idxC I b)) hn hin j).val = (iAt I (128 * b + j.val)).toNat := by
    intro j
    show (((iList off3' h' hl).view.read (Elt F) (idxC I b)) (S128.rowMajor.symm (j.cast hn.symm))).toNat = _
    rw [list_read off3' p I b h' hl e']
    have : ((S128.rowMajor.symm (j.cast hn.symm)) 0).val = j.val := by
      have := Shape.rowMajor_val_one (S128.rowMajor.symm (j.cast hn.symm))
      rw [Equiv.apply_symm_apply] at this
      exact this.symm
    rw [this]
  show X ((xHalf c hx).view.emb (Shape.Gathers.idx gathers_S131072x128_S128x128 _ x)) = xAt X _ _
  refine congrArg X (funext fun a => Fin.ext ?_)
  match a with
  | 0 =>
    show 0 + 1 * ((Shape.Gathers.idx gathers_S131072x128_S128x128 _ x) 0).val = (iAt I (128 * b + (x 0).val)).toNat % 131072
    rw [Nat.mod_eq_of_lt (show (iAt I (128 * b + (x 0).val)).toNat < 131072 from hI _), ← hr (x 0)]
    have := Shape.Gathers.idx_axis gathers_S131072x128_S128x128 (SparseCore.rows (F := F) ((iList off3' h' hl).view.read (Elt F) (idxC I b)) hn hin) x
    have := congrArg Fin.val this
    rw [Nat.zero_add, Nat.one_mul]
    exact this
  | 1 =>
    show c + 1 * ((Shape.Gathers.idx gathers_S131072x128_S128x128 _ x) 1).val = (c + (x 1).val) % 256
    have := Shape.Gathers.idx_of_ne gathers_S131072x128_S128x128 (SparseCore.rows (F := F) ((iList off3' h' hl).view.read (Elt F) (idxC I b)) hn hin) x (b := 1) (by decide)
    rw [this]
    show c + 1 * (x 1).val = _; omega

/-- Writing slot `p`, at block `b`'s rows, out to rows `128·b …` leaves them at the result's. -/
theorem store_eq (fd : S294912x256.Idx → BitVec 32) (h hb) (e : off3 = ![p, 0, 0]) (eb : off2 = ![128 * b, 0]) :
    ∀ y ∈ rowsSet (128 * b) (128 * b + 128),
      (oBlk off2 hb).view.write (Elt F) fd ((oSlot off3 h).view.read (Elt F) (slotC X I b)) Finset.univ y = outC X I y := by
  intro y hy
  rw [← oBlk_set off2 (128 * b) hb eb] at hy
  obtain ⟨x, rfl⟩ := View.exists_emb_of_mem_set (oBlk off2 hb).view hy
  refine (View.write_emb_of_mem _ _ (Finset.mem_univ x)).trans ?_
  show slotC X I b ((oSlot off3 h).view.emb x) = _
  have k := oSlot_emb off3 p h e x
  unfold slotC outC
  rw [k.2.1, k.2.2]
  subst eb
  have k0 : (((oBlk ![128 * b, 0] hb).view.emb x : S294912x256.Idx) 0).val = 128 * b + (x 0).val := by
    show 128 * b + 1 * (x 0).val = _; omega
  have k1 : (((oBlk ![128 * b, 0] hb).view.emb x : S294912x256.Idx) 1).val = (x 1).val := by
    show 0 + 1 * (x 1).val = _; omega
  rw [k0, k1]

/-! ## Splitting -/

theorem rows_split {a b c : ℕ} (h1 : a ≤ b) (h2 : b ≤ c) : rowsSet a c = rowsSet a b ∪ rowsSet b c ∧ Disjoint (rowsSet a b) (rowsSet b c) := by
  constructor
  · ext y; simp only [rowsSet, Finset.mem_union, Finset.mem_filter, Finset.mem_univ, true_and]; omega
  · rw [Finset.disjoint_left]; intro y; simp only [rowsSet, Finset.mem_filter, Finset.mem_univ, true_and]; omega

theorem rows_empty (a : ℕ) : rowsSet a a = ∅ := by
  ext y; simp only [rowsSet, Finset.mem_filter, Finset.mem_univ, true_and, Finset.notMem_empty, iff_false]; omega

theorem rows_all : rowsSet 0 294912 = Finset.univ := by
  ext y
  have : (y 0).val < 294912 := (y 0).isLt
  simp only [rowsSet, Finset.mem_filter, Finset.mem_univ, true_and, iff_true]; omega

theorem halves : oSlotSet p = oHalfSet p 0 ∪ oHalfSet p 128 ∧ Disjoint (oHalfSet p 0) (oHalfSet p 128) := by
  constructor
  · ext y
    have : (y 2).val < 256 := (y 2).isLt
    simp only [oSlotSet, oHalfSet, Finset.mem_union, Finset.mem_filter, Finset.mem_univ, true_and]; omega
  · rw [Finset.disjoint_left]; intro y; simp only [oHalfSet, Finset.mem_filter, Finset.mem_univ, true_and]; omega

theorem iSlots : (Finset.univ : Finset S2x1x128.Idx) = iSlotSet 0 ∪ iSlotSet 1 ∧ Disjoint (iSlotSet 0) (iSlotSet 1) := by
  constructor
  · ext y
    have : (y 0).val < 2 := (y 0).isLt
    refine ⟨fun _ => ?_, fun _ => Finset.mem_univ _⟩
    rcases (by omega : (y 0).val = 0 ∨ (y 0).val = 1) with h | h
    · exact Finset.mem_union_left _ (Finset.mem_filter.mpr ⟨Finset.mem_univ _, h⟩)
    · exact Finset.mem_union_right _ (Finset.mem_filter.mpr ⟨Finset.mem_univ _, h⟩)
  · rw [Finset.disjoint_left]; intro y h h'; have := (Finset.mem_filter.mp h).2; have := (Finset.mem_filter.mp h').2; omega

theorem oSlots : (Finset.univ : Finset S2x128x256.Idx) = oSlotSet 0 ∪ oSlotSet 1 ∧ Disjoint (oSlotSet 0) (oSlotSet 1) := by
  constructor
  · ext y
    have : (y 0).val < 2 := (y 0).isLt
    refine ⟨fun _ => ?_, fun _ => Finset.mem_univ _⟩
    rcases (by omega : (y 0).val = 0 ∨ (y 0).val = 1) with h | h
    · exact Finset.mem_union_left _ (Finset.mem_filter.mpr ⟨Finset.mem_univ _, h⟩)
    · exact Finset.mem_union_right _ (Finset.mem_filter.mpr ⟨Finset.mem_univ _, h⟩)
  · rw [Finset.disjoint_left]; intro y h h'; have := (Finset.mem_filter.mp h).2; have := (Finset.mem_filter.mp h').2; omega

end Cert.Proof.Gather

end
-- ==== Proof.Setup.lean ====
/-
  The gather's launch as the SparseCore launch theorem sees it: the program's labels and definitions, the resource algebra
  (the launch's handshakes and the transfers' counters), the arrays' places, and vector subcore `(c, s)`'s thread.
-/
module

public import proofs.«01_k».proof.Defs
public import proofs.«01_k».proof.Proof.Words
public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The table's, the row numbers' and the result's places on device `d`. -/
abbrev xLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0
/-- The thread of the vector subcore at grid coordinates `L`. -/
abbrev th (d : Dev nD) (L : grid0.Coords) : Thread nD τ := V d (cV L) (jV L)

/-- The semaphores of row-number slot and row slot `n % 2`. -/
def iSem (n : ℕ) : DmaSem sig :=
  ((cc0_scoped1.slice (Rect.unit (s := S2) ![n % 2] S1.size
    (fun a => match a with | 0 => by show n % 2 + 1 ≤ 2; omega))).squeeze S_ squeezes_S1_S_).sem
def oSem (n : ℕ) : DmaSem sig :=
  ((cc0_scoped3.slice (Rect.unit (s := S2) ![n % 2] S1.size
    (fun a => match a with | 0 => by show n % 2 + 1 ≤ 2; omega))).squeeze S_ squeezes_S1_S_).sem

theorem iSem_eq {off : Fin 1 → ℕ} {n : ℕ} (h) (e : off = ![n % 2]) :
    ((cc0_scoped1.slice (Rect.unit (s := S2) off S1.size h)).squeeze S_ squeezes_S1_S_).sem = iSem n := by subst e; rfl
theorem oSem_eq {off : Fin 1 → ℕ} {n : ℕ} (h) (e : off = ![n % 2]) :
    ((cc0_scoped3.slice (Rect.unit (s := S2) off S1.size h)).squeeze S_ squeezes_S1_S_).sem = oSem n := by subst e; rfl

/-- Half `n % 2` of a share. -/
def half (q : PosShare TreeShare) (n : ℕ) : PosShare TreeShare := pieceOf q 2 (by decide) ⟨n % 2, Nat.mod_lt _ (by decide)⟩

end Cert.Proof.Gather

end
-- ==== Proof.Moves.lean ====
/-
  One vector subcore's transfers, each as a step: fetching a block of row numbers into a slot and waiting for it, the two
  indirect copies of the listed rows' column halves and their waits, and writing a slot out and waiting for it. What a slot
  is between its steps is named: idle, or in flight with what it will hold.
-/
module

public import proofs.«01_k».proof.Proof.Setup

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S131072x256.Idx → BitVec 32) (I : S1x294912.Idx → BitVec 32)
  (o0 : S294912x256.Idx → BitVec 32) (q : PosShare TreeShare)

/-- The words the transfers move, as contents of the arrays and slots. -/
abbrev xC : Buf (Elt F) (xM.view.loc (th d L)) := X
abbrev iC : Buf (Elt F) (iM.view.loc (th d L)) := I
abbrev oC (f : S294912x256.Idx → BitVec 32) : Buf (Elt F) (oM.view.loc (th d L)) := f
abbrev ibC (f : S2x1x128.Idx → BitVec 32) : Buf (Elt F) (iB.view.loc (th d L)) := f
abbrev obC (f : S2x128x256.Idx → BitVec 32) : Buf (Elt F) (oB.view.loc (th d L)) := f

abbrev iCredit : ℕ := (iSlot ![0, 0, 0] (by decide)).view.dmaCredit
abbrev oCredit : ℕ := (oBlk ![0, 0] (by decide)).view.dmaCredit
abbrev gCredit : ℕ := (oHalf ![0, 0, 0] (by decide) 0 (by decide)).view.dmaCredit

/-- Row-number slot `n % 2` at rest, with its half of the subcore's share of the row numbers. -/
def iIdle (n : ℕ) : sProp 𝕄 :=
  iprop((∃ f, iB.view.loc (th d L) ↦[iSlotSet (n % 2)]{fullShare} f) ∗ semVal (th d L, .dma (iSem n)) 0
    ∗ iM.view.loc (th d L) ↦[Finset.univ]{half q n} iC (F := F) d L I)
/-- The same, holding block `b`'s row numbers. -/
def iHas (n b : ℕ) : sProp 𝕄 :=
  iprop((iB.view.loc (th d L) ↦[iSlotSet (n % 2)]{fullShare} ibC (F := F) d L (idxC I b)) ∗ semVal (th d L, .dma (iSem n)) 0
    ∗ iM.view.loc (th d L) ↦[Finset.univ]{half q n} iC (F := F) d L I)
/-- Row-number slot `n % 2` being filled with block `b`. -/
def iFly (n b : ℕ) : sProp 𝕄 :=
  iprop(∃ A, Transfers.Flight countersEmb (th d L) (.dma (iSem n)) (default : HIx 1) iCredit
      iprop((iB.view.loc (th d L) ↦[iSlotSet (n % 2)]{fullShare} ibC (F := F) d L (idxC I b)) ∗ iM.view.loc (th d L) ↦[A]{half q n} iC (F := F) d L I)
    ∗ iM.view.loc (th d L) ↦[Finset.univ \ A]{half q n} iC (F := F) d L I)
/-- Row slot `n % 2` at rest. -/
def oIdle (n : ℕ) : sProp 𝕄 :=
  iprop((∃ f, oB.view.loc (th d L) ↦[oSlotSet (n % 2)]{fullShare} f) ∗ semVal (th d L, .dma (oSem n)) 0)
/-- Row slot `n % 2` being written out to block `b` of the result. -/
def oFly (n b : ℕ) : sProp 𝕄 :=
  Transfers.Flight countersEmb (th d L) (.dma (oSem n)) (default : HIx 1) oCredit
    iprop((oM.view.loc (th d L) ↦[rowsSet (128 * b) (128 * b + 128)]{fullShare} oC (F := F) d L (outC X I))
      ∗ ∃ f, oB.view.loc (th d L) ↦[oSlotSet (n % 2)]{fullShare} f)
/-- Columns `c …` of row slot `n % 2` being gathered at block `b`'s row numbers. -/
def gFly (n b c : ℕ) (sm : DmaSem sig) : sProp 𝕄 :=
  iprop(∃ A, Transfers.Flight countersEmb (th d L) (.dma sm) (default : HIx 1) gCredit
      iprop((oB.view.loc (th d L) ↦[oHalfSet (n % 2) c]{fullShare} obC (F := F) d L (slotC X I b))
        ∗ (xM.view.loc (th d L) ↦[A]{q} xC (F := F) d L X)
        ∗ iB.view.loc (th d L) ↦[iSlotSet (n % 2)]{fullShare} ibC (F := F) d L (idxC I b))
    ∗ xM.view.loc (th d L) ↦[Finset.univ \ A]{q} xC (F := F) d L X)

/-- What the subcore owes, its waits so far recorded. -/
def ow (O : CellTallies nD τ sig (HIx 1)) (W : Waits sig (HIx 1)) : sProp 𝕄 :=
  iprop(∃ W', ⌜∀ p ∈ W', p ∈ W ∨ p.2 = none⌝ ∗ owes (th d L) O W')

variable {d L X I o0 q}
variable {O : CellTallies nD τ sig (HIx 1)} {W : Waits sig (HIx 1)}

/-- Starting the fetch of block `b`. -/
theorem fetch (n b : ℕ) {off3 : Fin 3 → ℕ} {off2 : Fin 2 → ℕ} {h h2} {sm : DmaSem sig} (e3 : off3 = ![n % 2, 0, 0]) (e2 : off2 = ![0, 128 * b])
    (es : sm = iSem n) {hsrc hdst hsem} {Q : PUnit → sProp 𝕄} :
    iIdle (F := F) d L I q n ⊢ iprop((iFly (F := F) d L I q n b -∗ Q ⟨⟩) -∗
      wp frame (wpE (defs₀ (F := F)) 𝒱₀ (th d L) none) Set.univ
        (Prog.lift (TpuEff.enqueueDma (iBlk off2 h2) (.here (iSlot off3 h)) (.dma sm) hsrc hdst hsem)) Q) := by
  subst es
  unfold iIdle
  iintro ⟨⟨%f, Hb⟩, Hs, Hi⟩ Hk
  ihave Hi2 := (pointsTo_split_subset (q := half q n) (f := iC (F := F) d L I) (S := Finset.univ) (Finset.subset_univ (iBlk off2 h2).view.set)).1 $$ Hi
  icases Hi2 with ⟨Hi, Hr⟩
  have hset := iSlot_set off3 (n % 2) h e3
  iapply (Transfers.wp_dmaLocal countersEmb 𝒱₀ (th d L) none (k := .ret) (src := iBlk off2 h2) (dst := iSlot off3 h) (Sd := iSlotSet (n % 2)) (via := .same)
    (default : HIx 1) iCredit rfl (by decide) (le_of_eq hset)) $$ [Hb Hs Hi]
  · isplitl [Hi]; · iexact Hi
    isplitl [Hb]; · iexact Hb
    iexact Hs
  iintro Hfl
  rw [wp_ret]; imodintro
  iapply Hk
  unfold iFly
  iexists (iBlk off2 h2).view.set
  isplitl [Hfl]
  · iapply (Transfers.Flight_mono countersEmb (th d L)
      (D := iprop((iB.view.loc (th d L) ↦[iSlotSet (n % 2)]{fullShare} (iSlot off3 h).view.write (Elt F) f ((iBlk off2 h2).view.read (Elt F) I) Finset.univ)
        ∗ iM.view.loc (th d L) ↦[(iBlk off2 h2).view.set]{half q n} iC (F := F) d L I)) ?_) $$ Hfl
    rw [pointsTo_congr (fetch_eq (F := F) off3 off2 (n % 2) I b f h h2 e3 e2)]
  · iexact Hr

/-- Waiting for it. -/
theorem fetchWait (n b : ℕ) {sm : DmaSem sig} (es : sm = iSem n) {sp' : Space} {s' : Shape} {e' : EltTy}
    {srcw : Memref sig .scVector sp' s' e'} {dstw : Memref sig .scVector .vmem S1x128 .i32} {hsrc hdst} {Q : PUnit → sProp 𝕄} :
    iprop(Transfers.MayWaits (th d L) (default : HIx 1) O ∗ iFly (F := F) d L I q n b ∗ ow (F := F) d L O W) ⊢
      iprop((iprop(iHas (F := F) d L I q n b ∗ ow (F := F) d L O W) -∗ Q ⟨⟩) -∗
        wp frame (wpE (defs₀ (F := F)) 𝒱₀ (th d L) none) Set.univ (Prog.lift (TpuEff.waitDma2 sm srcw dstw hsrc hdst)) Q) := by
  subst es
  unfold iFly ow
  iintro ⟨#Hmw, ⟨%A, Hfl, Hr⟩, ⟨%W', %hW, HO⟩⟩ Hk
  iapply (Transfers.wp_waitLocalO countersEmb 𝒱₀ (th d L) none (k := .ret) (default : HIx 1) rfl) $$ [Hfl HO]
  · isplitl [Hfl]; · iexact Hfl
    isplitl [HO]; · iexact HO
    iapply (Transfers.MayWaits.elim (SemLoc.dma (iSem n))) $$ Hmw
  iintro ⟨⟨Hb, Hi⟩, Hs, HO⟩
  rw [wp_ret]; imodintro
  iapply Hk
  isplitr [HO]
  · unfold iHas
    isplitl [Hb]; · iexact Hb
    isplitl [Hs]; · iexact Hs
    iapply (pointsTo_split_subset (q := half q n) (f := iC (F := F) d L I) (S := Finset.univ) (Finset.subset_univ A)).2
    isplitl [Hi] <;> iassumption
  · iexists _; isplitr
    swap; · iexact HO
    ipureintro; intro p hp
    rcases Finset.mem_insert.mp hp with hp | hp
    · exact .inr (hp ▸ rfl)
    · exact hW p hp

/-- The indirect copy's rows together credit what its destination does. -/
theorem gather_credit (off3 c) (h hc) : ∑ j, ((oHalf off3 h c hc).slice (S128x128.rowRect gathers_S131072x128_S128x128.axis' j) (S128x128.stride_rowRect gathers_S131072x128_S128x128.axis' j)).view.dmaCredit
      = (oHalf ![0, 0, 0] (by decide) 0 (by decide)).view.dmaCredit := by
  have e : ∀ (s : Shape) (v : View sig .scVector .vmem s .i32), v.dmaCredit = s.numel * 32 := fun s v => rfl
  simp only [e]
  have e' : ∀ j, (S128x128.rowRect gathers_S131072x128_S128x128.axis' j).shape.numel * 32 = 4096 := by
    intro j
    show (S128x128.rowShape gathers_S131072x128_S128x128.axis').numel * 32 = 4096
    decide
  rw [Finset.sum_congr rfl fun j _ => e' j, Finset.sum_const]; decide

set_option maxHeartbeats 1000000 in
/-- Starting the indirect copy of columns `c …`. -/
theorem gather (hI : ∀ j, (I j).toNat < 131072) (n b c : ℕ) {off3 off3' : Fin 3 → ℕ} {h hc h' hl hx} {sm : DmaSem sig}
    (e3 : off3 = ![n % 2, 0, 0]) (e3' : off3' = ![n % 2, 0, 0]) {hp hn hsrc he hsp hr} {Q : PUnit → sProp 𝕄} :
    iprop((∃ f, oB.view.loc (th d L) ↦[oHalfSet (n % 2) c]{fullShare} f)
        ∗ (iB.view.loc (th d L) ↦[iSlotSet (n % 2)]{fullShare} ibC (F := F) d L (idxC I b))
        ∗ (xM.view.loc (th d L) ↦[Finset.univ]{q} xC (F := F) d L X) ∗ semVal (th d L, .dma sm) 0)
      ⊢ iprop((gFly (F := F) d L X I q n b c sm -∗ Q ⟨⟩) -∗
        wp frame (wpE (defs₀ (F := F)) 𝒱₀ (th d L) none) Set.univ
          (SparseCore.enqueueIndirectGather hp (xHalf c hx) (oHalf off3 h c hc) gathers_S131072x128_S128x128 (iList off3' h' hl) hn sm hsrc he hsp hr) Q) := by
  iintro ⟨⟨%f, Hb⟩, Hi, Hx, Hs⟩ Hk
  ihave Hx2 := (pointsTo_split_subset (q := q) (f := xC (F := F) d L X) (S := Finset.univ) (Finset.subset_univ (xHalf c hx).view.set)).1 $$ Hx
  icases Hx2 with ⟨Hx, Hr⟩
  have hset := oHalf_set off3 (n % 2) c h hc e3
  have hset' := iList_set off3' (n % 2) h' hl e3'
  rw [← bind_pure (SparseCore.enqueueIndirectGather hp (xHalf c hx) (oHalf off3 h c hc) gathers_S131072x128_S128x128 (iList off3' h' hl) hn sm hsrc he hsp hr)]
  iapply (SparseCore.wp_indirectGatherLocal countersEmb 𝒱₀ (th d L) none (src := xHalf c hx) (dst := oHalf off3 h c hc) (offs := iList off3' h' hl)
    (hg := gathers_S131072x128_S128x128) (q := q) (qo := fullShare) (fs := xC (F := F) d L X) (fd := f)
    (fo := ibC (F := F) d L (idxC I b)) (default : HIx 1)
      gCredit (gather_credit off3 c h hc) (by decide) (list_lt (F := F) off3' (n % 2) I b hI h' hl e3')) $$ [Hx Hb Hi Hs]
  · isplitl [Hx]; · iexact Hx
    isplitl [Hb]; · rw [hset]; iexact Hb
    isplitl [Hi]; · rw [hset']; iexact Hi
    iexact Hs
  iintro Hfl
  rw [wp_pure]; imodintro
  iapply Hk
  unfold gFly
  iexists (xHalf c hx).view.set
  isplitl [Hfl]
  · iapply (Transfers.Flight_mono countersEmb (th d L)
      (D := iprop((oB.view.loc (th d L) ↦[(oHalf off3 h c hc).view.set]{fullShare} (oHalf off3 h c hc).view.write (Elt F) f
          (SparseCore.gatherPayload gathers_S131072x128_S128x128 ((xHalf c hx).view.read (Elt F) X)
            (SparseCore.rows ((iList off3' h' hl).view.read (Elt F) (idxC I b)) hn (list_lt (F := F) off3' (n % 2) I b hI h' hl e3'))) Finset.univ)
        ∗ (xM.view.loc (th d L) ↦[(xHalf c hx).view.set]{q} xC (F := F) d L X)
        ∗ iB.view.loc (th d L) ↦[(iList off3' h' hl).view.set]{fullShare} ibC (F := F) d L (idxC I b))) ?_) $$ Hfl
    rw [hset, hset', pointsTo_congr (gather_eq (F := F) off3 (n % 2) c X I b hI f off3' h hc h' hl hx hn _ e3 e3')]
  · iexact Hr

set_option maxHeartbeats 1000000 in
/-- Waiting for it. -/
theorem gatherWait (n b c : ℕ) {sm : DmaSem sig} {sp : Space} {s' : Shape} {e' : EltTy}
    {srcw : Memref sig .scVector sp s' e'} {dstw : Memref sig .scVector .vmem S128x128 .i32} {hsrc hdst} {Q : PUnit → sProp 𝕄} :
    iprop(Transfers.MayWaits (th d L) (default : HIx 1) O ∗ gFly (F := F) d L X I q n b c sm ∗ ow (F := F) d L O W) ⊢
      iprop((iprop((oB.view.loc (th d L) ↦[oHalfSet (n % 2) c]{fullShare} obC (F := F) d L (slotC X I b))
          ∗ (iB.view.loc (th d L) ↦[iSlotSet (n % 2)]{fullShare} ibC (F := F) d L (idxC I b))
          ∗ (xM.view.loc (th d L) ↦[Finset.univ]{q} xC (F := F) d L X) ∗ semVal (th d L, .dma sm) 0 ∗ ow (F := F) d L O W) -∗ Q ⟨⟩) -∗
        wp frame (wpE (defs₀ (F := F)) 𝒱₀ (th d L) none) Set.univ (SparseCore.waitIndirectGather sm srcw dstw hsrc hdst) Q) := by
  unfold gFly ow SparseCore.waitIndirectGather
  iintro ⟨#Hmw, ⟨%A, Hfl, Hr⟩, ⟨%W', %hW, HO⟩⟩ Hk
  iapply (Transfers.wp_waitLocalO countersEmb 𝒱₀ (th d L) none (k := fun _ => .ret ⟨⟩) (default : HIx 1) rfl) $$ [Hfl HO]
  · isplitl [Hfl]; · iexact Hfl
    isplitl [HO]; · iexact HO
    iapply (Transfers.MayWaits.elim (SemLoc.dma sm)) $$ Hmw
  iintro ⟨⟨Hb, Hx, Hi⟩, Hs, HO⟩
  rw [wp_ret]; imodintro
  iapply Hk
  isplitl [Hb]; · iexact Hb
  isplitl [Hi]; · iexact Hi
  isplitl [Hx Hr]
  · iapply (pointsTo_split_subset (q := q) (f := xC (F := F) d L X) (S := Finset.univ) (Finset.subset_univ A)).2
    isplitl [Hx] <;> iassumption
  isplitl [Hs]; · iexact Hs
  iexists _; isplitr
  swap; · iexact HO
  ipureintro; intro p hp
  rcases Finset.mem_insert.mp hp with hp | hp
  · exact .inr (hp ▸ rfl)
  · exact hW p hp

/-- Starting the write-out of row slot `n % 2`, at block `b`'s rows. -/
theorem store (n b : ℕ) {off3 : Fin 3 → ℕ} {off2 : Fin 2 → ℕ} {h h2} {sm : DmaSem sig} (e3 : off3 = ![n % 2, 0, 0]) (e2 : off2 = ![128 * b, 0])
    (es : sm = oSem n) {hsrc hdst hsem} {Q : PUnit → sProp 𝕄} :
    iprop((oB.view.loc (th d L) ↦[oSlotSet (n % 2)]{fullShare} obC (F := F) d L (slotC X I b)) ∗ semVal (th d L, .dma (oSem n)) 0
        ∗ oM.view.loc (th d L) ↦[rowsSet (128 * b) (128 * b + 128)]{fullShare} oC (F := F) d L o0)
      ⊢ iprop((oFly (F := F) d L X I n b -∗ Q ⟨⟩) -∗
        wp frame (wpE (defs₀ (F := F)) 𝒱₀ (th d L) none) Set.univ
          (Prog.lift (TpuEff.enqueueDma (oSlot off3 h) (.here (oBlk off2 h2)) (.dma sm) hsrc hdst hsem)) Q) := by
  subst es
  iintro ⟨Hb, Hs, Ho⟩ Hk
  have hset := oSlot_set off3 (n % 2) h e3
  have hset' := oBlk_set off2 (128 * b) h2 e2
  iapply (Transfers.wp_dmaLocal countersEmb 𝒱₀ (th d L) none (k := .ret) (src := oSlot off3 h) (dst := oBlk off2 h2) (Sd := rowsSet (128 * b) (128 * b + 128)) (via := .same)
    (q := fullShare) (fs := obC (F := F) d L (slotC X I b)) (fd := oC (F := F) d L o0)
    (default : HIx 1) oCredit rfl (by decide) (le_of_eq hset')) $$ [Hb Hs Ho]
  · isplitl [Hb]; · rw [hset]; iexact Hb
    isplitl [Ho]; · iexact Ho
    iexact Hs
  iintro Hfl
  rw [wp_ret]; imodintro
  iapply Hk
  unfold oFly
  iapply (Transfers.Flight_mono countersEmb (th d L)
    (D := iprop((oM.view.loc (th d L) ↦[rowsSet (128 * b) (128 * b + 128)]{fullShare} (oBlk off2 h2).view.write (Elt F) o0 ((oSlot off3 h).view.read (Elt F) (slotC X I b)) Finset.univ)
      ∗ oB.view.loc (th d L) ↦[(oSlot off3 h).view.set]{fullShare} obC (F := F) d L (slotC X I b))) ?_) $$ Hfl
  rw [hset, pointsTo_congr (store_eq (F := F) off3 off2 (n % 2) X I b o0 h h2 e3 e2)]
  iintro ⟨Ho, Hb⟩
  isplitl [Ho]; · iexact Ho
  iexists _; iexact Hb

/-- Waiting for it. -/
theorem storeWait (n b : ℕ) {sm : DmaSem sig} (es : sm = oSem n) {sp' : Space} {s' : Shape} {e' : EltTy}
    {srcw : Memref sig .scVector sp' s' e'} {dstw : Memref sig .scVector .hbm S128x256 .i32} {hsrc hdst} {Q : PUnit → sProp 𝕄} :
    iprop(Transfers.MayWaits (th d L) (default : HIx 1) O ∗ oFly (F := F) d L X I n b ∗ ow (F := F) d L O W) ⊢
      iprop((iprop(oIdle (F := F) d L n ∗ (oM.view.loc (th d L) ↦[rowsSet (128 * b) (128 * b + 128)]{fullShare} oC (F := F) d L (outC X I))
          ∗ ow (F := F) d L O W) -∗ Q ⟨⟩) -∗
        wp frame (wpE (defs₀ (F := F)) 𝒱₀ (th d L) none) Set.univ (Prog.lift (TpuEff.waitDma2 sm srcw dstw hsrc hdst)) Q) := by
  subst es
  unfold oFly ow
  iintro ⟨#Hmw, Hfl, ⟨%W', %hW, HO⟩⟩ Hk
  iapply (Transfers.wp_waitLocalO countersEmb 𝒱₀ (th d L) none (k := .ret) (default : HIx 1) rfl) $$ [Hfl HO]
  · isplitl [Hfl]; · iexact Hfl
    isplitl [HO]; · iexact HO
    iapply (Transfers.MayWaits.elim (SemLoc.dma (oSem n))) $$ Hmw
  iintro ⟨⟨Ho, Hb⟩, Hs, HO⟩
  rw [wp_ret]; imodintro
  iapply Hk
  isplitl [Hb Hs]
  · unfold oIdle
    isplitl [Hb]; · iexact Hb
    iexact Hs
  isplitl [Ho]; · iexact Ho
  iexists _; isplitr
  swap; · iexact HO
  ipureintro; intro p hp
  rcases Finset.mem_insert.mp hp with hp | hp
  · exact .inr (hp ▸ rfl)
  · exact hW p hp

end Cert.Proof.Gather

end
-- ==== Proof.Carry.lean ====
/-
  The words a trip of the subcore's loop carries to the next one: the numbers of the slots and of the block, each the
  one before plus one, the block number starting over behind the last.
-/
module

public import proofs.«01_k».proof.Proof.Words
public import proofs.«01_k».proof.Proof.Gen.KernelIdeal.Skeleton

@[expose] public section

namespace Cert.Proof.Gather

open Cert.KernelIdeal Cert.KernelIdeal.Gen Idealize.ShloMosaic

/-- The worker's first block as a word. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 72#32

/-- The words carried before trip `k`. -/
def words (k : ℕ) : BitVec 32 × BitVec 32 × BitVec 32 × BitVec 32 × BitVec 32 := (w6 k, w7 k, w7 k, w9 k, w10 k)

/-- The words the loop starts from. -/
theorem words_zero : ((Scalar.addi 0#32 1#32, 0#32, 0#32, 0#32, 0#32) : BitVec 32 × BitVec 32 × BitVec 32 × BitVec 32 × BitVec 32) = words 0 := by
  decide +kernel

/-- What a trip carries on: each word from the ones it was given. -/
theorem words_next : ∀ (c : Fin 2) (s : Fin 16) (t : Fin 72),
    (let v4 := v4w (at2 c s)
     let v5 := Scf.iv 0#32 1#32 t.val
     let v64 := Scalar.cmpi .eq v5 0#32
     let v65 := Scalar.cmpi .eq v5 71#32
     let v66 := Scalar.addi (w10 t) v4
     let v68 := Scalar.select 1#1 (Scalar.subi (w10 t) 1#32) (w10 t)
     let v71 := Scalar.addi (Scalar.select (Scalar.cmpi .eq v68 4294967295#32) 71#32 v68) v4
     let v73 := Scalar.select 1#1 (Scalar.addi (w10 t) 1#32) (w10 t)
     let v75 := Scalar.select (Scalar.cmpi .eq v73 72#32) 0#32 v73
     let v76 := Scalar.addi v75 v4
     let v85 := Scalar.andi (Scalar.cmpi .ne v66 v76) (Scalar.xori (Scalar.cmpi .sge v5 71#32) 1#1)
     let v116 := Scalar.ori (Scalar.cmpi .ne v66 v76) v65
     let v130 := Scalar.andi (Scalar.cmpi .ne v66 v71) (Scalar.xori v64 1#1)
     ((Scalar.select (Scalar.andi v85 1#1) (Scalar.addi (w6 t) 1#32) (w6 t),
       Scalar.select v116 (Scalar.addi (w7 t) 1#32) (w7 t),
       Scalar.select (Scalar.andi v116 1#1) (Scalar.addi (w7 t) 1#32) (w7 t),
       Scalar.select (Scalar.andi v130 1#1) (Scalar.addi (w9 t) 1#32) (w9 t),
       v75) : BitVec 32 × BitVec 32 × BitVec 32 × BitVec 32 × BitVec 32)) = words (t.val + 1) := by
  decide +kernel

end Cert.Proof.Gather

end
-- ==== Proof.Trip.lean ====
/-
  One trip of the subcore's loop. Before trip `k` block `k`'s row numbers are being fetched into slot `k % 2`, the other
  row-number slot is idle, row slot `k % 2` is idle, the other one is being written out to block `k - 1`, and the blocks
  before that one hold the result. The trip starts the next fetch, waits for its own, gathers the two column halves of
  its rows, starts writing them out and waits for the block before to be out.
-/
module

public import proofs.«01_k».proof.Proof.Moves
public import proofs.«01_k».proof.Proof.Carry

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin 2) (s : Fin 16) (X : S131072x256.Idx → BitVec 32) (I : S1x294912.Idx → BitVec 32)
  (o0 : S294912x256.Idx → BitVec 32) (qi qx : PosShare TreeShare) (O : CellTallies nD τ sig (HIx 1)) (W : Waits sig (HIx 1))

/-- What the subcore holds before trip `k`. -/
def Held (k : ℕ) : sProp 𝕄 :=
  iprop(Transfers.MayWaits (th d (at2 c s)) (default : HIx 1) O
    ∗ (if k < 72 then iFly (F := F) d (at2 c s) I qi k (blk0 c s + k) else iIdle (F := F) d (at2 c s) I qi k)
    ∗ iIdle (F := F) d (at2 c s) I qi (k + 1) ∗ oIdle (F := F) d (at2 c s) k
    ∗ (if k = 0 then oIdle (F := F) d (at2 c s) (k + 1) else oFly (F := F) d (at2 c s) X I (k + 1) (blk0 c s + (k - 1)))
    ∗ (oM.view.loc (th d (at2 c s)) ↦[rowsSet (128 * blk0 c s) (128 * (blk0 c s + (k - 1)))]{fullShare} oC (F := F) d (at2 c s) (outC X I))
    ∗ (oM.view.loc (th d (at2 c s)) ↦[rowsSet (128 * (blk0 c s + k)) (128 * (blk0 c s + 72))]{fullShare} oC (F := F) d (at2 c s) o0)
    ∗ (xM.view.loc (th d (at2 c s)) ↦[Finset.univ]{qx} xC (F := F) d (at2 c s) X)
    ∗ semVal (th d (at2 c s), .dma cc0_scoped4.sem) 0 ∗ semVal (th d (at2 c s), .dma cc0_scoped5.sem) 0
    ∗ ow (F := F) d (at2 c s) O W)

/-- The same with the words carried. -/
def Inv (k : ℕ) (acc : BitVec 32 × BitVec 32 × BitVec 32 × BitVec 32 × BitVec 32) : sProp 𝕄 :=
  iprop(⌜acc = words k⌝ ∗ Held (F := F) d c s X I o0 qi qx O W k)

omit [FloatOps F] in
theorem iSem_add_two (n : ℕ) : iSem (n + 2) = iSem n := iSem_eq _ (by rw [Nat.add_mod_right])
omit [FloatOps F] in
theorem oSem_add_two (n : ℕ) : oSem (n + 2) = oSem n := oSem_eq _ (by rw [Nat.add_mod_right])
theorem iIdle_add_two (L : grid0.Coords) (n : ℕ) : iIdle (F := F) d L I qi (n + 2) = iIdle (F := F) d L I qi n := by
  unfold iIdle half; simp only [iSem_add_two, Nat.add_mod_right]
theorem oIdle_add_two (L : grid0.Coords) (n : ℕ) : oIdle (F := F) d L (n + 2) = oIdle (F := F) d L n := by
  unfold oIdle; simp only [oSem_add_two, Nat.add_mod_right]
theorem oFly_add_two (L : grid0.Coords) (n b : ℕ) : oFly (F := F) d L X I (n + 2) b = oFly (F := F) d L X I n b := by
  unfold oFly; simp only [oSem_add_two, Nat.add_mod_right]
theorem iHas_idle (L : grid0.Coords) (n b : ℕ) : iHas (F := F) d L I qi n b ⊢ iIdle (F := F) d L I qi n := by
  unfold iHas iIdle
  iintro ⟨Hb, Hs, Hi⟩
  isplitl [Hb]; · iexists _; iexact Hb
  isplitl [Hs] <;> iassumption

/-- A row slot at rest is its two column halves. -/
theorem slot_halves (L : grid0.Coords) (n : ℕ) :
    oIdle (F := F) d L n ⊢ iprop((∃ f, oB.view.loc (th d L) ↦[oHalfSet (n % 2) 0]{fullShare} f)
      ∗ (∃ f, oB.view.loc (th d L) ↦[oHalfSet (n % 2) 128]{fullShare} f) ∗ semVal (th d L, .dma (oSem n)) 0) := by
  unfold oIdle
  iintro ⟨⟨%f, H⟩, Hs⟩
  rw [(halves (n % 2)).1]
  ihave H2 := (pointsTo_union (q := fullShare) (f := f) (halves (n % 2)).2).1 $$ H
  icases H2 with ⟨Ha, Hb⟩
  isplitl [Ha]
  · iexists f; iexact Ha
  isplitl [Hb]
  · iexists f; iexact Hb
  iexact Hs

/-- Rows cut in two. -/
theorem rows_cut (L : grid0.Coords) {o : S294912x256.Idx → BitVec 32} {a b e : ℕ} (h1 : a ≤ b) (h2 : b ≤ e) :
    (oM.view.loc (th d L) ↦[rowsSet a e]{fullShare} oC (F := F) d L o : sProp 𝕄)
      ⊣⊢ iprop((oM.view.loc (th d L) ↦[rowsSet a b]{fullShare} oC (F := F) d L o) ∗ oM.view.loc (th d L) ↦[rowsSet b e]{fullShare} oC (F := F) d L o) := by
  rw [(rows_split h1 h2).1]
  exact pointsTo_union (rows_split h1 h2).2

/-- A condition checked at run time that holds. -/
theorem assume_step {thr : Thread nD τ} {P : Prop} {dec : Decidable P} (h : P) {Q : PLift P → sProp 𝕄} :
    Q ⟨h⟩ ⊢ wp frame (wpE (defs₀ (F := F)) 𝒱₀ thr none) Set.univ (Prog.lift (TpuEff.assume P dec)) Q := by
  iintro H
  iapply (wp_assume 𝒱₀ thr none Set.univ h (k := .ret))
  rw [wp_ret]
  imodintro; iexact H

/-- A step taken only under a condition, the same result either way: it turns `P` into `R` where the condition holds, and
    where it does not `P` is `R` already. -/
theorem when_step {thr : Thread nD τ} {α : Type} {cnd : Prop} [Decidable cnd] {op : cnd → Prog (TpuEff nD τ sig (Elt F) Λ₀ thr.2) PUnit} {a : α}
    {Q : α → sProp 𝕄} {P R : sProp 𝕄}
    (h1 : ∀ h : cnd, P ⊢ iprop((R -∗ Q a) -∗ wp frame (wpE (defs₀ (F := F)) 𝒱₀ thr none) Set.univ (op h) (fun _ => iprop(|={Set.univ}=> Q a))))
    (h2 : ¬ cnd → P ⊢ R) :
    P ⊢ iprop((R -∗ Q a) -∗ wp frame (wpE (defs₀ (F := F)) 𝒱₀ thr none) Set.univ (if h : cnd then op h >>= fun _ => pure a else pure a) Q) := by
  by_cases h : cnd
  · rw [dif_pos h, wp_bind]
    exact h1 h
  · rw [dif_neg h, wp_pure]
    iintro HP Hk
    imodintro
    iapply Hk
    iapply (h2 h); iexact HP

set_option maxRecDepth 16384 in
set_option maxHeartbeats 4000000 in
/-- Trip `t`, at the words it carries. -/
theorem trip_held (hI : ∀ j, (I j).toNat < 131072) (t : Fin 72) :
    Held (F := F) d c s X I o0 qi qx O W t.val
      ⊢ wp frame (wpE (defs₀ (F := F)) 𝒱₀ (th d (at2 c s)) none) Set.univ
          (k0_t1_body (F := F) (at2 c s) xM (Memref.isWhole_whole _) iM (Memref.isWhole_whole _) oM (Memref.isWhole_whole _)
            iB (Memref.isWhole_whole _) cc0_scoped1 oB (Memref.isWhole_whole _) cc0_scoped3 cc0_scoped4 cc0_scoped5 (v4w (at2 c s)) t (words t))
          (Inv (F := F) d c s X I o0 qi qx O W (t.val + 1)) := by
  rw [Held]
  generalize hQ : Inv (F := F) d c s X I o0 qi qx O W (t.val + 1) = Q
  unfold k0_t1_body words
  simp only [t.isLt, ↓reduceIte, k0_part1_eq_skeleton, k0_part2_eq_skeleton, k0_part3_eq_skeleton, k0_part1_skel, k0_part2_skel, k0_part3_skel, wp_bind, wp_pure,
    ite_self, cond2_at, cond5_at, ↓reduceDIte]
  iintro ⟨#Hmw, Hif, Hii, Hoi, Hof, Hdone, Htodo, Hx, Hs4, Hs5, HO⟩
  iapply (assume_step (F := F) (chk3_at t))
  iapply (assume_step (F := F) (chk2_at t))
  iapply (assume_step (F := F) (chk1_at c s t))
  -- the next block's fetch
  iapply (when_step (F := F) (R := if t.val + 1 < 72 then iFly (F := F) d (at2 c s) I qi (t.val + 1) (blk0 c s + (t.val + 1)) else iIdle (F := F) d (at2 c s) I qi (t.val + 1))
    (h1 := ?h1) (h2 := ?h2)) $$ Hii
  case h1 =>
    intro h
    rw [cond1_at] at h
    have ht : t.val < 71 := by by_contra hn; rw [if_neg hn] at h; exact absurd h (by decide)
    rw [if_pos (show t.val + 1 < 72 by omega)]
    iintro Hi Hk
    iapply (fetch (F := F) (t.val + 1) (blk0 c s + (t.val + 1)) (off4_at ⟨t.val, ht⟩) (off5_at c s ⟨t.val, ht⟩) (iSem_eq _ (off6_at ⟨t.val, ht⟩))) $$ Hi
    iintro Hf
    imodintro
    iapply Hk; iexact Hf
  case h2 =>
    intro h
    rw [cond1_at] at h
    have ht : ¬ t.val < 71 := by intro hn; rw [if_pos hn] at h; exact absurd rfl h
    rw [if_neg (show ¬ t.val + 1 < 72 by omega)]
  iintro Hii
  -- its own block's row numbers
  iapply (fetchWait (F := F) t.val (blk0 c s + t.val) (iSem_eq _ (off9_at t))) $$ [Hif HO]
  · isplitr [Hif HO]; · iexact Hmw
    isplitl [Hif] <;> iassumption
  iintro ⟨Hif, HO⟩
  -- the two column halves
  ihave Hif' := (show iHas (F := F) d (at2 c s) I qi t.val (blk0 c s + t.val) ⊢ iprop((iB.view.loc (th d (at2 c s)) ↦[iSlotSet (t.val % 2)]{fullShare} ibC (F := F) d (at2 c s) (idxC I (blk0 c s + t.val)))
    ∗ semVal (th d (at2 c s), .dma (iSem t.val)) 0 ∗ iM.view.loc (th d (at2 c s)) ↦[Finset.univ]{half qi t.val} iC (F := F) d (at2 c s) I) by rw [iHas]) $$ Hif
  icases Hif' with ⟨Hib, His, Him⟩
  ihave Hoi' := (slot_halves (F := F) d (at2 c s) t.val) $$ Hoi
  icases Hoi' with ⟨Ha, Hb, Hos⟩
  iapply (gather (F := F) (X := X) hI t.val (blk0 c s + t.val) 0 (off10_at t) (off11_at t)) $$ [Ha Hib Hx Hs4]
  · isplitl [Ha]; · iexact Ha
    isplitl [Hib]; · iexact Hib
    isplitl [Hx] <;> iassumption
  iintro Hg
  iapply (gatherWait (F := F) t.val (blk0 c s + t.val) 0) $$ [Hg HO]
  · isplitr [Hg HO]; · iexact Hmw
    isplitl [Hg] <;> iassumption
  iintro ⟨Ha, Hib, Hx, Hs4, HO⟩
  imodintro
  iapply (gather (F := F) (X := X) hI t.val (blk0 c s + t.val) 128 (off10_at t) (off11_at t)) $$ [Hb Hib Hx Hs5]
  · isplitl [Hb]; · iexact Hb
    isplitl [Hib]; · iexact Hib
    isplitl [Hx] <;> iassumption
  iintro Hg
  iapply (gatherWait (F := F) t.val (blk0 c s + t.val) 128) $$ [Hg HO]
  · isplitr [Hg HO]; · iexact Hmw
    isplitl [Hg] <;> iassumption
  iintro ⟨Hb, Hib, Hx, Hs5, HO⟩
  -- the filled slot starts out to its block's rows
  ihave Hslot := (show iprop((oB.view.loc (th d (at2 c s)) ↦[oHalfSet (t.val % 2) 0]{fullShare} obC (F := F) d (at2 c s) (slotC X I (blk0 c s + t.val)))
      ∗ oB.view.loc (th d (at2 c s)) ↦[oHalfSet (t.val % 2) 128]{fullShare} obC (F := F) d (at2 c s) (slotC X I (blk0 c s + t.val)))
      ⊢ (oB.view.loc (th d (at2 c s)) ↦[oSlotSet (t.val % 2)]{fullShare} obC (F := F) d (at2 c s) (slotC X I (blk0 c s + t.val)) : sProp 𝕄) by
    rw [(halves (t.val % 2)).1]; exact (pointsTo_union (halves (t.val % 2)).2).2) $$ [Ha Hb]
  · isplitl [Ha] <;> iassumption
  ihave Hrows := (rows_cut (F := F) d (at2 c s) (o := o0) (a := 128 * (blk0 c s + t.val)) (b := 128 * (blk0 c s + t.val) + 128) (e := 128 * (blk0 c s + 72))
    (by omega) (by have := t.isLt; omega)).1 $$ Htodo
  icases Hrows with ⟨Hrow, Htodo⟩
  iapply (store (F := F) (X := X) (I := I) (o0 := o0) t.val (blk0 c s + t.val) (off12_at t) (off13_at c s t) (oSem_eq _ (off14_at t))) $$ [Hslot Hos Hrow]
  · isplitl [Hslot]; · iexact Hslot
    isplitl [Hos] <;> iassumption
  iintro Hfly
  imodintro
  -- the block before is out
  iapply (when_step (F := F)
    (P := iprop(Transfers.MayWaits (th d (at2 c s)) (default : HIx 1) O
      ∗ (if t.val = 0 then oIdle (F := F) d (at2 c s) (t.val + 1) else oFly (F := F) d (at2 c s) X I (t.val + 1) (blk0 c s + (t.val - 1)))
      ∗ (oM.view.loc (th d (at2 c s)) ↦[rowsSet (128 * blk0 c s) (128 * (blk0 c s + (t.val - 1)))]{fullShare} oC (F := F) d (at2 c s) (outC X I))
      ∗ ow (F := F) d (at2 c s) O W))
    (R := iprop(oIdle (F := F) d (at2 c s) (t.val + 1)
      ∗ (oM.view.loc (th d (at2 c s)) ↦[rowsSet (128 * blk0 c s) (128 * (blk0 c s + t.val))]{fullShare} oC (F := F) d (at2 c s) (outC X I))
      ∗ ow (F := F) d (at2 c s) O W)) (h1 := ?h1) (h2 := ?h2)) $$ [Hof Hdone HO]
  case h1 =>
    intro h
    rw [cond7_at] at h
    have ht : t.val ≠ 0 := by intro hn; rw [if_pos hn] at h; exact absurd h (by decide)
    rw [if_neg ht]
    iintro ⟨#Hmw, Hf, Hd, HO⟩ Hk
    iapply (storeWait (F := F) (t.val + 1) (blk0 c s + (t.val - 1)) (oSem_eq _ (off17_at t ht))) $$ [Hf HO]
    · isplitr [Hf HO]; · iexact Hmw
      isplitl [Hf] <;> iassumption
    iintro ⟨Hf, Hr, HO⟩
    imodintro
    iapply Hk
    isplitl [Hf]; · iexact Hf
    isplitr [HO]
    · have e : 128 * (blk0 c s + (t.val - 1)) + 128 = 128 * (blk0 c s + t.val) := by omega
      rw [← e]
      iapply (rows_cut (F := F) d (at2 c s) (o := outC X I) (a := 128 * blk0 c s) (b := 128 * (blk0 c s + (t.val - 1)))
        (e := 128 * (blk0 c s + (t.val - 1)) + 128) (by omega) (by omega)).2
      isplitl [Hd] <;> iassumption
    · iexact HO
  case h2 =>
    intro h
    rw [cond7_at] at h
    have ht : t.val = 0 := by by_contra hn; rw [if_neg hn] at h; exact absurd rfl h
    rw [if_pos ht, show blk0 c s + (t.val - 1) = blk0 c s + t.val by omega]
    iintro ⟨#Hmw, Hf, Hd, HO⟩
    isplitl [Hf]; · iexact Hf
    isplitl [Hd] <;> iassumption
  · isplitr [Hof Hdone HO]; · iexact Hmw
    isplitl [Hof]; · iexact Hof
    isplitl [Hdone] <;> iassumption
  iintro ⟨Hof, Hdone, HO⟩
  subst hQ
  rw [Inv, Held]
  isplitr
  · ipureintro
    exact words_next c s t
  isplitr; · iexact Hmw
  isplitl [Hii]; · iexact Hii
  isplitl [His Him Hib]
  · rw [show t.val + 1 + 1 = t.val + 2 from rfl, iIdle_add_two]
    unfold iIdle
    isplitl [Hib]; · iexists _; iexact Hib
    isplitl [His] <;> iassumption
  isplitl [Hof]; · iexact Hof
  rw [if_neg (Nat.succ_ne_zero t.val), show t.val + 1 + 1 = t.val + 2 from rfl, oFly_add_two, Nat.add_sub_cancel]
  isplitl [Hfly]; · iexact Hfly
  isplitl [Hdone]; · iexact Hdone
  isplitl [Htodo]
  · rw [show 128 * (blk0 c s + (t.val + 1)) = 128 * (blk0 c s + t.val) + 128 by omega]; iexact Htodo
  isplitl [Hx]; · iexact Hx
  isplitl [Hs4]; · iexact Hs4
  isplitl [Hs5] <;> iassumption

end Cert.Proof.Gather

end
-- ==== Proof.Tile.lean ====
/-
  One vector subcore's task: it starts the first fetch, runs its 72 trips and waits for the last write-out. From shares of
  the table and of the row numbers and its own rows of the result it leaves those rows holding the gathered ones, and its
  slots and semaphores as it found them.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin 2) (s : Fin 16) (X : S131072x256.Idx → BitVec 32) (I : S1x294912.Idx → BitVec 32)
  (o0 : S294912x256.Idx → BitVec 32) (qi qx : PosShare TreeShare) (O : CellTallies nD τ sig (HIx 1)) (W : Waits sig (HIx 1))

section Own

variable (L : grid0.Coords)

omit [FloatOps F] in
theorem cell_mem (sm : DmaSem sig) (h : (SemLoc.dma sm : SemLoc sig).isScoped .scVector = true) :
    ((th d L, .dma sm) : GSem nD τ sig) ∈ ownCells (th d L) := mem_ownCells.mpr ⟨rfl, h⟩
omit [FloatOps F] in
theorem cell_ne {sm sm' : DmaSem sig} (h : sm ≠ sm') : ((th d L, .dma sm) : GSem nD τ sig) ≠ (th d L, .dma sm') := by
  intro e; exact h (SemLoc.dma.inj (Prod.mk.inj e).2)

/-- The cells of the subcore's own semaphores the kernel names. -/
abbrev cell (sm : DmaSem sig) : GSem nD τ sig := (th d L, .dma sm)

omit [FloatOps F] in
/-- The subcore's own semaphores at zero: the six the kernel names, and the rest. -/
theorem own_sems :
    (ownSems0 (th d L) : sProp 𝕄)
      = iprop(semVal (cell d L (iSem 0)) 0 ∗ semVal (cell d L (iSem 1)) 0 ∗ semVal (cell d L (oSem 0)) 0 ∗ semVal (cell d L (oSem 1)) 0
          ∗ semVal (cell d L cc0_scoped4.sem) 0 ∗ semVal (cell d L cc0_scoped5.sem) 0
          ∗ bigSep (((((((ownCells (th d L)).erase (cell d L (iSem 0))).erase (cell d L (iSem 1))).erase (cell d L (oSem 0))).erase (cell d L (oSem 1))).erase
              (cell d L cc0_scoped4.sem)).erase (cell d L cc0_scoped5.sem)) fun g => semVal g 0) := by
  unfold SparseCore.Cfg.ownSems0
  rw [SparseCore.bigSep_erase' (cell_mem d L (iSem 0) (by decide)),
    SparseCore.bigSep_erase' (Finset.mem_erase.mpr ⟨cell_ne d L (sm := iSem 1) (sm' := iSem 0) (by decide), cell_mem d L (iSem 1) (by decide)⟩),
    SparseCore.bigSep_erase' (Finset.mem_erase.mpr ⟨cell_ne d L (sm := oSem 0) (sm' := iSem 1) (by decide),
      Finset.mem_erase.mpr ⟨cell_ne d L (sm := oSem 0) (sm' := iSem 0) (by decide), cell_mem d L (oSem 0) (by decide)⟩⟩),
    SparseCore.bigSep_erase' (Finset.mem_erase.mpr ⟨cell_ne d L (sm := oSem 1) (sm' := oSem 0) (by decide),
      Finset.mem_erase.mpr ⟨cell_ne d L (sm := oSem 1) (sm' := iSem 1) (by decide),
      Finset.mem_erase.mpr ⟨cell_ne d L (sm := oSem 1) (sm' := iSem 0) (by decide), cell_mem d L (oSem 1) (by decide)⟩⟩⟩),
    SparseCore.bigSep_erase' (Finset.mem_erase.mpr ⟨cell_ne d L (sm := cc0_scoped4.sem) (sm' := oSem 1) (by decide),
      Finset.mem_erase.mpr ⟨cell_ne d L (sm := cc0_scoped4.sem) (sm' := oSem 0) (by decide),
      Finset.mem_erase.mpr ⟨cell_ne d L (sm := cc0_scoped4.sem) (sm' := iSem 1) (by decide),
      Finset.mem_erase.mpr ⟨cell_ne d L (sm := cc0_scoped4.sem) (sm' := iSem 0) (by decide), cell_mem d L cc0_scoped4.sem (by decide)⟩⟩⟩⟩),
    SparseCore.bigSep_erase' (Finset.mem_erase.mpr ⟨cell_ne d L (sm := cc0_scoped5.sem) (sm' := cc0_scoped4.sem) (by decide),
      Finset.mem_erase.mpr ⟨cell_ne d L (sm := cc0_scoped5.sem) (sm' := oSem 1) (by decide),
      Finset.mem_erase.mpr ⟨cell_ne d L (sm := cc0_scoped5.sem) (sm' := oSem 0) (by decide),
      Finset.mem_erase.mpr ⟨cell_ne d L (sm := cc0_scoped5.sem) (sm' := iSem 1) (by decide),
      Finset.mem_erase.mpr ⟨cell_ne d L (sm := cc0_scoped5.sem) (sm' := iSem 0) (by decide), cell_mem d L cc0_scoped5.sem (by decide)⟩⟩⟩⟩⟩)]

omit [FloatOps F] in
/-- The subcore's own buffers: the two slot pairs, at some contents, and the rest. -/
theorem own_bufs :
    (ownBufs (th d L) : sProp 𝕄)
      = iprop((∃ f, iB.view.loc (th d L) ↦[Finset.univ]{fullShare} f) ∗ (∃ f, oB.view.loc (th d L) ↦[Finset.univ]{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

/-- Trip `t`, at whatever words it is given. -/
theorem trip (hI : ∀ j, (I j).toNat < 131072) (t : Fin 72) (acc : BitVec 32 × BitVec 32 × BitVec 32 × BitVec 32 × BitVec 32) :
    Inv (F := F) d c s X I o0 qi qx O W t.val acc
      ⊢ wp frame (wpE (defs₀ (F := F)) 𝒱₀ (th d (at2 c s)) none) Set.univ
          (k0_t1_body (F := F) (at2 c s) xM (Memref.isWhole_whole _) iM (Memref.isWhole_whole _) oM (Memref.isWhole_whole _)
            iB (Memref.isWhole_whole _) cc0_scoped1 oB (Memref.isWhole_whole _) cc0_scoped3 cc0_scoped4 cc0_scoped5 (v4w (at2 c s)) t acc)
          (Inv (F := F) d c s X I o0 qi qx O W (t.val + 1)) := by
  rw [Inv]
  iintro ⟨%h, H⟩
  subst h
  iapply (trip_held (F := F) d c s X I o0 qi qx O W hI t); iexact H

section Slots

variable (L : grid0.Coords)

/-- A share of the row numbers is its two halves. -/
theorem share_halves :
    (iM.view.loc (th d L) ↦[Finset.univ]{qi} iC (F := F) d L I : sProp 𝕄)
      = iprop((iM.view.loc (th d L) ↦[Finset.univ]{half qi 0} iC (F := F) d L I) ∗ iM.view.loc (th d L) ↦[Finset.univ]{half qi 1} iC (F := F) d L I) := by
  rw [pointsTo_piecesOf (ℓ := iM.view.loc (th d L)) Finset.univ (iC (F := F) d L I) (o := 2) (by decide) qi, bigSep_univ_succ,
    bigSep_univ_of_subsingleton (0 : Fin 1)]
  rfl

/-- The row-number slots at rest, from the buffer, the semaphores and the share of the row numbers, -/
theorem i_open :
    iprop((∃ f, iB.view.loc (th d L) ↦[Finset.univ]{fullShare} f) ∗ semVal (cell d L (iSem 0)) 0 ∗ semVal (cell d L (iSem 1)) 0
        ∗ (iM.view.loc (th d L) ↦[Finset.univ]{qi} iC (F := F) d L I))
      ⊢ iprop(iIdle (F := F) d L I qi 0 ∗ iIdle (F := F) d L I qi 1) := by
  unfold iIdle
  iintro ⟨⟨%f, H⟩, H0, H1, Hi⟩
  ihave Hs := (show (iB.view.loc (th d L) ↦[Finset.univ]{fullShare} f : sProp 𝕄)
      ⊢ iprop((iB.view.loc (th d L) ↦[iSlotSet 0]{fullShare} f) ∗ iB.view.loc (th d L) ↦[iSlotSet 1]{fullShare} f) by
    rw [show (Finset.univ : Finset (Idx (iB.view.loc (th d L)))) = iSlotSet 0 ∪ iSlotSet 1 from iSlots.1]
    exact (pointsTo_union (q := fullShare) (f := f) iSlots.2).1) $$ H
  icases Hs with ⟨Ha, Hb⟩
  ihave Hq := (Entails.of_eq (share_halves (F := F) d I qi L)) $$ Hi
  icases Hq with ⟨Hq0, Hq1⟩
  isplitl [Ha H0 Hq0]
  · isplitl [Ha]; · iexists f; iexact Ha
    isplitl [H0]; · iexact H0
    iexact Hq0
  · isplitl [Hb]; · iexists f; iexact Hb
    isplitl [H1]; · iexact H1
    iexact Hq1

/-- and back. -/
theorem i_close :
    iprop(iIdle (F := F) d L I qi 0 ∗ iIdle (F := F) d L I qi 1)
      ⊢ iprop((∃ f, iB.view.loc (th d L) ↦[Finset.univ]{fullShare} f) ∗ semVal (cell d L (iSem 0)) 0 ∗ semVal (cell d L (iSem 1)) 0
        ∗ (iM.view.loc (th d L) ↦[Finset.univ]{qi} iC (F := F) d L I)) := by
  unfold iIdle
  iintro ⟨⟨⟨%f, Ha⟩, H0, Hq0⟩, ⟨⟨%g, Hb⟩, H1, Hq1⟩⟩
  isplitl [Ha Hb]
  · iexists ((iSlotSet 1).piecewise g f)
    rw [show (Finset.univ : Finset (Idx (iB.view.loc (th d L)))) = iSlotSet 0 ∪ iSlotSet 1 from iSlots.1]
    iapply (pointsTo_join (q := fullShare) (f := f) (g := g) iSlots.2)
    isplitl [Ha]; · iexact Ha
    iexact Hb
  isplitl [H0]; · iexact H0
  isplitl [H1]; · iexact H1
  iapply (Entails.of_eq (share_halves (F := F) d I qi L).symm)
  isplitl [Hq0]; · iexact Hq0
  iexact Hq1

/-- The row slots at rest, from the buffer and the semaphores, -/
theorem o_open :
    iprop((∃ f, oB.view.loc (th d L) ↦[Finset.univ]{fullShare} f) ∗ semVal (cell d L (oSem 0)) 0 ∗ semVal (cell d L (oSem 1)) 0)
      ⊢ iprop(oIdle (F := F) d L 0 ∗ oIdle (F := F) d L 1) := by
  unfold oIdle
  iintro ⟨⟨%f, H⟩, H0, H1⟩
  ihave Hs := (show (oB.view.loc (th d L) ↦[Finset.univ]{fullShare} f : sProp 𝕄)
      ⊢ iprop((oB.view.loc (th d L) ↦[oSlotSet 0]{fullShare} f) ∗ oB.view.loc (th d L) ↦[oSlotSet 1]{fullShare} f) by
    rw [show (Finset.univ : Finset (Idx (oB.view.loc (th d L)))) = oSlotSet 0 ∪ oSlotSet 1 from oSlots.1]
    exact (pointsTo_union (q := fullShare) (f := f) oSlots.2).1) $$ H
  icases Hs with ⟨Ha, Hb⟩
  isplitl [Ha H0]
  · isplitl [Ha]; · iexists f; iexact Ha
    iexact H0
  · isplitl [Hb]; · iexists f; iexact Hb
    iexact H1

/-- and back. -/
theorem o_close :
    iprop(oIdle (F := F) d L 0 ∗ oIdle (F := F) d L 1)
      ⊢ iprop((∃ f, oB.view.loc (th d L) ↦[Finset.univ]{fullShare} f) ∗ semVal (cell d L (oSem 0)) 0 ∗ semVal (cell d L (oSem 1)) 0) := by
  unfold oIdle
  iintro ⟨⟨⟨%f, Ha⟩, H0⟩, ⟨⟨%g, Hb⟩, H1⟩⟩
  isplitl [Ha Hb]
  · iexists ((oSlotSet 1).piecewise g f)
    rw [show (Finset.univ : Finset (Idx (oB.view.loc (th d L)))) = oSlotSet 0 ∪ oSlotSet 1 from oSlots.1]
    iapply (pointsTo_join (q := fullShare) (f := f) (g := g) oSlots.2)
    isplitl [Ha]; · iexact Ha
    iexact Hb
  isplitl [H0]; · iexact H0
  iexact H1

end Slots

/-- Behind the last trip both row-number slots are at rest, one row slot is, and the other is on its way to the last block. -/
theorem held_end {n : ℕ} (hn : n = 72) (acc : BitVec 32 × BitVec 32 × BitVec 32 × BitVec 32 × BitVec 32) :
    Inv (F := F) d c s X I o0 qi qx O W n acc
      ⊢ iprop(⌜acc = words 72⌝ ∗ iIdle (F := F) d (at2 c s) I qi 0 ∗ iIdle (F := F) d (at2 c s) I qi 1 ∗ oIdle (F := F) d (at2 c s) 0
        ∗ oFly (F := F) d (at2 c s) X I 73 (blk0 c s + 71)
        ∗ (oM.view.loc (th d (at2 c s)) ↦[rowsSet (128 * blk0 c s) (128 * (blk0 c s + 71))]{fullShare} oC (F := F) d (at2 c s) (outC X I))
        ∗ (xM.view.loc (th d (at2 c s)) ↦[Finset.univ]{qx} xC (F := F) d (at2 c s) X)
        ∗ semVal (cell d (at2 c s) cc0_scoped4.sem) 0 ∗ semVal (cell d (at2 c s) cc0_scoped5.sem) 0
        ∗ ow (F := F) d (at2 c s) O W) := by
  subst hn
  have e0 : iIdle (F := F) d (at2 c s) I qi 72 = iIdle (F := F) d (at2 c s) I qi 0 := rfl
  have e1 : iIdle (F := F) d (at2 c s) I qi (72 + 1) = iIdle (F := F) d (at2 c s) I qi 1 := rfl
  have e2 : oIdle (F := F) d (at2 c s) 72 = oIdle (F := F) d (at2 c s) 0 := rfl
  rw [Inv, Held, if_neg (show ¬ 72 < 72 by omega), if_neg (show ¬ 72 = 0 by omega), e0, e1, e2]
  iintro ⟨%h, -, Hi0, Hi1, Ho0, Hf, Hd, -, Hx, Hs4, Hs5, HO⟩
  isplitr; · ipureintro; exact h
  isplitl [Hi0]; · iexact Hi0
  isplitl [Hi1]; · iexact Hi1
  isplitl [Ho0]; · iexact Ho0
  isplitl [Hf]; · iexact Hf
  isplitl [Hd]; · iexact Hd
  isplitl [Hx]; · iexact Hx
  isplitl [Hs4]; · iexact Hs4
  isplitl [Hs5] <;> iassumption

set_option maxRecDepth 16384 in
set_option maxHeartbeats 4000000 in
/-- The task of subcore `(c, s)` on device `d`: its rows of the result hold what the row numbers name. -/
theorem tile (hF : (K (F := F)).Facts) (hI : ∀ j, (I j).toNat < 131072) (hO : ∀ g, O g none = 0) :
    iprop((levAts (K (F := F)).L (K (F := F)).lev : sProp 𝕄) ∗ emp
        ∗ ((xLoc d ↦{qx} (X : Buf (Elt F) (xLoc d))) ∗ (iLoc d ↦{qi} (I : Buf (Elt F) (iLoc d)))
          ∗ oLoc d ↦[rowsSet (128 * blk0 c s) (128 * (blk0 c s + 72))]{fullShare} (o0 : Buf (Elt F) (oLoc d)))
        ∗ scopedBufs (th d (at2 c s)) ∗ scopedSems0 (th d (at2 c s)) ∗ owes (th d (at2 c s)) O W)
      ⊢ wp frame (wpE (defs₀ (F := F)) 𝒱₀ (th d (at2 c s)) none) Set.univ
          (cc0_gather_kernel (at2 c s) xM (Memref.isWhole_whole _) iM (Memref.isWhole_whole _) oM (Memref.isWhole_whole _)
            iB (Memref.isWhole_whole _) cc0_scoped1 oB (Memref.isWhole_whole _) cc0_scoped3 cc0_scoped4 cc0_scoped5)
          fun _ => iprop(((xLoc d ↦{qx} (X : Buf (Elt F) (xLoc d))) ∗ (iLoc d ↦{qi} (I : Buf (Elt F) (iLoc d)))
              ∗ oLoc d ↦[rowsSet (128 * blk0 c s) (128 * (blk0 c s + 72))]{fullShare} (outC X I : Buf (Elt F) (oLoc d)))
            ∗ scopedBufs (th d (at2 c s)) ∗ scopedSems0 (th d (at2 c s))
            ∗ ∃ W', ⌜∀ p ∈ W', p ∈ W ∨ p.2 = none⌝ ∗ owes (th d (at2 c s)) O W') := by
  simp only [cc0_gather_kernel_eq_skeleton, cc0_gather_kernel_skel, k0_part4_eq_skeleton, k0_part4_skel, k0_part5_eq_skeleton, k0_part5_skel, wp_bind, wp_pure]
  rw [(K (F := F)).scopedBufs_V hF d (cV (at2 c s)) (jV (at2 c s)), SparseCore.Cfg.scopedSems0_V (Val := Elt F) d (cV (at2 c s)) (jV (at2 c s)), own_sems, own_bufs]
  iintro ⟨#Hlv, -, ⟨Hx, Hi, Ho⟩, ⟨Hib, Hob, Hbufs⟩, ⟨Hi0, Hi1, Ho0, Ho1, Hs4, Hs5, Hsems⟩, HO⟩
  ihave Hmw := (show (levAts (K (F := F)).L (K (F := F)).lev : sProp 𝕄) ⊢ Transfers.MayWaits (th d (at2 c s)) (default : HIx 1) O from
    (K (F := F)).mayWaits_none (thr := th d (at2 c s)) hO) $$ Hlv
  ihave Hi' := (i_open (F := F) d I qi (at2 c s)) $$ [Hib Hi0 Hi1 Hi]
  · isplitl [Hib]; · iexact Hib
    isplitl [Hi0]; · iexact Hi0
    isplitl [Hi1]; · iexact Hi1
    iexact Hi
  icases Hi' with ⟨Hi0, Hi1⟩
  ihave Ho' := (o_open (F := F) d (at2 c s)) $$ [Hob Ho0 Ho1]
  · isplitl [Hob]; · iexact Hob
    isplitl [Ho0]; · iexact Ho0
    iexact Ho1
  icases Ho' with ⟨Ho0, Ho1⟩
  -- the first fetch
  iapply (fetch (F := F) (L := at2 c s) (I := I) (q := qi) 0 (blk0 c s + 0) k0_off1_eq (off2_at c s) (iSem_eq _ k0_off3_eq)) $$ Hi0
  iintro Hf
  imodintro
  -- the trips
  iapply (Scf.wp_for frame (wpE (defs₀ (F := F)) 𝒱₀ (th d (at2 c s)) none) Set.univ _ _ _ k0_t1_ok _ _ (Inv (F := F) d c s X I o0 qi qx O W)
    (fun k acc => trip (F := F) d c s X I o0 qi qx O W hI k acc))
  isplitl [Hf Hi1 Ho0 Ho1 Ho Hx Hs4 Hs5 HO]
  · rw [Inv, Held, if_pos (show 0 < 72 by omega), if_pos (rfl : 0 = 0)]
    isplitr; · ipureintro; exact words_zero
    isplitr; · iexact Hmw
    isplitl [Hf]; · iexact Hf
    isplitl [Hi1]; · iexact Hi1
    isplitl [Ho0]; · iexact Ho0
    isplitl [Ho1]; · iexact Ho1
    isplitr [Ho Hx Hs4 Hs5 HO]
    · rw [show blk0 c s + (0 - 1) = blk0 c s by omega, rows_empty, pointsTo_empty]; iempintro
    isplitl [Ho]; · iexact Ho
    isplitl [Hx]; · iexact Hx
    isplitl [Hs4]; · iexact Hs4
    isplitl [Hs5]; · iexact Hs5
    unfold ow
    iexists W
    isplitr
    · ipureintro; exact fun p hp => .inl hp
    · iexact HO
  iintro %acc HI
  ihave HI' := (held_end (F := F) d c s X I o0 qi qx O W trips_eq acc) $$ HI
  icases HI' with ⟨%hacc, Hi0, Hi1, Ho0, Hfly, Hdone, Hx, Hs4, Hs5, HO⟩
  subst hacc
  iapply (assume_step (F := F) (chk5_at c s))
  iapply (assume_step (F := F) chk4_at)
  imodintro
  -- the last write-out
  iapply (storeWait (F := F) 73 (blk0 c s + 71) (oSem_eq _ off20_at)) $$ [Hfly HO]
  · isplitr [Hfly HO]; · iexact Hmw
    isplitl [Hfly] <;> iassumption
  iintro ⟨Ho1, Hlast, HO⟩
  imodintro
  ihave Hi := (i_close (F := F) d I qi (at2 c s)) $$ [Hi0 Hi1]
  · isplitl [Hi0] <;> iassumption
  icases Hi with ⟨Hib, Hi0, Hi1, Hi⟩
  ihave Ho := (o_close (F := F) d (at2 c s)) $$ [Ho0 Ho1]
  · isplitl [Ho0]; · iexact Ho0
    iexact Ho1
  icases Ho with ⟨Hob, Ho0, Ho1⟩
  isplitl [Hx Hi Hdone Hlast]
  · isplitl [Hx]; · iexact Hx
    isplitl [Hi]; · iexact Hi
    rw [show 128 * (blk0 c s + 72) = 128 * (blk0 c s + 71) + 128 by omega]
    iapply (rows_cut (F := F) d (at2 c s) (o := outC X I) (a := 128 * blk0 c s) (b := 128 * (blk0 c s + 71))
      (e := 128 * (blk0 c s + 71) + 128) (by omega) (by omega)).2
    isplitl [Hdone] <;> iassumption
  isplitl [Hib Hob Hbufs]
  · isplitl [Hib]; · iexact Hib
    isplitl [Hob]; · iexact Hob
    iexact Hbufs
  isplitl [Hi0 Hi1 Ho0 Ho1 Hs4 Hs5 Hsems]
  · isplitl [Hi0]; · iexact Hi0
    isplitl [Hi1]; · iexact Hi1
    isplitl [Ho0]; · iexact Ho0
    isplitl [Ho1]; · iexact Ho1
    isplitl [Hs4]; · iexact Hs4
    isplitl [Hs5]; · iexact Hs5
    iexact Hsems
  unfold ow
  iexact HO

end Cert.Proof.Gather

end
-- ==== Proof.Shares.lean ====
/-
  How the three arrays of the gather are dealt out: the table and the row numbers in shares, the result in blocks of rows, first
  to the two SparseCores and then to each one's sixteen vector subcores.
-/
module

public import proofs.«01_k».proof.Proof.Setup

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- SparseCore `c`'s share of an array both read, and subcore `s`'s share of that. -/
def coreQ (c : Fin 2) : PosShare TreeShare := pieceOf fullShare 2 (by decide) c
def taskQ (c : Fin 2) (s : Fin 16) : PosShare TreeShare := pieceOf (coreQ c) 16 (by decide) s

/-- The result's rows SparseCore `c` writes, and those of its subcore `s`. -/
def coreRows (c : Fin 2) : Finset S294912x256.Idx := rowsSet (9216 * (16 * c.val)) (9216 * (16 * c.val + 16))
def taskRows (c : Fin 2) (s : Fin 16) : Finset S294912x256.Idx := rowsSet (128 * blk0 c s) (128 * (blk0 c s + 72))

theorem mem_coreRows (c : Fin 2) (y : S294912x256.Idx) : y ∈ coreRows c ↔ (y 0).val / 147456 = c.val := by
  have : (y 0).val < 294912 := (y 0).isLt
  simp only [coreRows, rowsSet, Finset.mem_filter, Finset.mem_univ, true_and]; omega
theorem mem_taskRows (c : Fin 2) (s : Fin 16) (y : S294912x256.Idx) : y ∈ taskRows c s ↔ (y 0).val / 9216 = 16 * c.val + s.val := by
  have : (y 0).val < 294912 := (y 0).isLt
  simp only [taskRows, rowsSet, Finset.mem_filter, Finset.mem_univ, true_and]
  unfold blk0
  omega

theorem coreRows_disjoint : ∀ c ∈ (Finset.univ : Finset (Fin 2)), ∀ c' ∈ (Finset.univ : Finset (Fin 2)), c ≠ c' → Disjoint (coreRows c) (coreRows c') := by
  intro c _ c' _ h
  rw [Finset.disjoint_left]; intro y hy hy'
  rw [mem_coreRows] at hy hy'
  exact h (Fin.ext (hy.symm.trans hy'))
theorem coreRows_cover : (Finset.univ : Finset (Fin 2)).biUnion coreRows = Finset.univ := by
  ext y
  have : (y 0).val < 294912 := (y 0).isLt
  simp only [Finset.mem_biUnion, Finset.mem_univ, true_and, mem_coreRows, iff_true]
  exact ⟨⟨(y 0).val / 147456, by omega⟩, rfl⟩
theorem taskRows_disjoint (c : Fin 2) :
    ∀ s ∈ (Finset.univ : Finset (Fin 16)), ∀ s' ∈ (Finset.univ : Finset (Fin 16)), s ≠ s' → Disjoint (taskRows c s) (taskRows c s') := by
  intro s _ s' _ h
  rw [Finset.disjoint_left]; intro y hy hy'
  rw [mem_taskRows] at hy hy'
  exact h (Fin.ext (by omega))
theorem taskRows_cover (c : Fin 2) : (Finset.univ : Finset (Fin 16)).biUnion (taskRows c) = coreRows c := by
  ext y
  have : (y 0).val < 294912 := (y 0).isLt
  simp only [Finset.mem_biUnion, Finset.mem_univ, true_and, mem_coreRows, mem_taskRows]
  constructor
  · rintro ⟨s, hs⟩; have := s.isLt; omega
  · intro h; exact ⟨⟨(y 0).val / 9216 - 16 * c.val, by omega⟩, by show _ = 16 * c.val + ((y 0).val / 9216 - 16 * c.val); omega⟩

variable (d : Dev nD) (X : S131072x256.Idx → BitVec 32) (I : S1x294912.Idx → BitVec 32) (o : S294912x256.Idx → BitVec 32)

/-- The three arrays whole. -/
abbrev wholeP : sProp 𝕄 :=
  iprop((xLoc d ↦{fullShare} (X : Buf (Elt F) (xLoc d))) ∗ (iLoc d ↦{fullShare} (I : Buf (Elt F) (iLoc d))) ∗ (oLoc d ↦{fullShare} (o : Buf (Elt F) (oLoc d))))
/-- SparseCore `c`'s part of them. -/
abbrev coreP (c : Fin 2) : sProp 𝕄 :=
  iprop((xLoc d ↦{coreQ c} (X : Buf (Elt F) (xLoc d))) ∗ (iLoc d ↦{coreQ c} (I : Buf (Elt F) (iLoc d))) ∗ oLoc d ↦[coreRows c]{fullShare} (o : Buf (Elt F) (oLoc d)))
/-- Subcore `s`'s part of that. -/
abbrev taskP (c : Fin 2) (s : Fin 16) : sProp 𝕄 :=
  iprop((xLoc d ↦{taskQ c s} (X : Buf (Elt F) (xLoc d))) ∗ (iLoc d ↦{taskQ c s} (I : Buf (Elt F) (iLoc d)))
    ∗ oLoc d ↦[taskRows c s]{fullShare} (o : Buf (Elt F) (oLoc d)))

/-- The arrays whole are the two SparseCores' parts. -/
theorem wholeP_eq : (wholeP d X I o : sProp 𝕄) = bigSep Finset.univ fun c : Fin 2 => coreP d X I o c := by
  rw [bigSep_sep', bigSep_sep']
  unfold coreQ
  rw [← pointsTo_piecesOf, ← pointsTo_piecesOf, ← pointsTo_biUnion Finset.univ (ℓ := oLoc d) coreRows coreRows_disjoint, coreRows_cover]

/-- A SparseCore's part is its sixteen subcores' parts. -/
theorem coreP_eq (c : Fin 2) : (coreP d X I o c : sProp 𝕄) = bigSep Finset.univ fun s : Fin 16 => taskP d X I o c s := by
  rw [bigSep_sep', bigSep_sep']
  unfold taskQ
  rw [← pointsTo_piecesOf, ← pointsTo_piecesOf, ← pointsTo_biUnion Finset.univ (ℓ := oLoc d) (taskRows c) (taskRows_disjoint c), taskRows_cover]

end Cert.Proof.Gather

end
-- ==== Proof.Launch.lean ====
/-
  The gather's launch: what the TensorCore hands each SparseCore and each SparseCore its subcores, every subcore's obligation
  from `tile`, the host operations before and after the call, and the run of the whole program.
-/
module

public import proofs.«01_k».proof.Proof.Tile
public import proofs.«01_k».proof.Proof.Shares
public import Idealize.ShloMosaic.Lib.Pipeline.Frame

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.StableHlo (held held_sub_split held_congr wp_hlo_within wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Call

variable (X : Dev nD → S131072x256.Idx → BitVec 32) (I : Dev nD → S1x294912.Idx → BitVec 32) (o0 : Dev nD → S294912x256.Idx → BitVec 32)

/-- What the handshakes carry: parts of the three arrays on the way in, the same parts back with the result's rows gathered. -/
def P : (K (F := F)).Pay (nD := nD) (Val := Elt F) (Name := ℕ) (U := UU) where
  st := fun q d c => match q with | 0 => coreP d (X d) (I d) (o0 d) (Fin.cast nCore_zero c)
  dn := fun q d c => match q with | 0 => coreP d (X d) (I d) (outC (X d) (I d)) (Fin.cast nCore_zero c)
  go := fun q d c i => match q with | 0 => taskP d (X d) (I d) (o0 d) (Fin.cast nCore_zero c) (Fin.cast nSub_zero i)
  td := fun q d c i => match q with | 0 => taskP d (X d) (I d) (outC (X d) (I d)) (Fin.cast nCore_zero c) (Fin.cast nSub_zero i)
  x := fun _ _ => iprop(emp)

instance P_storable : (P (F := F) X I o0).IsStorable where
  st q d c := match q with
    | 0 => (inferInstance : BI.Storable (upEmb : UEmb _ 𝕄) (coreP d (X d) (I d) (o0 d) (Fin.cast nCore_zero c)))
  dn q d c := match q with
    | 0 => (inferInstance : BI.Storable (upEmb : UEmb _ 𝕄) (coreP d (X d) (I d) (outC (X d) (I d)) (Fin.cast nCore_zero c)))
  go q d c i := match q with
    | 0 => (inferInstance : BI.Storable (upEmb : UEmb _ 𝕄) (taskP d (X d) (I d) (o0 d) (Fin.cast nCore_zero c) (Fin.cast nSub_zero i)))
  td q d c i := match q with
    | 0 => (inferInstance : BI.Storable (upEmb : UEmb _ 𝕄) (taskP d (X d) (I d) (outC (X d) (I d)) (Fin.cast nCore_zero c) (Fin.cast nSub_zero i)))

/-- The launch calls the kernel on subcore `s` of SparseCore `c` at those grid coordinates. -/
theorem defs₀_at (c : Fin τ.nSC) (s : Fin τ.nSub) :
    defs₀ (F := F) (.scVector c s) 0 ()
      = SparseCore.onTile hcore0 hsub0 (fun c s => cc0_gather_kernel (at2 c s) xM (Memref.isWhole_whole _) iM (Memref.isWhole_whole _) oM (Memref.isWhole_whole _)
            iB (Memref.isWhole_whole _) cc0_scoped1 oB (Memref.isWhole_whole _) cc0_scoped3 cc0_scoped4 cc0_scoped5) ⟨⟩ c s := rfl

/-- A task's waits, all on its own transfers, are among those the launch allows. -/
theorem waits_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

set_option maxRecDepth 16384 in
/-- Every subcore's task runs: it gathers its rows. -/
theorem tileObl (hI : ∀ d j, (I d j).toNat < 131072) : (K (F := F)).TileObl (D (F := F)) 𝒱 (P X I o0) v₀ 0 := by
  intro d c i O W hO _ _
  simp only [show (P (F := F) X I o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_at]; simp only [SparseCore.onTile, hci, and_self, ↓reduceDIte]
  exact (tile d (Fin.cast nCore_zero c) (Fin.cast nSub_zero i) (X d) (I d) (o0 d) _ _ O W facts (hI d) hO).trans (wp_mono frame _ _ fun _ => waits_post)

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem cores_eq (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part goes to its sixteen subcores and comes back from them. -/
theorem vecSplit : (K (F := F)).VecSplit' (P X I o0) 0 := by
  intro d c
  show coreP d (X d) (I d) (o0 d) (Fin.cast nCore_zero c) ⊢ |={Set.univ}=> iprop(
      (bigSep Finset.univ fun i : Fin ((K (F := F)).nSub 0) => taskP d (X d) (I d) (o0 d) (Fin.cast nCore_zero c) (Fin.cast nSub_zero i))
      ∗ ((bigSep Finset.univ fun i : Fin ((K (F := F)).nSub 0) => taskP d (X d) (I d) (outC (X d) (I d)) (Fin.cast nCore_zero c) (Fin.cast nSub_zero i))
          -∗ coreP d (X d) (I d) (outC (X d) (I d)) (Fin.cast nCore_zero c)))
  rw [tasks_eq (F := F) (fun i => taskP d (X d) (I d) (o0 d) (Fin.cast nCore_zero c) i),
    tasks_eq (F := F) (fun i => taskP d (X d) (I d) (outC (X d) (I d)) (Fin.cast nCore_zero c) i), ← coreP_eq, ← coreP_eq]
  iintro H; imodintro
  isplitl [H]; · iexact H
  iintro H; iexact H

/-- The call takes the three arrays whole and gives them back with the result gathered. -/
theorem st_eq (d : Dev nD) : (bigSep Finset.univ fun c : Fin ((K (F := F)).nCore 0) => (P (F := F) X I o0).st 0 d c) = wholeP d (X d) (I d) (o0 d) :=
  (cores_eq (F := F) fun c => coreP d (X d) (I d) (o0 d) c).trans (wholeP_eq d (X d) (I d) (o0 d)).symm
theorem dn_eq (d : Dev nD) :
    (bigSep Finset.univ fun c : Fin ((K (F := F)).nCore 0) => (P (F := F) X I o0).dn 0 d c) = wholeP d (X d) (I d) (outC (X d) (I d)) :=
  (cores_eq (F := F) fun c => coreP d (X d) (I d) (outC (X d) (I d)) c).trans (wholeP_eq d (X d) (I d) (outC (X d) (I d))).symm

/-- The launch's ghost state: the handshakes' rounds, no counter. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X I o0).x q thr) := by
  have hemp : (bigSep Finset.univ fun thr : Thread nD τ => bigSep Finset.univ fun q : Fin 1 => (P (F := F) X I o0).x q thr) = (iprop(emp) : sProp 𝕄) :=
    (bigSep_congr fun _ _ => bigSep_univ_of_subsingleton (0 : Fin 1)).trans (bigSep_emp_const _)
  have hemp' : (bigSep Finset.univ fun _ : Dev nD => iprop(emp)) = (iprop(emp) : sProp 𝕄) := bigSep_emp_const _
  rw [hemp, hemp']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Call

/-! ## The program on the TensorCore -/

variable (m : (ℓ : Loc nD τ sig) → Buf (Elt F) ℓ) (ρ : Dev nD → PrngReg)

/-- The host operations before the call: the row numbers, and the two arrays flattened. -/
abbrev pre : List (HloOp τ sig (Elt F)) :=
  [ StableHlo.nullary main_v0 (iotaInDim S4 32 0),
    StableHlo.unary main_v0 main_v1 (broadcastInDim S4x1 ![0] bcast_S4_S4x1_0 : (⟨S4, .i32⟩ : BufTy).Contents (Elt F) → (⟨S4x1, .i32⟩ : BufTy).Contents (Elt F)),
    StableHlo.nullary main_c (constantI S_ 32 32768#32),
    StableHlo.unary main_c main_v2 (broadcastInDim S4x1 ![] bcast_S_S4x1 : (⟨S_, .i32⟩ : BufTy).Contents (Elt F) → (⟨S4x1, .i32⟩ : BufTy).Contents (Elt F)),
    StableHlo.binary main_v1 main_v2 main_v3 (muli : (⟨S4x1, .i32⟩ : BufTy).Contents (Elt F) → (⟨S4x1, .i32⟩ : BufTy).Contents (Elt F) → (⟨S4x1, .i32⟩ : BufTy).Contents (Elt F)),
    StableHlo.unary main_arg1 main_v4 (broadcastInDim S1x73728 ![1] bcast_S73728_S1x73728_1 : (⟨S73728, .i32⟩ : BufTy).Contents (Elt F) → (⟨S1x73728, .i32⟩ : BufTy).Contents (Elt F)),
    StableHlo.unary main_v3 main_v5 (broadcastInDim S4x73728 ![0, 1] bcast_S4x1_S4x73728_0_1 : (⟨S4x1, .i32⟩ : BufTy).Contents (Elt F) → (⟨S4x73728, .i32⟩ : BufTy).Contents (Elt F)),
    StableHlo.unary main_v4 main_v6 (broadcastInDim S4x73728 ![0, 1] bcast_S1x73728_S4x73728_0_1 : (⟨S1x73728, .i32⟩ : BufTy).Contents (Elt F) → (⟨S4x73728, .i32⟩ : BufTy).Contents (Elt F)),
    StableHlo.binary main_v5 main_v6 main_v7 (addi : (⟨S4x73728, .i32⟩ : BufTy).Contents (Elt F) → (⟨S4x73728, .i32⟩ : BufTy).Contents (Elt F) → (⟨S4x73728, .i32⟩ : BufTy).Contents (Elt F)),
    StableHlo.reshape main_v7 main_v8 (rfl : (.i32 : EltTy) = .i32) shapeCasts_S4x73728_S294912,
    StableHlo.reshape main_arg0 main_v9 (rfl : (.i32 : EltTy) = .i32) shapeCasts_S4x32768x256_S131072x256,
    StableHlo.reshape main_v8 main_v10 (rfl : (.i32 : EltTy) = .i32) shapeCasts_S294912_S1x294912 ]

/-- The operation after it: the result's rows back in planes. -/
abbrev opOut : HloOp τ sig (Elt F) := StableHlo.reshape main_v11 main_v12 (rfl : (.i32 : EltTy) = .i32) shapeCasts_S294912x256_S4x73728x256

/-- The program is those operations, the call and the last operation. -/
theorem main_eq (d : Dev nD) : main (F := F) d = seq pre >>= fun _ => (K (F := F)).run d 0 >>= fun _ => seq [opOut] := rfl

/-- The references the program names. -/
abbrev a0' : DevRef τ sig := Proc.devRef .tc main_arg0
abbrev a1' : DevRef τ sig := Proc.devRef .tc main_arg1
abbrev x' : DevRef τ sig := Proc.devRef .tc main_v9
abbrev i' : DevRef τ sig := Proc.devRef .tc main_v10
abbrev o' : DevRef τ sig := Proc.devRef .tc main_v11
abbrev r' : DevRef τ sig := Proc.devRef .tc main_v12

/-- The buffers at the launch, and when the call starts. -/
def V0 (d : Dev nD) : Valuation τ sig (Elt F) := fun b => m (d, b)
def V1 (d : Dev nD) : Valuation τ sig (Elt F) := after pre (V0 m d)

/-- The call's table and row numbers, and what its result holds before. -/
def Xv (d : Dev nD) : S131072x256.Idx → BitVec 32 := V1 m d x'
def Iv (d : Dev nD) : S1x294912.Idx → BitVec 32 := V1 m d i'
def Ov (d : Dev nD) : S294912x256.Idx → BitVec 32 := V1 m d o'

/-- The buffers when the call ends, and at the end of the program. -/
def V2 (d : Dev nD) : Valuation τ sig (Elt F) := Function.update (V1 m d) o' (outC (Xv m d) (Iv m d) : Buf (Elt F) (oLoc d))
def V3 (d : Dev nD) : Valuation τ sig (Elt F) := after [opOut] (V2 m d)

abbrev callRefs : Finset (DevRef τ sig) := {x', i', o'}
abbrev endRefs : Finset (DevRef τ sig) := {a0', a1', r'}

theorem call_sub : callRefs ⊆ Pipeline.ucRefs τ sig := by
  intro b hb
  simp only [callRefs, Finset.mem_insert, Finset.mem_singleton] at hb
  rcases hb with rfl | rfl | rfl <;> exact Finset.mem_filter.mpr ⟨StableHlo.devRef_mem_tcRefs _, by decide⟩
theorem end_sub : endRefs ⊆ Pipeline.ucRefs τ sig := by
  intro b hb
  simp only [endRefs, Finset.mem_insert, Finset.mem_singleton] at hb
  rcases hb with rfl | rfl | rfl <;> exact Finset.mem_filter.mpr ⟨StableHlo.devRef_mem_tcRefs _, by decide⟩

theorem held_call (d : Dev nD) (W : Valuation τ sig (Elt F)) :
    (held (SparseCore.T d) callRefs W : sProp 𝕄) = iprop((xLoc d ↦{fullShare} W x') ∗ (iLoc d ↦{fullShare} W i') ∗ oLoc d ↦{fullShare} W o') := by
  unfold held callRefs
  rw [SparseCore.bigSep_insert' (by decide), SparseCore.bigSep_insert' (by decide), bigSep_singleton]
theorem held_fin (d : Dev nD) (W : Valuation τ sig (Elt F)) :
    (held (SparseCore.T d) endRefs W : sProp 𝕄)
      = iprop(((SparseCore.T d).loc main_arg0 ↦{fullShare} W a0') ∗ ((SparseCore.T d).loc main_arg1 ↦{fullShare} W a1') ∗ (SparseCore.T d).loc main_v12 ↦{fullShare} W r') := by
  unfold held endRefs
  rw [SparseCore.bigSep_insert' (by decide), SparseCore.bigSep_insert' (by decide), bigSep_singleton]

/-- Before the call: the three arrays, and the other buffers. -/
theorem held_V1 (d : Dev nD) :
    (held (d.tc : Thread nD τ) (Pipeline.ucRefs τ sig) (after pre (V0 m d)) : sProp 𝕄)
      = iprop(wholeP d (Xv m d) (Iv m d) (Ov m d) ∗ held (SparseCore.T d) (Pipeline.ucRefs τ sig \ callRefs) (V1 m d)) := by
  show held (SparseCore.T d) (Pipeline.ucRefs τ sig) (V1 m d) = _
  rw [held_sub_split (SparseCore.T d) call_sub, held_call]; rfl
/-- After it: the same with the result gathered. -/
theorem held_V2 (d : Dev nD) :
    iprop(wholeP d (Xv m d) (Iv m d) (outC (Xv m d) (Iv m d)) ∗ held (SparseCore.T d) (Pipeline.ucRefs τ sig \ callRefs) (V1 m d))
      = (held (d.tc : Thread nD τ) (Pipeline.ucRefs τ sig) (V2 m d) : sProp 𝕄) := by
  show _ = held (SparseCore.T d) (Pipeline.ucRefs τ sig) (V2 m d)
  have hne : ∀ b ∈ Pipeline.ucRefs τ sig \ callRefs, V1 m d b = V2 m d b := fun b hb =>
    (Function.update_of_ne (fun e => (Finset.mem_sdiff.mp hb).2 (by rw [e]; simp only [callRefs, Finset.mem_insert, Finset.mem_singleton, or_true])) _ _).symm
  rw [held_sub_split (SparseCore.T d) call_sub (V2 m d), held_call, held_congr (SparseCore.T d) hne,
    show V2 m d x' = V1 m d x' from Function.update_of_ne (by decide) _ _, show V2 m d i' = V1 m d i' from Function.update_of_ne (by decide) _ _,
    show V2 m d o' = (outC (Xv m d) (Iv m d) : Buf (Elt F) (oLoc d)) from Function.update_self _ _ _]
  rfl

theorem pre_sub : ∀ op ∈ (pre : List (HloOp τ sig (Elt F))), op.bufs ⊆ Pipeline.ucRefs τ sig := fun op h =>
  Pipeline.sub_ucRefs op (List.forall_iff_forall_mem.mp (show (pre : List (HloOp τ sig (Elt F))).Forall fun op => op.bufs ⊆ StableHlo.tcRefs τ sig from
    ⟨StableHlo.nullary_bufs_sub .., StableHlo.unary_bufs_sub .., StableHlo.nullary_bufs_sub .., StableHlo.unary_bufs_sub .., StableHlo.binary_bufs_sub ..,
      StableHlo.unary_bufs_sub .., StableHlo.unary_bufs_sub .., StableHlo.unary_bufs_sub .., StableHlo.binary_bufs_sub .., StableHlo.reshape_bufs_sub ..,
      StableHlo.reshape_bufs_sub .., StableHlo.reshape_bufs_sub ..⟩) op h)
theorem out_sub : ∀ op ∈ ([opOut] : List (HloOp τ sig (Elt F))), op.bufs ⊆ Pipeline.ucRefs τ sig := fun op h =>
  Pipeline.sub_ucRefs op (by rw [List.mem_singleton.mp h]; exact StableHlo.reshape_bufs_sub ..)
theorem pre_fresh : ∀ op ∈ (pre : List (HloOp τ sig (Elt F))), op.fresh = ∅ :=
  List.forall_iff_forall_mem.mp (show (pre : List (HloOp τ sig (Elt F))).Forall fun op => op.fresh = ∅ from
    ⟨rfl, rfl, rfl, rfl, rfl, rfl, rfl, rfl, rfl, rfl, rfl, rfl⟩)
theorem out_fresh : ∀ op ∈ ([opOut] : List (HloOp τ sig (Elt F))), op.fresh = ∅ := fun op h => by rw [List.mem_singleton.mp h]; rfl

/-- What the program leaves for the claims: the two arguments and the result. -/
abbrev FIN (d : Dev nD) : sProp 𝕄 := held (SparseCore.T d) endRefs (V3 m d)

theorem held_V3 (d : Dev nD) : (held (d.tc : Thread nD τ) (Pipeline.ucRefs τ sig) (after [opOut] (V2 m d)) : sProp 𝕄) ⊢ FIN m d := by
  show held (SparseCore.T d) (Pipeline.ucRefs τ sig) (V3 m d) ⊢ _
  rw [held_sub_split (SparseCore.T d) end_sub]
  exact sep_elim_left

theorem unscoped_held (d : Dev nD) : (unscopedBufs d (fun b => m ((SparseCore.T d).loc b)) : sProp 𝕄) = held (SparseCore.T d) (Pipeline.ucRefs τ sig) (V0 m d) :=
  Pipeline.unscopedBufs_held d (V0 m d)

/-- The program on device `d`'s TensorCore. -/
theorem hmain (κ : GSem nD τ sig → ℕ) (d : Dev nD) :
    iprop((K (F := F)).ctx EH (P (Xv m) (Iv m) (Ov m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ pre pre_sub pre_fresh (V0 m d)) $$ [Hb Hheld]
  · isplitl [Hb] <;> iassumption
  iintro ⟨Hb, Hheld⟩
  ihave Hh := (Entails.of_eq (held_V1 m d)) $$ Hheld
  icases Hh with ⟨Hw, Hrest⟩
  rw [wp_bind]
  iapply ((K (F := F)).wp_run (D (F := F)) 𝒱 (EH := EH) (P := P (Xv m) (Iv m) (Ov m)) κ d 0) $$ [Hst Hw Hb Hrest Hts]
  isplitr; · iexact Hctx
  isplitl [Hst]; · iexact Hst
  isplitl [Hw]
  · rw [st_eq]; iexact Hw
  iintro ⟨Hst, Hdn⟩
  ihave Hw := (Entails.of_eq (dn_eq (Xv m) (Iv m) (Ov m) d)) $$ Hdn
  ihave Hheld := (Entails.of_eq (held_V2 m d)) $$ [Hw Hrest]
  · isplitl [Hw] <;> iassumption
  rw [← bind_pure (seq [opOut])]
  iapply (wp_seq 𝒱 none Set.univ d (Pipeline.ucRefs τ sig) _ [opOut] out_sub out_fresh (V2 m d)) $$ [Hb Hheld]
  · isplitl [Hb] <;> iassumption
  iintro ⟨Hb, Hheld⟩
  ihave HF := (held_V3 m d) $$ Hheld
  rw [wp_pure]; imodintro
  isplitl [Hst]; · iexact Hst
  isplitl [HF]; · iexact HF
  isplitl [Hb] <;> iassumption

/-- What the claims read of device `d`'s final state. -/
def fq (d : Dev nD) (s' : Phys nD τ sig (Elt F)) : Prop :=
  s'.mem.mem ((SparseCore.T d).loc main_arg0) = V3 m d a0' ∧ s'.mem.mem ((SparseCore.T d).loc main_arg1) = V3 m d a1' ∧ s'.mem.mem ((SparseCore.T d).loc main_v12) = V3 m d r'

theorem hfin (d : Dev nD) (s' : Phys nD τ sig (Elt F)) : iprop(FIN m d ∗ SI s') ⊢ (⌜fq m d s'⌝ : sProp 𝕄) := by
  unfold FIN
  rw [held_fin]
  iintro ⟨⟨H0, H1, H2⟩, HSI⟩
  ihave H := (persistent_entails_right (SI_pointsTo_agree (st := s') (ℓ := (SparseCore.T d).loc main_arg0) (I := Finset.univ) (q := fullShare) (f := V3 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d a1'))) $$ [HSI H1]
  · isplitl [HSI] <;> iassumption
  icases H with ⟨%h1, HSI, -⟩
  ihave H := (SI_pointsTo_agree (st := s') (ℓ := (SparseCore.T d).loc main_v12) (I := Finset.univ) (q := fullShare) (f := V3 m d r')) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- How the program ends: on every device the arguments and the result at their final contents, every counter at zero. -/
def Ends : PUnit × MemSt nD τ sig (Elt F) → Prop := fun r =>
  (∀ c : Dev nD, r.2.mem ((SparseCore.T c).loc main_arg0) = V3 m c a0' ∧ r.2.mem ((SparseCore.T c).loc main_arg1) = V3 m c a1' ∧ r.2.mem ((SparseCore.T c).loc main_v12) = V3 m c r')
    ∧ r.2.sem = fun _ => 0

/-- Every execution of the program ends so, if the row numbers lie in the table. -/
theorem run_ends [∀ e, Nonempty (Elt F e)] (hI : ∀ d j, (Iv m d j).toNat < 131072) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (Xv m) (Iv m) (Ov m)) (A := ∅) facts v₀
    (fun q hq => match q with | 0 => nomatch hq)
    (fun q _ => match q with | 0 => tileObl (Xv m) (Iv m) (Ov m) hI)
    (fun q _ => match q with | 0 => SparseCore.Cfg.VecSplit.of_plain (vecSplit (Xv m) (Iv m) (Ov m)))
    m ρ main (fun _ => iprop(emp)) (FIN m) (u₀ (F := F)) (sep_elim_left.trans (hu₀ (Xv m) (Iv m) (Ov m))) (hmain m ρ) (fq m) (hfin m) (Ends m) (fun _ h hz => ⟨h, hz⟩)

end Cert.Proof.Gather

end
-- ==== Proof.Value.lean ====
/-
  What the program computes: entry `(p, j, c)` of its result is entry `(p, idx j, c)` of the table, where every `idx j` lies
  below 32768. The row numbers' host operations give `32768 p + idx j`; the flattened table's row of that number is plane `p`'s
  row `idx j`; and the last reshape puts gathered row `73728 p + j` at `(p, j)`.
-/
module

public import proofs.«01_k».proof.Proof.Launch

@[expose] public section

noncomputable section

namespace Cert.Proof.Gather

open Cert.KernelIdeal Cert.KernelIdeal.Gen
open Idealize.ShloMosaic Idealize.SL.Sem
open Idealize.ShloMosaic.StableHlo
open Idealize.ShloMosaic.ValueIdx (ix1 ix2 ix3 eq_ix3)

variable {F : FTy → Type} [FloatOps F]

/-- The result: at `(p, j, c)` the table's `(p, idx j, c)`. -/
def picked (A : S4x32768x256.Idx → BitVec 32) (J : S73728.Idx → BitVec 32) : S4x73728x256.Idx → BitVec 32 := fun y =>
  A (ix3 (n0 := 4) (n1 := 32768) (n2 := 256) (y 0)
    ⟨(J (ix1 (n := 73728) (y 1))).toNat % 32768, Nat.mod_lt _ (by decide)⟩ (y 2))

/-- The row numbers the host operations compute from the indices. -/
def rowNo (J : S73728.Idx → BitVec 32) : S1x294912.Idx → BitVec 32 :=
  shapeCast S1x294912 (shapeCast S294912
    (addi
      (broadcastInDim S4x73728 ![0, 1] bcast_S4x1_S4x73728_0_1
        (muli (broadcastInDim S4x1 ![0] bcast_S4_S4x1_0 (iotaInDim S4 32 0)) (broadcastInDim S4x1 ![] bcast_S_S4x1 (constantI S_ 32 32768#32))))
      (broadcastInDim S4x73728 ![0, 1] bcast_S1x73728_S4x73728_0_1 (broadcastInDim S1x73728 ![1] bcast_S73728_S1x73728_1 J)))
    shapeCasts_S4x73728_S294912) shapeCasts_S294912_S1x294912

/-- Row number `73728 p + j` is `32768 p + idx j`. -/
theorem rowNo_at (J : S73728.Idx → BitVec 32) (p : Fin 4) (j : Fin 73728) (h : 73728 * p.val + j.val < 294912) :
    rowNo J (ix2 (n0 := 1) (n1 := 294912) ⟨0, by decide⟩ ⟨73728 * p.val + j.val, h⟩) = BitVec.ofNat 32 p.val * 32768#32 + J (ix1 (n := 73728) j) := by
  unfold rowNo
  rw [shapeCast_apply _ _ _ (ix1 (n := 294912) ⟨73728 * p.val + j.val, h⟩)
      (by rw [Shape.rowMajor_val_one, Shape.rowMajor_val_two]; show 73728 * p.val + j.val = 0 * 294912 + (73728 * p.val + j.val); omega),
    shapeCast_apply _ _ _ (ix2 (n0 := 4) (n1 := 73728) p j)
      (by rw [Shape.rowMajor_val_one, Shape.rowMajor_val_two]; show p.val * 73728 + j.val = 73728 * p.val + j.val; omega)]
  show IntOp.addi _ _ = _
  rw [broadcastInDim_apply _ _ _ _ (ix2 (n0 := 4) (n1 := 1) p ⟨0, by decide⟩) (fun a => match a with | ⟨0, _⟩ => rfl | ⟨1, _⟩ => rfl),
    broadcastInDim_apply _ _ _ _ (ix2 (n0 := 1) (n1 := 73728) ⟨0, by decide⟩ j) (fun a => match a with | ⟨0, _⟩ => rfl | ⟨1, _⟩ => rfl),
    broadcastInDim_apply _ _ J _ (ix1 (n := 73728) j) (fun a => match a with | ⟨0, _⟩ => rfl)]
  show IntOp.addi (IntOp.muli _ _) _ = _
  rw [broadcastInDim_apply _ _ (iotaInDim S4 32 0) _ (ix1 (n := 4) p) (fun a => match a with | ⟨0, _⟩ => rfl)]
  rfl

/-- It lies in the flattened table, as a number too. -/
theorem rowNo_toNat (J : S73728.Idx → BitVec 32) (hJ : ∀ j, (J j).toNat < 32768) (p : Fin 4) (j : Fin 73728) :
    (BitVec.ofNat 32 p.val * 32768#32 + J (ix1 (n := 73728) j)).toNat = 32768 * p.val + (J (ix1 (n := 73728) j)).toNat := by
  have h1 := p.isLt
  have h2 := hJ (ix1 (n := 73728) j)
  rw [BitVec.toNat_add, BitVec.toNat_mul, BitVec.toNat_ofNat, BitVec.toNat_ofNat]
  omega

theorem rowNo_lt (J : S73728.Idx → BitVec 32) (hJ : ∀ j, (J j).toNat < 32768) (y : S1x294912.Idx) : (rowNo J y).toNat < 131072 := by
  have hy : (y 1).val < 294912 := (y 1).isLt
  have e : y = ix2 (n0 := 1) (n1 := 294912) ⟨0, by decide⟩ ⟨73728 * ((y 1).val / 73728) + (y 1).val % 73728, by omega⟩ := by
    funext a
    match a with
    | ⟨0, _⟩ => exact Fin.ext (by have : (y 0).val < 1 := (y 0).isLt; show (y 0).val = 0; omega)
    | ⟨1, _⟩ => exact Fin.ext (by show (y 1).val = 73728 * ((y 1).val / 73728) + (y 1).val % 73728; omega)
  have h := rowNo_at J ⟨(y 1).val / 73728, by omega⟩ ⟨(y 1).val % 73728, Nat.mod_lt _ (by decide)⟩ (by show 73728 * ((y 1).val / 73728) + (y 1).val % 73728 < 294912; omega)
  rw [e]
  refine lt_of_eq_of_lt (congrArg BitVec.toNat h) ?_
  rw [rowNo_toNat J hJ]
  have := hJ (ix1 (n := 73728) ⟨(y 1).val % 73728, Nat.mod_lt _ (by decide)⟩)
  show 32768 * ((y 1).val / 73728) + _ < _
  omega

/-- The gathered rows put in planes are the result. -/
theorem gathered_eq (A : S4x32768x256.Idx → BitVec 32) (J : S73728.Idx → BitVec 32) (hJ : ∀ j, (J j).toNat < 32768) :
    shapeCast S4x73728x256 (outC (shapeCast S131072x256 A shapeCasts_S4x32768x256_S131072x256) (rowNo J)) shapeCasts_S294912x256_S4x73728x256 = picked A J := by
  funext y
  have h0 : (y 0).val < 4 := (y 0).isLt
  have h1 : (y 1).val < 73728 := (y 1).isLt
  have h2 : (y 2).val < 256 := (y 2).isLt
  have hn : 73728 * (y 0).val + (y 1).val < 294912 := by omega
  rw [shapeCast_apply _ _ _ (ix2 (n0 := 294912) (n1 := 256) ⟨73728 * (y 0).val + (y 1).val, hn⟩ (y 2))
      (by rw [Shape.rowMajor_val_two, Shape.rowMajor_val_three]
          show (73728 * (y 0).val + (y 1).val) * 256 + (y 2).val = ((y 0).val * 73728 + (y 1).val) * 256 + (y 2).val; omega)]
  have hrow : iAt (rowNo J) (73728 * (y 0).val + (y 1).val) = BitVec.ofNat 32 (y 0).val * 32768#32 + J (ix1 (n := 73728) (y 1)) := by
    unfold iAt
    simp only [Nat.mod_eq_of_lt hn]
    exact rowNo_at J (y 0) (y 1) hn
  have hnum := rowNo_toNat J hJ (y 0) (y 1)
  have hj := hJ (ix1 (n := 73728) (y 1))
  show xAt _ (iAt (rowNo J) (73728 * (y 0).val + (y 1).val)).toNat (y 2).val = _
  rw [hrow, hnum]
  unfold xAt picked
  refine shapeCast_apply _ _ _ _ ?_
  rw [Shape.rowMajor_val_two, Shape.rowMajor_val_three]
  show ((y 0).val * 32768 + (J (ix1 (n := 73728) (y 1))).toNat % 32768) * 256 + (y 2).val
    = ((32768 * (y 0).val + (J (ix1 (n := 73728) (y 1))).toNat) % 131072) * 256 + (y 2).val % 256
  rw [Nat.mod_eq_of_lt hj, Nat.mod_eq_of_lt h2, Nat.mod_eq_of_lt (show 32768 * (y 0).val + (J (ix1 (n := 73728) (y 1))).toNat < 131072 by omega)]
  omega

variable (m : (ℓ : Loc nD τ sig) → Buf (Elt F) ℓ) (d : Dev nD)

/-- The two arguments on device `d`. -/
abbrev tbl : S4x32768x256.Idx → BitVec 32 := m ((d.tc : Thread nD τ).loc main_arg0)
abbrev idx : S73728.Idx → BitVec 32 := m ((d.tc : Thread nD τ).loc main_arg1)

theorem Xv_eq : Xv m d = shapeCast S131072x256 (tbl m d) shapeCasts_S4x32768x256_S131072x256 := by
  unfold Xv V1 pre
  after_results <;> rfl
theorem Iv_eq : Iv m d = rowNo (idx m d) := by
  unfold Iv V1 pre
  after_results <;> rfl

theorem V2_of_ne (r : DevRef τ sig) (h : r ≠ o') : V2 m d r = V1 m d r := Function.update_of_ne h _ _

theorem V3_arg0 : V3 m d a0' = tbl m d := by
  unfold V3
  refine (show after [opOut] (V2 m d) a0' = V2 m d a0' from by after_results).trans ((V2_of_ne m d a0' (by decide)).trans ?_)
  unfold V1 pre
  after_results <;> rfl
theorem V3_arg1 : V3 m d a1' = idx m d := by
  unfold V3
  refine (show after [opOut] (V2 m d) a1' = V2 m d a1' from by after_results).trans ((V2_of_ne m d a1' (by decide)).trans ?_)
  unfold V1 pre
  after_results <;> rfl
theorem V3_res : V3 m d r' = (shapeCast S4x73728x256 (outC (Xv m d) (Iv m d)) shapeCasts_S294912x256_S4x73728x256 : S4x73728x256.Idx → BitVec 32) := by
  unfold V3
  refine (show after [opOut] (V2 m d) r' = (shapeCast S4x73728x256 (V2 m d o' : S294912x256.Idx → BitVec 32) shapeCasts_S294912x256_S4x73728x256 : S4x73728x256.Idx → BitVec 32)
    from by after_results <;> rfl).trans ?_
  rw [show V2 m d o' = (outC (Xv m d) (Iv m d) : Buf (Elt F) (oLoc d)) from Function.update_self _ _ _]

variable (ρ : Dev nD → PrngReg)

/-- EVERY execution of the program ends with the result at `picked`, the arguments as they were and every counter at zero, if
    every index lies below 32768. -/
theorem run_picked [∀ e, Nonempty (Elt F e)] (hJ : ∀ (d : Dev nD) j, (idx m d j).toNat < 32768) :
    θ_run (Cert.KernelIdeal.defs (F := F)) (Cert.KernelIdeal.threads (F := F)) ⟨m, fun _ => 0, ρ⟩ fun r =>
      (∀ c : Dev nD, r.2.mem ((c.tc : Thread nD τ).loc main_v12) = picked (tbl m c) (idx m c)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run Cert.KernelIdeal.defs _ _).mono (fun r h => ⟨fun c => ⟨?_, ?_, ?_⟩, h.2⟩)
    (run_ends m ρ fun d j => by rw [Iv_eq]; exact rowNo_lt (idx m d) (hJ d) j)
  · refine (h.1 c).2.2.trans ((V3_res m c).trans ?_)
    rw [Xv_eq, Iv_eq]
    exact gathered_eq (tbl m c) (idx m c) (hJ c)
  · exact (h.1 c).1.trans (V3_arg0 m c)
  · exact (h.1 c).2.1.trans (V3_arg1 m c)

end Cert.Proof.Gather

end
-- ==== Proof.RefValue.lean ====
/-
  What the reference computes: its host gather, read at `(p, j, c)`, is the table's `(p, idx j, c)` where `idx j`, a signed
  word, lies in `[0, 32768)`; and what the precondition says of `idx`.
-/
module

public import proofs.«01_k».proof.Defs
public import proofs.«01_k».proof.Proof.Value
public import proofs.«01_k».proof.Proof.Gen.ReferenceIdeal.Run
public import proofs.«01_k».proof.Proof.Gen.Reference.Run

@[expose] public section

noncomputable section

namespace Cert.Proof.Gather

open Cert.KernelIdeal (S4x32768x256 S73728 S4x73728x256 S_)
open Idealize.ShloMosaic Idealize.SL.Sem
open Idealize.ShloMosaic.ValueIdx (ix1 ix2 ix3 eq_ix1)

abbrev S73728x1 : Shape := ⟨2, ![73728, 1]⟩

/-- The reference's gather: along axis 1 of the table, one start index a row of the result's axis 1, slices of all 4 planes and
    all 256 columns. -/
abbrev pickDims (wf : GatherDims.WF S4x32768x256 S73728x1 S4x73728x256 [0, 2] [1] [] [1] [] 1 ![4, 1, 256]) :
    GatherDims S4x32768x256 S73728x1 S4x73728x256 where
  offsetDims := [0, 2]
  collapsedSliceDims := [1]
  operandBatchingDims := []
  startIndicesBatchingDims := []
  startIndexMap := [1]
  indexVectorDim := 1
  sliceSizes := ![4, 1, 256]
  wf := wf

/-- A non-negative signed word below 32768 clamps to its own value. -/
theorem clamp_word (v : BitVec 32) (h : v.toNat < 32768) : min v.toInt.toNat (32768 - 1) = v.toNat % 32768 := by
  rw [BitVec.toInt_eq_toNat_cond]
  omega

theorem gather_picked (wf : GatherDims.WF S4x32768x256 S73728x1 S4x73728x256 [0, 2] [1] [] [1] [] 1 ![4, 1, 256])
    (hb : S73728.BroadcastsInDim S73728x1 (![0] : Fin 1 → Fin S73728x1.rank))
    (A : S4x32768x256.Idx → BitVec 32) (J : S73728.Idx → BitVec 32) (hJ : ∀ j, (J j).toNat < 32768) :
    Host.gather (pickDims wf) A (broadcastInDim S73728x1 ![0] hb J) = picked A J := by
  funext y
  unfold Host.gather picked
  refine congrArg A (funext fun a => Fin.ext ?_)
  show (pickDims wf).start y (broadcastInDim S73728x1 ![0] hb J) a + (pickDims wf).batchCoord y a + (pickDims wf).offCoord y a = _
  rw [GatherDims.batchCoord_eq_zero _ _ _ List.not_mem_nil]
  match a with
  | ⟨0, _⟩ =>
    show (pickDims wf).start y _ 0 + 0 + (pickDims wf).offCoord y 0 = (y 0).val
    unfold GatherDims.start
    rw [dif_neg (show (0 : Fin 3) ∉ (pickDims wf).startIndexMap from show (0 : Fin 3) ∉ ([1] : List (Fin 3)) by decide)]
    unfold GatherDims.offCoord
    rw [dif_pos (show (0 : Fin 3) ∈ (pickDims wf).sKept from (GatherDims.mem_sKept _ _).mpr ⟨show (0 : Fin 3) ∉ ([1] : List (Fin 3)) by decide, List.not_mem_nil⟩)]
    simp only [Nat.zero_add, Nat.add_zero]
    rfl
  | ⟨2, _⟩ =>
    show (pickDims wf).start y _ 2 + 0 + (pickDims wf).offCoord y 2 = (y 2).val
    unfold GatherDims.start
    rw [dif_neg (show (2 : Fin 3) ∉ (pickDims wf).startIndexMap from show (2 : Fin 3) ∉ ([1] : List (Fin 3)) by decide)]
    unfold GatherDims.offCoord
    rw [dif_pos (show (2 : Fin 3) ∈ (pickDims wf).sKept from (GatherDims.mem_sKept _ _).mpr ⟨show (2 : Fin 3) ∉ ([1] : List (Fin 3)) by decide, List.not_mem_nil⟩)]
    simp only [Nat.zero_add, Nat.add_zero]
    rfl
  | ⟨1, _⟩ =>
    show (pickDims wf).start y _ 1 + 0 + (pickDims wf).offCoord y 1 = (J (ix1 (n := 73728) (y 1))).toNat % 32768
    rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (pickDims wf).startIndexMap from List.mem_singleton.mpr rfl)]
    have hsi : broadcastInDim S73728x1 ![0] hb J ((pickDims wf).siIdx y ⟨List.idxOf (1 : Fin 3) (pickDims wf).startIndexMap,
        List.idxOf_lt_length_iff.2 (List.mem_singleton.mpr rfl)⟩) = J (ix1 (n := 73728) (y 1)) :=
      broadcastInDim_apply _ _ _ _ _ (fun b => match b with | ⟨0, _⟩ => rfl)
    rw [hsi]
    exact clamp_word _ (hJ _)

instance preFacts : Cert.Pre_rows_in_range.Facts where
  bcast_S_S73728 := by decide

/-- The precondition — `(0 ≤ idx) & (idx < 32768)` at every index, all ones — says every `idx j` lies below 32768. -/
theorem idx_lt {F : FTy → Type} [FloatOps F] (A : S4x32768x256.Idx → BitVec 32) (J : S73728.Idx → BitVec 32)
    (h : Cert.Pre_rows_in_range.fn (F := F) A J = fun _ => 1#1) (j : S73728.Idx) : (J j).toNat < 32768 := by
  have e : IntOp.andi (IntOp.cmpi .sge (J j) 0#32) (IntOp.cmpi .slt (J j) 32768#32) = 1#1 := congrFun h j
  have both : ∀ p q : Bool, IntOp.andi (BitVec.ofBool p) (BitVec.ofBool q) = 1#1 → p = true ∧ q = true := by decide
  obtain ⟨h0, h1⟩ := both _ _ e
  change (0#32).sle (J j) = true at h0
  change (J j).slt 32768#32 = true at h1
  rw [BitVec.sle_eq_decide, decide_eq_true_eq] at h0
  rw [BitVec.slt_eq_decide, decide_eq_true_eq] at h1
  rw [BitVec.toInt_eq_toNat_cond, BitVec.toInt_eq_toNat_cond] at h0 h1
  simp only [BitVec.toNat_ofNat, Nat.reducePow, Nat.reduceMod] at h0 h1
  omega

end Cert.Proof.Gather

end
-- ==== Proof.InProj.lean ====
/-
  The input projection (`kernel2`): what its result array holds after the run, at the ideal instance.

  The grid has 3 × 64 points. Point (j, i) multiplies rows 512·i … 512·i + 511 of the activations by columns
  2176·j … 2176·j + 2175 of the weights, over the whole inner dimension of 2048. So each entry of the result is one sum
  of 2048 products, the same sum that `reference2` takes.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ) (ρ : Dev nD → PrngReg)

/-- The reference's result as a function of the activations and the weights. -/
abbrev product (x : FVec Ideal Cert.Reference2Ideal.S2x16384x2048 .f32)
    (w : FVec Ideal Cert.Reference2Ideal.S2048x6528 .bf16) : FVec Ideal Cert.Reference2Ideal.S32768x6528 .bf16 :=
  truncf .bf16 (shapeCast _ (Host.dotGeneral Cert.Reference2Ideal.dot_S2x16384x2048_S2048x6528_S2x16384x6528_2_0_01_1_n_n none
    x (extf .f32 w Cert.Reference2Ideal.Gen.bitsLt_bf16_f32)) Cert.Reference2Ideal.Gen.shapeCasts_S2x16384x6528_S32768x6528)
    Cert.Reference2Ideal.Gen.bitsLt_bf16_f32

/-- The block that each window has at point `t`: rows by `t % 64`, columns by `t / 64`. -/
theorem idx_val : ∀ t : Fin cfg0.N, win0_0.index t = ![t.val % 64, 0] ∧ win0_1.index t = ![0, t.val / 64]
    ∧ win0_2.index t = ![t.val % 64, t.val / 64] ∧ t.val / 64 < 3 :=
  (by decide +kernel : ∀ t : Fin grid0.N, _)

/-- A block of the product at an index: one sum over the inner dimension. -/
theorem pay_apply (x : FVec Ideal S512x2048 .bf16) (w : FVec Ideal S2048x2176 .bf16) (y : S512x2176.Idx) :
    k0_pay1 x w y = ∑ k : Fin 2048, x (ix2 (y 0) k) * w (ix2 k (y 1)) := by
  pointwise [k0_pay1]

/-- The reference at an index: row `r` of the result is position `r % 16384` of sequence `r / 16384`. -/
theorem product_apply (x : FVec Ideal Cert.Reference2Ideal.S2x16384x2048 .f32)
    (w : FVec Ideal Cert.Reference2Ideal.S2048x6528 .bf16) (i : Cert.Reference2Ideal.S32768x6528.Idx) :
    product x w i = ∑ k : Fin 2048, x (ix3 ⟨(i 0).val / 16384, by have := (i 0).isLt; simp at this; omega⟩ ⟨(i 0).val % 16384, Nat.mod_lt _ (by decide)⟩ k) * w (ix2 k (i 1)) := by
  pointwise [product]

/-- The activations as the region finds them: the argument, reshaped. -/
theorem V_rows (c : Dev nD) (i : S32768x2048.Idx) : (V m c main_v1 : FVec Ideal S32768x2048 .bf16) i
    = (m ((c : Thread nD τ).loc main_arg0) : FVec Ideal S2x16384x2048 .f32)
        (ix3 ⟨(i 0).val / 16384, by have := (i 0).isLt; simp at this; omega⟩ ⟨(i 0).val % 16384, Nat.mod_lt _ (by decide)⟩ (i 1)) := by
  entry_read
  pointwise

/-- What the body stores at index `y` of point `t`'s block is the reference's entry at the place of `y` in the array. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  refine (pay_apply _ _ _).trans (Eq.trans ?_ (product_apply _ _ _).symm)
  refine Finset.sum_congr rfl fun k _ => ?_
  congr 1
  · blk_simp [iblk]
    refine (V_rows m c _).trans ?_
    blk_ext [idx_val t]
  · blk_ext [iblk, V, idx_val t]

/-- The result array after the run is the reference's function of the two arguments. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.InProj

end
-- ==== Proof.AttnBody.lean ====
/-
  The differential attention kernel (`kernel3`): what the body leaves in its output block at one grid point.

  The body keeps two pairs in parallel, one for each of the two attention maps of a head: a row of running maxima and
  a 144 × 1024 accumulator in scratch. `State.at k` is that state after `k` key tiles. The counted loop visits the tiles
  before the query tile; the second loop never runs; the diagonal tile comes last, masked.
-/
module

public import proofs.«01_k».proof.Proof.Gen.Kernel3Ideal.Value
public import Idealize.ShloMosaic.Lib.Pipeline.ValueKit
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Cert.Kernel3Ideal Cert.Kernel3Ideal.Gen

namespace Cert.Kernel3Ideal.Attn

variable {F : FTy → Type} [FloatOps F]

/-- Key tile `k` of a head's keys: rows 1024·k … 1024·k + 1023. -/
def keyTile (x : Vec F S16384x128 .bf16) (k : ℕ) : Vec F S1024x128 .bf16 :=
  fun y => x (ix2 ⟨(1024 * k + (y 0).val) % 16384, Nat.mod_lt _ (by decide)⟩ (y 1))

/-- Value tile `k` of a head's transposed values. -/
def valTile (x : Vec F S1x16x144x1024 .bf16) (k : ℕ) : Vec F S1x1x144x1024 .bf16 :=
  fun y => x (ix4 0 ⟨k % 16, Nat.mod_lt _ (by decide)⟩ (y 2) (y 3))

/-- Running maxima and accumulators of the two attention maps. -/
structure State (F : FTy → Type) [FloatOps F] where
  m0 : FVec F S1x1024 .f32
  m1 : FVec F S1x1024 .f32
  a0 : Vec F S1x144x1024 .f32
  a1 : Vec F S1x144x1024 .f32

/-- The scratch buffer's two planes. -/
def plane0 (X : Vec F S2x144x1024 .f32) : Vec F S1x144x1024 .f32 :=
  View.ld X (Rect.unit ![0, 0, 0] S1x144x1024.size inb_S2x144x1024_S1x144x1024_0_0_0)
def plane1 (X : Vec F S2x144x1024 .f32) : Vec F S1x144x1024 .f32 :=
  View.ld X (Rect.unit ![1, 0, 0] S1x144x1024.size inb_S2x144x1024_S1x144x1024_1_0_0)

/-- One unmasked key tile. -/
def State.step (q : Vec F S1024x128 .bf16) (kb : Vec F S1024x128 .bf16) (vb : Vec F S1x1x144x1024 .bf16) (s : State F) : State F where
  m0 := k0_pay5 (k0_pay21 q) s.m0 kb
  m1 := k0_pay7 (k0_pay22 q) s.m1 kb
  a0 := k0_pay6 (k0_pay21 q) s.m0 kb vb s.a0
  a1 := k0_pay25 (k0_pay2 vb) (k0_pay8 (k0_pay22 q) s.m1 kb) (k0_pay9 s.a1) (k0_pay10 (k0_pay22 q) s.m1 kb)

/-- The state after the first `k` key tiles. -/
def State.at (q : Vec F S1024x128 .bf16) (x1 : Vec F S16384x128 .bf16) (x2 : Vec F S1x16x144x1024 .bf16) : ℕ → State F
  | 0 => ⟨k0_pay24, k0_pay24, plane0 k0_pay23, plane1 k0_pay23⟩
  | k + 1 => (State.at q x1 x2 k).step q (keyTile x1 k) (valTile x2 k)

/-! ## Planes under stores -/

section Planes

variable (v : View sig .tc .vmem S2x144x1024 .f32) (f : v.ty.Contents (Elt F)) (w : Vec F S1x144x1024 .f32)
  (L : List (View.Piece (Elt F) S2x144x1024 .f32))

theorem plane1_store1 : plane1 (v.read (Elt F) (v.writes (Elt F) f
    (⟨Rect.unit ![1, 0, 0] S1x144x1024.size inb_S2x144x1024_S1x144x1024_1_0_0, w⟩ :: L))) = w := by
  funext y
  exact View.read_writes_cons_emb v f (Rect.unit ![1, 0, 0] S1x144x1024.size inb_S2x144x1024_S1x144x1024_1_0_0) w L y

theorem plane0_store0 : plane0 (v.read (Elt F) (v.writes (Elt F) f
    (⟨Rect.unit ![0, 0, 0] S1x144x1024.size inb_S2x144x1024_S1x144x1024_0_0_0, w⟩ :: L))) = w := by
  funext y
  exact View.read_writes_cons_emb v f (Rect.unit ![0, 0, 0] S1x144x1024.size inb_S2x144x1024_S1x144x1024_0_0_0) w L y

theorem plane0_store1 : plane0 (v.read (Elt F) (v.writes (Elt F) f
    (⟨Rect.unit ![1, 0, 0] S1x144x1024.size inb_S2x144x1024_S1x144x1024_1_0_0, w⟩ :: L)))
    = plane0 (v.read (Elt F) (v.writes (Elt F) f L)) := by
  funext y
  refine View.read_writes_cons_unit_of_not_mem v f inb_S2x144x1024_S1x144x1024_1_0_0 w L _ rfl 0 (.inl ?_)
  have h : (y 0).val < 1 := (y 0).isLt
  show 0 + 1 * (y 0).val < 1
  omega

theorem plane1_store0 : plane1 (v.read (Elt F) (v.writes (Elt F) f
    (⟨Rect.unit ![0, 0, 0] S1x144x1024.size inb_S2x144x1024_S1x144x1024_0_0_0, w⟩ :: L)))
    = plane1 (v.read (Elt F) (v.writes (Elt F) f L)) := by
  funext y
  refine View.read_writes_cons_unit_of_not_mem v f inb_S2x144x1024_S1x144x1024_0_0_0 w L _ rfl 0 (.inr ?_)
  show 0 + 1 ≤ 1 + 1 * (y 0).val
  omega

variable (z : Vec F S2x144x1024 .f32)

/-- The piece that clears the scratch buffer. -/
abbrev clear : View.Piece (Elt F) S2x144x1024 .f32 := ⟨Rect.unit ![0, 0, 0] S2x144x1024.size inb_S2x144x1024_S2x144x1024_0_0_0, z⟩

theorem load0 : v.readCov (L ++ [clear z]) (Rect.unit (s := S2x144x1024) ![0, 0, 0] S1x144x1024.size inb_S2x144x1024_S1x144x1024_0_0_0).toLoadRect
    = plane0 (v.read (Elt F) (v.writes (Elt F) (v.writes (Elt F) v.junk [clear z]) L)) := by
  rw [← View.writes_append]; rfl

theorem load1 : v.readCov (⟨Rect.unit ![0, 0, 0] S1x144x1024.size inb_S2x144x1024_S1x144x1024_0_0_0, w⟩ :: (L ++ [clear z]))
      (Rect.unit (s := S2x144x1024) ![1, 0, 0] S1x144x1024.size inb_S2x144x1024_S1x144x1024_1_0_0).toLoadRect
    = plane1 (v.read (Elt F) (v.writes (Elt F) (v.writes (Elt F) v.junk [clear z]) L)) := by
  rw [← View.writes_append]
  exact plane1_store0 v v.junk w _

theorem loadEnd0 (w' : Vec F S1x144x1024 .f32) : v.readCov (⟨Rect.unit ![1, 0, 0] S1x144x1024.size inb_S2x144x1024_S1x144x1024_1_0_0, w'⟩ ::
      ⟨Rect.unit ![0, 0, 0] S1x144x1024.size inb_S2x144x1024_S1x144x1024_0_0_0, w⟩ :: L)
      (Rect.unit (s := S2x144x1024) ![0, 0, 0] S1x144x1024.size inb_S2x144x1024_S1x144x1024_0_0_0).toLoadRect = w :=
  (plane0_store1 v v.junk w' _).trans (plane0_store0 v v.junk w L)

theorem loadEnd1 : v.readCov (⟨Rect.unit ![1, 0, 0] S1x144x1024.size inb_S2x144x1024_S1x144x1024_1_0_0, w⟩ :: L)
      (Rect.unit (s := S2x144x1024) ![1, 0, 0] S1x144x1024.size inb_S2x144x1024_S1x144x1024_1_0_0).toLoadRect = w :=
  plane1_store1 v v.junk w L

end Planes

/-! ## Loop bounds and offsets -/

/-- The first loop has as many trips as there are key tiles before the query tile. -/
theorem trips1 (i : grid0.Coords) : (k0_t1_loop i).trips = (i 2).val :=
  (by decide +kernel : ∀ n : Fin 16, Scf.trips 0#32 (Scalar.addi 0#32 (Scalar.muli (Scalar.divsi (Scalar.subi
    (BitVec.ofNat 32 n.val) 0#32) 1#32) 1#32)) 1#32 = n.val) (i 2)

/-- The second loop has none. -/
theorem trips2 (i : grid0.Coords) : (k0_t2_loop i).trips = 0 :=
  (by decide +kernel : ∀ n : Fin 16, Scf.trips (Scalar.addi 0#32 (Scalar.muli (Scalar.divsi (Scalar.subi
    (BitVec.ofNat 32 n.val) 0#32) 1#32) 1#32)) (Scalar.addi 0#32 (Scalar.subi (BitVec.ofNat 32 n.val) 0#32)) 1#32 = 0) (i 2)

theorem off1_eq (i : grid0.Coords) (k : Fin (k0_t1_loop i).trips) : k0_off1 i k = ![1024 * k.val, 0] := by
  have hk : k.val < 16 := lt_trans (lt_of_lt_of_eq k.isLt (trips1 i)) (i 2).isLt
  exact (by decide +kernel : ∀ n : Fin 16, (![(Scalar.indexCast (Scalar.muli (Scf.iv 0#32 1#32 n.val) 1024#32)).toNat, 0]
    : Fin 2 → ℕ) = ![1024 * n.val, 0]) ⟨k.val, hk⟩

theorem off2_eq (i : grid0.Coords) (k : Fin (k0_t1_loop i).trips) : k0_off2 i k = ![0, k.val, 0, 0] := by
  have hk : k.val < 16 := lt_trans (lt_of_lt_of_eq k.isLt (trips1 i)) (i 2).isLt
  exact (by decide +kernel : ∀ n : Fin 16, (![0, (Scalar.indexCast (Scf.iv 0#32 1#32 n.val)).toNat, 0, 0]
    : Fin 4 → ℕ) = ![0, n.val, 0, 0]) ⟨k.val, hk⟩

theorem off5_eq (i : grid0.Coords) : k0_off5 i = ![1024 * (i 2).val, 0] :=
  (by decide +kernel : ∀ n : Fin 16, (![(Scalar.indexCast (Scalar.muli (BitVec.ofNat 32 n.val) 1024#32)).toNat, 0]
    : Fin 2 → ℕ) = ![1024 * n.val, 0]) (i 2)

theorem off6_eq (i : grid0.Coords) : k0_off6 i = ![0, (i 2).val, 0, 0] :=
  (by decide +kernel : ∀ n : Fin 16, (![0, (Scalar.indexCast (BitVec.ofNat 32 n.val)).toNat, 0, 0]
    : Fin 4 → ℕ) = ![0, n.val, 0, 0]) (i 2)

theorem ld_key (x : Vec F S16384x128 .bf16) {off : Fin 2 → ℕ} (n : ℕ) (hn : n < 16) (h : off = ![1024 * n, 0])
    (inb : ∀ a, off a + S1024x128.size a ≤ S16384x128.size a) :
    View.ld x (Rect.unit off S1024x128.size inb) = keyTile x n := by
  subst h
  funext y
  have h0 : (y 0).val < 1024 := (y 0).isLt
  refine congrArg x (funext fun a => Fin.ext ?_)
  match a with
  | ⟨0, _⟩ =>
    show 1024 * n + 1 * (y 0).val = (1024 * n + (y 0).val) % 16384
    rw [Nat.mod_eq_of_lt (by omega)]; omega
  | ⟨1, _⟩ => show 0 + 1 * (y 1).val = (y 1).val; omega

theorem ld_val (x : Vec F S1x16x144x1024 .bf16) {off : Fin 4 → ℕ} (n : ℕ) (hn : n < 16) (h : off = ![0, n, 0, 0])
    (inb : ∀ a, off a + S1x1x144x1024.size a ≤ S1x16x144x1024.size a) :
    View.ld x (Rect.unit off S1x1x144x1024.size inb) = valTile x n := by
  subst h
  funext y
  have h0 : (y 0).val < 1 := (y 0).isLt
  have h1 : (y 1).val < 1 := (y 1).isLt
  refine congrArg x (funext fun a => Fin.ext ?_)
  match a with
  | ⟨0, _⟩ => show 0 + 1 * (y 0).val = 0; omega
  | ⟨1, _⟩ => show n + 1 * (y 1).val = n % 16; rw [Nat.mod_eq_of_lt hn]; omega
  | ⟨2, _⟩ => show 0 + 1 * (y 2).val = (y 2).val; omega
  | ⟨3, _⟩ => show 0 + 1 * (y 3).val = (y 3).val; omega

/-! ## The loop -/

/-- What one trip yields: the two new rows of maxima. -/
theorem trip_yield (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (k : Fin (k0_t1_loop i).trips) (acc : FVec F S1x1024 .f32 × FVec F S1x1024 .f32) (f : BufTy.Contents (Elt F) arg9.view.ty) :
    tripR_k0_t1 (F := F) Variants.none c none i arg3 harg3 arg4 harg4 arg5 harg5 arg6 harg6 arg7 harg7 arg8 harg8 arg9 harg9 v0 (harg4.unread x1) (harg5.unread x2) k acc f
      = (k0_pay5 (k0_pay21 v0) acc.1 (keyTile x1 k.val), k0_pay7 (k0_pay22 v0) acc.2 (keyTile x1 k.val)) := by
  have hk : k.val < 16 := lt_trans (lt_of_lt_of_eq k.isLt (trips1 i)) (i 2).isLt
  unfold tripR_k0_t1 trip_k0_t1
  dsimp only
  sl_unfold_words
  simp only [View.readAt_eq_ld, harg4.read_unread]
  exact congrArg (fun z => (k0_pay5 (k0_pay21 v0) acc.1 z, k0_pay7 (k0_pay22 v0) acc.2 z)) (ld_key x1 k.val hk (off1_eq i k) _)

/-- What one trip stores: the two new planes, over the planes it finds. -/
theorem trip_stores (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (k : Fin (k0_t1_loop i).trips) (acc : FVec F S1x1024 .f32 × FVec F S1x1024 .f32) (f : BufTy.Contents (Elt F) arg9.view.ty) :
    tripL_k0_t1 (F := F) Variants.none c none i arg3 harg3 arg4 harg4 arg5 harg5 arg6 harg6 arg7 harg7 arg8 harg8 arg9 harg9 v0 (harg4.unread x1) (harg5.unread x2) k acc f
      = [⟨Rect.unit ![1, 0, 0] S1x144x1024.size inb_S2x144x1024_S1x144x1024_1_0_0,
          k0_pay25 (k0_pay2 (valTile x2 k.val)) (k0_pay8 (k0_pay22 v0) acc.2 (keyTile x1 k.val))
            (k0_pay9 (plane1 (arg9.view.read (Elt F) f))) (k0_pay10 (k0_pay22 v0) acc.2 (keyTile x1 k.val))⟩,
        ⟨Rect.unit ![0, 0, 0] S1x144x1024.size inb_S2x144x1024_S1x144x1024_0_0_0,
          k0_pay6 (k0_pay21 v0) acc.1 (keyTile x1 k.val) (valTile x2 k.val) (plane0 (arg9.view.read (Elt F) f))⟩] := by
  have hk : k.val < 16 := lt_trans (lt_of_lt_of_eq k.isLt (trips1 i)) (i 2).isLt
  unfold tripL_k0_t1 trip_k0_t1
  dsimp only
  sl_unfold_words
  simp only [View.readAt_eq_ld, harg4.read_unread, harg5.read_unread]
  exact congrArg₂ (fun (z : Vec F S1024x128 .bf16) (u : Vec F S1x1x144x1024 .bf16) => ([⟨Rect.unit ![1, 0, 0] S1x144x1024.size inb_S2x144x1024_S1x144x1024_1_0_0,
          k0_pay25 (k0_pay2 u) (k0_pay8 (k0_pay22 v0) acc.2 z)
            (k0_pay9 (plane1 (arg9.view.read (Elt F) f))) (k0_pay10 (k0_pay22 v0) acc.2 z)⟩,
        ⟨Rect.unit ![0, 0, 0] S1x144x1024.size inb_S2x144x1024_S1x144x1024_0_0_0,
          k0_pay6 (k0_pay21 v0) acc.1 z u (plane0 (arg9.view.read (Elt F) f))⟩] : List (View.Piece (Elt F) S2x144x1024 .f32)))
    (ld_key x1 k.val hk (off1_eq i k) (k0_off1_inb i k)) (ld_val x2 k.val hk (off2_eq i k) (k0_off2_inb i k))

/-- Before trip `k` of the first loop the carried rows and the scratch planes are those of the state after `k` tiles. -/
theorem loop_state (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (G : BufTy.Contents (Elt F) arg9.view.ty) (hG : arg9.view.read (Elt F) G = k0_pay23) : ∀ k : ℕ, k ≤ (k0_t1_loop i).trips →
    (st_k0_t1 (F := F) Variants.none c none i arg3 harg3 arg4 harg4 arg5 harg5 arg6 harg6 arg7 harg7 arg8 harg8 arg9 harg9 v0 (harg4.unread x1) (harg5.unread x2) G (k0_pay24, k0_pay24) k).1
      = ((State.at v0 x1 x2 k).m0, (State.at v0 x1 x2 k).m1)
    ∧ plane0 (arg9.view.read (Elt F) (arg9.view.writes (Elt F) G
        (st_k0_t1 (F := F) Variants.none c none i arg3 harg3 arg4 harg4 arg5 harg5 arg6 harg6 arg7 harg7 arg8 harg8 arg9 harg9 v0 (harg4.unread x1) (harg5.unread x2) G (k0_pay24, k0_pay24) k).2)) = (State.at v0 x1 x2 k).a0
    ∧ plane1 (arg9.view.read (Elt F) (arg9.view.writes (Elt F) G
        (st_k0_t1 (F := F) Variants.none c none i arg3 harg3 arg4 harg4 arg5 harg5 arg6 harg6 arg7 harg7 arg8 harg8 arg9 harg9 v0 (harg4.unread x1) (harg5.unread x2) G (k0_pay24, k0_pay24) k).2)) = (State.at v0 x1 x2 k).a1
  | 0, _ => by
    refine ⟨rfl, ?_, ?_⟩
    · show plane0 (arg9.view.read (Elt F) (arg9.view.writes (Elt F) G [])) = plane0 k0_pay23
      rw [View.writes_nil, hG]
    · show plane1 (arg9.view.read (Elt F) (arg9.view.writes (Elt F) G [])) = plane1 k0_pay23
      rw [View.writes_nil, hG]
  | k + 1, hk => by
    obtain ⟨h1, h2, h3⟩ := loop_state c i arg3 harg3 arg4 harg4 arg5 harg5 arg6 harg6 arg7 harg7 arg8 harg8 arg9 harg9 v0 x1 x2 G hG k (Nat.le_of_succ_le hk)
    have e := st_k0_t1_succ (F := F) Variants.none c none i arg3 harg3 arg4 harg4 arg5 harg5 arg6 harg6 arg7 harg7 arg8 harg8 arg9 harg9 v0 (harg4.unread x1) (harg5.unread x2) G (k0_pay24, k0_pay24) ⟨k, hk⟩
    dsimp only at e
    rw [trip_yield, trip_stores, h1, h2, h3] at e
    rw [e]
    refine ⟨rfl, ?_, ?_⟩
    · exact (plane0_store1 _ _ _ _).trans (plane0_store0 _ _ _ _)
    · exact plane1_store1 _ _ _ _

/-! ## The diagonal tile and the output block -/

/-- The mask of the diagonal tile. -/
abbrev mask : IVec S1024x1024 1 :=
  k0_pay31 (iota .tc S1024x1024 32 [0] iota_S1024x1024_d0_w32) (iota .tc S1024x1024 32 [1] iota_S1024x1024_d1_w32) 64#32 k0_pay30

/-- The accumulators after the diagonal tile. -/
def last0 (q kb : Vec F S1024x128 .bf16) (vb : Vec F S1x1x144x1024 .bf16) (s : State F) : Vec F S1x144x1024 .f32 :=
  k0_pay32 s.m0 (k0_pay27 vb) (k0_pay28 q kb) mask s.a0
def last1 (q kb : Vec F S1024x128 .bf16) (vb : Vec F S1x1x144x1024 .bf16) (s : State F) : Vec F S1x144x1024 .f32 :=
  k0_pay33 s.m1 (k0_pay27 vb) (k0_pay29 q kb) mask s.a1

theorem st2_zero (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (w : BitVec 32) (X4 : BufTy.Contents (Elt F) arg4.view.ty) (X5 : BufTy.Contents (Elt F) arg5.view.ty)
    (G : BufTy.Contents (Elt F) arg9.view.ty) (init : FVec F S1x1024 .f32 × FVec F S1x1024 .f32) :
    st_k0_t2 (F := F) Variants.none c none i arg3 harg3 arg4 harg4 arg5 harg5 arg6 harg6 arg7 harg7 arg8 harg8 arg9 harg9 v0 w X4 X5 G init 0 = (init, []) := rfl

/-- The output block at one grid point, from the input blocks. -/
theorem out_eq (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole)
    (x0 : Vec F S1024x128 .bf16) (x1 : Vec F S16384x128 .bf16) (x2 : Vec F S1x16x144x1024 .bf16) (x3 : Vec F S4x64 .f32) (x4 : Vec F S128x1 .f32) :
    out0_A_5 (F := F) c i arg3 harg3 arg4 harg4 arg5 harg5 arg6 harg6 arg7 harg7 arg8 harg8 arg9 harg9 x0 x1 x2 x3 x4
      = k0_pay1 (k0_pay34 x3
          (last0 x0 (keyTile x1 (i 2).val) (valTile x2 (i 2).val) (State.at x0 x1 x2 (i 2).val))
          (last1 x0 (keyTile x1 (i 2).val) (valTile x2 (i 2).val) (State.at x0 x1 x2 (i 2).val))) x4 := by
  have hi : (i 2).val < 16 := (i 2).isLt
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  rw [View.canon_unit_zero (h := by funext a; fin_cases a <;> rfl)]
  sl_unfold_words
  simp only [View.readAt_eq_ld, harg3.read_unread, harg4.read_unread, harg5.read_unread, harg6.read_unread, harg7.read_unread, View.ld_unit_lit]
  have t1 : Scf.trips _ _ _ = _ := trips1 i
  have t2 : Scf.trips _ _ _ = _ := trips2 i
  dsimp only at t1 t2
  rw [t1, t2]
  have hx0 : View.ld x0 (Rect.unit ![0, 0] ![1024, 128] inb_S1024x128_S1024x128_0_0) = x0 := View.ld_unit_lit _ _ (by decide)
  have hx3 : View.ld x3 (Rect.unit ![0, 0] ![4, 64] inb_S4x64_S4x64_0_0) = x3 := View.ld_unit_lit _ _ (by decide)
  have hx4 : View.ld x4 (Rect.unit ![0, 0] ![128, 1] inb_S128x1_S128x1_0_0) = x4 := View.ld_unit_lit _ _ (by decide)
  simp only [st2_zero, List.nil_append, hx0, hx3, hx4]
  obtain ⟨h1, h2, h3⟩ := loop_state c i arg3 harg3 arg4 harg4 arg5 harg5 arg6 harg6 arg7 harg7 arg8 harg8 arg9 harg9 x0 x1 x2 (arg9.view.writes (Elt F) arg9.view.junk
    [⟨Rect.unit ![0, 0, 0] S2x144x1024.size inb_S2x144x1024_S2x144x1024_0_0_0, k0_pay23⟩])
    (View.read_writes_full _ _ _ _ _) (i 2).val (trips1 i).ge
  generalize st_k0_t1 (F := F) Variants.none c none i arg3 harg3 arg4 harg4 arg5 harg5 arg6 harg6 arg7 harg7 arg8 harg8 arg9 harg9 x0 (harg4.unread x1) (harg5.unread x2) (arg9.view.writes (Elt F) arg9.view.junk
    [⟨Rect.unit ![0, 0, 0] S2x144x1024.size inb_S2x144x1024_S2x144x1024_0_0_0, k0_pay23⟩]) (k0_pay24, k0_pay24) (i 2).val = st at h1 h2 h3 ⊢
  rw [st2_zero]
  have e0 : st.1.1 = (State.at x0 x1 x2 (i 2).val).m0 := congrArg Prod.fst h1
  have e1 : st.1.2 = (State.at x0 x1 x2 (i 2).val).m1 := congrArg Prod.snd h1
  have e5 := ld_key x1 (i 2).val hi (off5_eq i) (k0_off5_inb i)
  have e6 := ld_val x2 (i 2).val hi (off6_eq i) (k0_off6_inb i)
  unfold last0 last1
  rw [← e0, ← e1, ← h2, ← h3, ← e5, ← e6]
  rw [← load0, ← load1 (w := k0_pay32 st.1.1 (k0_pay27 (View.ld x2 (Rect.unit (k0_off6 i) S1x1x144x1024.size (k0_off6_inb i))))
    (k0_pay28 x0 (View.ld x1 (Rect.unit (k0_off5 i) S1024x128.size (k0_off5_inb i)))) mask
    (arg9.view.readCov (st.2 ++ [clear k0_pay23]) (Rect.unit (s := S2x144x1024) ![0, 0, 0] S1x144x1024.size inb_S2x144x1024_S1x144x1024_0_0_0).toLoadRect))]
  refine congrArg (fun u => k0_pay1 u x4) (congrArg₂ (k0_pay34 x3) ?_ ?_)
  · exact loadEnd0 _ _ _ _
  · exact loadEnd1 _ _ _

end Cert.Kernel3Ideal.Attn

end
-- ==== Proof.AttnHost.lean ====
/-
  The differential attention kernel (`kernel3`): what each block holds, in terms of the arguments.

  Point `t` of the 2 × 6 × 16 grid is sequence t / 96, head t / 16 % 6, query tile t % 16.
-/
module

public import proofs.«01_k».proof.Proof.AttnBody

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.Kernel3Ideal.Attn

variable (m : (ℓ : Loc nD τ sig) → Buf (Elt Ideal) ℓ)

/-- The block that each window has at point `t`. -/
theorem idx_val : ∀ t : Fin cfg0.N, win0_0.index t = ![t.val / 96 * 16 + t.val % 16, t.val / 16 % 6]
    ∧ win0_1.index t = ![t.val / 96, 6 + t.val / 16 % 6]
    ∧ win0_2.index t = ![t.val / 96 * 6 + t.val / 16 % 6, 0, 0, 0]
    ∧ win0_3.index t = ![0, 0] ∧ win0_4.index t = ![0, 0]
    ∧ win0_5.index t = ![t.val / 96 * 16 + t.val % 16, t.val / 16 % 6]
    ∧ (grid0.coords t 2).val = t.val % 16 ∧ t.val / 96 < 2 :=
  (by decide +kernel : ∀ t : Fin grid0.N, _)

/-- The four vectors stacked. -/
def lamRows (l1 l2 l3 l4 : FVec Ideal S64 .f32) : FVec Ideal S4x64 .f32 :=
  concatenate S4x64 0 [⟨S1x64, (broadcastInDim S1x64 ![1] bcast_S64_S1x64_1 l1 : FVec Ideal S1x64 .f32)⟩,
    ⟨S1x64, (broadcastInDim S1x64 ![1] bcast_S64_S1x64_1 l2 : FVec Ideal S1x64 .f32)⟩,
    ⟨S1x64, (broadcastInDim S1x64 ![1] bcast_S64_S1x64_1 l3 : FVec Ideal S1x64 .f32)⟩,
    ⟨S1x64, (broadcastInDim S1x64 ![1] bcast_S64_S1x64_1 l4 : FVec Ideal S1x64 .f32)⟩] concatenates_S1x64_S1x64_S1x64_S1x64_S4x64_d0

/-- The values transposed tile by tile, over a row of ones and 15 rows of zeros. -/
def valTiles (v : FVec Ideal S32768x768 .bf16) : FVec Ideal S12x16x144x1024 .bf16 :=
  concatenate S12x16x144x1024 2
    [⟨S12x16x128x1024, (shapeCast S12x16x128x1024 (transpose S2x6x16x128x1024 [0, 3, 1, 4, 2] (shapeCast S2x16x1024x6x128 v shapeCasts_S32768x768_S2x16x1024x6x128) transposes_S2x16x1024x6x128_S2x6x16x128x1024_0_3_1_4_2) shapeCasts_S2x6x16x128x1024_S12x16x128x1024 : FVec Ideal S12x16x128x1024 .bf16)⟩,
      ⟨S12x16x1x1024, (broadcastInDim S12x16x1x1024 ![] bcast_S_S12x16x1x1024 (constant S_ .bf16 0x3F80#16) : FVec Ideal S12x16x1x1024 .bf16)⟩,
      ⟨S12x16x15x1024, (broadcastInDim S12x16x15x1024 ![] bcast_S_S12x16x15x1024 (constant S_ .bf16 0x0000#16) : FVec Ideal S12x16x15x1024 .bf16)⟩] concatenates_S12x16x128x1024_S12x16x1x1024_S12x16x15x1024_S12x16x144x1024_d2

theorem lamRows_apply (l1 l2 l3 l4 : FVec Ideal S64 .f32) (k : Fin 64) :
    lamRows l1 l2 l3 l4 (ix2 0 k) = l1 (ix1 k) ∧ lamRows l1 l2 l3 l4 (ix2 1 k) = l2 (ix1 k)
    ∧ lamRows l1 l2 l3 l4 (ix2 2 k) = l3 (ix1 k) ∧ lamRows l1 l2 l3 l4 (ix2 3 k) = l4 (ix1 k) := by
  refine ⟨?_, ?_, ?_, ?_⟩ <;> pointwise [lamRows]

/-- Four rows stacked are as the rows are. -/
theorem stack_congr {a a' b b' c c' d d' : FVec Ideal S1x64 .f32} (ha : a = a') (hb : b = b') (hc : c = c') (hd : d = d') :
    concatenate S4x64 0 [⟨S1x64, a⟩, ⟨S1x64, b⟩, ⟨S1x64, c⟩, ⟨S1x64, d⟩] concatenates_S1x64_S1x64_S1x64_S1x64_S4x64_d0
      = concatenate S4x64 0 [⟨S1x64, a'⟩, ⟨S1x64, b'⟩, ⟨S1x64, c'⟩, ⟨S1x64, d'⟩] concatenates_S1x64_S1x64_S1x64_S1x64_S4x64_d0 := by
  rw [ha, hb, hc, hd]

/-- Values, ones and zeros stacked are as the three are. -/
theorem tiles_congr {a a' : FVec Ideal S12x16x128x1024 .bf16} {b b' : FVec Ideal S12x16x1x1024 .bf16}
    {c c' : FVec Ideal S12x16x15x1024 .bf16} (ha : a = a') (hb : b = b') (hc : c = c') :
    concatenate S12x16x144x1024 2 [⟨S12x16x128x1024, a⟩, ⟨S12x16x1x1024, b⟩, ⟨S12x16x15x1024, c⟩]
        concatenates_S12x16x128x1024_S12x16x1x1024_S12x16x15x1024_S12x16x144x1024_d2
      = concatenate S12x16x144x1024 2 [⟨S12x16x128x1024, a'⟩, ⟨S12x16x1x1024, b'⟩, ⟨S12x16x15x1024, c'⟩]
        concatenates_S12x16x128x1024_S12x16x1x1024_S12x16x15x1024_S12x16x144x1024_d2 := by
  rw [ha, hb, hc]

/-- The region finds the vectors stacked. -/
theorem V_lam (c : Dev nD) : V m c main_v4 = lamRows (m ((c : Thread nD τ).loc main_arg2)) (m ((c : Thread nD τ).loc main_arg3))
    (m ((c : Thread nD τ).loc main_arg4)) (m ((c : Thread nD τ).loc main_arg5)) := by
  change StableHlo.after hostOps0 (fun b => m (c, b)) (Proc.devRef .tc main_v4) = _
  simp only [StableHlo.after_cons, StableHlo.after_nil]
  rw [StableHlo.reshape_result_ne]; rotate_left; decide
  rw [StableHlo.nary_result_ne]; rotate_left; decide
  rw [StableHlo.unary_result_ne]; rotate_left; decide
  rw [StableHlo.nullary_result_ne]; rotate_left; decide
  rw [StableHlo.unary_result_ne]; rotate_left; decide
  rw [StableHlo.nullary_result_ne]; rotate_left; decide
  rw [StableHlo.reshape_result_ne]; rotate_left; decide
  rw [StableHlo.unary_result_ne]; rotate_left; decide
  rw [StableHlo.reshape_result_ne]; rotate_left; decide
  rw [StableHlo.nary_result]
  refine stack_congr ?_ ?_ ?_ ?_
  · refine (StableHlo.unary_result_ne (r := main_v0) _ _ _ _ _ _ (by decide)).trans ?_
    refine (StableHlo.unary_result_ne (r := main_v0) _ _ _ _ _ _ (by decide)).trans ?_
    refine (StableHlo.unary_result_ne (r := main_v0) _ _ _ _ _ _ (by decide)).trans ?_
    refine (StableHlo.unary_result _ _ _ _ _ _).trans ?_
    rfl
  · refine (StableHlo.unary_result_ne (r := main_v1) _ _ _ _ _ _ (by decide)).trans ?_
    refine (StableHlo.unary_result_ne (r := main_v1) _ _ _ _ _ _ (by decide)).trans ?_
    refine (StableHlo.unary_result _ _ _ _ _ _).trans ?_
    rw [StableHlo.unary_result_ne]; rotate_left; decide
  · refine (StableHlo.unary_result_ne (r := main_v2) _ _ _ _ _ _ (by decide)).trans ?_
    refine (StableHlo.unary_result _ _ _ _ _ _).trans ?_
    rw [StableHlo.unary_result_ne]; rotate_left; decide
    rw [StableHlo.unary_result_ne]; rotate_left; decide
  · refine (StableHlo.unary_result _ _ _ _ _ _).trans ?_
    rw [StableHlo.unary_result_ne]; rotate_left; decide
    rw [StableHlo.unary_result_ne]; rotate_left; decide
    rw [StableHlo.unary_result_ne]; rotate_left; decide

/-- The region finds the values transposed. -/
theorem V_vals (c : Dev nD) : V m c main_v10 = valTiles (m ((c : Thread nD τ).loc main_arg1)) := by
  change StableHlo.after hostOps0 (fun b => m (c, b)) (Proc.devRef .tc main_v10) = _
  simp only [StableHlo.after_cons, StableHlo.after_nil]
  rw [StableHlo.reshape_result_ne]; rotate_left; decide
  rw [StableHlo.nary_result]
  refine tiles_congr ?_ ?_ ?_
  · refine (StableHlo.unary_result_ne (r := main_v7) _ _ _ _ _ _ (by decide)).trans ?_
    refine (StableHlo.nullary_result_ne (r := main_v7) _ _ _ _ (by decide)).trans ?_
    refine (StableHlo.unary_result_ne (r := main_v7) _ _ _ _ _ _ (by decide)).trans ?_
    refine (StableHlo.nullary_result_ne (r := main_v7) _ _ _ _ (by decide)).trans ?_
    refine (StableHlo.reshape_result _ _ _ _ _ _ _).trans ?_
    rw [StableHlo.unary_result, StableHlo.reshape_result]
    rw [StableHlo.nary_result_ne]; rotate_left; decide
    rw [StableHlo.unary_result_ne]; rotate_left; decide
    rw [StableHlo.unary_result_ne]; rotate_left; decide
    rw [StableHlo.unary_result_ne]; rotate_left; decide
    rw [StableHlo.unary_result_ne]; rotate_left; decide
    rfl
  · refine (StableHlo.unary_result_ne (r := main_v8) _ _ _ _ _ _ (by decide)).trans ?_
    refine (StableHlo.nullary_result_ne (r := main_v8) _ _ _ _ (by decide)).trans ?_
    refine (StableHlo.unary_result _ _ _ _ _ _).trans ?_
    rw [StableHlo.nullary_result]
  · refine (StableHlo.unary_result _ _ _ _ _ _).trans ?_
    rw [StableHlo.nullary_result]

/-- The gain as a column, at an index. -/
theorem V_gain (c : Dev nD) (d : Fin 128) :
    (V m c main_v11 : FVec Ideal S128x1 .f32) (ix2 d 0) = (m ((c : Thread nD τ).loc main_arg6) : FVec Ideal S128 .f32) (ix1 d) := by
  entry_read
  pointwise

/-- The transposed values at an index: rows 0 … 127 are the head's lanes. -/
theorem vals_apply (v : FVec Ideal S32768x768 .bf16) (r : Fin 12) (s : Fin 16) (d : Fin 128) (k : Fin 1024) :
    valTiles v (ix4 r s ⟨d.val, by omega⟩ k)
      = v (ix2 ⟨r.val / 6 * 16384 + s.val * 1024 + k.val, by omega⟩ ⟨r.val % 6 * 128 + d.val, by omega⟩) := by
  pointwise [valTiles]

/-- Row 128 is ones. -/
theorem ones_apply (v : FVec Ideal S32768x768 .bf16) (r : Fin 12) (s : Fin 16) (k : Fin 1024) :
    (valTiles v (ix4 r s 128 k) : EReal) = 1 := by
  pointwise [valTiles]

/-- Rows 129 … 143 are zeros. -/
theorem zeros_apply (v : FVec Ideal S32768x768 .bf16) (r : Fin 12) (s : Fin 16) (d : Fin 15) (k : Fin 1024) :
    (valTiles v (ix4 r s ⟨129 + d.val, by omega⟩ k) : EReal) = 0 := by
  pointwise [valTiles]
  rw [dif_neg (by omega), dif_neg (by omega)]

/-- Point `t`'s queries. -/
theorem blk_q (c : Dev nD) (t : Fin cfg0.N) (j : Fin 1024) (d : Fin 128) :
    (iblk m c 0 t : FVec Ideal S1024x128 .bf16) (ix2 j d) = (m ((c : Thread nD τ).loc main_arg0) : FVec Ideal S32768x1536 .bf16)
      (ix2 ⟨(t.val / 96 * 16 + t.val % 16) * 1024 + j.val, by have := (idx_val t).2.2.2.2.2.2.2; omega⟩ ⟨t.val / 16 % 6 * 128 + d.val, by omega⟩) := by
  blk_ext [iblk, V, idx_val t]

/-- Point `t`'s keys. -/
theorem blk_k (c : Dev nD) (t : Fin cfg0.N) (n : Fin 16384) (d : Fin 128) :
    (iblk m c 1 t : FVec Ideal S16384x128 .bf16) (ix2 n d) = (m ((c : Thread nD τ).loc main_arg0) : FVec Ideal S32768x1536 .bf16)
      (ix2 ⟨t.val / 96 * 16384 + n.val, by have := (idx_val t).2.2.2.2.2.2.2; omega⟩ ⟨(6 + t.val / 16 % 6) * 128 + d.val, by omega⟩) := by
  blk_ext [iblk, V, idx_val t]

/-- Point `t`'s values. -/
theorem blk_v (c : Dev nD) (t : Fin cfg0.N) (s : Fin 16) (d : Fin 144) (k : Fin 1024) :
    (iblk m c 2 t : FVec Ideal S1x16x144x1024 .bf16) (ix4 0 s d k) = (V m c main_v10 : FVec Ideal S12x16x144x1024 .bf16)
      (ix4 ⟨t.val / 96 * 6 + t.val / 16 % 6, by have := (idx_val t).2.2.2.2.2.2.2; omega⟩ s d k) := by
  blk_ext [iblk, idx_val t]

/-- Point `t`'s lambda vectors. -/
theorem blk_lam (c : Dev nD) (t : Fin cfg0.N) (r : Fin 4) (k : Fin 64) :
    (iblk m c 3 t : FVec Ideal S4x64 .f32) (ix2 r k) = (V m c main_v4 : FVec Ideal S4x64 .f32) (ix2 r k) := by
  blk_ext [iblk, idx_val t]

/-- Point `t`'s gain. -/
theorem blk_gain (c : Dev nD) (t : Fin cfg0.N) (d : Fin 128) :
    (iblk m c 4 t : FVec Ideal S128x1 .f32) (ix2 d 0) = (V m c main_v11 : FVec Ideal S128x1 .f32) (ix2 d 0) := by
  blk_ext [iblk, idx_val t]

end Cert.Kernel3Ideal.Attn
-- ==== Proof.AttnStep.lean ====
/-
  The differential attention kernel (`kernel3`) at the ideal instance: each value of its body, at an index.

  For one query column and one attention map, a key tile takes a running maximum `m` and an accumulator entry `a` to
  `newMax m σ` and `newAcc m a σ w`, where `σ` are the tile's scores and `w` its values. The diagonal tile does the
  same with the scores of later chunks replaced by −∞.
-/
module

public import proofs.«01_k».proof.Proof.AttnBody

@[expose] public section

set_option maxRecDepth 16384

noncomputable section

open Idealize.ShloMosaic Idealize.ShloMosaic.TcCoe Idealize.SL.Sem
open Cert.Kernel3Ideal Cert.Kernel3Ideal.Gen

namespace Cert.Kernel3Ideal.Attn

/-- The running maximum after a tile with scores `σ`. -/
def newMax (m : EReal) (σ : Fin 1024 → EReal) : EReal :=
  max m (Finset.univ.fold max ⊥ σ)

/-- An accumulator entry after a tile with scores `σ` and values `w`. -/
def newAcc (m a : EReal) (σ w : Fin 1024 → EReal) : EReal :=
  Ideal.exp2 (m - newMax m σ) * a + ∑ k, w k * Ideal.exp2 (σ k - newMax m σ)

/-- A score: query row `j` against key row `k`, over the 128 lanes. -/
def score (q kb : Vec Ideal S1024x128 .bf16) (j k : Fin 1024) : EReal :=
  ∑ d : Fin 128, (kb (ix2 k d) : EReal) * q (ix2 j d)

/-- The word 0xFF800000 is −∞. -/
theorem negInf : Ideal.ofBits .f32 4286578688#32 = ⊥ := by
  simp [Ideal.ofBits, Ideal.ieee]

theorem lane_lt : ∀ d : Fin 128, IntOp.cmpi .slt (BitVec.ofNat 32 d.val) 64#32 = 1 ↔ d.val < 64 := by
  decide +kernel

theorem lane_ge : ∀ d : Fin 128, IntOp.cmpi .sge (BitVec.ofNat 32 d.val) 64#32 = 1 ↔ 64 ≤ d.val := by
  decide +kernel

/-- The queries of the first map: lanes 64 … 127 are zero. -/
theorem queries0_apply (q : Vec Ideal S1024x128 .bf16) (j : Fin 1024) (d : Fin 128) :
    (k0_pay21 q (ix2 j d) : EReal) = if d.val < 64 then q (ix2 j d) else 0 := by
  pointwise [k0_pay21, k0_pay20]
  exact if_congr (lane_lt d) rfl rfl

/-- The queries of the second map: lanes 0 … 63 are zero. -/
theorem queries1_apply (q : Vec Ideal S1024x128 .bf16) (j : Fin 1024) (d : Fin 128) :
    (k0_pay22 q (ix2 j d) : EReal) = if 64 ≤ d.val then q (ix2 j d) else 0 := by
  pointwise [k0_pay22, k0_pay20]
  exact if_congr (lane_ge d) rfl rfl

theorem max0_apply (q kb : Vec Ideal S1024x128 .bf16) (m : FVec Ideal S1x1024 .f32) (j : Fin 1024) :
    (k0_pay5 q m kb (ix2 0 j) : EReal) = newMax (m (ix2 0 j)) (score q kb j) := by
  pointwise [k0_pay5, k0_pay3, newMax, score]
  simp only [negInf]

theorem max1_apply (q kb : Vec Ideal S1024x128 .bf16) (m : FVec Ideal S1x1024 .f32) (j : Fin 1024) :
    (k0_pay7 q m kb (ix2 0 j) : EReal) = newMax (m (ix2 0 j)) (score q kb j) := by
  pointwise [k0_pay7, k0_pay4, newMax, score]
  simp only [negInf]

theorem acc0_apply (q kb : Vec Ideal S1024x128 .bf16) (m : FVec Ideal S1x1024 .f32) (vb : Vec Ideal S1x1x144x1024 .bf16)
    (a : Vec Ideal S1x144x1024 .f32) (d : Fin 144) (j : Fin 1024) :
    (k0_pay6 q m kb vb a (ix3 0 d j) : EReal)
      = newAcc (m (ix2 0 j)) (a (ix3 0 d j)) (score q kb j) (fun k => vb (ix4 0 0 d k)) := by
  pointwise [k0_pay6, k0_pay5, k0_pay3, k0_pay2, newAcc, newMax, score]
  simp only [negInf]
  rfl

theorem acc1_apply (q kb : Vec Ideal S1024x128 .bf16) (m : FVec Ideal S1x1024 .f32) (vb : Vec Ideal S1x1x144x1024 .bf16)
    (a : Vec Ideal S1x144x1024 .f32) (d : Fin 144) (j : Fin 1024) :
    (k0_pay25 (k0_pay2 vb) (k0_pay8 q m kb) (k0_pay9 a) (k0_pay10 q m kb) (ix3 0 d j) : EReal)
      = newAcc (m (ix2 0 j)) (a (ix3 0 d j)) (score q kb j) (fun k => vb (ix4 0 0 d k)) := by
  pointwise [k0_pay25, k0_pay8, k0_pay9, k0_pay10, k0_pay7, k0_pay4, k0_pay2, newAcc, newMax, score]
  simp only [negInf]
  rfl

/-- The diagonal tile: the scores where the mask holds, −∞ elsewhere. -/
theorem diag0_apply (q kb : Vec Ideal S1024x128 .bf16) (mk : IVec S1024x1024 1) (m : FVec Ideal S1x1024 .f32)
    (vb : Vec Ideal S1x1x144x1024 .bf16) (a : Vec Ideal S1x144x1024 .f32) (d : Fin 144) (j : Fin 1024) :
    (k0_pay32 m (k0_pay27 vb) (k0_pay28 q kb) mk a (ix3 0 d j) : EReal)
      = newAcc (m (ix2 0 j)) (a (ix3 0 d j))
          (fun k => if mk (ix2 k j) = 1#1 then score (k0_pay21 q) kb j k else ⊥) (fun k => vb (ix4 0 0 d k)) := by
  pointwise [k0_pay32, k0_pay27, k0_pay28, newAcc, newMax, score]
  simp only [negInf]
  rfl

theorem diag1_apply (q kb : Vec Ideal S1024x128 .bf16) (mk : IVec S1024x1024 1) (m : FVec Ideal S1x1024 .f32)
    (vb : Vec Ideal S1x1x144x1024 .bf16) (a : Vec Ideal S1x144x1024 .f32) (d : Fin 144) (j : Fin 1024) :
    (k0_pay33 m (k0_pay27 vb) (k0_pay29 q kb) mk a (ix3 0 d j) : EReal)
      = newAcc (m (ix2 0 j)) (a (ix3 0 d j))
          (fun k => if mk (ix2 k j) = 1#1 then score (k0_pay22 q) kb j k else ⊥) (fun k => vb (ix4 0 0 d k)) := by
  pointwise [k0_pay33, k0_pay27, k0_pay29, newAcc, newMax, score]
  simp only [negInf]
  rfl

end Cert.Kernel3Ideal.Attn
-- ==== Proof.AttnReal.lean ====
/-
  The running softmax in real numbers: what one tile does to a running maximum and an accumulator.

  The accumulator holds a sum of values times 2^score, scaled by 2^(−M) for whatever real `M` the running maximum is.
  The scale cancels in the quotient of two accumulators, so nothing here needs `M` to be the largest score.
-/
module

public import proofs.«01_k».proof.Proof.AttnStep

@[expose] public section

set_option maxRecDepth 16384

noncomputable section

open Idealize.ShloMosaic

namespace Cert.Kernel3Ideal.Attn

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many extended reals is real when none is ⊤ and one is not ⊥. -/
theorem fold_max_real {ι : Type} [Fintype ι] (σ : ι → EReal) (ht : ∀ k, σ k ≠ ⊤) (hb : ∃ k, σ k ≠ ⊥) :
    ∃ M : ℝ, Finset.univ.fold max ⊥ σ = (M : EReal) := by
  have h1 : Finset.univ.fold max ⊥ σ < (⊤ : EReal) :=
    (Finset.fold_max_lt _).mpr ⟨bot_lt_top, fun k _ => lt_top_iff_ne_top.mpr (ht k)⟩
  have h2 : (⊥ : EReal) < Finset.univ.fold max ⊥ σ := by
    obtain ⟨k, hk⟩ := hb
    exact (Finset.lt_fold_max _).mpr (.inr ⟨k, Finset.mem_univ k, bot_lt_iff_ne_bot.mpr hk⟩)
  exact ⟨_, (EReal.coe_toReal h1.ne h2.ne').symm⟩

/-- Scores where `vis` holds, −∞ elsewhere. -/
def seen {ι : Type} (vis : ι → Prop) [DecidablePred vis] (S : ι → ℝ) (k : ι) : EReal :=
  if vis k then (S k : EReal) else ⊥

/-- Two to the score where `vis` holds, 0 elsewhere. -/
def power {ι : Type} (vis : ι → Prop) [DecidablePred vis] (S : ι → ℝ) (k : ι) : ℝ :=
  if vis k then Real.rpow 2 (S k) else 0

theorem seen_max {ι : Type} [Fintype ι] (vis : ι → Prop) [DecidablePred vis] (S : ι → ℝ) (h : ∃ k, vis k) :
    ∃ M : ℝ, Finset.univ.fold max ⊥ (seen vis S) = (M : EReal) := by
  refine fold_max_real _ (fun k => ?_) ?_
  · unfold seen; split <;> simp
  · obtain ⟨k, hk⟩ := h
    exact ⟨k, by simp [seen, hk]⟩

theorem rpow_sub (a b : ℝ) : Real.rpow 2 (a - b) = Real.rpow 2 (-b) * Real.rpow 2 a := by
  show (2 : ℝ) ^ (a - b) = 2 ^ (-b) * 2 ^ a
  rw [← Real.rpow_add (by norm_num)]
  congr 1
  ring

theorem exp2_seen {ι : Type} (vis : ι → Prop) [DecidablePred vis] (S : ι → ℝ) (k : ι) (M : ℝ) :
    Ideal.exp2 (seen vis S k - (M : EReal)) = ((Real.rpow 2 (-M) * power vis S k : ℝ) : EReal) := by
  unfold seen power
  split
  · rw [← EReal.coe_sub, Ideal.exp2_coe, rpow_sub]
  · rw [EReal.bot_sub, Ideal.exp2_bot]; simp

/-- A running maximum `m` and an accumulator entry `a` that stand for the sum `T`: nothing yet, or `T` scaled. -/
def Holds (m a : EReal) (T : ℝ) : Prop :=
  (m = ⊥ ∧ a = 0 ∧ T = 0) ∨ ∃ M : ℝ, m = (M : EReal) ∧ a = ((Real.rpow 2 (-M) * T : ℝ) : EReal)

theorem carry (m a : EReal) (T M' : ℝ) (h : Holds m a T) :
    Ideal.exp2 (m - (M' : EReal)) * a = ((Real.rpow 2 (-M') * T : ℝ) : EReal) := by
  rcases h with ⟨rfl, rfl, rfl⟩ | ⟨M, rfl, rfl⟩
  · simp
  · rw [← EReal.coe_sub, Ideal.exp2_coe, ← EReal.coe_mul]
    congr 1
    rw [← mul_assoc]
    congr 1
    show (2 : ℝ) ^ (M - M') * 2 ^ (-M) = 2 ^ (-M')
    rw [← Real.rpow_add (by norm_num)]
    congr 1
    ring

theorem max_real (m a : EReal) (T : ℝ) (h : Holds m a T) (M : ℝ) : ∃ M' : ℝ, max m (M : EReal) = (M' : EReal) := by
  rcases h with ⟨rfl, -, -⟩ | ⟨N, rfl, -⟩
  · exact ⟨M, by simp⟩
  · exact ⟨max N M, (EReal.coe_strictMono.monotone.map_max).symm⟩

/-- One tile adds its values times 2^score. -/
theorem tile (m a : EReal) (T : ℝ) (h : Holds m a T) (vis : Fin 1024 → Prop) [DecidablePred vis] (hv : ∃ k, vis k)
    (S W : Fin 1024 → ℝ) :
    Holds (newMax m (seen vis S)) (newAcc m a (seen vis S) fun k => (W k : EReal)) (T + ∑ k, W k * power vis S k)
    ∧ ∃ M : ℝ, newMax m (seen vis S) = (M : EReal) := by
  obtain ⟨M, hM⟩ := seen_max vis S hv
  obtain ⟨M', hM'⟩ := max_real m a T h M
  have hm : newMax m (seen vis S) = (M' : EReal) := by rw [newMax, hM, hM']
  refine ⟨.inr ⟨M', hm, ?_⟩, M', hm⟩
  unfold newAcc
  rw [hm, carry m a T M' h]
  have hs : (∑ k, (W k : EReal) * Ideal.exp2 (seen vis S k - (M' : EReal)))
      = ((Real.rpow 2 (-M') * ∑ k, W k * power vis S k : ℝ) : EReal) := by
    rw [Finset.mul_sum, coe_sum]
    refine Finset.sum_congr rfl fun k _ => ?_
    rw [exp2_seen, ← EReal.coe_mul]
    congr 1
    ring
  rw [hs, ← EReal.coe_add, ← mul_add]

/-- The quotient of two accumulators over one running maximum is the quotient of the sums they stand for. -/
theorem quotient (m a b : EReal) (A B : ℝ) (ha : Holds m a A) (hb : Holds m b B) (hm : ∃ M : ℝ, m = (M : EReal)) (hB : B ≠ 0) :
    Ideal.div a b = ((A / B : ℝ) : EReal) := by
  obtain ⟨M, hm⟩ := hm
  have key : ∀ {x : EReal} {X : ℝ}, Holds m x X → x = ((Real.rpow 2 (-M) * X : ℝ) : EReal) := by
    rintro x X (⟨h, -, -⟩ | ⟨N, h, hx⟩)
    · rw [hm] at h; exact absurd h (EReal.coe_ne_bot M)
    · rw [hm] at h; rw [EReal.coe_injective h]; exact hx
  have hp : Real.rpow 2 (-M) ≠ 0 := (Real.rpow_pos_of_pos (by norm_num : (0 : ℝ) < 2) (-M)).ne'
  rw [key ha, key hb, Ideal.div_coe (mul_ne_zero hp hB), ← EReal.coe_mul]
  congr 1
  field_simp

theorem power_pos {ι : Type} [Fintype ι] (vis : ι → Prop) [DecidablePred vis] (S : ι → ℝ) (h : ∃ k, vis k) :
    0 < ∑ k, power vis S k := by
  obtain ⟨k, hk⟩ := h
  have hp : ∀ x : ℝ, 0 < Real.rpow 2 x := fun x => Real.rpow_pos_of_pos (by norm_num) x
  refine Finset.sum_pos' (fun i _ => ?_) ⟨k, Finset.mem_univ k, ?_⟩
  · unfold power; split
    · exact (hp _).le
    · exact le_refl 0
  · simp only [power, hk, if_true]; exact hp _

/-! ## The whole softmax at once, as the reference takes it -/

/-- Two to the power of a score less the maximum. -/
theorem pow_seen {ι : Type} (vis : ι → Prop) [DecidablePred vis] (S : ι → ℝ) (k : ι) (M : ℝ) :
    Ideal.pow ((2 : ℝ) : EReal) (seen vis S k - (M : EReal)) = ((Real.rpow 2 (-M) * power vis S k : ℝ) : EReal) := by
  unfold seen power
  split
  · rw [← EReal.coe_sub, Ideal.pow_coe_coe, rpow_sub]
  · rw [EReal.bot_sub, Ideal.pow_coe_bot]; norm_num

/-- A weight over its row's sum. -/
theorem prob {ι : Type} [Fintype ι] (vis : ι → Prop) [DecidablePred vis] (S : ι → ℝ) (h : ∃ k, vis k) (k : ι) :
    Ideal.div (Ideal.pow ((2 : ℝ) : EReal) (seen vis S k - Finset.univ.fold max ⊥ (seen vis S)))
        (∑ n, Ideal.pow ((2 : ℝ) : EReal) (seen vis S n - Finset.univ.fold max ⊥ (seen vis S)))
      = ((power vis S k / ∑ n, power vis S n : ℝ) : EReal) := by
  obtain ⟨M, hM⟩ := seen_max vis S h
  have hp : Real.rpow 2 (-M) ≠ 0 := (Real.rpow_pos_of_pos (by norm_num : (0 : ℝ) < 2) (-M)).ne'
  have hB := (power_pos vis S h).ne'
  simp only [hM, pow_seen]
  rw [← coe_sum, ← Finset.mul_sum, Ideal.div_coe (mul_ne_zero hp hB), ← EReal.coe_mul]
  congr 1
  field_simp

/-- The weighted mean of `W` with weights 2^score over what is seen. -/
def mean {ι : Type} [Fintype ι] (vis : ι → Prop) [DecidablePred vis] (S W : ι → ℝ) : ℝ :=
  (∑ n, W n * power vis S n) / ∑ n, power vis S n

/-- The values against the difference of two maps. -/
theorem mix_mean {ι : Type} [Fintype ι] (vis : ι → Prop) [DecidablePred vis] (S0 S1 W : ι → ℝ) (l : ℝ) :
    (∑ n, (W n : EReal) * (((power vis S0 n / ∑ k, power vis S0 k : ℝ) : EReal)
        - (l : EReal) * ((power vis S1 n / ∑ k, power vis S1 k : ℝ) : EReal)))
      = ((mean vis S0 W - l * mean vis S1 W : ℝ) : EReal) := by
  have : ∀ n, (W n : EReal) * (((power vis S0 n / ∑ k, power vis S0 k : ℝ) : EReal)
        - (l : EReal) * ((power vis S1 n / ∑ k, power vis S1 k : ℝ) : EReal))
      = ((W n * power vis S0 n / (∑ k, power vis S0 k) - l * (W n * power vis S1 n / ∑ k, power vis S1 k) : ℝ) : EReal) := by
    intro n
    rw [← EReal.coe_mul, ← EReal.coe_sub, ← EReal.coe_mul]
    congr 1
    ring
  simp only [this]
  rw [← coe_sum]
  congr 1
  rw [Finset.sum_sub_distrib, ← Finset.mul_sum, ← Finset.sum_div, ← Finset.sum_div]
  rfl

/-- The positions before tile `i`, and those of tile `i` in chunks up to that of row `j`, are the positions in chunks up
to that of row `1024·i + j`. -/
theorem sum_seen (f : ℕ → ℝ) (i : Fin 16) (j : Fin 1024) :
    (∑ n ∈ Finset.range (1024 * i.val), f n) + (∑ k : Fin 1024, if k.val / 64 ≤ j.val / 64 then f (1024 * i.val + k.val) else 0)
      = ∑ n : Fin 16384, if n.val / 64 ≤ (1024 * i.val + j.val) / 64 then f n.val else 0 := by
  have hi := i.isLt
  have hj := j.isLt
  have h : ∀ N : ℕ, N = 1024 * i.val + (1024 + (16384 - 1024 * i.val - 1024)) →
      (∑ n ∈ Finset.range (1024 * i.val), f n) + (∑ k : Fin 1024, if k.val / 64 ≤ j.val / 64 then f (1024 * i.val + k.val) else 0)
        = ∑ n ∈ Finset.range N, if n / 64 ≤ (1024 * i.val + j.val) / 64 then f n else 0 := by
    intro N e
    generalize 16384 - 1024 * i.val - 1024 = r at e
    rw [e, Finset.sum_range_add, Finset.sum_range_add]
    have hz : (∑ x ∈ Finset.range r,
        if (1024 * i.val + (1024 + x)) / 64 ≤ (1024 * i.val + j.val) / 64 then f (1024 * i.val + (1024 + x)) else 0) = 0 := by
      refine Finset.sum_eq_zero fun x _ => if_neg ?_
      omega
    rw [hz, add_zero]
    refine congrArg₂ (· + ·) (Finset.sum_congr rfl fun n hn => ?_) ((Finset.sum_congr rfl fun k _ => ?_).trans
      (Finset.sum_range (n := 1024) fun x => if (1024 * i.val + x) / 64 ≤ (1024 * i.val + j.val) / 64 then f (1024 * i.val + x) else 0).symm)
    · rw [if_pos]
      have := Finset.mem_range.mp hn
      omega
    · exact if_congr (by omega) rfl rfl
  rw [h 16384 (by omega), Finset.sum_range]

end Cert.Kernel3Ideal.Attn
-- ==== Proof.AttnMask.lean ====
/-
  The mask of the diagonal tile (`kernel3`): key row `k` is visible to query row `j` when its chunk of 64 is not later.
-/
module

public import proofs.«01_k».proof.Proof.AttnBody

@[expose] public section

set_option maxRecDepth 16384

noncomputable section

open Idealize.ShloMosaic Idealize.ShloMosaic.TcCoe Idealize.SL.Sem
open Cert.Kernel3Ideal Cert.Kernel3Ideal.Gen

namespace Cert.Kernel3Ideal.Attn

/-- The floored quotient by 64 as the body computes it on words. -/
def chunkWord (r : BitVec 32) : BitVec 32 :=
  Scalar.select
    (IntOp.andi
      (IntOp.cmpi .ne
        (IntOp.subi (BitVec.setWidth 32 (IntOp.cmpi .sgt r 0#32)) (BitVec.setWidth 32 (IntOp.cmpi .slt r 0#32)))
        (Scalar.subi (Scalar.extui (Scalar.cmpi .sgt 64#32 0#32)) (Scalar.extui (Scalar.cmpi .slt 64#32 0#32))))
      (IntOp.cmpi .ne (IntOp.remsi .vector r 64#32) 0#32))
    (IntOp.subi (IntOp.divsi .vector r 64#32) 1#32)
    (IntOp.divsi .vector r 64#32)

theorem chunkWord_eq : ∀ r : Fin 1024, chunkWord (BitVec.ofNat 32 r.val) = BitVec.ofNat 32 (r.val / 64) := by
  decide +kernel

theorem chunk_le : ∀ a b : Fin 16, (IntOp.cmpi .sle (BitVec.ofNat 32 a.val) (BitVec.ofNat 32 b.val) = 1#1) ↔ a.val ≤ b.val := by
  decide +kernel

/-- The mask at a key row and a query row. -/
theorem mask_apply (k j : Fin 1024) : (mask (ix2 k j) = 1#1) ↔ k.val / 64 ≤ j.val / 64 := by
  have h : mask (ix2 k j) = IntOp.cmpi .sle (chunkWord (BitVec.ofNat 32 k.val)) (chunkWord (BitVec.ofNat 32 j.val)) := by
    unfold mask
    pointwise [k0_pay31, k0_pay30, chunkWord]
  rw [h, chunkWord_eq, chunkWord_eq]
  exact chunk_le ⟨k.val / 64, by omega⟩ ⟨j.val / 64, by omega⟩

end Cert.Kernel3Ideal.Attn
-- ==== Proof.AttnEpi.lean ====
/-
  The differential attention kernel (`kernel3`) at the ideal instance: what follows the key tiles, at an index.
-/
module

public import proofs.«01_k».proof.Proof.AttnStep

@[expose] public section

set_option maxRecDepth 16384

noncomputable section

open Idealize.ShloMosaic Idealize.ShloMosaic.TcCoe Idealize.SL.Sem
open Cert.Kernel3Ideal Cert.Kernel3Ideal.Gen

namespace Cert.Kernel3Ideal.Attn

/-- The factor of the second attention map, from the four stacked vectors. -/
def lamOf (x : Vec Ideal S4x64 .f32) : EReal :=
  Ideal.exp (∑ k : Fin 64, (x (ix2 0 k) : EReal) * x (ix2 1 k)) - Ideal.exp (∑ k : Fin 64, (x (ix2 2 k) : EReal) * x (ix2 3 k))
    + Ideal.ofBits .f32 0x3E4CCCCD#32

/-- The difference of the two maps at a lane of a query. -/
def diff (x : Vec Ideal S4x64 .f32) (a0 a1 : Vec Ideal S1x144x1024 .f32) (j : Fin 1024) (d : Fin 128) : EReal :=
  Ideal.div (a0 (ix3 0 ⟨d.val, by omega⟩ j)) (a0 (ix3 0 128 j))
    - lamOf x * Ideal.div (a1 (ix3 0 ⟨d.val, by omega⟩ j)) (a1 (ix3 0 128 j))

theorem rms_apply (x : Vec Ideal S4x64 .f32) (a0 a1 : Vec Ideal S1x144x1024 .f32) (d : Fin 128) (j : Fin 1024) :
    (k0_pay34 x a0 a1 (ix2 d j) : EReal)
      = diff x a0 a1 j d * Ideal.rsqrt (Ideal.div (∑ e, diff x a0 a1 j e * diff x a0 a1 j e) (Ideal.ofBits .f32 0x43000000#32)
          + Ideal.ofBits .f32 0x358637BD#32) := by
  pointwise [k0_pay34, diff, lamOf]
  simp only [Fin.sum_univ_one]
  rfl

theorem out_apply (x : FVec Ideal S128x1024 .f32) (g : Vec Ideal S128x1 .f32) (j : Fin 1024) (d : Fin 128) :
    (k0_pay1 x g (ix2 j d) : EReal) = x (ix2 d j) * g (ix2 d 0) * Ideal.ofBits .f32 0x3F4CCCCD#32 := by
  pointwise [k0_pay1]

/-- An entry of the output block. -/
theorem block_apply (x : Vec Ideal S4x64 .f32) (a0 a1 : Vec Ideal S1x144x1024 .f32) (g : Vec Ideal S128x1 .f32) (j : Fin 1024) (d : Fin 128) :
    (k0_pay1 (k0_pay34 x a0 a1) g (ix2 j d) : EReal)
      = diff x a0 a1 j d * Ideal.rsqrt (Ideal.div (∑ e, diff x a0 a1 j e * diff x a0 a1 j e) (Ideal.ofBits .f32 0x43000000#32)
          + Ideal.ofBits .f32 0x358637BD#32) * g (ix2 d 0) * Ideal.ofBits .f32 0x3F4CCCCD#32 := by
  rw [out_apply, rms_apply]

end Cert.Kernel3Ideal.Attn
-- ==== Proof.AttnRef.lean ====
/-
  The differential attention as `reference3` writes it, at the ideal instance: its steps named, each read at an index.
-/
module

public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Cert.Reference3Ideal.Attn

open Cert.Reference3Ideal Cert.Reference3Ideal.Gen

/-! ## The steps -/

/-- The chunk of each position: the position divided by 64, rounded down. -/
def chunks : IVec S16384 32 :=
  select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32))))

/-- Which keys each query may see. -/
def visible : IVec S16384x16384 1 :=
  cmpi .sle (broadcastInDim S16384x16384 ![0, 1] bcast_S1x16384_S16384x16384_0_1 (broadcastInDim S1x16384 ![1] bcast_S16384_S1x16384_1 chunks)) (broadcastInDim S16384x16384 ![0, 1] bcast_S16384x1_S16384x16384_0_1 (broadcastInDim S16384x1 ![0] bcast_S16384_S16384x1_0 chunks))

/-- The scores of every query against every key. -/
def scores (qk : FVec Ideal S32768x1536 .bf16) : FVec Ideal S2x6x2x16384x16384 .f32 :=
  Host.dotGeneral dot_S2x16384x6x2x64_S2x16384x6x2x64_S2x6x2x16384x16384_4_4_1_1_023_023 none (shapeCast _ (extf .f32 (extractStridedSlice S32768x768 ![0, 0] qk slices_S32768x1536_S32768x768_0_0) bitsLt_bf16_f32) shapeCasts_S32768x768_S2x16384x6x2x64) (shapeCast _ (extf .f32 (extractStridedSlice S32768x768 ![0, 768] qk slices_S32768x1536_S32768x768_0_768) bitsLt_bf16_f32) shapeCasts_S32768x768_S2x16384x6x2x64)

/-- The scores, −∞ at the keys a query may not see. -/
def masked (qk : FVec Ideal S32768x1536 .bf16) : FVec Ideal S2x6x2x16384x16384 .f32 :=
  select (broadcastInDim S2x6x2x16384x16384 ![3, 4] bcast_S16384x16384_S2x6x2x16384x16384_3_4 visible) (scores qk) (broadcastInDim S2x6x2x16384x16384 ![] bcast_S_S2x6x2x16384x16384 (id (constant S_ .f32 0xFF800000#32)))

/-- Two to the power of each score less its row's maximum. -/
def weights (s : FVec Ideal S2x6x2x16384x16384 .f32) : FVec Ideal S2x6x2x16384x16384 .f32 :=
  Host.powf (broadcastInDim S2x6x2x16384x16384 ![] bcast_S_S2x6x2x16384x16384 (constant S_ .f32 0x40000000#32)) (subf s (broadcastInDim S2x6x2x16384x16384 ![0, 1, 2, 3, 4] bcast_S2x6x2x16384x1_S2x6x2x16384x16384_0_1_2_3_4 (broadcastInDim S2x6x2x16384x1 ![0, 1, 2, 3] bcast_S2x6x2x16384_S2x6x2x16384x1_0_1_2_3 (Host.reduce FloatOps.maximumf s (constant S_ .f32 0xFF800000#32) reducesTo_S2x6x2x16384x16384_S2x6x2x16384_d4 h_S_))))

/-- The weights over their row's sum. -/
def probs (p : FVec Ideal S2x6x2x16384x16384 .f32) : FVec Ideal S2x6x2x16384x16384 .f32 :=
  Host.divf p (broadcastInDim S2x6x2x16384x16384 ![0, 1, 2, 3, 4] bcast_S2x6x2x16384x1_S2x6x2x16384x16384_0_1_2_3_4 (broadcastInDim S2x6x2x16384x1 ![0, 1, 2, 3] bcast_S2x6x2x16384_S2x6x2x16384x1_0_1_2_3 (Host.reduceAdd p (constant S_ .f32 0x00000000#32) reducesTo_S2x6x2x16384x16384_S2x6x2x16384_d4 h_S_)))

/-- The factor of the second attention map. -/
def lam (l1 l2 l3 l4 : FVec Ideal S64 .f32) : FVec Ideal S_ .f32 :=
  addf (subf (Host.exp (Host.reduceAdd (mulf l1 l2) (constant S_ .f32 0x00000000#32) reducesTo_S64_S_d0 h_S_)) (Host.exp (Host.reduceAdd (mulf l3 l4) (constant S_ .f32 0x00000000#32) reducesTo_S64_S_d0 h_S_))) (constant S_ .f32 0x3E4CCCCD#32)

/-- The difference of the two maps, applied to the values. -/
def mix (v : FVec Ideal S32768x768 .bf16) (p : FVec Ideal S2x6x2x16384x16384 .f32) (l : FVec Ideal S_ .f32) : FVec Ideal S2x16384x6x128 .f32 :=
  transpose S2x16384x6x128 [0, 3, 1, 2] (Host.dotGeneral dot_S2x16384x6x128_S2x6x16384x16384_S2x6x128x16384_1_3_3_2_02_01 none (shapeCast _ (extf .f32 v bitsLt_bf16_f32) shapeCasts_S32768x768_S2x16384x6x128) (subf (shapeCast _ (extractStridedSlice S2x6x1x16384x16384 ![0, 0, 0, 0, 0] p slices_S2x6x2x16384x16384_S2x6x1x16384x16384_0_0_0_0_0) shapeCasts_S2x6x1x16384x16384_S2x6x16384x16384) (mulf (broadcastInDim S2x6x16384x16384 ![] bcast_S_S2x6x16384x16384 l) (shapeCast _ (extractStridedSlice S2x6x1x16384x16384 ![0, 0, 1, 0, 0] p slices_S2x6x2x16384x16384_S2x6x1x16384x16384_0_0_1_0_0) shapeCasts_S2x6x1x16384x16384_S2x6x16384x16384)))) transposes_S2x6x128x16384_S2x16384x6x128_0_3_1_2

/-- The normalisation of each head's 128 lanes, its gain, and the factor 1 − 0.2. -/
def normed (o : FVec Ideal S2x16384x6x128 .f32) (g : FVec Ideal S128 .f32) : FVec Ideal S32768x768 .bf16 :=
  truncf .bf16 (shapeCast _ (mulf (mulf (mulf o (broadcastInDim S2x16384x6x128 ![0, 1, 2, 3] bcast_S2x16384x6x1_S2x16384x6x128_0_1_2_3 (Host.rsqrt (addf (Host.divf (broadcastInDim S2x16384x6x1 ![0, 1, 2] bcast_S2x16384x6_S2x16384x6x1_0_1_2 (Host.reduceAdd (mulf o o) (constant S_ .f32 0x00000000#32) reducesTo_S2x16384x6x128_S2x16384x6_d3 h_S_)) (broadcastInDim S2x16384x6x1 ![] bcast_S_S2x16384x6x1 (constant S_ .f32 0x43000000#32))) (broadcastInDim S2x16384x6x1 ![] bcast_S_S2x16384x6x1 (constant S_ .f32 0x358637BD#32)))))) (broadcastInDim S2x16384x6x128 ![0, 1, 2, 3] bcast_S1x1x1x128_S2x16384x6x128_0_1_2_3 (broadcastInDim S1x1x1x128 ![3] bcast_S128_S1x1x1x128_3 g))) (broadcastInDim S2x16384x6x128 ![] bcast_S_S2x16384x6x128 (constant S_ .f32 0x3F4CCCCD#32))) shapeCasts_S2x16384x6x128_S32768x768) bitsLt_bf16_f32

/-- The reference's result, of its arguments. -/
def attention (qk : FVec Ideal S32768x1536 .bf16) (v : FVec Ideal S32768x768 .bf16) (l1 l2 l3 l4 : FVec Ideal S64 .f32)
    (g : FVec Ideal S128 .f32) : FVec Ideal S32768x768 .bf16 :=
  normed (mix v (probs (weights (masked qk))) (lam l1 l2 l3 l4)) g

theorem res_eq (m : (ℓ : Loc nD τ sig) → Buf (Elt Ideal) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  rfl

/-! ## Each at an index -/

/-- The floored quotient by 64 as the reference computes it on words. -/
def chunkWord (r : BitVec 32) : BitVec 32 :=
  Scalar.select
    (IntOp.andi
      (IntOp.cmpi .ne (if r = 0 then 0 else if r.msb = true then -1 else 1 : BitVec 32)
        (if (64#32 : BitVec 32) = 0 then 0 else if (64#32 : BitVec 32).msb = true then -1 else 1))
      (IntOp.cmpi .ne (IntOp.remsi .host r 64#32) 0#32))
    (IntOp.subi (IntOp.divsi .host r 64#32) 1#32)
    (IntOp.divsi .host r 64#32)

theorem chunkWord_eq : ∀ r : Fin 16384, chunkWord (BitVec.ofNat 32 r.val) = BitVec.ofNat 32 (r.val / 64) := by
  decide +kernel

theorem word_le : ∀ a b : Fin 256, IntOp.cmpi .sle (BitVec.ofNat 32 a.val) (BitVec.ofNat 32 b.val) = 1#1 ↔ a.val ≤ b.val := by
  decide +kernel

/-- The words 0xFF800000 and 0x40000000 are −∞ and 2. -/
theorem negInf : Ideal.ofBits .f32 4286578688#32 = ⊥ := by
  simp [Ideal.ofBits, Ideal.ieee]

theorem two : Ideal.ofBits .f32 1073741824#32 = ((2 : ℝ) : EReal) := by
  simp [Ideal.ofBits, Ideal.ieee, -EReal.coe_mul]; norm_num

theorem visible_apply (q n : Fin 16384) : visible (ix2 q n) = IntOp.cmpi .sle (chunks (ix1 n)) (chunks (ix1 q)) := by
  pointwise [visible]

theorem chunks_apply (n : Fin 16384) : chunks (ix1 n) = BitVec.ofNat 32 (n.val / 64) := by
  have h : chunks (ix1 n) = chunkWord (BitVec.ofNat 32 n.val) := by
    pointwise [chunks, chunkWord]
    rfl
  rw [h, chunkWord_eq]

/-- A query sees the keys of its own chunk and of the chunks before. -/
theorem visible_iff (q n : Fin 16384) : visible (ix2 q n) = 1#1 ↔ n.val / 64 ≤ q.val / 64 := by
  rw [visible_apply, chunks_apply, chunks_apply]
  exact word_le ⟨n.val / 64, by omega⟩ ⟨q.val / 64, by omega⟩

theorem scores_apply (qk : FVec Ideal S32768x1536 .bf16) (b : Fin 2) (h : Fin 6) (t : Fin 2) (q n : Fin 16384) :
    (scores qk (ix5 b h t q n) : EReal)
      = ∑ x : Fin 64, (qk (ix2 ⟨b.val * 16384 + q.val, by omega⟩ ⟨h.val * 128 + t.val * 64 + x.val, by omega⟩) : EReal)
          * qk (ix2 ⟨b.val * 16384 + n.val, by omega⟩ ⟨768 + (h.val * 128 + t.val * 64 + x.val), by omega⟩) := by
  pointwise [scores]

theorem masked_apply (qk : FVec Ideal S32768x1536 .bf16) (b : Fin 2) (h : Fin 6) (t : Fin 2) (q n : Fin 16384) :
    (masked qk (ix5 b h t q n) : EReal) = if visible (ix2 q n) = 1#1 then (scores qk (ix5 b h t q n) : EReal) else ⊥ := by
  pointwise [masked]
  have e : (id (constant (F := Ideal) S_ FTy.f32 4286578688#32) ix0 : EReal) = ⊥ := negInf
  rw [e]
  rfl

theorem weights_apply (s : FVec Ideal S2x6x2x16384x16384 .f32) (b : Fin 2) (h : Fin 6) (t : Fin 2) (q n : Fin 16384) :
    (weights s (ix5 b h t q n) : EReal)
      = Ideal.pow ((2 : ℝ) : EReal) (s (ix5 b h t q n) - Finset.univ.fold max ⊥ fun x : Fin 16384 => (s (ix5 b h t q x) : EReal)) := by
  pointwise [weights]
  rw [negInf, two]

theorem probs_apply (s : FVec Ideal S2x6x2x16384x16384 .f32) (b : Fin 2) (h : Fin 6) (t : Fin 2) (q n : Fin 16384) :
    (probs s (ix5 b h t q n) : EReal) = Ideal.div (s (ix5 b h t q n)) (∑ x : Fin 16384, (s (ix5 b h t q x) : EReal)) := by
  pointwise [probs]

theorem lam_apply (l1 l2 l3 l4 : FVec Ideal S64 .f32) :
    (lam l1 l2 l3 l4 ix0 : EReal)
      = Ideal.exp (∑ x : Fin 64, (l1 (ix1 x) : EReal) * l2 (ix1 x)) - Ideal.exp (∑ x : Fin 64, (l3 (ix1 x) : EReal) * l4 (ix1 x))
        + Ideal.ofBits .f32 0x3E4CCCCD#32 := by
  pointwise [lam]

theorem mix_apply (v : FVec Ideal S32768x768 .bf16) (p : FVec Ideal S2x6x2x16384x16384 .f32) (l : FVec Ideal S_ .f32)
    (b : Fin 2) (q : Fin 16384) (h : Fin 6) (d : Fin 128) :
    (mix v p l (ix4 b q h d) : EReal)
      = ∑ x : Fin 16384, (v (ix2 ⟨b.val * 16384 + x.val, by omega⟩ ⟨h.val * 128 + d.val, by omega⟩) : EReal)
          * (p (ix5 b h 0 q x) - l ix0 * p (ix5 b h 1 q x)) := by
  pointwise [mix]

/-- One head's row of 128 lanes, normalised; `o` is the row, `d` the lane, `g` the gain's entry. -/
def normRow (o : Fin 128 → EReal) (d : Fin 128) (g : EReal) : EReal :=
  o d * Ideal.rsqrt (Ideal.div (∑ x, o x * o x) (Ideal.ofBits .f32 0x43000000#32) + Ideal.ofBits .f32 0x358637BD#32)
    * g * Ideal.ofBits .f32 0x3F4CCCCD#32

theorem normed_raw (o : FVec Ideal S2x16384x6x128 .f32) (g : FVec Ideal S128 .f32) (i : S32768x768.Idx)
    (p0 : (i 0).val / 16384 < 2) (p1 : (i 0).val % 16384 < 16384) (p2 : (i 1).val / 128 < 6) (p3 : (i 1).val % 128 < 128) :
    (normed o g i : EReal) = normRow (fun x => o (ix4 ⟨(i 0).val / 16384, p0⟩ ⟨(i 0).val % 16384, p1⟩ ⟨(i 1).val / 128, p2⟩ x))
      ⟨(i 1).val % 128, p3⟩ (g (ix1 ⟨(i 1).val % 128, p3⟩)) := by
  pointwise [normed, normRow]

theorem normed_apply (o : FVec Ideal S2x16384x6x128 .f32) (g : FVec Ideal S128 .f32) (b : Fin 2) (q : Fin 16384) (h : Fin 6) (d : Fin 128)
    (i : S32768x768.Idx) (h0 : (i 0).val = b.val * 16384 + q.val) (h1 : (i 1).val = h.val * 128 + d.val) :
    (normed o g i : EReal) = normRow (fun x => o (ix4 b q h x)) d (g (ix1 d)) := by
  have e0 : (i 0).val / 16384 = b.val := by omega
  have e1 : (i 0).val % 16384 = q.val := by omega
  have e2 : (i 1).val / 128 = h.val := by omega
  have e3 : (i 1).val % 128 = d.val := by omega
  rw [normed_raw o g i (by omega) (by omega) (by omega) (by omega)]
  simp only [e0, e1, e2, e3, Fin.eta]

end Cert.Reference3Ideal.Attn
-- ==== Proof.AttnFinal.lean ====
/-
  The differential attention kernel (`kernel3`): on real arguments its result array is the reference's function of them.
-/
module

public import proofs.«01_k».proof.Proof.AttnHost
public import proofs.«01_k».proof.Proof.AttnValue

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.Kernel3Ideal.Attn

open Cert.Reference3Ideal.Attn (attention normRow normed_apply mix_real lam lam_apply lam_real queriesR keysR valuesR place)

variable (m : (ℓ : Loc nD τ sig) → Buf (Elt Ideal) ℓ)

/-- The entries of a program's array are real numbers. -/
abbrev Real {s : Shape} {φ : FTy} (x : FVec Ideal s φ) : Prop := ∀ i, (x i : EReal) = (((x i : EReal).toReal : ℝ) : EReal)

/-- The factor of the second map, of the stacked vectors, is the reference's of the four vectors. -/
theorem lam_of (x : FVec Ideal S4x64 .f32) (l1 l2 l3 l4 : FVec Ideal S64 .f32)
    (h : ∀ k : Fin 64, x (ix2 0 k) = l1 (ix1 k) ∧ x (ix2 1 k) = l2 (ix1 k) ∧ x (ix2 2 k) = l3 (ix1 k) ∧ x (ix2 3 k) = l4 (ix1 k)) :
    lamOf x = lam l1 l2 l3 l4 ix0 := by
  rw [lam_apply, lamOf]
  simp only [fun k => (h k).1, fun k => (h k).2.1, fun k => (h k).2.2.1, fun k => (h k).2.2.2]

/-- So the kernel's factor at every point is the reference's. -/
theorem lam_eq (c : Dev nD) (t : Fin cfg0.N) :
    lamOf (iblk m c 3 t) = lam (m ((c : Thread nD τ).loc main_arg2)) (m ((c : Thread nD τ).loc main_arg3))
      (m ((c : Thread nD τ).loc main_arg4)) (m ((c : Thread nD τ).loc main_arg5)) ix0 := by
  refine lam_of _ _ _ _ _ fun k => ?_
  have e := lamRows_apply (m ((c : Thread nD τ).loc main_arg2)) (m ((c : Thread nD τ).loc main_arg3))
      (m ((c : Thread nD τ).loc main_arg4)) (m ((c : Thread nD τ).loc main_arg5)) k
  rw [← V_lam m c] at e
  exact ⟨(blk_lam m c t 0 k).trans e.1, (blk_lam m c t 1 k).trans e.2.1, (blk_lam m c t 2 k).trans e.2.2.1,
    (blk_lam m c t 3 k).trans e.2.2.2⟩

/-- Equal places hold the same value. -/
theorem value_at (v : FVec Ideal S32768x768 .bf16) {r r' c c' : ℕ} (hr : r < 32768) (hr' : r' < 32768) (hc : c < 768) (hc' : c' < 768)
    (e1 : r = r') (e2 : c = c') : (v (ix2 ⟨r, hr⟩ ⟨c, hc⟩) : EReal) = v (ix2 ⟨r', hr'⟩ ⟨c', hc'⟩) := by
  subst e1 e2; rfl

/-- The transposed values in real numbers. -/
theorem tiles_real (v : FVec Ideal S32768x768 .bf16) (hv : Real v) (b : Fin 2) (h : Fin 6) (r : Fin 12) (hr : r.val = b.val * 6 + h.val)
    (s : Fin 16) (d : Fin 144) (k : Fin 1024) :
    (valTiles v (ix4 r s d k) : EReal) = (valuesR v b h d (1024 * s.val + k.val) : EReal) := by
  by_cases h1 : d.val < 128
  · rw [show d = ⟨(⟨d.val, h1⟩ : Fin 128).val, d.isLt⟩ from rfl, vals_apply, valuesR, dif_pos h1, ← hv]
    exact value_at v _ _ _ _ (by omega) (by simp only; omega)
  · by_cases h2 : d.val = 128
    · rw [show d = 128 from Fin.ext h2, ones_apply]
      simp [valuesR]
    · obtain ⟨e, he⟩ : ∃ e : Fin 15, d = ⟨129 + e.val, by omega⟩ := ⟨⟨d.val - 129, by omega⟩, Fin.ext (by simp; omega)⟩
      rw [valuesR, dif_neg h1, if_neg h2, he, zeros_apply]
      rfl

/-- What the body stores at index `y` of point `t`'s block is the reference's entry at the place of `y` in the array. -/
theorem point (c : Dev nD) (t : Fin cfg0.N)
    (hqk : Real (φ := .bf16) (s := S32768x1536) (m ((c : Thread nD τ).loc main_arg0)))
    (hv : Real (φ := .bf16) (s := S32768x768) (m ((c : Thread nD τ).loc main_arg1)))
    (h1 : Real (φ := .f32) (s := S64) (m ((c : Thread nD τ).loc main_arg2)))
    (h2 : Real (φ := .f32) (s := S64) (m ((c : Thread nD τ).loc main_arg3)))
    (h3 : Real (φ := .f32) (s := S64) (m ((c : Thread nD τ).loc main_arg4)))
    (h4 : Real (φ := .f32) (s := S64) (m ((c : Thread nD τ).loc main_arg5))) (j : Fin 1024) (d : Fin 128) :
    k0_pay1 (k0_pay34 (iblk m c 3 t)
          (last0 (iblk m c 0 t) (keyTile (iblk m c 1 t) (t.val % 16)) (valTile (iblk m c 2 t) (t.val % 16))
            (State.at (iblk m c 0 t) (iblk m c 1 t) (iblk m c 2 t) (t.val % 16)))
          (last1 (iblk m c 0 t) (keyTile (iblk m c 1 t) (t.val % 16)) (valTile (iblk m c 2 t) (t.val % 16))
            (State.at (iblk m c 0 t) (iblk m c 1 t) (iblk m c 2 t) (t.val % 16)))) (iblk m c 4 t) (ix2 j d)
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 5).blk t).view.emb (ix2 j d)) := by
  have ht := (idx_val t).2.2.2.2.2.2.2
  obtain ⟨l, hl⟩ := lam_real _ _ _ _ h1 h2 h3 h4
  refine (block_apply _ _ _ _ j d).trans (Eq.trans ?_ (normed_apply _ _ ⟨t.val / 96, ht⟩ (place ⟨t.val % 16, by omega⟩ j)
    ⟨t.val / 16 % 6, by omega⟩ d _ ?_ ?_).symm)
  · have row : ∀ e : Fin 128, _ := fun e => (diff_real (iblk m c 0 t) (iblk m c 1 t) (iblk m c 2 t)
      (queriesR (m ((c : Thread nD τ).loc main_arg0)) ⟨t.val / 96, ht⟩ ⟨t.val / 16 % 6, by omega⟩ ⟨t.val % 16, by omega⟩)
      (keysR (m ((c : Thread nD τ).loc main_arg0)) ⟨t.val / 96, ht⟩ ⟨t.val / 16 % 6, by omega⟩)
      (valuesR (m ((c : Thread nD τ).loc main_arg1)) ⟨t.val / 96, ht⟩ ⟨t.val / 16 % 6, by omega⟩)
      (fun j d => (blk_q m c t j d).trans (hqk _)) (fun n d => (blk_k m c t n d).trans (hqk _))
      (fun s d k => (blk_v m c t s d k).trans (by rw [V_vals]; exact tiles_real _ hv _ _ _ rfl s d k))
      (iblk m c 3 t) l ((lam_eq m c t).trans hl) (fun n => by simp [valuesR]) ⟨t.val % 16, by omega⟩ j e).trans
      (mix_real _ hqk ⟨t.val / 96, ht⟩ ⟨t.val / 16 % 6, by omega⟩ ⟨t.val % 16, by omega⟩ j _ hv _ l hl e).symm
    have gain := (blk_gain m c t d).trans (V_gain m c d)
    simp only [row, gain]
    rfl
  · blk_simp [idx_val t]
    simp only [place]
    omega
  · blk_simp [idx_val t]

/-- The result array after the run, where the arguments are real, is the reference's function of them. -/
theorem final (c : Dev nD)
    (hqk : Real (φ := .bf16) (s := S32768x1536) (m ((c : Thread nD τ).loc main_arg0)))
    (hv : Real (φ := .bf16) (s := S32768x768) (m ((c : Thread nD τ).loc main_arg1)))
    (h1 : Real (φ := .f32) (s := S64) (m ((c : Thread nD τ).loc main_arg2)))
    (h2 : Real (φ := .f32) (s := S64) (m ((c : Thread nD τ).loc main_arg3)))
    (h3 : Real (φ := .f32) (s := S64) (m ((c : Thread nD τ).loc main_arg4)))
    (h4 : Real (φ := .f32) (s := S64) (m ((c : Thread nD τ).loc main_arg5))) :
    (dats m 0 c).arrAt 5 cfg0.N
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 5 _ (by decide +kernel) fun t _ y => ?_
  blk_simp
  rw [after0_5]
  unfold outsAt0
  rw [out_eq, (idx_val t).2.2.2.2.2.2.1]
  have hy : y = ix2 (y 0) (y 1) := by funext a; fin_cases a <;> rfl
  rw [hy]
  exact point m c t hqk hv h1 h2 h3 h4 (y 0) (y 1)

end Cert.Kernel3Ideal.Attn

end
-- ==== Proof.AttnPre.lean ====
/-
  The precondition of the differential attention claim, read back: the activations, the values and the four lambda vectors
  are real numbers.
-/
module

public import proofs.«01_k».proof.Proof.Gen.Pre_finite_args
public import Idealize.ShloMosaic.Lib.ReduceAll
public import Idealize.ShloMosaic.Lib.Pipeline.ValueKit

@[expose] public section

noncomputable section

open Idealize.ShloMosaic Idealize.ShloMosaic.TcCoe Idealize.SL.Sem
open Cert.Pre_finite_args Cert.Pre_finite_args.Gen

namespace Cert.Pre_finite_args.Attn

/-- The word 0x7F800000 is +∞. -/
theorem posInf : Ideal.ofBits .f32 0x7F800000#32 = ⊤ := by
  simp [Ideal.ofBits, Ideal.ieee]

/-- A number whose magnitude is below +∞ is real. -/
theorem real_of_abs (x : EReal) (h : max x (-x) < (⊤ : EReal)) : x = ((x.toReal : ℝ) : EReal) := by
  refine (EReal.coe_toReal ?_ ?_).symm
  · rintro rfl; simp at h
  · rintro rfl; simp at h

/-- One array: where the check of all its entries is 1, every entry is real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu ix0
      = 1#1) (i : s.Idx) : (x i : EReal) = (((x i : EReal).toReal : ℝ) : EReal) := by
  haveI : Subsingleton S_.Idx := ⟨fun a b => funext fun k => k.elim0⟩
  have h := Host.reduce_andi_all _ _ hr hu ix0 e i
  have h' : BitVec.ofBool (decide (max (x i : EReal) (-(x i : EReal)) < Ideal.ofBits .f32 0x7F800000#32)) = 1#1 := h
  rw [posInf] at h'
  by_cases hlt : max (x i : EReal) (-(x i : EReal)) < ⊤
  · exact real_of_abs _ hlt
  · rw [decide_eq_false hlt] at h'; exact absurd h' (by decide)

/-- The precondition says that all six arrays are real. -/
theorem real_args (a0 : FVec Ideal S32768x1536 .bf16) (a1 : FVec Ideal S32768x768 .bf16) (a2 a3 a4 a5 : FVec Ideal S64 .f32) (a6 : FVec Ideal S128 .f32)
    (h : Cert.Pre_finite_args.fn (F := Ideal) a0 a1 a2 a3 a4 a5 a6 = fun _ => 1#1) :
    (∀ i, (a0 i : EReal) = (((a0 i : EReal).toReal : ℝ) : EReal)) ∧ (∀ i, (a1 i : EReal) = (((a1 i : EReal).toReal : ℝ) : EReal))
    ∧ (∀ i, (a2 i : EReal) = (((a2 i : EReal).toReal : ℝ) : EReal)) ∧ (∀ i, (a3 i : EReal) = (((a3 i : EReal).toReal : ℝ) : EReal))
    ∧ (∀ i, (a4 i : EReal) = (((a4 i : EReal).toReal : ℝ) : EReal)) ∧ (∀ i, (a5 i : EReal) = (((a5 i : EReal).toReal : ℝ) : EReal)) := by
  have e := congrFun h ix0
  unfold Cert.Pre_finite_args.fn Cert.Pre_finite_args.fn_part1 at e
  dsimp only at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real (extf .f32 a0 Gen.bitsLt_bf16_f32) _ _ _ h0, all_real (extf .f32 a1 Gen.bitsLt_bf16_f32) _ _ _ h1,
    all_real a2 _ _ _ h2, all_real a3 _ _ _ h3, all_real a4 _ _ _ h4, all_real a5 _ _ _ h5⟩

end Cert.Pre_finite_args.Attn

end
-- ==== Proof.Attn1Body.lean ====
/-
  Layer 1.
  The differential attention kernel (`kernel4`): what the body leaves in its output block at one grid point.

  The body keeps two pairs in parallel, one for each of the two attention maps of a head: a row of running maxima and
  a 144 × 1024 accumulator in scratch. `State.at k` is that state after `k` key tiles. The counted loop visits the tiles
  before the query tile; the second loop never runs; the diagonal tile comes last, masked.
-/
module

public import proofs.«01_k».proof.Proof.Gen.Kernel4Ideal.Value
public import Idealize.ShloMosaic.Lib.Pipeline.ValueKit
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Cert.Kernel4Ideal Cert.Kernel4Ideal.Gen

namespace Cert.Kernel4Ideal.Attn

variable {F : FTy → Type} [FloatOps F]

/-- Key tile `k` of a head's keys: rows 1024·k … 1024·k + 1023. -/
def keyTile (x : Vec F S16384x128 .bf16) (k : ℕ) : Vec F S1024x128 .bf16 :=
  fun y => x (ix2 ⟨(1024 * k + (y 0).val) % 16384, Nat.mod_lt _ (by decide)⟩ (y 1))

/-- Value tile `k` of a head's transposed values. -/
def valTile (x : Vec F S1x16x144x1024 .bf16) (k : ℕ) : Vec F S1x1x144x1024 .bf16 :=
  fun y => x (ix4 0 ⟨k % 16, Nat.mod_lt _ (by decide)⟩ (y 2) (y 3))

/-- Running maxima and accumulators of the two attention maps. -/
structure State (F : FTy → Type) [FloatOps F] where
  m0 : FVec F S1x1024 .f32
  m1 : FVec F S1x1024 .f32
  a0 : Vec F S1x144x1024 .f32
  a1 : Vec F S1x144x1024 .f32

/-- The scratch buffer's two planes. -/
def plane0 (X : Vec F S2x144x1024 .f32) : Vec F S1x144x1024 .f32 :=
  View.ld X (Rect.unit ![0, 0, 0] S1x144x1024.size inb_S2x144x1024_S1x144x1024_0_0_0)
def plane1 (X : Vec F S2x144x1024 .f32) : Vec F S1x144x1024 .f32 :=
  View.ld X (Rect.unit ![1, 0, 0] S1x144x1024.size inb_S2x144x1024_S1x144x1024_1_0_0)

/-- One unmasked key tile. -/
def State.step (q : Vec F S1024x128 .bf16) (kb : Vec F S1024x128 .bf16) (vb : Vec F S1x1x144x1024 .bf16) (s : State F) : State F where
  m0 := k0_pay5 (k0_pay21 q) s.m0 kb
  m1 := k0_pay7 (k0_pay22 q) s.m1 kb
  a0 := k0_pay6 (k0_pay21 q) s.m0 kb vb s.a0
  a1 := k0_pay25 (k0_pay2 vb) (k0_pay8 (k0_pay22 q) s.m1 kb) (k0_pay9 s.a1) (k0_pay10 (k0_pay22 q) s.m1 kb)

/-- The state after the first `k` key tiles. -/
def State.at (q : Vec F S1024x128 .bf16) (x1 : Vec F S16384x128 .bf16) (x2 : Vec F S1x16x144x1024 .bf16) : ℕ → State F
  | 0 => ⟨k0_pay24, k0_pay24, plane0 k0_pay23, plane1 k0_pay23⟩
  | k + 1 => (State.at q x1 x2 k).step q (keyTile x1 k) (valTile x2 k)

/-! ## Planes under stores -/

section Planes

variable (v : View sig .tc .vmem S2x144x1024 .f32) (f : v.ty.Contents (Elt F)) (w : Vec F S1x144x1024 .f32)
  (L : List (View.Piece (Elt F) S2x144x1024 .f32))

theorem plane1_store1 : plane1 (v.read (Elt F) (v.writes (Elt F) f
    (⟨Rect.unit ![1, 0, 0] S1x144x1024.size inb_S2x144x1024_S1x144x1024_1_0_0, w⟩ :: L))) = w := by
  funext y
  exact View.read_writes_cons_emb v f (Rect.unit ![1, 0, 0] S1x144x1024.size inb_S2x144x1024_S1x144x1024_1_0_0) w L y

theorem plane0_store0 : plane0 (v.read (Elt F) (v.writes (Elt F) f
    (⟨Rect.unit ![0, 0, 0] S1x144x1024.size inb_S2x144x1024_S1x144x1024_0_0_0, w⟩ :: L))) = w := by
  funext y
  exact View.read_writes_cons_emb v f (Rect.unit ![0, 0, 0] S1x144x1024.size inb_S2x144x1024_S1x144x1024_0_0_0) w L y

theorem plane0_store1 : plane0 (v.read (Elt F) (v.writes (Elt F) f
    (⟨Rect.unit ![1, 0, 0] S1x144x1024.size inb_S2x144x1024_S1x144x1024_1_0_0, w⟩ :: L)))
    = plane0 (v.read (Elt F) (v.writes (Elt F) f L)) := by
  funext y
  refine View.read_writes_cons_unit_of_not_mem v f inb_S2x144x1024_S1x144x1024_1_0_0 w L _ rfl 0 (.inl ?_)
  have h : (y 0).val < 1 := (y 0).isLt
  show 0 + 1 * (y 0).val < 1
  omega

theorem plane1_store0 : plane1 (v.read (Elt F) (v.writes (Elt F) f
    (⟨Rect.unit ![0, 0, 0] S1x144x1024.size inb_S2x144x1024_S1x144x1024_0_0_0, w⟩ :: L)))
    = plane1 (v.read (Elt F) (v.writes (Elt F) f L)) := by
  funext y
  refine View.read_writes_cons_unit_of_not_mem v f inb_S2x144x1024_S1x144x1024_0_0_0 w L _ rfl 0 (.inr ?_)
  show 0 + 1 ≤ 1 + 1 * (y 0).val
  omega

variable (z : Vec F S2x144x1024 .f32)

/-- The piece that clears the scratch buffer. -/
abbrev clear : View.Piece (Elt F) S2x144x1024 .f32 := ⟨Rect.unit ![0, 0, 0] S2x144x1024.size inb_S2x144x1024_S2x144x1024_0_0_0, z⟩

theorem load0 : v.readCov (L ++ [clear z]) (Rect.unit (s := S2x144x1024) ![0, 0, 0] S1x144x1024.size inb_S2x144x1024_S1x144x1024_0_0_0).toLoadRect
    = plane0 (v.read (Elt F) (v.writes (Elt F) (v.writes (Elt F) v.junk [clear z]) L)) := by
  rw [← View.writes_append]; rfl

theorem load1 : v.readCov (⟨Rect.unit ![0, 0, 0] S1x144x1024.size inb_S2x144x1024_S1x144x1024_0_0_0, w⟩ :: (L ++ [clear z]))
      (Rect.unit (s := S2x144x1024) ![1, 0, 0] S1x144x1024.size inb_S2x144x1024_S1x144x1024_1_0_0).toLoadRect
    = plane1 (v.read (Elt F) (v.writes (Elt F) (v.writes (Elt F) v.junk [clear z]) L)) := by
  rw [← View.writes_append]
  exact plane1_store0 v v.junk w _

theorem loadEnd0 (w' : Vec F S1x144x1024 .f32) : v.readCov (⟨Rect.unit ![1, 0, 0] S1x144x1024.size inb_S2x144x1024_S1x144x1024_1_0_0, w'⟩ ::
      ⟨Rect.unit ![0, 0, 0] S1x144x1024.size inb_S2x144x1024_S1x144x1024_0_0_0, w⟩ :: L)
      (Rect.unit (s := S2x144x1024) ![0, 0, 0] S1x144x1024.size inb_S2x144x1024_S1x144x1024_0_0_0).toLoadRect = w :=
  (plane0_store1 v v.junk w' _).trans (plane0_store0 v v.junk w L)

theorem loadEnd1 : v.readCov (⟨Rect.unit ![1, 0, 0] S1x144x1024.size inb_S2x144x1024_S1x144x1024_1_0_0, w⟩ :: L)
      (Rect.unit (s := S2x144x1024) ![1, 0, 0] S1x144x1024.size inb_S2x144x1024_S1x144x1024_1_0_0).toLoadRect = w :=
  plane1_store1 v v.junk w L

end Planes

/-! ## Loop bounds and offsets -/

/-- The first loop has as many trips as there are key tiles before the query tile. -/
theorem trips1 (i : grid0.Coords) : (k0_t1_loop i).trips = (i 2).val :=
  (by decide +kernel : ∀ n : Fin 16, Scf.trips 0#32 (Scalar.addi 0#32 (Scalar.muli (Scalar.divsi (Scalar.subi
    (BitVec.ofNat 32 n.val) 0#32) 1#32) 1#32)) 1#32 = n.val) (i 2)

/-- The second loop has none. -/
theorem trips2 (i : grid0.Coords) : (k0_t2_loop i).trips = 0 :=
  (by decide +kernel : ∀ n : Fin 16, Scf.trips (Scalar.addi 0#32 (Scalar.muli (Scalar.divsi (Scalar.subi
    (BitVec.ofNat 32 n.val) 0#32) 1#32) 1#32)) (Scalar.addi 0#32 (Scalar.subi (BitVec.ofNat 32 n.val) 0#32)) 1#32 = 0) (i 2)

theorem off1_eq (i : grid0.Coords) (k : Fin (k0_t1_loop i).trips) : k0_off1 i k = ![1024 * k.val, 0] := by
  have hk : k.val < 16 := lt_trans (lt_of_lt_of_eq k.isLt (trips1 i)) (i 2).isLt
  exact (by decide +kernel : ∀ n : Fin 16, (![(Scalar.indexCast (Scalar.muli (Scf.iv 0#32 1#32 n.val) 1024#32)).toNat, 0]
    : Fin 2 → ℕ) = ![1024 * n.val, 0]) ⟨k.val, hk⟩

theorem off2_eq (i : grid0.Coords) (k : Fin (k0_t1_loop i).trips) : k0_off2 i k = ![0, k.val, 0, 0] := by
  have hk : k.val < 16 := lt_trans (lt_of_lt_of_eq k.isLt (trips1 i)) (i 2).isLt
  exact (by decide +kernel : ∀ n : Fin 16, (![0, (Scalar.indexCast (Scf.iv 0#32 1#32 n.val)).toNat, 0, 0]
    : Fin 4 → ℕ) = ![0, n.val, 0, 0]) ⟨k.val, hk⟩

theorem off5_eq (i : grid0.Coords) : k0_off5 i = ![1024 * (i 2).val, 0] :=
  (by decide +kernel : ∀ n : Fin 16, (![(Scalar.indexCast (Scalar.muli (BitVec.ofNat 32 n.val) 1024#32)).toNat, 0]
    : Fin 2 → ℕ) = ![1024 * n.val, 0]) (i 2)

theorem off6_eq (i : grid0.Coords) : k0_off6 i = ![0, (i 2).val, 0, 0] :=
  (by decide +kernel : ∀ n : Fin 16, (![0, (Scalar.indexCast (BitVec.ofNat 32 n.val)).toNat, 0, 0]
    : Fin 4 → ℕ) = ![0, n.val, 0, 0]) (i 2)

theorem ld_key (x : Vec F S16384x128 .bf16) {off : Fin 2 → ℕ} (n : ℕ) (hn : n < 16) (h : off = ![1024 * n, 0])
    (inb : ∀ a, off a + S1024x128.size a ≤ S16384x128.size a) :
    View.ld x (Rect.unit off S1024x128.size inb) = keyTile x n := by
  subst h
  funext y
  have h0 : (y 0).val < 1024 := (y 0).isLt
  refine congrArg x (funext fun a => Fin.ext ?_)
  match a with
  | ⟨0, _⟩ =>
    show 1024 * n + 1 * (y 0).val = (1024 * n + (y 0).val) % 16384
    rw [Nat.mod_eq_of_lt (by omega)]; omega
  | ⟨1, _⟩ => show 0 + 1 * (y 1).val = (y 1).val; omega

theorem ld_val (x : Vec F S1x16x144x1024 .bf16) {off : Fin 4 → ℕ} (n : ℕ) (hn : n < 16) (h : off = ![0, n, 0, 0])
    (inb : ∀ a, off a + S1x1x144x1024.size a ≤ S1x16x144x1024.size a) :
    View.ld x (Rect.unit off S1x1x144x1024.size inb) = valTile x n := by
  subst h
  funext y
  have h0 : (y 0).val < 1 := (y 0).isLt
  have h1 : (y 1).val < 1 := (y 1).isLt
  refine congrArg x (funext fun a => Fin.ext ?_)
  match a with
  | ⟨0, _⟩ => show 0 + 1 * (y 0).val = 0; omega
  | ⟨1, _⟩ => show n + 1 * (y 1).val = n % 16; rw [Nat.mod_eq_of_lt hn]; omega
  | ⟨2, _⟩ => show 0 + 1 * (y 2).val = (y 2).val; omega
  | ⟨3, _⟩ => show 0 + 1 * (y 3).val = (y 3).val; omega

/-! ## The loop -/

/-- What one trip yields: the two new rows of maxima. -/
theorem trip_yield (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (k : Fin (k0_t1_loop i).trips) (acc : FVec F S1x1024 .f32 × FVec F S1x1024 .f32) (f : BufTy.Contents (Elt F) arg9.view.ty) :
    tripR_k0_t1 (F := F) Variants.none c none i arg3 harg3 arg4 harg4 arg5 harg5 arg6 harg6 arg7 harg7 arg8 harg8 arg9 harg9 v0 (harg4.unread x1) (harg5.unread x2) k acc f
      = (k0_pay5 (k0_pay21 v0) acc.1 (keyTile x1 k.val), k0_pay7 (k0_pay22 v0) acc.2 (keyTile x1 k.val)) := by
  have hk : k.val < 16 := lt_trans (lt_of_lt_of_eq k.isLt (trips1 i)) (i 2).isLt
  unfold tripR_k0_t1 trip_k0_t1
  dsimp only
  sl_unfold_words
  simp only [View.readAt_eq_ld, harg4.read_unread]
  exact congrArg (fun z => (k0_pay5 (k0_pay21 v0) acc.1 z, k0_pay7 (k0_pay22 v0) acc.2 z)) (ld_key x1 k.val hk (off1_eq i k) _)

/-- What one trip stores: the two new planes, over the planes it finds. -/
theorem trip_stores (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (k : Fin (k0_t1_loop i).trips) (acc : FVec F S1x1024 .f32 × FVec F S1x1024 .f32) (f : BufTy.Contents (Elt F) arg9.view.ty) :
    tripL_k0_t1 (F := F) Variants.none c none i arg3 harg3 arg4 harg4 arg5 harg5 arg6 harg6 arg7 harg7 arg8 harg8 arg9 harg9 v0 (harg4.unread x1) (harg5.unread x2) k acc f
      = [⟨Rect.unit ![1, 0, 0] S1x144x1024.size inb_S2x144x1024_S1x144x1024_1_0_0,
          k0_pay25 (k0_pay2 (valTile x2 k.val)) (k0_pay8 (k0_pay22 v0) acc.2 (keyTile x1 k.val))
            (k0_pay9 (plane1 (arg9.view.read (Elt F) f))) (k0_pay10 (k0_pay22 v0) acc.2 (keyTile x1 k.val))⟩,
        ⟨Rect.unit ![0, 0, 0] S1x144x1024.size inb_S2x144x1024_S1x144x1024_0_0_0,
          k0_pay6 (k0_pay21 v0) acc.1 (keyTile x1 k.val) (valTile x2 k.val) (plane0 (arg9.view.read (Elt F) f))⟩] := by
  have hk : k.val < 16 := lt_trans (lt_of_lt_of_eq k.isLt (trips1 i)) (i 2).isLt
  unfold tripL_k0_t1 trip_k0_t1
  dsimp only
  sl_unfold_words
  simp only [View.readAt_eq_ld, harg4.read_unread, harg5.read_unread]
  exact congrArg₂ (fun (z : Vec F S1024x128 .bf16) (u : Vec F S1x1x144x1024 .bf16) => ([⟨Rect.unit ![1, 0, 0] S1x144x1024.size inb_S2x144x1024_S1x144x1024_1_0_0,
          k0_pay25 (k0_pay2 u) (k0_pay8 (k0_pay22 v0) acc.2 z)
            (k0_pay9 (plane1 (arg9.view.read (Elt F) f))) (k0_pay10 (k0_pay22 v0) acc.2 z)⟩,
        ⟨Rect.unit ![0, 0, 0] S1x144x1024.size inb_S2x144x1024_S1x144x1024_0_0_0,
          k0_pay6 (k0_pay21 v0) acc.1 z u (plane0 (arg9.view.read (Elt F) f))⟩] : List (View.Piece (Elt F) S2x144x1024 .f32)))
    (ld_key x1 k.val hk (off1_eq i k) (k0_off1_inb i k)) (ld_val x2 k.val hk (off2_eq i k) (k0_off2_inb i k))

/-- Before trip `k` of the first loop the carried rows and the scratch planes are those of the state after `k` tiles. -/
theorem loop_state (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (x1 : Vec F S16384x128 .bf16) (x2 : Vec F S1x16x144x1024 .bf16)
    (G : BufTy.Contents (Elt F) arg9.view.ty) (hG : arg9.view.read (Elt F) G = k0_pay23) : ∀ k : ℕ, k ≤ (k0_t1_loop i).trips →
    (st_k0_t1 (F := F) Variants.none c none i arg3 harg3 arg4 harg4 arg5 harg5 arg6 harg6 arg7 harg7 arg8 harg8 arg9 harg9 v0 (harg4.unread x1) (harg5.unread x2) G (k0_pay24, k0_pay24) k).1
      = ((State.at v0 x1 x2 k).m0, (State.at v0 x1 x2 k).m1)
    ∧ plane0 (arg9.view.read (Elt F) (arg9.view.writes (Elt F) G
        (st_k0_t1 (F := F) Variants.none c none i arg3 harg3 arg4 harg4 arg5 harg5 arg6 harg6 arg7 harg7 arg8 harg8 arg9 harg9 v0 (harg4.unread x1) (harg5.unread x2) G (k0_pay24, k0_pay24) k).2)) = (State.at v0 x1 x2 k).a0
    ∧ plane1 (arg9.view.read (Elt F) (arg9.view.writes (Elt F) G
        (st_k0_t1 (F := F) Variants.none c none i arg3 harg3 arg4 harg4 arg5 harg5 arg6 harg6 arg7 harg7 arg8 harg8 arg9 harg9 v0 (harg4.unread x1) (harg5.unread x2) G (k0_pay24, k0_pay24) k).2)) = (State.at v0 x1 x2 k).a1
  | 0, _ => by
    refine ⟨rfl, ?_, ?_⟩
    · show plane0 (arg9.view.read (Elt F) (arg9.view.writes (Elt F) G [])) = plane0 k0_pay23
      rw [View.writes_nil, hG]
    · show plane1 (arg9.view.read (Elt F) (arg9.view.writes (Elt F) G [])) = plane1 k0_pay23
      rw [View.writes_nil, hG]
  | k + 1, hk => by
    obtain ⟨h1, h2, h3⟩ := loop_state c i arg3 harg3 arg4 harg4 arg5 harg5 arg6 harg6 arg7 harg7 arg8 harg8 arg9 harg9 v0 x1 x2 G hG k (Nat.le_of_succ_le hk)
    have e := st_k0_t1_succ (F := F) Variants.none c none i arg3 harg3 arg4 harg4 arg5 harg5 arg6 harg6 arg7 harg7 arg8 harg8 arg9 harg9 v0 (harg4.unread x1) (harg5.unread x2) G (k0_pay24, k0_pay24) ⟨k, hk⟩
    dsimp only at e
    rw [trip_yield, trip_stores, h1, h2, h3] at e
    rw [e]
    refine ⟨rfl, ?_, ?_⟩
    · exact (plane0_store1 _ _ _ _).trans (plane0_store0 _ _ _ _)
    · exact plane1_store1 _ _ _ _

/-! ## The diagonal tile and the output block -/

/-- The mask of the diagonal tile. -/
abbrev mask : IVec S1024x1024 1 :=
  k0_pay31 (iota .tc S1024x1024 32 [0] iota_S1024x1024_d0_w32) (iota .tc S1024x1024 32 [1] iota_S1024x1024_d1_w32) 64#32 k0_pay30

/-- The accumulators after the diagonal tile. -/
def last0 (q kb : Vec F S1024x128 .bf16) (vb : Vec F S1x1x144x1024 .bf16) (s : State F) : Vec F S1x144x1024 .f32 :=
  k0_pay32 s.m0 (k0_pay27 vb) (k0_pay28 q kb) mask s.a0
def last1 (q kb : Vec F S1024x128 .bf16) (vb : Vec F S1x1x144x1024 .bf16) (s : State F) : Vec F S1x144x1024 .f32 :=
  k0_pay33 s.m1 (k0_pay27 vb) (k0_pay29 q kb) mask s.a1

theorem st2_zero (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole) (v0 : Vec F S1024x128 .bf16) (w : BitVec 32) (X4 : BufTy.Contents (Elt F) arg4.view.ty) (X5 : BufTy.Contents (Elt F) arg5.view.ty)
    (G : BufTy.Contents (Elt F) arg9.view.ty) (init : FVec F S1x1024 .f32 × FVec F S1x1024 .f32) :
    st_k0_t2 (F := F) Variants.none c none i arg3 harg3 arg4 harg4 arg5 harg5 arg6 harg6 arg7 harg7 arg8 harg8 arg9 harg9 v0 w X4 X5 G init 0 = (init, []) := rfl

/-- The output block at one grid point, from the input blocks. -/
theorem out_eq (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S1x16x144x1024 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1024x128 .bf16) (harg8 : arg8.IsWhole) (arg9 : Memref sig .tc .vmem S2x144x1024 .f32) (harg9 : arg9.IsWhole)
    (x0 : Vec F S1024x128 .bf16) (x1 : Vec F S16384x128 .bf16) (x2 : Vec F S1x16x144x1024 .bf16) (x3 : Vec F S4x64 .f32) (x4 : Vec F S128x1 .f32) :
    out0_A_5 (F := F) c i arg3 harg3 arg4 harg4 arg5 harg5 arg6 harg6 arg7 harg7 arg8 harg8 arg9 harg9 x0 x1 x2 x3 x4
      = k0_pay1 (k0_pay34 x3
          (last0 x0 (keyTile x1 (i 2).val) (valTile x2 (i 2).val) (State.at x0 x1 x2 (i 2).val))
          (last1 x0 (keyTile x1 (i 2).val) (valTile x2 (i 2).val) (State.at x0 x1 x2 (i 2).val))) x4 := by
  have hi : (i 2).val < 16 := (i 2).isLt
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  rw [View.canon_unit_zero (h := by funext a; fin_cases a <;> rfl)]
  sl_unfold_words
  simp only [View.readAt_eq_ld, harg3.read_unread, harg4.read_unread, harg5.read_unread, harg6.read_unread, harg7.read_unread, View.ld_unit_lit]
  have t1 : Scf.trips _ _ _ = _ := trips1 i
  have t2 : Scf.trips _ _ _ = _ := trips2 i
  dsimp only at t1 t2
  rw [t1, t2]
  have hx0 : View.ld x0 (Rect.unit ![0, 0] ![1024, 128] inb_S1024x128_S1024x128_0_0) = x0 := View.ld_unit_lit _ _ (by decide)
  have hx3 : View.ld x3 (Rect.unit ![0, 0] ![4, 64] inb_S4x64_S4x64_0_0) = x3 := View.ld_unit_lit _ _ (by decide)
  have hx4 : View.ld x4 (Rect.unit ![0, 0] ![128, 1] inb_S128x1_S128x1_0_0) = x4 := View.ld_unit_lit _ _ (by decide)
  simp only [st2_zero, List.nil_append, hx0, hx3, hx4]
  obtain ⟨h1, h2, h3⟩ := loop_state c i arg3 harg3 arg4 harg4 arg5 harg5 arg6 harg6 arg7 harg7 arg8 harg8 arg9 harg9 x0 x1 x2 (arg9.view.writes (Elt F) arg9.view.junk
    [⟨Rect.unit ![0, 0, 0] S2x144x1024.size inb_S2x144x1024_S2x144x1024_0_0_0, k0_pay23⟩])
    (View.read_writes_full _ _ _ _ _) (i 2).val (trips1 i).ge
  generalize st_k0_t1 (F := F) Variants.none c none i arg3 harg3 arg4 harg4 arg5 harg5 arg6 harg6 arg7 harg7 arg8 harg8 arg9 harg9 x0 (harg4.unread x1) (harg5.unread x2) (arg9.view.writes (Elt F) arg9.view.junk
    [⟨Rect.unit ![0, 0, 0] S2x144x1024.size inb_S2x144x1024_S2x144x1024_0_0_0, k0_pay23⟩]) (k0_pay24, k0_pay24) (i 2).val = st at h1 h2 h3 ⊢
  rw [st2_zero]
  have e0 : st.1.1 = (State.at x0 x1 x2 (i 2).val).m0 := congrArg Prod.fst h1
  have e1 : st.1.2 = (State.at x0 x1 x2 (i 2).val).m1 := congrArg Prod.snd h1
  have e5 := ld_key x1 (i 2).val hi (off5_eq i) (k0_off5_inb i)
  have e6 := ld_val x2 (i 2).val hi (off6_eq i) (k0_off6_inb i)
  unfold last0 last1
  rw [← e0, ← e1, ← h2, ← h3, ← e5, ← e6]
  rw [← load0, ← load1 (w := k0_pay32 st.1.1 (k0_pay27 (View.ld x2 (Rect.unit (k0_off6 i) S1x1x144x1024.size (k0_off6_inb i))))
    (k0_pay28 x0 (View.ld x1 (Rect.unit (k0_off5 i) S1024x128.size (k0_off5_inb i)))) mask
    (arg9.view.readCov (st.2 ++ [clear k0_pay23]) (Rect.unit (s := S2x144x1024) ![0, 0, 0] S1x144x1024.size inb_S2x144x1024_S1x144x1024_0_0_0).toLoadRect))]
  refine congrArg (fun u => k0_pay1 u x4) (congrArg₂ (k0_pay34 x3) ?_ ?_)
  · exact loadEnd0 _ _ _ _
  · exact loadEnd1 _ _ _

end Cert.Kernel4Ideal.Attn

end
-- ==== Proof.Attn1Host.lean ====
/-
  Layer 1.
  The differential attention kernel (`kernel4`): what each block holds, in terms of the arguments.

  Point `t` of the 2 × 6 × 16 grid is sequence t / 96, head t / 16 % 6, query tile t % 16.
-/
module

public import proofs.«01_k».proof.Proof.Attn1Body

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Kernel4Ideal.Attn

variable (m : (ℓ : Loc nD τ sig) → Buf (Elt Ideal) ℓ)

/-- The block that each window has at point `t`. -/
theorem idx_val : ∀ t : Fin cfg0.N, win0_0.index t = ![t.val / 96 * 16 + t.val % 16, t.val / 16 % 6]
    ∧ win0_1.index t = ![t.val / 96, 6 + t.val / 16 % 6]
    ∧ win0_2.index t = ![t.val / 96 * 6 + t.val / 16 % 6, 0, 0, 0]
    ∧ win0_3.index t = ![0, 0] ∧ win0_4.index t = ![0, 0]
    ∧ win0_5.index t = ![t.val / 96 * 16 + t.val % 16, t.val / 16 % 6]
    ∧ (grid0.coords t 2).val = t.val % 16 ∧ t.val / 96 < 2 :=
  (by decide +kernel : ∀ t : Fin grid0.N, _)

/-- The four vectors stacked. -/
def lamRows (l1 l2 l3 l4 : FVec Ideal S64 .f32) : FVec Ideal S4x64 .f32 :=
  concatenate S4x64 0 [⟨S1x64, (broadcastInDim S1x64 ![1] bcast_S64_S1x64_1 l1 : FVec Ideal S1x64 .f32)⟩,
    ⟨S1x64, (broadcastInDim S1x64 ![1] bcast_S64_S1x64_1 l2 : FVec Ideal S1x64 .f32)⟩,
    ⟨S1x64, (broadcastInDim S1x64 ![1] bcast_S64_S1x64_1 l3 : FVec Ideal S1x64 .f32)⟩,
    ⟨S1x64, (broadcastInDim S1x64 ![1] bcast_S64_S1x64_1 l4 : FVec Ideal S1x64 .f32)⟩] concatenates_S1x64_S1x64_S1x64_S1x64_S4x64_d0

/-- The values transposed tile by tile, over a row of ones and 15 rows of zeros. -/
def valTiles (v : FVec Ideal S32768x768 .bf16) : FVec Ideal S12x16x144x1024 .bf16 :=
  concatenate S12x16x144x1024 2
    [⟨S12x16x128x1024, (shapeCast S12x16x128x1024 (transpose S2x6x16x128x1024 [0, 3, 1, 4, 2] (shapeCast S2x16x1024x6x128 v shapeCasts_S32768x768_S2x16x1024x6x128) transposes_S2x16x1024x6x128_S2x6x16x128x1024_0_3_1_4_2) shapeCasts_S2x6x16x128x1024_S12x16x128x1024 : FVec Ideal S12x16x128x1024 .bf16)⟩,
      ⟨S12x16x1x1024, (broadcastInDim S12x16x1x1024 ![] bcast_S_S12x16x1x1024 (constant S_ .bf16 0x3F80#16) : FVec Ideal S12x16x1x1024 .bf16)⟩,
      ⟨S12x16x15x1024, (broadcastInDim S12x16x15x1024 ![] bcast_S_S12x16x15x1024 (constant S_ .bf16 0x0000#16) : FVec Ideal S12x16x15x1024 .bf16)⟩] concatenates_S12x16x128x1024_S12x16x1x1024_S12x16x15x1024_S12x16x144x1024_d2

theorem lamRows_apply (l1 l2 l3 l4 : FVec Ideal S64 .f32) (k : Fin 64) :
    lamRows l1 l2 l3 l4 (ix2 0 k) = l1 (ix1 k) ∧ lamRows l1 l2 l3 l4 (ix2 1 k) = l2 (ix1 k)
    ∧ lamRows l1 l2 l3 l4 (ix2 2 k) = l3 (ix1 k) ∧ lamRows l1 l2 l3 l4 (ix2 3 k) = l4 (ix1 k) := by
  refine ⟨?_, ?_, ?_, ?_⟩ <;> pointwise [lamRows]

/-- Four rows stacked are as the rows are. -/
theorem stack_congr {a a' b b' c c' d d' : FVec Ideal S1x64 .f32} (ha : a = a') (hb : b = b') (hc : c = c') (hd : d = d') :
    concatenate S4x64 0 [⟨S1x64, a⟩, ⟨S1x64, b⟩, ⟨S1x64, c⟩, ⟨S1x64, d⟩] concatenates_S1x64_S1x64_S1x64_S1x64_S4x64_d0
      = concatenate S4x64 0 [⟨S1x64, a'⟩, ⟨S1x64, b'⟩, ⟨S1x64, c'⟩, ⟨S1x64, d'⟩] concatenates_S1x64_S1x64_S1x64_S1x64_S4x64_d0 := by
  rw [ha, hb, hc, hd]

/-- Values, ones and zeros stacked are as the three are. -/
theorem tiles_congr {a a' : FVec Ideal S12x16x128x1024 .bf16} {b b' : FVec Ideal S12x16x1x1024 .bf16}
    {c c' : FVec Ideal S12x16x15x1024 .bf16} (ha : a = a') (hb : b = b') (hc : c = c') :
    concatenate S12x16x144x1024 2 [⟨S12x16x128x1024, a⟩, ⟨S12x16x1x1024, b⟩, ⟨S12x16x15x1024, c⟩]
        concatenates_S12x16x128x1024_S12x16x1x1024_S12x16x15x1024_S12x16x144x1024_d2
      = concatenate S12x16x144x1024 2 [⟨S12x16x128x1024, a'⟩, ⟨S12x16x1x1024, b'⟩, ⟨S12x16x15x1024, c'⟩]
        concatenates_S12x16x128x1024_S12x16x1x1024_S12x16x15x1024_S12x16x144x1024_d2 := by
  rw [ha, hb, hc]

/-- The region finds the vectors stacked. -/
theorem V_lam (c : Dev nD) : V m c main_v4 = lamRows (m ((c : Thread nD τ).loc main_arg2)) (m ((c : Thread nD τ).loc main_arg3))
    (m ((c : Thread nD τ).loc main_arg4)) (m ((c : Thread nD τ).loc main_arg5)) := by
  change StableHlo.after hostOps0 (fun b => m (c, b)) (Proc.devRef .tc main_v4) = _
  simp only [StableHlo.after_cons, StableHlo.after_nil]
  rw [StableHlo.reshape_result_ne]; rotate_left; decide
  rw [StableHlo.nary_result_ne]; rotate_left; decide
  rw [StableHlo.unary_result_ne]; rotate_left; decide
  rw [StableHlo.nullary_result_ne]; rotate_left; decide
  rw [StableHlo.unary_result_ne]; rotate_left; decide
  rw [StableHlo.nullary_result_ne]; rotate_left; decide
  rw [StableHlo.reshape_result_ne]; rotate_left; decide
  rw [StableHlo.unary_result_ne]; rotate_left; decide
  rw [StableHlo.reshape_result_ne]; rotate_left; decide
  rw [StableHlo.nary_result]
  refine stack_congr ?_ ?_ ?_ ?_
  · refine (StableHlo.unary_result_ne (r := main_v0) _ _ _ _ _ _ (by decide)).trans ?_
    refine (StableHlo.unary_result_ne (r := main_v0) _ _ _ _ _ _ (by decide)).trans ?_
    refine (StableHlo.unary_result_ne (r := main_v0) _ _ _ _ _ _ (by decide)).trans ?_
    refine (StableHlo.unary_result _ _ _ _ _ _).trans ?_
    rfl
  · refine (StableHlo.unary_result_ne (r := main_v1) _ _ _ _ _ _ (by decide)).trans ?_
    refine (StableHlo.unary_result_ne (r := main_v1) _ _ _ _ _ _ (by decide)).trans ?_
    refine (StableHlo.unary_result _ _ _ _ _ _).trans ?_
    rw [StableHlo.unary_result_ne]; rotate_left; decide
  · refine (StableHlo.unary_result_ne (r := main_v2) _ _ _ _ _ _ (by decide)).trans ?_
    refine (StableHlo.unary_result _ _ _ _ _ _).trans ?_
    rw [StableHlo.unary_result_ne]; rotate_left; decide
    rw [StableHlo.unary_result_ne]; rotate_left; decide
  · refine (StableHlo.unary_result _ _ _ _ _ _).trans ?_
    rw [StableHlo.unary_result_ne]; rotate_left; decide
    rw [StableHlo.unary_result_ne]; rotate_left; decide
    rw [StableHlo.unary_result_ne]; rotate_left; decide

/-- The region finds the values transposed. -/
theorem V_vals (c : Dev nD) : V m c main_v10 = valTiles (m ((c : Thread nD τ).loc main_arg1)) := by
  change StableHlo.after hostOps0 (fun b => m (c, b)) (Proc.devRef .tc main_v10) = _
  simp only [StableHlo.after_cons, StableHlo.after_nil]
  rw [StableHlo.reshape_result_ne]; rotate_left; decide
  rw [StableHlo.nary_result]
  refine tiles_congr ?_ ?_ ?_
  · refine (StableHlo.unary_result_ne (r := main_v7) _ _ _ _ _ _ (by decide)).trans ?_
    refine (StableHlo.nullary_result_ne (r := main_v7) _ _ _ _ (by decide)).trans ?_
    refine (StableHlo.unary_result_ne (r := main_v7) _ _ _ _ _ _ (by decide)).trans ?_
    refine (StableHlo.nullary_result_ne (r := main_v7) _ _ _ _ (by decide)).trans ?_
    refine (StableHlo.reshape_result _ _ _ _ _ _ _).trans ?_
    rw [StableHlo.unary_result, StableHlo.reshape_result]
    rw [StableHlo.nary_result_ne]; rotate_left; decide
    rw [StableHlo.unary_result_ne]; rotate_left; decide
    rw [StableHlo.unary_result_ne]; rotate_left; decide
    rw [StableHlo.unary_result_ne]; rotate_left; decide
    rw [StableHlo.unary_result_ne]; rotate_left; decide
    rfl
  · refine (StableHlo.unary_result_ne (r := main_v8) _ _ _ _ _ _ (by decide)).trans ?_
    refine (StableHlo.nullary_result_ne (r := main_v8) _ _ _ _ (by decide)).trans ?_
    refine (StableHlo.unary_result _ _ _ _ _ _).trans ?_
    rw [StableHlo.nullary_result]
  · refine (StableHlo.unary_result _ _ _ _ _ _).trans ?_
    rw [StableHlo.nullary_result]

/-- The gain as a column, at an index. -/
theorem V_gain (c : Dev nD) (d : Fin 128) :
    (V m c main_v11 : FVec Ideal S128x1 .f32) (ix2 d 0) = (m ((c : Thread nD τ).loc main_arg6) : FVec Ideal S128 .f32) (ix1 d) := by
  entry_read
  pointwise

/-- The transposed values at an index: rows 0 … 127 are the head's lanes. -/
theorem vals_apply (v : FVec Ideal S32768x768 .bf16) (r : Fin 12) (s : Fin 16) (d : Fin 128) (k : Fin 1024) :
    valTiles v (ix4 r s ⟨d.val, by omega⟩ k)
      = v (ix2 ⟨r.val / 6 * 16384 + s.val * 1024 + k.val, by omega⟩ ⟨r.val % 6 * 128 + d.val, by omega⟩) := by
  pointwise [valTiles]

/-- Row 128 is ones. -/
theorem ones_apply (v : FVec Ideal S32768x768 .bf16) (r : Fin 12) (s : Fin 16) (k : Fin 1024) :
    (valTiles v (ix4 r s 128 k) : EReal) = 1 := by
  pointwise [valTiles]

/-- Rows 129 … 143 are zeros. -/
theorem zeros_apply (v : FVec Ideal S32768x768 .bf16) (r : Fin 12) (s : Fin 16) (d : Fin 15) (k : Fin 1024) :
    (valTiles v (ix4 r s ⟨129 + d.val, by omega⟩ k) : EReal) = 0 := by
  pointwise [valTiles]
  rw [dif_neg (by omega), dif_neg (by omega)]

/-- Point `t`'s queries. -/
theorem blk_q (c : Dev nD) (t : Fin cfg0.N) (j : Fin 1024) (d : Fin 128) :
    (iblk m c 0 t : FVec Ideal S1024x128 .bf16) (ix2 j d) = (m ((c : Thread nD τ).loc main_arg0) : FVec Ideal S32768x1536 .bf16)
      (ix2 ⟨(t.val / 96 * 16 + t.val % 16) * 1024 + j.val, by have := (idx_val t).2.2.2.2.2.2.2; omega⟩ ⟨t.val / 16 % 6 * 128 + d.val, by omega⟩) := by
  blk_ext [iblk, V, idx_val t]

/-- Point `t`'s keys. -/
theorem blk_k (c : Dev nD) (t : Fin cfg0.N) (n : Fin 16384) (d : Fin 128) :
    (iblk m c 1 t : FVec Ideal S16384x128 .bf16) (ix2 n d) = (m ((c : Thread nD τ).loc main_arg0) : FVec Ideal S32768x1536 .bf16)
      (ix2 ⟨t.val / 96 * 16384 + n.val, by have := (idx_val t).2.2.2.2.2.2.2; omega⟩ ⟨(6 + t.val / 16 % 6) * 128 + d.val, by omega⟩) := by
  blk_ext [iblk, V, idx_val t]

/-- Point `t`'s values. -/
theorem blk_v (c : Dev nD) (t : Fin cfg0.N) (s : Fin 16) (d : Fin 144) (k : Fin 1024) :
    (iblk m c 2 t : FVec Ideal S1x16x144x1024 .bf16) (ix4 0 s d k) = (V m c main_v10 : FVec Ideal S12x16x144x1024 .bf16)
      (ix4 ⟨t.val / 96 * 6 + t.val / 16 % 6, by have := (idx_val t).2.2.2.2.2.2.2; omega⟩ s d k) := by
  blk_ext [iblk, idx_val t]

/-- Point `t`'s lambda vectors. -/
theorem blk_lam (c : Dev nD) (t : Fin cfg0.N) (r : Fin 4) (k : Fin 64) :
    (iblk m c 3 t : FVec Ideal S4x64 .f32) (ix2 r k) = (V m c main_v4 : FVec Ideal S4x64 .f32) (ix2 r k) := by
  blk_ext [iblk, idx_val t]

/-- Point `t`'s gain. -/
theorem blk_gain (c : Dev nD) (t : Fin cfg0.N) (d : Fin 128) :
    (iblk m c 4 t : FVec Ideal S128x1 .f32) (ix2 d 0) = (V m c main_v11 : FVec Ideal S128x1 .f32) (ix2 d 0) := by
  blk_ext [iblk, idx_val t]

end Cert.Kernel4Ideal.Attn
-- ==== Proof.Attn1Mask.lean ====
/-
  Layer 1.
  The mask of the diagonal tile (`kernel4`): key row `k` is visible to query row `j` when its chunk of 64 is not later.
-/
module

public import proofs.«01_k».proof.Proof.Attn1Body

@[expose] public section

set_option maxRecDepth 16384

noncomputable section

open Idealize.ShloMosaic Idealize.ShloMosaic.TcCoe Idealize.SL.Sem
open Cert.Kernel4Ideal Cert.Kernel4Ideal.Gen

namespace Cert.Kernel4Ideal.Attn

/-- The floored quotient by 64 as the body computes it on words. -/
def chunkWord (r : BitVec 32) : BitVec 32 :=
  Scalar.select
    (IntOp.andi
      (IntOp.cmpi .ne
        (IntOp.subi (BitVec.setWidth 32 (IntOp.cmpi .sgt r 0#32)) (BitVec.setWidth 32 (IntOp.cmpi .slt r 0#32)))
        (Scalar.subi (Scalar.extui (Scalar.cmpi .sgt 64#32 0#32)) (Scalar.extui (Scalar.cmpi .slt 64#32 0#32))))
      (IntOp.cmpi .ne (IntOp.remsi .vector r 64#32) 0#32))
    (IntOp.subi (IntOp.divsi .vector r 64#32) 1#32)
    (IntOp.divsi .vector r 64#32)

theorem chunkWord_eq : ∀ r : Fin 1024, chunkWord (BitVec.ofNat 32 r.val) = BitVec.ofNat 32 (r.val / 64) := by
  decide +kernel

theorem chunk_le : ∀ a b : Fin 16, (IntOp.cmpi .sle (BitVec.ofNat 32 a.val) (BitVec.ofNat 32 b.val) = 1#1) ↔ a.val ≤ b.val := by
  decide +kernel

/-- The mask at a key row and a query row. -/
theorem mask_apply (k j : Fin 1024) : (mask (ix2 k j) = 1#1) ↔ k.val / 64 ≤ j.val / 64 := by
  have h : mask (ix2 k j) = IntOp.cmpi .sle (chunkWord (BitVec.ofNat 32 k.val)) (chunkWord (BitVec.ofNat 32 j.val)) := by
    unfold mask
    pointwise [k0_pay31, k0_pay30, chunkWord]
  rw [h, chunkWord_eq, chunkWord_eq]
  exact chunk_le ⟨k.val / 64, by omega⟩ ⟨j.val / 64, by omega⟩

end Cert.Kernel4Ideal.Attn
-- ==== Proof.Attn1Step.lean ====
/-
  Layer 1.
  The differential attention kernel (`kernel4`) at the ideal instance: each value of its body, at an index.

  For one query column and one attention map, a key tile takes a running maximum `m` and an accumulator entry `a` to
  `newMax m σ` and `newAcc m a σ w`, where `σ` are the tile's scores and `w` its values. The diagonal tile does the
  same with the scores of later chunks replaced by −∞.
-/
module

public import proofs.«01_k».proof.Proof.Attn1Body
public import proofs.«01_k».proof.Proof.AttnReal

@[expose] public section

set_option maxRecDepth 16384

noncomputable section

open Idealize.ShloMosaic Idealize.ShloMosaic.TcCoe Idealize.SL.Sem
open Cert.Kernel4Ideal Cert.Kernel4Ideal.Gen

namespace Cert.Kernel4Ideal.Attn

open Cert.Kernel3Ideal.Attn (newMax newAcc)

/-- A score: query row `j` against key row `k`, over the 128 lanes. -/
def score (q kb : Vec Ideal S1024x128 .bf16) (j k : Fin 1024) : EReal :=
  ∑ d : Fin 128, (kb (ix2 k d) : EReal) * q (ix2 j d)

/-- The word 0xFF800000 is −∞. -/
theorem negInf : Ideal.ofBits .f32 4286578688#32 = ⊥ := by
  simp [Ideal.ofBits, Ideal.ieee]

theorem lane_lt : ∀ d : Fin 128, IntOp.cmpi .slt (BitVec.ofNat 32 d.val) 64#32 = 1 ↔ d.val < 64 := by
  decide +kernel

theorem lane_ge : ∀ d : Fin 128, IntOp.cmpi .sge (BitVec.ofNat 32 d.val) 64#32 = 1 ↔ 64 ≤ d.val := by
  decide +kernel

/-- The queries of the first map: lanes 64 … 127 are zero. -/
theorem queries0_apply (q : Vec Ideal S1024x128 .bf16) (j : Fin 1024) (d : Fin 128) :
    (k0_pay21 q (ix2 j d) : EReal) = if d.val < 64 then q (ix2 j d) else 0 := by
  pointwise [k0_pay21, k0_pay20]
  exact if_congr (lane_lt d) rfl rfl

/-- The queries of the second map: lanes 0 … 63 are zero. -/
theorem queries1_apply (q : Vec Ideal S1024x128 .bf16) (j : Fin 1024) (d : Fin 128) :
    (k0_pay22 q (ix2 j d) : EReal) = if 64 ≤ d.val then q (ix2 j d) else 0 := by
  pointwise [k0_pay22, k0_pay20]
  exact if_congr (lane_ge d) rfl rfl

theorem max0_apply (q kb : Vec Ideal S1024x128 .bf16) (m : FVec Ideal S1x1024 .f32) (j : Fin 1024) :
    (k0_pay5 q m kb (ix2 0 j) : EReal) = newMax (m (ix2 0 j)) (score q kb j) := by
  pointwise [k0_pay5, k0_pay3, newMax, score]
  simp only [negInf]

theorem max1_apply (q kb : Vec Ideal S1024x128 .bf16) (m : FVec Ideal S1x1024 .f32) (j : Fin 1024) :
    (k0_pay7 q m kb (ix2 0 j) : EReal) = newMax (m (ix2 0 j)) (score q kb j) := by
  pointwise [k0_pay7, k0_pay4, newMax, score]
  simp only [negInf]

theorem acc0_apply (q kb : Vec Ideal S1024x128 .bf16) (m : FVec Ideal S1x1024 .f32) (vb : Vec Ideal S1x1x144x1024 .bf16)
    (a : Vec Ideal S1x144x1024 .f32) (d : Fin 144) (j : Fin 1024) :
    (k0_pay6 q m kb vb a (ix3 0 d j) : EReal)
      = newAcc (m (ix2 0 j)) (a (ix3 0 d j)) (score q kb j) (fun k => vb (ix4 0 0 d k)) := by
  pointwise [k0_pay6, k0_pay5, k0_pay3, k0_pay2, newAcc, newMax, score]
  simp only [negInf]
  rfl

theorem acc1_apply (q kb : Vec Ideal S1024x128 .bf16) (m : FVec Ideal S1x1024 .f32) (vb : Vec Ideal S1x1x144x1024 .bf16)
    (a : Vec Ideal S1x144x1024 .f32) (d : Fin 144) (j : Fin 1024) :
    (k0_pay25 (k0_pay2 vb) (k0_pay8 q m kb) (k0_pay9 a) (k0_pay10 q m kb) (ix3 0 d j) : EReal)
      = newAcc (m (ix2 0 j)) (a (ix3 0 d j)) (score q kb j) (fun k => vb (ix4 0 0 d k)) := by
  pointwise [k0_pay25, k0_pay8, k0_pay9, k0_pay10, k0_pay7, k0_pay4, k0_pay2, newAcc, newMax, score]
  simp only [negInf]
  rfl

/-- The diagonal tile: the scores where the mask holds, −∞ elsewhere. -/
theorem diag0_apply (q kb : Vec Ideal S1024x128 .bf16) (mk : IVec S1024x1024 1) (m : FVec Ideal S1x1024 .f32)
    (vb : Vec Ideal S1x1x144x1024 .bf16) (a : Vec Ideal S1x144x1024 .f32) (d : Fin 144) (j : Fin 1024) :
    (k0_pay32 m (k0_pay27 vb) (k0_pay28 q kb) mk a (ix3 0 d j) : EReal)
      = newAcc (m (ix2 0 j)) (a (ix3 0 d j))
          (fun k => if mk (ix2 k j) = 1#1 then score (k0_pay21 q) kb j k else ⊥) (fun k => vb (ix4 0 0 d k)) := by
  pointwise [k0_pay32, k0_pay27, k0_pay28, newAcc, newMax, score]
  simp only [negInf]
  rfl

theorem diag1_apply (q kb : Vec Ideal S1024x128 .bf16) (mk : IVec S1024x1024 1) (m : FVec Ideal S1x1024 .f32)
    (vb : Vec Ideal S1x1x144x1024 .bf16) (a : Vec Ideal S1x144x1024 .f32) (d : Fin 144) (j : Fin 1024) :
    (k0_pay33 m (k0_pay27 vb) (k0_pay29 q kb) mk a (ix3 0 d j) : EReal)
      = newAcc (m (ix2 0 j)) (a (ix3 0 d j))
          (fun k => if mk (ix2 k j) = 1#1 then score (k0_pay22 q) kb j k else ⊥) (fun k => vb (ix4 0 0 d k)) := by
  pointwise [k0_pay33, k0_pay27, k0_pay29, newAcc, newMax, score]
  simp only [negInf]
  rfl

end Cert.Kernel4Ideal.Attn
-- ==== Proof.Attn1Epi.lean ====
/-
  Layer 1.
  The differential attention kernel (`kernel4`) at the ideal instance: what follows the key tiles, at an index.
-/
module

public import proofs.«01_k».proof.Proof.Attn1Step

@[expose] public section

set_option maxRecDepth 16384

noncomputable section

open Idealize.ShloMosaic Idealize.ShloMosaic.TcCoe Idealize.SL.Sem
open Cert.Kernel4Ideal Cert.Kernel4Ideal.Gen

namespace Cert.Kernel4Ideal.Attn

/-- The factor of the second attention map, from the four stacked vectors. -/
def lamOf (x : Vec Ideal S4x64 .f32) : EReal :=
  Ideal.exp (∑ k : Fin 64, (x (ix2 0 k) : EReal) * x (ix2 1 k)) - Ideal.exp (∑ k : Fin 64, (x (ix2 2 k) : EReal) * x (ix2 3 k))
    + Ideal.ofBits .f32 0x3EB60549#32

/-- The difference of the two maps at a lane of a query. -/
def diff (x : Vec Ideal S4x64 .f32) (a0 a1 : Vec Ideal S1x144x1024 .f32) (j : Fin 1024) (d : Fin 128) : EReal :=
  Ideal.div (a0 (ix3 0 ⟨d.val, by omega⟩ j)) (a0 (ix3 0 128 j))
    - lamOf x * Ideal.div (a1 (ix3 0 ⟨d.val, by omega⟩ j)) (a1 (ix3 0 128 j))

theorem rms_apply (x : Vec Ideal S4x64 .f32) (a0 a1 : Vec Ideal S1x144x1024 .f32) (d : Fin 128) (j : Fin 1024) :
    (k0_pay34 x a0 a1 (ix2 d j) : EReal)
      = diff x a0 a1 j d * Ideal.rsqrt (Ideal.div (∑ e, diff x a0 a1 j e * diff x a0 a1 j e) (Ideal.ofBits .f32 0x43000000#32)
          + Ideal.ofBits .f32 0x358637BD#32) := by
  pointwise [k0_pay34, diff, lamOf]
  simp only [Fin.sum_univ_one]
  rfl

theorem out_apply (x : FVec Ideal S128x1024 .f32) (g : Vec Ideal S128x1 .f32) (j : Fin 1024) (d : Fin 128) :
    (k0_pay1 x g (ix2 j d) : EReal) = x (ix2 d j) * g (ix2 d 0) * Ideal.ofBits .f32 0x3F24FD5C#32 := by
  pointwise [k0_pay1]

/-- An entry of the output block. -/
theorem block_apply (x : Vec Ideal S4x64 .f32) (a0 a1 : Vec Ideal S1x144x1024 .f32) (g : Vec Ideal S128x1 .f32) (j : Fin 1024) (d : Fin 128) :
    (k0_pay1 (k0_pay34 x a0 a1) g (ix2 j d) : EReal)
      = diff x a0 a1 j d * Ideal.rsqrt (Ideal.div (∑ e, diff x a0 a1 j e * diff x a0 a1 j e) (Ideal.ofBits .f32 0x43000000#32)
          + Ideal.ofBits .f32 0x358637BD#32) * g (ix2 d 0) * Ideal.ofBits .f32 0x3F24FD5C#32 := by
  rw [out_apply, rms_apply]

end Cert.Kernel4Ideal.Attn
-- ==== Proof.Attn1Core.lean ====
/-
  Layer 1.
  The differential attention kernel (`kernel4`) on real arguments: the two accumulators after the diagonal tile, and the
  difference of the two maps.

  `Q`, `K` are the query block and the head's keys in real numbers; `W d n` is row `d` of the transposed values at key
  position `n`. Row 128 is the row of ones, so its accumulator is the sum of the weights.
-/
module

public import proofs.«01_k».proof.Proof.AttnReal
public import proofs.«01_k».proof.Proof.Attn1Mask
public import proofs.«01_k».proof.Proof.Attn1Epi

@[expose] public section

set_option maxRecDepth 16384

noncomputable section

open Idealize.ShloMosaic Idealize.ShloMosaic.TcCoe Idealize.SL.Sem
open Cert.Kernel4Ideal Cert.Kernel4Ideal.Gen

namespace Cert.Kernel4Ideal.Attn

open Cert.Kernel3Ideal.Attn (coe_sum fold_max_real seen power seen_max rpow_sub exp2_seen Holds carry max_real tile quotient power_pos pow_seen prob mean mix_mean sum_seen newMax newAcc)

/-- The scores of the two maps, query row against key position. -/
def real0 (Q : Fin 1024 → Fin 128 → ℝ) (K : Fin 16384 → Fin 128 → ℝ) (j : Fin 1024) (n : ℕ) : ℝ :=
  ∑ x : Fin 64, Q j (Fin.castAdd 64 x) * K ⟨n % 16384, Nat.mod_lt _ (by decide)⟩ (Fin.castAdd 64 x)
def real1 (Q : Fin 1024 → Fin 128 → ℝ) (K : Fin 16384 → Fin 128 → ℝ) (j : Fin 1024) (n : ℕ) : ℝ :=
  ∑ x : Fin 64, Q j (Fin.natAdd 64 x) * K ⟨n % 16384, Nat.mod_lt _ (by decide)⟩ (Fin.natAdd 64 x)

/-- The keys a query of tile `i`, row `j`, may see. -/
abbrev may (i : ℕ) (j : Fin 1024) (n : Fin 16384) : Prop := n.val / 64 ≤ (1024 * i + j.val) / 64

section
variable (x0 : Vec Ideal S1024x128 .bf16) (x1 : Vec Ideal S16384x128 .bf16) (x2 : Vec Ideal S1x16x144x1024 .bf16)
  (Q : Fin 1024 → Fin 128 → ℝ) (K : Fin 16384 → Fin 128 → ℝ) (W : Fin 144 → ℕ → ℝ)
  (hq : ∀ j d, (x0 (ix2 j d) : EReal) = (Q j d : EReal))
  (hk : ∀ n d, (x1 (ix2 n d) : EReal) = (K n d : EReal))
  (hw : ∀ (t : Fin 16) d (k : Fin 1024), (x2 (ix4 0 t d k) : EReal) = (W d (1024 * t.val + k.val) : EReal))
include hq hk

theorem score0 (t : ℕ) (j k : Fin 1024) :
    score (k0_pay21 x0) (keyTile x1 t) j k = (real0 Q K j (1024 * t + k.val) : EReal) := by
  have h : ∀ d : Fin 128, (keyTile x1 t (ix2 k d) : EReal) * k0_pay21 x0 (ix2 j d)
      = ((K ⟨(1024 * t + k.val) % 16384, Nat.mod_lt _ (by decide)⟩ d * (if d.val < 64 then Q j d else 0) : ℝ) : EReal) := by
    intro d
    rw [queries0_apply, hq]
    refine (congrArg₂ (· * ·) (hk _ d) rfl).trans ?_
    split <;> simp
  unfold score
  simp only [h]
  rw [← coe_sum]
  congr 1
  refine (Fin.sum_univ_add (a := 64) (b := 64) _).trans ?_
  rw [show (∑ i : Fin 64, K ⟨(1024 * t + k.val) % 16384, Nat.mod_lt _ (by decide)⟩ (Fin.natAdd 64 i)
      * (if (Fin.natAdd 64 i).val < 64 then Q j (Fin.natAdd 64 i) else 0)) = 0 from
    Finset.sum_eq_zero fun i _ => by rw [if_neg (by simp)]; ring, add_zero]
  refine Finset.sum_congr rfl fun i _ => ?_
  rw [if_pos (by simp)]
  ring

theorem score1 (t : ℕ) (j k : Fin 1024) :
    score (k0_pay22 x0) (keyTile x1 t) j k = (real1 Q K j (1024 * t + k.val) : EReal) := by
  have h : ∀ d : Fin 128, (keyTile x1 t (ix2 k d) : EReal) * k0_pay22 x0 (ix2 j d)
      = ((K ⟨(1024 * t + k.val) % 16384, Nat.mod_lt _ (by decide)⟩ d * (if 64 ≤ d.val then Q j d else 0) : ℝ) : EReal) := by
    intro d
    rw [queries1_apply, hq]
    refine (congrArg₂ (· * ·) (hk _ d) rfl).trans ?_
    split <;> simp
  unfold score
  simp only [h]
  rw [← coe_sum]
  congr 1
  refine (Fin.sum_univ_add (a := 64) (b := 64) _).trans ?_
  rw [show (∑ i : Fin 64, K ⟨(1024 * t + k.val) % 16384, Nat.mod_lt _ (by decide)⟩ (Fin.castAdd 64 i)
      * (if 64 ≤ (Fin.castAdd 64 i).val then Q j (Fin.castAdd 64 i) else 0)) = 0 from
    Finset.sum_eq_zero fun i _ => by rw [if_neg (by simp)]; ring, zero_add]
  refine Finset.sum_congr rfl fun i _ => ?_
  rw [if_pos (by simp)]
  ring

omit hq hk in
include hw in
theorem val_tile (t : ℕ) (ht : t < 16) (d : Fin 144) (k : Fin 1024) :
    (valTile x2 t (ix4 0 0 d k) : EReal) = (W d (1024 * t + k.val) : EReal) := by
  refine (hw ⟨t % 16, Nat.mod_lt _ (by decide)⟩ d k).trans ?_
  simp only [Nat.mod_eq_of_lt ht]

omit hq hk in
theorem start_max (j : Fin 1024) : (k0_pay24 (F := Ideal) (ix2 0 j) : EReal) = ⊥ := by
  pointwise [k0_pay24]
  try exact negInf

omit hq hk in
theorem start_acc (i : S2x144x1024.Idx) : (k0_pay23 (F := Ideal) i : EReal) = 0 := by
  pointwise [k0_pay23]

omit hq hk in
theorem start_planes (y : S1x144x1024.Idx) :
    (plane0 (F := Ideal) (k0_pay23 (F := Ideal)) y : EReal) = 0 ∧ (plane1 (F := Ideal) (k0_pay23 (F := Ideal)) y : EReal) = 0 := by
  have h : (k0_pay23 (F := Ideal) : Vec Ideal S2x144x1024 .f32) = fun _ => (0 : EReal) := funext start_acc
  rw [h]
  exact ⟨rfl, rfl⟩

omit hq hk in
theorem sum_tile (f : ℕ → ℝ) (S : ℕ → ℝ) (t : ℕ) :
    (∑ n ∈ Finset.range (1024 * t), f n * Real.rpow 2 (S n))
      + (∑ k : Fin 1024, f (1024 * t + k.val) * power (fun _ => True) (fun k : Fin 1024 => S (1024 * t + k.val)) k)
      = ∑ n ∈ Finset.range (1024 * (t + 1)), f n * Real.rpow 2 (S n) := by
  rw [show 1024 * (t + 1) = 1024 * t + 1024 by ring, Finset.sum_range_add]
  congr 1

omit hq hk in
theorem all_seen (σ : Fin 1024 → EReal) (S : Fin 1024 → ℝ) (h : ∀ k, σ k = (S k : EReal)) :
    σ = seen (fun _ => True) S := by
  funext k
  simp [seen, h]

include hw

/-- The running maxima and accumulators after `t` key tiles. -/
theorem at_holds (t : ℕ) (ht : t ≤ 16) (j : Fin 1024) (d : Fin 144) :
    Holds ((State.at x0 x1 x2 t).m0 (ix2 0 j)) ((State.at x0 x1 x2 t).a0 (ix3 0 d j))
      (∑ n ∈ Finset.range (1024 * t), W d n * Real.rpow 2 (real0 Q K j n))
    ∧ Holds ((State.at x0 x1 x2 t).m1 (ix2 0 j)) ((State.at x0 x1 x2 t).a1 (ix3 0 d j))
      (∑ n ∈ Finset.range (1024 * t), W d n * Real.rpow 2 (real1 Q K j n)) := by
  induction t with
  | zero =>
    exact ⟨.inl ⟨start_max j, (start_planes (ix3 0 d j)).1, by simp⟩, .inl ⟨start_max j, (start_planes (ix3 0 d j)).2, by simp⟩⟩
  | succ t ih =>
    have hv : (fun k : Fin 1024 => (valTile x2 t (ix4 0 0 d k) : EReal)) = fun k => ((W d (1024 * t + k.val) : ℝ) : EReal) :=
      funext fun k => val_tile x2 W hw t (by omega) d k
    obtain ⟨h0, h1⟩ := ih (by omega)
    constructor
    · have s := (tile _ _ _ h0 (fun _ => True) ⟨0, trivial⟩ (fun k => real0 Q K j (1024 * t + k.val)) fun k => W d (1024 * t + k.val)).1
      rw [sum_tile, ← hv, ← all_seen _ _ (score0 x0 x1 Q K hq hk t j), ← max0_apply, ← acc0_apply] at s
      exact s
    · have s := (tile _ _ _ h1 (fun _ => True) ⟨0, trivial⟩ (fun k => real1 Q K j (1024 * t + k.val)) fun k => W d (1024 * t + k.val)).1
      rw [sum_tile, ← hv, ← all_seen _ _ (score1 x0 x1 Q K hq hk t j), ← max1_apply, ← acc1_apply] at s
      exact s

omit hq hk hw in
theorem sum_diag (f S : ℕ → ℝ) (i : Fin 16) (j : Fin 1024) :
    (∑ n ∈ Finset.range (1024 * i.val), f n * Real.rpow 2 (S n))
      + (∑ k : Fin 1024, f (1024 * i.val + k.val)
          * power (fun k : Fin 1024 => k.val / 64 ≤ j.val / 64) (fun k : Fin 1024 => S (1024 * i.val + k.val)) k)
      = ∑ n : Fin 16384, f n.val * power (may i.val j) (fun n => S n.val) n := by
  have := sum_seen (fun n => f n * Real.rpow 2 (S n)) i j
  simp only [power, mul_ite, mul_zero]
  exact this

omit hq hk hw in
theorem diag_seen (S : Fin 1024 → ℝ) (σ : Fin 1024 → EReal) (h : ∀ k, σ k = (S k : EReal)) (j : Fin 1024) :
    (fun k => if mask (ix2 k j) = 1#1 then σ k else ⊥) = seen (fun k : Fin 1024 => k.val / 64 ≤ j.val / 64) S := by
  funext k
  exact if_congr (mask_apply k j) (h k) rfl

/-- The accumulators after the diagonal tile stand for the sums over the keys the query may see. -/
theorem last_holds (i : Fin 16) (j : Fin 1024) :
    ∃ M0 M1 : ℝ, ∀ d : Fin 144,
      Holds (M0 : EReal) (last0 x0 (keyTile x1 i.val) (valTile x2 i.val) (State.at x0 x1 x2 i.val) (ix3 0 d j))
        (∑ n : Fin 16384, W d n.val * power (may i.val j) (fun n => real0 Q K j n.val) n)
      ∧ Holds (M1 : EReal) (last1 x0 (keyTile x1 i.val) (valTile x2 i.val) (State.at x0 x1 x2 i.val) (ix3 0 d j))
        (∑ n : Fin 16384, W d n.val * power (may i.val j) (fun n => real1 Q K j n.val) n) := by
  have hi := i.isLt
  have hs : ∃ k : Fin 1024, k.val / 64 ≤ j.val / 64 := ⟨j, le_refl _⟩
  have H := fun d => at_holds x0 x1 x2 Q K W hq hk hw i.val (by omega) j d
  obtain ⟨M0, hM0⟩ := (tile _ _ _ (H 0).1 _ hs (fun k => real0 Q K j (1024 * i.val + k.val)) fun k => W 0 (1024 * i.val + k.val)).2
  obtain ⟨M1, hM1⟩ := (tile _ _ _ (H 0).2 _ hs (fun k => real1 Q K j (1024 * i.val + k.val)) fun k => W 0 (1024 * i.val + k.val)).2
  refine ⟨M0, M1, fun d => ?_⟩
  have hv : (fun k : Fin 1024 => (valTile x2 i.val (ix4 0 0 d k) : EReal)) = fun k => ((W d (1024 * i.val + k.val) : ℝ) : EReal) :=
    funext fun k => val_tile x2 W hw i.val hi d k
  constructor
  · have s := (tile _ _ _ (H d).1 _ hs (fun k => real0 Q K j (1024 * i.val + k.val)) fun k => W d (1024 * i.val + k.val)).1
    rw [sum_diag (W d) (real0 Q K j) i j, hM0, ← hv, ← diag_seen _ _ (score0 x0 x1 Q K hq hk i.val j) j, ← diag0_apply] at s
    exact s
  · have s := (tile _ _ _ (H d).2 _ hs (fun k => real1 Q K j (1024 * i.val + k.val)) fun k => W d (1024 * i.val + k.val)).1
    rw [sum_diag (W d) (real1 Q K j) i j, hM1, ← hv, ← diag_seen _ _ (score1 x0 x1 Q K hq hk i.val j) j, ← diag1_apply] at s
    exact s

/-- The difference of the two maps at a query row and a lane: a difference of two weighted means of the lane's values. -/
theorem diff_real (x3 : Vec Ideal S4x64 .f32) (l : ℝ) (hl : lamOf x3 = (l : EReal)) (hone : ∀ n, W 128 n = 1)
    (i : Fin 16) (j : Fin 1024) (d : Fin 128) :
    diff x3 (last0 x0 (keyTile x1 i.val) (valTile x2 i.val) (State.at x0 x1 x2 i.val))
        (last1 x0 (keyTile x1 i.val) (valTile x2 i.val) (State.at x0 x1 x2 i.val)) j d
      = ((mean (may i.val j) (fun n => real0 Q K j n.val) (fun n => W ⟨d.val, by omega⟩ n.val)
          - l * mean (may i.val j) (fun n => real1 Q K j n.val) (fun n => W ⟨d.val, by omega⟩ n.val) : ℝ) : EReal) := by
  obtain ⟨M0, M1, H⟩ := last_holds x0 x1 x2 Q K W hq hk hw i j
  have hex : ∃ n : Fin 16384, may i.val j n := ⟨⟨0, by decide⟩, by simp [may]⟩
  have hden : ∀ S : Fin 16384 → ℝ, (∑ n : Fin 16384, W 128 n.val * power (may i.val j) S n) = ∑ n, power (may i.val j) S n :=
    fun S => Finset.sum_congr rfl fun n _ => by rw [hone, one_mul]
  have A := H ⟨d.val, by omega⟩
  have B := H 128
  rw [hden, hden] at B
  unfold diff
  rw [quotient _ _ _ _ _ A.1 B.1 ⟨M0, rfl⟩ (power_pos _ _ hex).ne', quotient _ _ _ _ _ A.2 B.2 ⟨M1, rfl⟩ (power_pos _ _ hex).ne', hl,
    ← EReal.coe_mul, ← EReal.coe_sub]
  rfl

end

end Cert.Kernel4Ideal.Attn
-- ==== Proof.Attn1Ref.lean ====
/-
  Layer 1.
  The differential attention as `reference4` writes it, at the ideal instance: its steps named, each read at an index.
-/
module

public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem

namespace Cert.Reference4Ideal.Attn

open Cert.Reference4Ideal Cert.Reference4Ideal.Gen

/-! ## The steps -/

/-- The chunk of each position: the position divided by 64, rounded down. -/
def chunks : IVec S16384 32 :=
  select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32))))

/-- Which keys each query may see. -/
def visible : IVec S16384x16384 1 :=
  cmpi .sle (broadcastInDim S16384x16384 ![0, 1] bcast_S1x16384_S16384x16384_0_1 (broadcastInDim S1x16384 ![1] bcast_S16384_S1x16384_1 chunks)) (broadcastInDim S16384x16384 ![0, 1] bcast_S16384x1_S16384x16384_0_1 (broadcastInDim S16384x1 ![0] bcast_S16384_S16384x1_0 chunks))

/-- The scores of every query against every key. -/
def scores (qk : FVec Ideal S32768x1536 .bf16) : FVec Ideal S2x6x2x16384x16384 .f32 :=
  Host.dotGeneral dot_S2x16384x6x2x64_S2x16384x6x2x64_S2x6x2x16384x16384_4_4_1_1_023_023 none (shapeCast _ (extf .f32 (extractStridedSlice S32768x768 ![0, 0] qk slices_S32768x1536_S32768x768_0_0) bitsLt_bf16_f32) shapeCasts_S32768x768_S2x16384x6x2x64) (shapeCast _ (extf .f32 (extractStridedSlice S32768x768 ![0, 768] qk slices_S32768x1536_S32768x768_0_768) bitsLt_bf16_f32) shapeCasts_S32768x768_S2x16384x6x2x64)

/-- The scores, −∞ at the keys a query may not see. -/
def masked (qk : FVec Ideal S32768x1536 .bf16) : FVec Ideal S2x6x2x16384x16384 .f32 :=
  select (broadcastInDim S2x6x2x16384x16384 ![3, 4] bcast_S16384x16384_S2x6x2x16384x16384_3_4 visible) (scores qk) (broadcastInDim S2x6x2x16384x16384 ![] bcast_S_S2x6x2x16384x16384 (id (constant S_ .f32 0xFF800000#32)))

/-- Two to the power of each score less its row's maximum. -/
def weights (s : FVec Ideal S2x6x2x16384x16384 .f32) : FVec Ideal S2x6x2x16384x16384 .f32 :=
  Host.powf (broadcastInDim S2x6x2x16384x16384 ![] bcast_S_S2x6x2x16384x16384 (constant S_ .f32 0x40000000#32)) (subf s (broadcastInDim S2x6x2x16384x16384 ![0, 1, 2, 3, 4] bcast_S2x6x2x16384x1_S2x6x2x16384x16384_0_1_2_3_4 (broadcastInDim S2x6x2x16384x1 ![0, 1, 2, 3] bcast_S2x6x2x16384_S2x6x2x16384x1_0_1_2_3 (Host.reduce FloatOps.maximumf s (constant S_ .f32 0xFF800000#32) reducesTo_S2x6x2x16384x16384_S2x6x2x16384_d4 h_S_))))

/-- The weights over their row's sum. -/
def probs (p : FVec Ideal S2x6x2x16384x16384 .f32) : FVec Ideal S2x6x2x16384x16384 .f32 :=
  Host.divf p (broadcastInDim S2x6x2x16384x16384 ![0, 1, 2, 3, 4] bcast_S2x6x2x16384x1_S2x6x2x16384x16384_0_1_2_3_4 (broadcastInDim S2x6x2x16384x1 ![0, 1, 2, 3] bcast_S2x6x2x16384_S2x6x2x16384x1_0_1_2_3 (Host.reduceAdd p (constant S_ .f32 0x00000000#32) reducesTo_S2x6x2x16384x16384_S2x6x2x16384_d4 h_S_)))

/-- The factor of the second attention map. -/
def lam (l1 l2 l3 l4 : FVec Ideal S64 .f32) : FVec Ideal S_ .f32 :=
  addf (subf (Host.exp (Host.reduceAdd (mulf l1 l2) (constant S_ .f32 0x00000000#32) reducesTo_S64_S_d0 h_S_)) (Host.exp (Host.reduceAdd (mulf l3 l4) (constant S_ .f32 0x00000000#32) reducesTo_S64_S_d0 h_S_))) (constant S_ .f32 0x3EB60549#32)

/-- The difference of the two maps, applied to the values. -/
def mix (v : FVec Ideal S32768x768 .bf16) (p : FVec Ideal S2x6x2x16384x16384 .f32) (l : FVec Ideal S_ .f32) : FVec Ideal S2x16384x6x128 .f32 :=
  transpose S2x16384x6x128 [0, 3, 1, 2] (Host.dotGeneral dot_S2x16384x6x128_S2x6x16384x16384_S2x6x128x16384_1_3_3_2_02_01 none (shapeCast _ (extf .f32 v bitsLt_bf16_f32) shapeCasts_S32768x768_S2x16384x6x128) (subf (shapeCast _ (extractStridedSlice S2x6x1x16384x16384 ![0, 0, 0, 0, 0] p slices_S2x6x2x16384x16384_S2x6x1x16384x16384_0_0_0_0_0) shapeCasts_S2x6x1x16384x16384_S2x6x16384x16384) (mulf (broadcastInDim S2x6x16384x16384 ![] bcast_S_S2x6x16384x16384 l) (shapeCast _ (extractStridedSlice S2x6x1x16384x16384 ![0, 0, 1, 0, 0] p slices_S2x6x2x16384x16384_S2x6x1x16384x16384_0_0_1_0_0) shapeCasts_S2x6x1x16384x16384_S2x6x16384x16384)))) transposes_S2x6x128x16384_S2x16384x6x128_0_3_1_2

/-- The normalisation of each head's 128 lanes, its gain, and the factor 1 − lambda_init. -/
def normed (o : FVec Ideal S2x16384x6x128 .f32) (g : FVec Ideal S128 .f32) : FVec Ideal S32768x768 .bf16 :=
  truncf .bf16 (shapeCast _ (mulf (mulf (mulf o (broadcastInDim S2x16384x6x128 ![0, 1, 2, 3] bcast_S2x16384x6x1_S2x16384x6x128_0_1_2_3 (Host.rsqrt (addf (Host.divf (broadcastInDim S2x16384x6x1 ![0, 1, 2] bcast_S2x16384x6_S2x16384x6x1_0_1_2 (Host.reduceAdd (mulf o o) (constant S_ .f32 0x00000000#32) reducesTo_S2x16384x6x128_S2x16384x6_d3 h_S_)) (broadcastInDim S2x16384x6x1 ![] bcast_S_S2x16384x6x1 (constant S_ .f32 0x43000000#32))) (broadcastInDim S2x16384x6x1 ![] bcast_S_S2x16384x6x1 (constant S_ .f32 0x358637BD#32)))))) (broadcastInDim S2x16384x6x128 ![0, 1, 2, 3] bcast_S1x1x1x128_S2x16384x6x128_0_1_2_3 (broadcastInDim S1x1x1x128 ![3] bcast_S128_S1x1x1x128_3 g))) (broadcastInDim S2x16384x6x128 ![] bcast_S_S2x16384x6x128 (constant S_ .f32 0x3F24FD5C#32))) shapeCasts_S2x16384x6x128_S32768x768) bitsLt_bf16_f32

/-- The reference's result, of its arguments. -/
def attention (qk : FVec Ideal S32768x1536 .bf16) (v : FVec Ideal S32768x768 .bf16) (l1 l2 l3 l4 : FVec Ideal S64 .f32)
    (g : FVec Ideal S128 .f32) : FVec Ideal S32768x768 .bf16 :=
  normed (mix v (probs (weights (masked qk))) (lam l1 l2 l3 l4)) g

theorem res_eq (m : (ℓ : Loc nD τ sig) → Buf (Elt Ideal) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  rfl

/-! ## Each at an index -/

/-- The floored quotient by 64 as the reference computes it on words. -/
def chunkWord (r : BitVec 32) : BitVec 32 :=
  Scalar.select
    (IntOp.andi
      (IntOp.cmpi .ne (if r = 0 then 0 else if r.msb = true then -1 else 1 : BitVec 32)
        (if (64#32 : BitVec 32) = 0 then 0 else if (64#32 : BitVec 32).msb = true then -1 else 1))
      (IntOp.cmpi .ne (IntOp.remsi .host r 64#32) 0#32))
    (IntOp.subi (IntOp.divsi .host r 64#32) 1#32)
    (IntOp.divsi .host r 64#32)

theorem chunkWord_eq : ∀ r : Fin 16384, chunkWord (BitVec.ofNat 32 r.val) = BitVec.ofNat 32 (r.val / 64) := by
  decide +kernel

theorem word_le : ∀ a b : Fin 256, IntOp.cmpi .sle (BitVec.ofNat 32 a.val) (BitVec.ofNat 32 b.val) = 1#1 ↔ a.val ≤ b.val := by
  decide +kernel

/-- The words 0xFF800000 and 0x40000000 are −∞ and 2. -/
theorem negInf : Ideal.ofBits .f32 4286578688#32 = ⊥ := by
  simp [Ideal.ofBits, Ideal.ieee]

theorem two : Ideal.ofBits .f32 1073741824#32 = ((2 : ℝ) : EReal) := by
  simp [Ideal.ofBits, Ideal.ieee, -EReal.coe_mul]; norm_num

theorem visible_apply (q n : Fin 16384) : visible (ix2 q n) = IntOp.cmpi .sle (chunks (ix1 n)) (chunks (ix1 q)) := by
  pointwise [visible]

theorem chunks_apply (n : Fin 16384) : chunks (ix1 n) = BitVec.ofNat 32 (n.val / 64) := by
  have h : chunks (ix1 n) = chunkWord (BitVec.ofNat 32 n.val) := by
    pointwise [chunks, chunkWord]
    rfl
  rw [h, chunkWord_eq]

/-- A query sees the keys of its own chunk and of the chunks before. -/
theorem visible_iff (q n : Fin 16384) : visible (ix2 q n) = 1#1 ↔ n.val / 64 ≤ q.val / 64 := by
  rw [visible_apply, chunks_apply, chunks_apply]
  exact word_le ⟨n.val / 64, by omega⟩ ⟨q.val / 64, by omega⟩

theorem scores_apply (qk : FVec Ideal S32768x1536 .bf16) (b : Fin 2) (h : Fin 6) (t : Fin 2) (q n : Fin 16384) :
    (scores qk (ix5 b h t q n) : EReal)
      = ∑ x : Fin 64, (qk (ix2 ⟨b.val * 16384 + q.val, by omega⟩ ⟨h.val * 128 + t.val * 64 + x.val, by omega⟩) : EReal)
          * qk (ix2 ⟨b.val * 16384 + n.val, by omega⟩ ⟨768 + (h.val * 128 + t.val * 64 + x.val), by omega⟩) := by
  pointwise [scores]

theorem masked_apply (qk : FVec Ideal S32768x1536 .bf16) (b : Fin 2) (h : Fin 6) (t : Fin 2) (q n : Fin 16384) :
    (masked qk (ix5 b h t q n) : EReal) = if visible (ix2 q n) = 1#1 then (scores qk (ix5 b h t q n) : EReal) else ⊥ := by
  pointwise [masked]
  have e : (id (constant (F := Ideal) S_ FTy.f32 4286578688#32) ix0 : EReal) = ⊥ := negInf
  rw [e]
  rfl

theorem weights_apply (s : FVec Ideal S2x6x2x16384x16384 .f32) (b : Fin 2) (h : Fin 6) (t : Fin 2) (q n : Fin 16384) :
    (weights s (ix5 b h t q n) : EReal)
      = Ideal.pow ((2 : ℝ) : EReal) (s (ix5 b h t q n) - Finset.univ.fold max ⊥ fun x : Fin 16384 => (s (ix5 b h t q x) : EReal)) := by
  pointwise [weights]
  rw [negInf, two]

theorem probs_apply (s : FVec Ideal S2x6x2x16384x16384 .f32) (b : Fin 2) (h : Fin 6) (t : Fin 2) (q n : Fin 16384) :
    (probs s (ix5 b h t q n) : EReal) = Ideal.div (s (ix5 b h t q n)) (∑ x : Fin 16384, (s (ix5 b h t q x) : EReal)) := by
  pointwise [probs]

theorem lam_apply (l1 l2 l3 l4 : FVec Ideal S64 .f32) :
    (lam l1 l2 l3 l4 ix0 : EReal)
      = Ideal.exp (∑ x : Fin 64, (l1 (ix1 x) : EReal) * l2 (ix1 x)) - Ideal.exp (∑ x : Fin 64, (l3 (ix1 x) : EReal) * l4 (ix1 x))
        + Ideal.ofBits .f32 0x3EB60549#32 := by
  pointwise [lam]

theorem mix_apply (v : FVec Ideal S32768x768 .bf16) (p : FVec Ideal S2x6x2x16384x16384 .f32) (l : FVec Ideal S_ .f32)
    (b : Fin 2) (q : Fin 16384) (h : Fin 6) (d : Fin 128) :
    (mix v p l (ix4 b q h d) : EReal)
      = ∑ x : Fin 16384, (v (ix2 ⟨b.val * 16384 + x.val, by omega⟩ ⟨h.val * 128 + d.val, by omega⟩) : EReal)
          * (p (ix5 b h 0 q x) - l ix0 * p (ix5 b h 1 q x)) := by
  pointwise [mix]

/-- One head's row of 128 lanes, normalised; `o` is the row, `d` the lane, `g` the gain's entry. -/
def normRow (o : Fin 128 → EReal) (d : Fin 128) (g : EReal) : EReal :=
  o d * Ideal.rsqrt (Ideal.div (∑ x, o x * o x) (Ideal.ofBits .f32 0x43000000#32) + Ideal.ofBits .f32 0x358637BD#32)
    * g * Ideal.ofBits .f32 0x3F24FD5C#32

theorem normed_raw (o : FVec Ideal S2x16384x6x128 .f32) (g : FVec Ideal S128 .f32) (i : S32768x768.Idx)
    (p0 : (i 0).val / 16384 < 2) (p1 : (i 0).val % 16384 < 16384) (p2 : (i 1).val / 128 < 6) (p3 : (i 1).val % 128 < 128) :
    (normed o g i : EReal) = normRow (fun x => o (ix4 ⟨(i 0).val / 16384, p0⟩ ⟨(i 0).val % 16384, p1⟩ ⟨(i 1).val / 128, p2⟩ x))
      ⟨(i 1).val % 128, p3⟩ (g (ix1 ⟨(i 1).val % 128, p3⟩)) := by
  pointwise [normed, normRow]

theorem normed_apply (o : FVec Ideal S2x16384x6x128 .f32) (g : FVec Ideal S128 .f32) (b : Fin 2) (q : Fin 16384) (h : Fin 6) (d : Fin 128)
    (i : S32768x768.Idx) (h0 : (i 0).val = b.val * 16384 + q.val) (h1 : (i 1).val = h.val * 128 + d.val) :
    (normed o g i : EReal) = normRow (fun x => o (ix4 b q h x)) d (g (ix1 d)) := by
  have e0 : (i 0).val / 16384 = b.val := by omega
  have e1 : (i 0).val % 16384 = q.val := by omega
  have e2 : (i 1).val / 128 = h.val := by omega
  have e3 : (i 1).val % 128 = d.val := by omega
  rw [normed_raw o g i (by omega) (by omega) (by omega) (by omega)]
  simp only [e0, e1, e2, e3, Fin.eta]

end Cert.Reference4Ideal.Attn
-- ==== Proof.Attn1Value.lean ====
/-
  Layer 1.
  The differential attention: on real arguments the reference (`reference4`) and the kernel (`kernel4`) have the same entries.

  Sequence `b`, head `h`, query tile `i`, row `j` of the tile: query position 1024·i + j of the sequence. Both sides come to
  the same difference of two weighted means of the values, and normalise its 128 lanes alike.
-/
module

public import proofs.«01_k».proof.Proof.Attn1Core
public import proofs.«01_k».proof.Proof.Attn1Ref

@[expose] public section

set_option maxRecDepth 16384

noncomputable section

open Idealize.ShloMosaic Idealize.ShloMosaic.TcCoe Idealize.SL.Sem
open Cert.Reference4Ideal Cert.Reference4Ideal.Gen

namespace Cert.Reference4Ideal.Attn

open Cert.Kernel3Ideal.Attn (seen power mean prob mix_mean coe_sum)
open Cert.Kernel4Ideal.Attn (real0 real1 may)

/-- The queries, the keys and the values of one head in real numbers; below the values a row of ones, then rows of zeros. -/
def queriesR (qk : FVec Ideal S32768x1536 .bf16) (b : Fin 2) (h : Fin 6) (i : Fin 16) (j : Fin 1024) (d : Fin 128) : ℝ :=
  (qk (ix2 ⟨(b.val * 16 + i.val) * 1024 + j.val, by omega⟩ ⟨h.val * 128 + d.val, by omega⟩) : EReal).toReal
def keysR (qk : FVec Ideal S32768x1536 .bf16) (b : Fin 2) (h : Fin 6) (n : Fin 16384) (d : Fin 128) : ℝ :=
  (qk (ix2 ⟨b.val * 16384 + n.val, by omega⟩ ⟨(6 + h.val) * 128 + d.val, by omega⟩) : EReal).toReal
def valuesR (v : FVec Ideal S32768x768 .bf16) (b : Fin 2) (h : Fin 6) (d : Fin 144) (n : ℕ) : ℝ :=
  if hd : d.val < 128 then (v (ix2 ⟨b.val * 16384 + n % 16384, by omega⟩ ⟨h.val * 128 + d.val, by omega⟩) : EReal).toReal
  else if d.val = 128 then 1 else 0

/-- Equal places hold the same entry. -/
theorem entry (qk : FVec Ideal S32768x1536 .bf16) {r r' c c' : ℕ} (hr : r < 32768) (hr' : r' < 32768) (hc : c < 1536) (hc' : c' < 1536)
    (e1 : r = r') (e2 : c = c') : (qk (ix2 ⟨r, hr⟩ ⟨c, hc⟩) : EReal) = qk (ix2 ⟨r', hr'⟩ ⟨c', hc'⟩) := by
  subst e1 e2; rfl

section
variable (qk : FVec Ideal S32768x1536 .bf16) (hqk : ∀ i, (qk i : EReal) = (((qk i : EReal).toReal : ℝ) : EReal))
  (b : Fin 2) (h : Fin 6) (i : Fin 16) (j : Fin 1024)

/-- The place of row `j` of tile `i` in the sequence. -/
abbrev place (i : Fin 16) (j : Fin 1024) : Fin 16384 := ⟨1024 * i.val + j.val, by omega⟩

include hqk

/-- The first map's scores are real sums over the head's lanes 0 … 63. -/
theorem scores_real0 (n : Fin 16384) :
    (scores qk (ix5 b h 0 (place i j) n) : EReal) = (real0 (queriesR qk b h i) (keysR qk b h) j n.val : EReal) := by
  rw [scores_apply, real0, coe_sum]
  refine Finset.sum_congr rfl fun x _ => ?_
  rw [EReal.coe_mul, queriesR, keysR, ← hqk, ← hqk]
  have hx := x.isLt
  refine congrArg₂ (· * ·) (entry qk _ _ _ _ ?_ ?_) (entry qk _ _ _ _ ?_ ?_) <;>
    simp only [place, Nat.mod_eq_of_lt n.isLt, Fin.val_castAdd, Fin.val_natAdd, Fin.val_zero, Fin.val_one] <;> omega

/-- The second map's, over its lanes 64 … 127. -/
theorem scores_real1 (n : Fin 16384) :
    (scores qk (ix5 b h 1 (place i j) n) : EReal) = (real1 (queriesR qk b h i) (keysR qk b h) j n.val : EReal) := by
  rw [scores_apply, real1, coe_sum]
  refine Finset.sum_congr rfl fun x _ => ?_
  rw [EReal.coe_mul, queriesR, keysR, ← hqk, ← hqk]
  have hx := x.isLt
  refine congrArg₂ (· * ·) (entry qk _ _ _ _ ?_ ?_) (entry qk _ _ _ _ ?_ ?_) <;>
    simp only [place, Nat.mod_eq_of_lt n.isLt, Fin.val_castAdd, Fin.val_natAdd, Fin.val_zero, Fin.val_one] <;> omega

/-- The masked scores are those of the keys the query may see. -/
theorem masked_real0 (n : Fin 16384) :
    (masked qk (ix5 b h 0 (place i j) n) : EReal)
      = seen (may i.val j) (fun n => real0 (queriesR qk b h i) (keysR qk b h) j n.val) n := by
  rw [masked_apply, scores_real0 qk hqk]
  exact if_congr (visible_iff _ _) rfl rfl

theorem masked_real1 (n : Fin 16384) :
    (masked qk (ix5 b h 1 (place i j) n) : EReal)
      = seen (may i.val j) (fun n => real1 (queriesR qk b h i) (keysR qk b h) j n.val) n := by
  rw [masked_apply, scores_real1 qk hqk]
  exact if_congr (visible_iff _ _) rfl rfl

omit hqk in
/-- Every query sees the first key. -/
theorem sees : ∃ n : Fin 16384, may i.val j n := ⟨⟨0, by decide⟩, by simp [may]⟩

/-- The first map in real numbers. -/
theorem probs_real0 (n : Fin 16384) :
    (probs (weights (masked qk)) (ix5 b h 0 (place i j) n) : EReal)
      = ((power (may i.val j) (fun n => real0 (queriesR qk b h i) (keysR qk b h) j n.val) n
          / ∑ k, power (may i.val j) (fun n => real0 (queriesR qk b h i) (keysR qk b h) j n.val) k : ℝ) : EReal) := by
  rw [probs_apply]
  simp only [weights_apply, masked_real0 qk hqk]
  exact prob _ _ (sees i j) n

/-- The second map in real numbers. -/
theorem probs_real1 (n : Fin 16384) :
    (probs (weights (masked qk)) (ix5 b h 1 (place i j) n) : EReal)
      = ((power (may i.val j) (fun n => real1 (queriesR qk b h i) (keysR qk b h) j n.val) n
          / ∑ k, power (may i.val j) (fun n => real1 (queriesR qk b h i) (keysR qk b h) j n.val) k : ℝ) : EReal) := by
  rw [probs_apply]
  simp only [weights_apply, masked_real1 qk hqk]
  exact prob _ _ (sees i j) n

/-- The reference's difference of the two maps applied to the values is the difference of two means. -/
theorem mix_real (v : FVec Ideal S32768x768 .bf16) (hv : ∀ i, (v i : EReal) = (((v i : EReal).toReal : ℝ) : EReal))
    (lm : FVec Ideal S_ .f32) (l : ℝ) (hl : (lm ix0 : EReal) = (l : EReal)) (d : Fin 128) :
    (mix v (probs (weights (masked qk))) lm (ix4 b (place i j) h d) : EReal)
      = ((mean (may i.val j) (fun n => real0 (queriesR qk b h i) (keysR qk b h) j n.val) (fun n => valuesR v b h ⟨d.val, by omega⟩ n.val)
          - l * mean (may i.val j) (fun n => real1 (queriesR qk b h i) (keysR qk b h) j n.val)
              (fun n => valuesR v b h ⟨d.val, by omega⟩ n.val) : ℝ) : EReal) := by
  rw [mix_apply, ← mix_mean]
  refine Finset.sum_congr rfl fun n _ => ?_
  rw [probs_real0 qk hqk, probs_real1 qk hqk, hl, hv]
  congr 2
  rw [valuesR, dif_pos d.isLt]
  congr 3
  apply Fin.ext
  simp [Nat.mod_eq_of_lt n.isLt]

end

/-- The factor of the second map is real where the vectors are. -/
theorem lam_real (l1 l2 l3 l4 : FVec Ideal S64 .f32)
    (h1 : ∀ i, (l1 i : EReal) = (((l1 i : EReal).toReal : ℝ) : EReal)) (h2 : ∀ i, (l2 i : EReal) = (((l2 i : EReal).toReal : ℝ) : EReal))
    (h3 : ∀ i, (l3 i : EReal) = (((l3 i : EReal).toReal : ℝ) : EReal)) (h4 : ∀ i, (l4 i : EReal) = (((l4 i : EReal).toReal : ℝ) : EReal)) :
    ∃ l : ℝ, (lam l1 l2 l3 l4 ix0 : EReal) = (l : EReal) := by
  have dot : ∀ p q : FVec Ideal S64 .f32, (∀ i, (p i : EReal) = (((p i : EReal).toReal : ℝ) : EReal)) →
      (∀ i, (q i : EReal) = (((q i : EReal).toReal : ℝ) : EReal)) →
      (∑ x : Fin 64, (p (ix1 x) : EReal) * q (ix1 x)) = ((∑ x : Fin 64, (p (ix1 x) : EReal).toReal * (q (ix1 x) : EReal).toReal : ℝ) : EReal) := by
    intro p q hp hq
    rw [coe_sum]
    refine Finset.sum_congr rfl fun x _ => ?_
    rw [EReal.coe_mul, ← hp, ← hq]
  have c0 : ∃ z : ℝ, Ideal.ofBits .f32 0x3EB60549#32 = (z : EReal) := by
    simp only [Ideal.ofBits, Ideal.ieee]
    exact ⟨_, by simp [-EReal.coe_mul]; rfl⟩
  obtain ⟨z, hz⟩ := c0
  rw [lam_apply, dot l1 l2 h1 h2, dot l3 l4 h3 h4, Ideal.exp_coe, Ideal.exp_coe, hz]
  rw [← EReal.coe_sub, ← EReal.coe_add]
  exact ⟨_, rfl⟩

end Cert.Reference4Ideal.Attn

end
-- ==== Proof.Attn1Final.lean ====
/-
  Layer 1.
  The differential attention kernel (`kernel4`): on real arguments its result array is the reference's function of them.
-/
module

public import proofs.«01_k».proof.Proof.Attn1Host
public import proofs.«01_k».proof.Proof.Attn1Value

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Kernel4Ideal.Attn

open Cert.Reference4Ideal.Attn (attention normRow normed_apply mix_real lam lam_apply lam_real queriesR keysR valuesR place)

variable (m : (ℓ : Loc nD τ sig) → Buf (Elt Ideal) ℓ)

/-- The entries of a program's array are real numbers. -/
abbrev Real {s : Shape} {φ : FTy} (x : FVec Ideal s φ) : Prop := ∀ i, (x i : EReal) = (((x i : EReal).toReal : ℝ) : EReal)

/-- The factor of the second map, of the stacked vectors, is the reference's of the four vectors. -/
theorem lam_of (x : FVec Ideal S4x64 .f32) (l1 l2 l3 l4 : FVec Ideal S64 .f32)
    (h : ∀ k : Fin 64, x (ix2 0 k) = l1 (ix1 k) ∧ x (ix2 1 k) = l2 (ix1 k) ∧ x (ix2 2 k) = l3 (ix1 k) ∧ x (ix2 3 k) = l4 (ix1 k)) :
    lamOf x = lam l1 l2 l3 l4 ix0 := by
  rw [lam_apply, lamOf]
  simp only [fun k => (h k).1, fun k => (h k).2.1, fun k => (h k).2.2.1, fun k => (h k).2.2.2]

/-- So the kernel's factor at every point is the reference's. -/
theorem lam_eq (c : Dev nD) (t : Fin cfg0.N) :
    lamOf (iblk m c 3 t) = lam (m ((c : Thread nD τ).loc main_arg2)) (m ((c : Thread nD τ).loc main_arg3))
      (m ((c : Thread nD τ).loc main_arg4)) (m ((c : Thread nD τ).loc main_arg5)) ix0 := by
  refine lam_of _ _ _ _ _ fun k => ?_
  have e := lamRows_apply (m ((c : Thread nD τ).loc main_arg2)) (m ((c : Thread nD τ).loc main_arg3))
      (m ((c : Thread nD τ).loc main_arg4)) (m ((c : Thread nD τ).loc main_arg5)) k
  rw [← V_lam m c] at e
  exact ⟨(blk_lam m c t 0 k).trans e.1, (blk_lam m c t 1 k).trans e.2.1, (blk_lam m c t 2 k).trans e.2.2.1,
    (blk_lam m c t 3 k).trans e.2.2.2⟩

/-- Equal places hold the same value. -/
theorem value_at (v : FVec Ideal S32768x768 .bf16) {r r' c c' : ℕ} (hr : r < 32768) (hr' : r' < 32768) (hc : c < 768) (hc' : c' < 768)
    (e1 : r = r') (e2 : c = c') : (v (ix2 ⟨r, hr⟩ ⟨c, hc⟩) : EReal) = v (ix2 ⟨r', hr'⟩ ⟨c', hc'⟩) := by
  subst e1 e2; rfl

/-- The transposed values in real numbers. -/
theorem tiles_real (v : FVec Ideal S32768x768 .bf16) (hv : Real v) (b : Fin 2) (h : Fin 6) (r : Fin 12) (hr : r.val = b.val * 6 + h.val)
    (s : Fin 16) (d : Fin 144) (k : Fin 1024) :
    (valTiles v (ix4 r s d k) : EReal) = (valuesR v b h d (1024 * s.val + k.val) : EReal) := by
  by_cases h1 : d.val < 128
  · rw [show d = ⟨(⟨d.val, h1⟩ : Fin 128).val, d.isLt⟩ from rfl, vals_apply, valuesR, dif_pos h1, ← hv]
    exact value_at v _ _ _ _ (by omega) (by simp only; omega)
  · by_cases h2 : d.val = 128
    · rw [show d = 128 from Fin.ext h2, ones_apply]
      simp [valuesR]
    · obtain ⟨e, he⟩ : ∃ e : Fin 15, d = ⟨129 + e.val, by omega⟩ := ⟨⟨d.val - 129, by omega⟩, Fin.ext (by simp; omega)⟩
      rw [valuesR, dif_neg h1, if_neg h2, he, zeros_apply]
      rfl

/-- What the body stores at index `y` of point `t`'s block is the reference's entry at the place of `y` in the array. -/
theorem point (c : Dev nD) (t : Fin cfg0.N)
    (hqk : Real (φ := .bf16) (s := S32768x1536) (m ((c : Thread nD τ).loc main_arg0)))
    (hv : Real (φ := .bf16) (s := S32768x768) (m ((c : Thread nD τ).loc main_arg1)))
    (h1 : Real (φ := .f32) (s := S64) (m ((c : Thread nD τ).loc main_arg2)))
    (h2 : Real (φ := .f32) (s := S64) (m ((c : Thread nD τ).loc main_arg3)))
    (h3 : Real (φ := .f32) (s := S64) (m ((c : Thread nD τ).loc main_arg4)))
    (h4 : Real (φ := .f32) (s := S64) (m ((c : Thread nD τ).loc main_arg5))) (j : Fin 1024) (d : Fin 128) :
    k0_pay1 (k0_pay34 (iblk m c 3 t)
          (last0 (iblk m c 0 t) (keyTile (iblk m c 1 t) (t.val % 16)) (valTile (iblk m c 2 t) (t.val % 16))
            (State.at (iblk m c 0 t) (iblk m c 1 t) (iblk m c 2 t) (t.val % 16)))
          (last1 (iblk m c 0 t) (keyTile (iblk m c 1 t) (t.val % 16)) (valTile (iblk m c 2 t) (t.val % 16))
            (State.at (iblk m c 0 t) (iblk m c 1 t) (iblk m c 2 t) (t.val % 16)))) (iblk m c 4 t) (ix2 j d)
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 5).blk t).view.emb (ix2 j d)) := by
  have ht := (idx_val t).2.2.2.2.2.2.2
  obtain ⟨l, hl⟩ := lam_real _ _ _ _ h1 h2 h3 h4
  refine (block_apply _ _ _ _ j d).trans (Eq.trans ?_ (normed_apply _ _ ⟨t.val / 96, ht⟩ (place ⟨t.val % 16, by omega⟩ j)
    ⟨t.val / 16 % 6, by omega⟩ d _ ?_ ?_).symm)
  · have row : ∀ e : Fin 128, _ := fun e => (diff_real (iblk m c 0 t) (iblk m c 1 t) (iblk m c 2 t)
      (queriesR (m ((c : Thread nD τ).loc main_arg0)) ⟨t.val / 96, ht⟩ ⟨t.val / 16 % 6, by omega⟩ ⟨t.val % 16, by omega⟩)
      (keysR (m ((c : Thread nD τ).loc main_arg0)) ⟨t.val / 96, ht⟩ ⟨t.val / 16 % 6, by omega⟩)
      (valuesR (m ((c : Thread nD τ).loc main_arg1)) ⟨t.val / 96, ht⟩ ⟨t.val / 16 % 6, by omega⟩)
      (fun j d => (blk_q m c t j d).trans (hqk _)) (fun n d => (blk_k m c t n d).trans (hqk _))
      (fun s d k => (blk_v m c t s d k).trans (by rw [V_vals]; exact tiles_real _ hv _ _ _ rfl s d k))
      (iblk m c 3 t) l ((lam_eq m c t).trans hl) (fun n => by simp [valuesR]) ⟨t.val % 16, by omega⟩ j e).trans
      (mix_real _ hqk ⟨t.val / 96, ht⟩ ⟨t.val / 16 % 6, by omega⟩ ⟨t.val % 16, by omega⟩ j _ hv _ l hl e).symm
    have gain := (blk_gain m c t d).trans (V_gain m c d)
    simp only [row, gain]
    rfl
  · blk_simp [idx_val t]
    simp only [place]
    omega
  · blk_simp [idx_val t]

/-- The result array after the run, where the arguments are real, is the reference's function of them. -/
theorem final (c : Dev nD)
    (hqk : Real (φ := .bf16) (s := S32768x1536) (m ((c : Thread nD τ).loc main_arg0)))
    (hv : Real (φ := .bf16) (s := S32768x768) (m ((c : Thread nD τ).loc main_arg1)))
    (h1 : Real (φ := .f32) (s := S64) (m ((c : Thread nD τ).loc main_arg2)))
    (h2 : Real (φ := .f32) (s := S64) (m ((c : Thread nD τ).loc main_arg3)))
    (h3 : Real (φ := .f32) (s := S64) (m ((c : Thread nD τ).loc main_arg4)))
    (h4 : Real (φ := .f32) (s := S64) (m ((c : Thread nD τ).loc main_arg5))) :
    (dats m 0 c).arrAt 5 cfg0.N
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 5 _ (by decide +kernel) fun t _ y => ?_
  blk_simp
  rw [after0_5]
  unfold outsAt0
  rw [out_eq, (idx_val t).2.2.2.2.2.2.1]
  have hy : y = ix2 (y 0) (y 1) := by funext a; fin_cases a <;> rfl
  rw [hy]
  exact point m c t hqk hv h1 h2 h3 h4 (y 0) (y 1)

end Cert.Kernel4Ideal.Attn

end
-- ==== Proof.OutRef.lean ====
/-
  The output projection with the residual and its layer normalisation as `reference5` writes it, at the ideal instance: its
  steps named, each read at an index.
-/
module

public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Reference5Ideal.Out

open Cert.Reference5Ideal Cert.Reference5Ideal.Gen

/-- The three branches side by side: 512, 768 and 768 columns. -/
def joined (a : FVec Ideal S32768x512 .bf16) (b c : FVec Ideal S32768x768 .bf16) : FVec Ideal S32768x2048 .f32 :=
  concatenate S32768x2048 1 [⟨S32768x512, (extf .f32 a bitsLt_bf16_f32 : FVec Ideal S32768x512 .f32)⟩,
    ⟨S32768x768, (extf .f32 b bitsLt_bf16_f32 : FVec Ideal S32768x768 .f32)⟩,
    ⟨S32768x768, (extf .f32 c bitsLt_bf16_f32 : FVec Ideal S32768x768 .f32)⟩] concatenates_S32768x512_S32768x768_S32768x768_S32768x2048_d1

/-- The scaled residual plus the product by the projection's weights. -/
def mixed (y x : FVec Ideal S32768x2048 .f32) (w : FVec Ideal S2048x2048 .f32) : FVec Ideal S32768x2048 .f32 :=
  addf (mulf (broadcastInDim S32768x2048 ![] bcast_S_S32768x2048 (constant S_ .f32 0x3FB504F3#32)) x)
    (Host.dotGeneral dot_S32768x2048_S2048x2048_S32768x2048_1_0_0_1_n_n none y w)

/-- The mean of each row, as a column. -/
def means (z : FVec Ideal S32768x2048 .f32) : FVec Ideal S32768x1 .f32 :=
  Host.divf (broadcastInDim S32768x1 ![0] bcast_S32768_S32768x1_0
      (Host.reduceAdd z (constant S_ .f32 0x00000000#32) reducesTo_S32768x2048_S32768_d1 h_S_))
    (broadcastInDim S32768x1 ![] bcast_S_S32768x1 (constant S_ .f32 0x45000000#32))

/-- Each row less its mean. -/
def centred (z : FVec Ideal S32768x2048 .f32) : FVec Ideal S32768x2048 .f32 :=
  subf z (broadcastInDim S32768x2048 ![0, 1] bcast_S32768x1_S32768x2048_0_1 (means z))

/-- The layer normalisation of each row, with its gain and its bias. -/
def normed (z : FVec Ideal S32768x2048 .f32) (g b : FVec Ideal S2048 .f32) : FVec Ideal S32768x2048 .f32 :=
  addf (mulf (mulf (centred z) (broadcastInDim S32768x2048 ![0, 1] bcast_S32768x1_S32768x2048_0_1
      (Host.rsqrt (addf (means (mulf (centred z) (centred z)))
        (broadcastInDim S32768x1 ![] bcast_S_S32768x1 (constant S_ .f32 0x3727C5AC#32))))))
    (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

/-- The reference's result as a function of the seven arguments it reads. -/
def result (a : FVec Ideal S32768x512 .bf16) (b c : FVec Ideal S32768x768 .bf16) (x : FVec Ideal S32768x2048 .f32)
    (w : FVec Ideal S2048x2048 .f32) (g h : FVec Ideal S2048 .f32) : FVec Ideal S32768x2048 .f32 :=
  normed (mixed (joined a b c) x w) g h

/-- The reference's run ends with `result`. -/
theorem res_eq (m : (ℓ : Loc nD τ sig) → Buf (Elt Ideal) ℓ) (c : Dev nD) : Cert.Reference5Ideal.Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-! ## Each step at an index -/

/-- The mean of a row of 2048 entries. -/
def rowMean (z : Fin 2048 → EReal) : EReal := Ideal.div (∑ k, z k) (Ideal.ofBits .f32 0x45000000#32)

/-- A row of 2048 entries normalised, at one of them, with that entry's gain and bias. -/
def rowNorm (z : Fin 2048 → EReal) (e : Fin 2048) (g b : EReal) : EReal :=
  (z e - rowMean z) * Ideal.rsqrt (rowMean (fun k => (z k - rowMean z) * (z k - rowMean z)) + Ideal.ofBits .f32 0x3727C5AC#32) * g + b

/-- The first 512 columns are the first branch. -/
theorem joined_left (a : FVec Ideal S32768x512 .bf16) (b c : FVec Ideal S32768x768 .bf16) (r : Fin 32768) (k : Fin 512) :
    joined a b c (ix2 r ⟨k.val, by omega⟩) = a (ix2 r k) := by
  pointwise [joined]

/-- Columns 512 … 1279 are the second branch. -/
theorem joined_mid (a : FVec Ideal S32768x512 .bf16) (b c : FVec Ideal S32768x768 .bf16) (r : Fin 32768) (k : Fin 768) :
    joined a b c (ix2 r ⟨512 + k.val, by omega⟩) = b (ix2 r k) := by
  pointwise [joined]

/-- Columns 1280 … 2047 are the third branch. -/
theorem joined_right (a : FVec Ideal S32768x512 .bf16) (b c : FVec Ideal S32768x768 .bf16) (r : Fin 32768) (k : Fin 768) :
    joined a b c (ix2 r ⟨1280 + k.val, by omega⟩) = c (ix2 r k) := by
  pointwise [joined]
  rw [dif_neg (by omega), dif_neg (by omega)]
  exact congrArg c (congrArg (ix2 r) (Fin.ext (show 1280 + k.val - 512 - 768 = k.val by omega)))

/-- The projection at an index: one sum of 2048 products. -/
theorem mixed_apply (y x : FVec Ideal S32768x2048 .f32) (w : FVec Ideal S2048x2048 .f32) (r : Fin 32768) (e : Fin 2048) :
    (mixed y x w (ix2 r e) : EReal) = Ideal.ofBits .f32 0x3FB504F3#32 * x (ix2 r e) + ∑ k : Fin 2048, (y (ix2 r k) : EReal) * w (ix2 k e) := by
  pointwise [mixed]

/-- The normalisation at an index. -/
theorem normed_apply (z : FVec Ideal S32768x2048 .f32) (g b : FVec Ideal S2048 .f32) (r : Fin 32768) (e : Fin 2048) :
    (normed z g b (ix2 r e) : EReal) = rowNorm (fun k => z (ix2 r k)) e (g (ix1 e)) (b (ix1 e)) := by
  pointwise [normed, centred, means, rowNorm, rowMean]

/-- A sum over 2048 columns as the sums over the three branches' columns. -/
theorem sum_branches (f : Fin 2048 → EReal) : ∑ k, f k
    = (∑ k : Fin 512, f ⟨k.val, by omega⟩) + (∑ k : Fin 768, f ⟨512 + k.val, by omega⟩) + ∑ k : Fin 768, f ⟨1280 + k.val, by omega⟩ :=
  (Fin.sum_univ_add (a := 1280) (b := 768) f).trans (congrArg (· + _) (Fin.sum_univ_add (a := 512) (b := 768) fun k => f (Fin.castAdd 768 k)))

/-- The projected row of the reference: the residual and three sums of products. -/
def rowOf (a : Fin 512 → EReal) (b c : Fin 768 → EReal) (x : Fin 2048 → EReal) (w : Fin 2048 → Fin 2048 → EReal) (e : Fin 2048) : EReal :=
  Ideal.ofBits .f32 0x3FB504F3#32 * x e
    + ((∑ k : Fin 512, a k * w ⟨k.val, by omega⟩ e) + (∑ k : Fin 768, b k * w ⟨512 + k.val, by omega⟩ e)
      + ∑ k : Fin 768, c k * w ⟨1280 + k.val, by omega⟩ e)

/-- The projection of the joined branches at an index. -/
theorem mixed_joined (a : FVec Ideal S32768x512 .bf16) (b c : FVec Ideal S32768x768 .bf16) (x : FVec Ideal S32768x2048 .f32)
    (w : FVec Ideal S2048x2048 .f32) (r : Fin 32768) (e : Fin 2048) :
    (mixed (joined a b c) x w (ix2 r e) : EReal)
      = rowOf (fun k => a (ix2 r k)) (fun k => b (ix2 r k)) (fun k => c (ix2 r k)) (fun k => x (ix2 r k)) (fun k e => w (ix2 k e)) e := by
  rw [mixed_apply, sum_branches]
  simp only [joined_left, joined_mid, joined_right]
  rfl

/-- The reference at an index. -/
theorem result_apply (a : FVec Ideal S32768x512 .bf16) (b c : FVec Ideal S32768x768 .bf16) (x : FVec Ideal S32768x2048 .f32)
    (w : FVec Ideal S2048x2048 .f32) (g h : FVec Ideal S2048 .f32) (r : Fin 32768) (e : Fin 2048) :
    (result a b c x w g h (ix2 r e) : EReal)
      = rowNorm (rowOf (fun k => a (ix2 r k)) (fun k => b (ix2 r k)) (fun k => c (ix2 r k)) (fun k => x (ix2 r k)) (fun k e => w (ix2 k e)))
          e (g (ix1 e)) (h (ix1 e)) := by
  unfold result
  rw [normed_apply]
  simp only [mixed_joined]

end Cert.Reference5Ideal.Out

end
-- ==== Proof.OutProj.lean ====
/-
  The output projection (`kernel5`): what its result array holds after the run, at the ideal instance.

  The grid has 128 points. Point i multiplies rows 256·i … 256·i + 255 of the three branches by the branch's rows of the
  weights, adds the scaled residual and normalises each row of 2048 entries. The reference's one sum of 2048 products is
  the kernel's three sums.
-/
module

public import proofs.«01_k».proof.Proof.Gen.Kernel5Ideal.Value
public import proofs.«01_k».proof.Proof.OutRef

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen
open Cert.Reference5Ideal.Out (rowMean rowNorm rowOf result result_apply)

variable (m : (ℓ : Loc nD τ sig) → Buf (Elt Ideal) ℓ) (ρ : Dev nD → PrngReg)

/-- The block that each window has at point `t`: rows by `t`; the weights, the gain and the bias are whole. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_12.index t = ![t.val, 0] ∧ t.val < 128 :=
  (by decide +kernel : ∀ t : Fin grid0.N, _)

/-! ## The body at an index -/

section body
variable (x0 : Vec Ideal S256x512 .bf16) (x4 : Vec Ideal S512x2048 .bf16) (x1 : Vec Ideal S256x768 .bf16)
  (x5 : Vec Ideal S768x2048 .bf16) (x2 : Vec Ideal S256x768 .bf16) (x6 : Vec Ideal S768x2048 .bf16) (x3 : Vec Ideal S256x2048 .f32)

/-- The residual plus the three products at an index. -/
theorem mixed_apply (r : Fin 256) (e : Fin 2048) : (k0_pay2 x0 x4 x1 x5 x2 x6 x3 (ix2 r e) : EReal)
    = Ideal.ofBits .f32 0x3FB504F3#32 * x3 (ix2 r e)
      + ((∑ k : Fin 512, (x0 (ix2 r k) : EReal) * x4 (ix2 k e)) + (∑ k : Fin 768, (x1 (ix2 r k) : EReal) * x5 (ix2 k e))
        + ∑ k : Fin 768, (x2 (ix2 r k) : EReal) * x6 (ix2 k e)) := by
  pointwise [k0_pay2]

/-- The mean of a row. -/
theorem mean_apply (r : Fin 256) : (k0_pay5 x0 x4 x1 x5 x2 x6 x3 (ix2 r 0) : EReal)
    = rowMean fun k => k0_pay2 x0 x4 x1 x5 x2 x6 x3 (ix2 r k) := by
  pointwise [k0_pay5, rowMean]

/-- The mean square of a row less its mean. -/
theorem var_apply (r : Fin 256) : (k0_pay6 x0 x4 x1 x5 x2 x6 x3 (ix2 r 0) : EReal)
    = rowMean fun k => (k0_pay2 x0 x4 x1 x5 x2 x6 x3 (ix2 r k) - rowMean fun k => k0_pay2 x0 x4 x1 x5 x2 x6 x3 (ix2 r k))
        * (k0_pay2 x0 x4 x1 x5 x2 x6 x3 (ix2 r k) - rowMean fun k => k0_pay2 x0 x4 x1 x5 x2 x6 x3 (ix2 r k)) := by
  rw [← mean_apply]
  pointwise [k0_pay6, rowMean]

end body

/-- The last steps of the normalisation at an index. -/
theorem scale_apply (z : FVec Ideal S256x2048 .f32) (g b : Vec Ideal S1x2048 .f32) (mu va : FVec Ideal S256x1 .f32) (r : Fin 256) (e : Fin 2048) :
    (k0_pay7 z (k0_pay3 g) (k0_pay4 b) mu va (ix2 r e) : EReal)
      = (z (ix2 r e) - mu (ix2 r 0)) * Ideal.rsqrt (va (ix2 r 0) + Ideal.ofBits .f32 0x3727C5AC#32) * g (ix2 0 e) + b (ix2 0 e) := by
  pointwise [k0_pay7, k0_pay3, k0_pay4]

/-- What the body stores at an index of its block. -/
theorem block_apply (x0 : Vec Ideal S256x512 .bf16) (x4 : Vec Ideal S512x2048 .bf16) (x1 : Vec Ideal S256x768 .bf16)
    (x5 : Vec Ideal S768x2048 .bf16) (x2 : Vec Ideal S256x768 .bf16) (x6 : Vec Ideal S768x2048 .bf16) (x3 : Vec Ideal S256x2048 .f32)
    (g b : Vec Ideal S1x2048 .f32) (r : Fin 256) (e : Fin 2048) :
    (k0_pay7 (k0_pay2 x0 x4 x1 x5 x2 x6 x3) (k0_pay3 g) (k0_pay4 b) (k0_pay5 x0 x4 x1 x5 x2 x6 x3) (k0_pay6 x0 x4 x1 x5 x2 x6 x3) (ix2 r e) : EReal)
      = rowNorm (fun k => k0_pay2 x0 x4 x1 x5 x2 x6 x3 (ix2 r k)) e (g (ix2 0 e)) (b (ix2 0 e)) := by
  rw [scale_apply, mean_apply, var_apply]
  rfl

/-! ## The operands -/

/-- The first branch's weights as the region finds them: rows 0 … 511 of the argument. -/
theorem V_wa (c : Dev nD) (k : Fin 512) (e : Fin 2048) : (V m c main_v9 : FVec Ideal S512x2048 .bf16) (ix2 k e)
    = (m ((c : Thread nD τ).loc main_arg4) : FVec Ideal S2048x2048 .f32) (ix2 ⟨k.val, by omega⟩ e) := by
  entry_read
  pointwise

/-- The second branch's: rows 512 … 1279. -/
theorem V_wb (c : Dev nD) (k : Fin 768) (e : Fin 2048) : (V m c main_v11 : FVec Ideal S768x2048 .bf16) (ix2 k e)
    = (m ((c : Thread nD τ).loc main_arg4) : FVec Ideal S2048x2048 .f32) (ix2 ⟨512 + k.val, by omega⟩ e) := by
  entry_read
  pointwise

/-- The third branch's: rows 1280 … 2047. -/
theorem V_wc (c : Dev nD) (k : Fin 768) (e : Fin 2048) : (V m c main_v13 : FVec Ideal S768x2048 .bf16) (ix2 k e)
    = (m ((c : Thread nD τ).loc main_arg4) : FVec Ideal S2048x2048 .f32) (ix2 ⟨1280 + k.val, by omega⟩ e) := by
  entry_read
  pointwise

/-- The gain as a row. -/
theorem V_gain (c : Dev nD) (e : Fin 2048) : (V m c main_v18 : FVec Ideal S1x2048 .f32) (ix2 0 e)
    = (m ((c : Thread nD τ).loc main_arg5) : FVec Ideal S2048 .f32) (ix1 e) := by
  entry_read
  pointwise

/-- The bias as a row. -/
theorem V_bias (c : Dev nD) (e : Fin 2048) : (V m c main_v19 : FVec Ideal S1x2048 .f32) (ix2 0 e)
    = (m ((c : Thread nD τ).loc main_arg6) : FVec Ideal S2048 .f32) (ix1 e) := by
  entry_read
  pointwise

/-- Two normalised rows are equal when their entries, gain and bias are. -/
theorem rowNorm_congr {z z' : Fin 2048 → EReal} {e e' : Fin 2048} {g g' b b' : EReal} (hz : z = z') (he : e = e') (hg : g = g') (hb : b = b') :
    rowNorm z e g b = rowNorm z' e' g' b' := by
  rw [hz, he, hg, hb]

/-- Two projected entries are equal when what they are made of is. -/
theorem row_congr {a a' : Fin 512 → EReal} {b b' c c' : Fin 768 → EReal} {x : EReal} {x' : Fin 2048 → EReal}
    {wa : Fin 512 → EReal} {wb wc : Fin 768 → EReal} {w : Fin 2048 → Fin 2048 → EReal} {e : Fin 2048}
    (ha : ∀ k, a k = a' k) (hb : ∀ k, b k = b' k) (hc : ∀ k, c k = c' k) (hx : x = x' e)
    (hwa : ∀ k : Fin 512, wa k = w ⟨k.val, by omega⟩ e) (hwb : ∀ k : Fin 768, wb k = w ⟨512 + k.val, by omega⟩ e)
    (hwc : ∀ k : Fin 768, wc k = w ⟨1280 + k.val, by omega⟩ e) :
    Ideal.ofBits .f32 0x3FB504F3#32 * x + ((∑ k, a k * wa k) + (∑ k, b k * wb k) + ∑ k, c k * wc k) = rowOf a' b' c' x' w e := by
  unfold rowOf
  simp only [ha, hb, hc, hx, hwa, hwb, hwc]

/-! ## The result array -/

/-- The row of the array that row `r` of point `t`'s blocks is. -/
abbrev rowAt (t : Fin cfg0.N) (r : Fin 256) : Fin 32768 := ⟨t.val * 256 + r.val, by have := (idx_val t).2.2.2.2.2.2.2.2.2.2; omega⟩

/-- Row `r` of point `t`'s projected block is the reference's. -/
theorem row_eq (c : Dev nD) (t : Fin cfg0.N) (r : Fin 256) (e : Fin 2048) :
    (k0_pay2 (iblk m c 0 t) (iblk m c 4 t) (iblk m c 1 t) (iblk m c 5 t) (iblk m c 2 t) (iblk m c 6 t) (iblk m c 3 t) (ix2 r e) : EReal)
      = rowOf (fun k => (m ((c : Thread nD τ).loc main_arg0) : FVec Ideal S32768x512 .bf16) (ix2 (rowAt t r) k))
          (fun k => (m ((c : Thread nD τ).loc main_arg1) : FVec Ideal S32768x768 .bf16) (ix2 (rowAt t r) k))
          (fun k => (m ((c : Thread nD τ).loc main_arg2) : FVec Ideal S32768x768 .bf16) (ix2 (rowAt t r) k))
          (fun k => (m ((c : Thread nD τ).loc main_arg3) : FVec Ideal S32768x2048 .f32) (ix2 (rowAt t r) k))
          (fun k e => (m ((c : Thread nD τ).loc main_arg4) : FVec Ideal S2048x2048 .f32) (ix2 k e)) e := by
  refine (mixed_apply _ _ _ _ _ _ _ r e).trans (row_congr (fun k => ?_) (fun k => ?_) (fun k => ?_) ?_ (fun k => ?_) (fun k => ?_) (fun k => ?_))
  · refine Eq.trans ?_ (congrFun (V_main_arg0 m c) (ix2 (rowAt t r) k))
    blk_ext [iblk, idx_val t]
  · refine Eq.trans ?_ (congrFun (V_main_arg1 m c) (ix2 (rowAt t r) k))
    blk_ext [iblk, idx_val t]
  · refine Eq.trans ?_ (congrFun (V_main_arg2 m c) (ix2 (rowAt t r) k))
    blk_ext [iblk, idx_val t]
  · refine Eq.trans ?_ (congrFun (V_main_arg3 m c) (ix2 (rowAt t r) e))
    blk_ext [iblk, idx_val t]
  · refine Eq.trans ?_ (V_wa m c k e)
    blk_ext [iblk, idx_val t]
  · refine Eq.trans ?_ (V_wb m c k e)
    blk_ext [iblk, idx_val t]
  · refine Eq.trans ?_ (V_wc m c k e)
    blk_ext [iblk, idx_val t]

/-- What the body stores at index (r, e) of point `t`'s block is the reference's entry in that row. -/
theorem point (c : Dev nD) (t : Fin cfg0.N) (r : Fin 256) (e : Fin 2048) :
    (k0_pay7 (k0_pay2 (iblk m c 0 t) (iblk m c 4 t) (iblk m c 1 t) (iblk m c 5 t) (iblk m c 2 t) (iblk m c 6 t) (iblk m c 3 t))
        (k0_pay3 (iblk m c 7 t)) (k0_pay4 (iblk m c 8 t))
        (k0_pay5 (iblk m c 0 t) (iblk m c 4 t) (iblk m c 1 t) (iblk m c 5 t) (iblk m c 2 t) (iblk m c 6 t) (iblk m c 3 t))
        (k0_pay6 (iblk m c 0 t) (iblk m c 4 t) (iblk m c 1 t) (iblk m c 5 t) (iblk m c 2 t) (iblk m c 6 t) (iblk m c 3 t)) (ix2 r e) : EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 (rowAt t r) e) := by
  refine (block_apply _ _ _ _ _ _ _ _ _ r e).trans (Eq.trans ?_ (result_apply _ _ _ _ _ _ _ _ e).symm)
  refine rowNorm_congr (funext fun k => row_eq m c t r k) rfl ?_ ?_
  · refine Eq.trans ?_ (V_gain m c e)
    blk_ext [iblk, idx_val t]
  · refine Eq.trans ?_ (V_bias m c e)
    blk_ext [iblk, idx_val t]

/-- The result array after the run is the reference's function of the arguments. -/
theorem final (c : Dev nD) : (dats m 0 c).arrAt 12 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 12 _ (by decide +kernel) fun t _ y => ?_
  blk_simp
  rw [after0_12]
  unfold_out out0_12
  frame_out
  obtain ⟨r, e, rfl⟩ : ∃ (r : Fin 256) (e : Fin 2048), y = ix2 r e := ⟨y 0, y 1, by ext i; fin_cases i <;> rfl⟩
  refine (point m c t r e).trans (congrArg _ ?_)
  blk_ext [idx_val t]

end Cert.Kernel5Ideal.Out

end
-- ==== Proof.SguRef.lean ====
/-
  The spatial gating as `reference6` writes it, at the ideal instance: its steps named, each read at an index.
-/
module

public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem

namespace Cert.Reference6Ideal.Sgu

open Cert.Reference6Ideal Cert.Reference6Ideal.Gen

/-- Columns 0 … 511 of the projection, a block of 128 rows and a group of 128 columns at a time. -/
def gates (h : FVec Ideal S32768x6528 .bf16) : FVec Ideal S2x128x128x4x128 .f32 :=
  shapeCast _ (extf .f32 (extractStridedSlice S32768x512 ![0, 0] h slices_S32768x6528_S32768x512_0_0) bitsLt_bf16_f32)
    shapeCasts_S32768x512_S2x128x128x4x128

/-- Columns 512 … 1023, likewise. -/
def values (h : FVec Ideal S32768x6528 .bf16) : FVec Ideal S2x128x128x4x128 .f32 :=
  shapeCast _ (extf .f32 (extractStridedSlice S32768x512 ![0, 512] h slices_S32768x6528_S32768x512_0_512) bitsLt_bf16_f32)
    shapeCasts_S32768x512_S2x128x128x4x128

/-- The exact gelu. -/
def gelus (x : FVec Ideal S2x128x128x4x128 .f32) : FVec Ideal S2x128x128x4x128 .f32 :=
  mulf (mulf (broadcastInDim S2x128x128x4x128 ![] bcast_S_S2x128x128x4x128 (constant S_ .f32 0x3F000000#32)) x)
    (addf (broadcastInDim S2x128x128x4x128 ![] bcast_S_S2x128x128x4x128 (constant S_ .f32 0x3F800000#32))
      (Host.erf (mulf x (broadcastInDim S2x128x128x4x128 ![] bcast_S_S2x128x128x4x128 (constant S_ .f32 0x3F3504F3#32)))))

/-- The mean over a group's columns. -/
def means (x : FVec Ideal S2x128x128x4x128 .f32) : FVec Ideal S2x128x128x4x1 .f32 :=
  Host.divf (broadcastInDim S2x128x128x4x1 ![0, 1, 2, 3] bcast_S2x128x128x4_S2x128x128x4x1_0_1_2_3
      (Host.reduceAdd x (constant S_ .f32 0x00000000#32) reducesTo_S2x128x128x4x128_S2x128x128x4_d4 h_S_))
    (broadcastInDim S2x128x128x4x1 ![] bcast_S_S2x128x128x4x1 (constant S_ .f32 0x43000000#32))

/-- Each group's row less its mean. -/
def centred (x : FVec Ideal S2x128x128x4x128 .f32) : FVec Ideal S2x128x128x4x128 .f32 :=
  subf x (broadcastInDim S2x128x128x4x128 ![0, 1, 2, 3, 4] bcast_S2x128x128x4x1_S2x128x128x4x128_0_1_2_3_4 (means x))

/-- A vector over the columns, spread over the rows. -/
def spread (g : FVec Ideal S512 .f32) : FVec Ideal S2x128x128x4x128 .f32 :=
  broadcastInDim S2x128x128x4x128 ![0, 1, 2, 3, 4] bcast_S1x1x1x4x128_S2x128x128x4x128_0_1_2_3_4
    (broadcastInDim S1x1x1x4x128 ![3, 4] bcast_S4x128_S1x1x1x4x128_3_4 (shapeCast _ g shapeCasts_S512_S4x128))

/-- The normalisation of each group's row, with its gain and its bias. -/
def normed (x : FVec Ideal S2x128x128x4x128 .f32) (g b : FVec Ideal S512 .f32) : FVec Ideal S2x128x128x4x128 .f32 :=
  addf (mulf (mulf (centred x) (broadcastInDim S2x128x128x4x128 ![0, 1, 2, 3, 4] bcast_S2x128x128x4x1_S2x128x128x4x128_0_1_2_3_4
      (Host.rsqrt (addf (means (mulf (centred x) (centred x)))
        (broadcastInDim S2x128x128x4x1 ![] bcast_S_S2x128x128x4x1 (constant S_ .f32 0x3727C5AC#32))))))
    (spread g)) (spread b)

/-- Each position's chunk of 64. -/
def chunks : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- Position i sees position j when j's chunk is not later. -/
def visible : IVec S128x128 1 :=
  cmpi .sle (broadcastInDim S128x128 ![0, 1] bcast_S1x128_S128x128_0_1 (broadcastInDim S1x128 ![1] bcast_S128_S1x128_1 chunks))
    (broadcastInDim S128x128 ![0, 1] bcast_S128x1_S128x128_0_1 (broadcastInDim S128x1 ![0] bcast_S128_S128x1_0 chunks))

/-- The mixing weights, 0 where not visible. -/
def weights (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 visible))
    w (broadcastInDim S4x128x128 ![] bcast_S_S4x128x128 (id (constant S_ .f32 0x00000000#32)))

/-- The values mixed over the positions of a block, plus each position's bias. -/
def mixed (v : FVec Ideal S2x128x128x4x128 .f32) (w : FVec Ideal S4x128x128 .f32) (b : FVec Ideal S4x128 .f32) : FVec Ideal S2x128x128x4x128 .f32 :=
  addf (transpose S2x128x128x4x128 [1, 2, 4, 0, 3] (Host.dotGeneral dot_S2x128x128x4x128_S4x128x128_S4x2x128x128x128_2_2_014_1_3_0 none v w)
      transposes_S4x2x128x128x128_S2x128x128x4x128_1_2_4_0_3)
    (broadcastInDim S2x128x128x4x128 ![0, 1, 2, 3, 4] bcast_S1x1x128x4x1_S2x128x128x4x128_0_1_2_3_4
      (broadcastInDim S1x1x128x4x1 ![2, 3, 4] bcast_S128x4x1_S1x1x128x4x1_2_3_4
        (broadcastInDim S128x4x1 ![0, 1] bcast_S128x4_S128x4x1_0_1 (transpose S128x4 [1, 0] b transposes_S4x128_S128x4_1_0))))

/-- The reference's result as a function of its five arguments. -/
def result (h : FVec Ideal S32768x6528 .bf16) (g b : FVec Ideal S512 .f32) (w : FVec Ideal S4x128x128 .f32) (s : FVec Ideal S4x128 .f32) :
    FVec Ideal S32768x512 .bf16 :=
  truncf .bf16 (shapeCast S32768x512 (mulf (gelus (gates h)) (mixed (normed (gelus (values h)) g b) (weights w) s))
    shapeCasts_S2x128x128x4x128_S32768x512 : FVec Ideal S32768x512 .f32) bitsLt_bf16_f32

/-- The reference's run ends with `result`. -/
theorem res_eq (m : (ℓ : Loc nD τ sig) → Buf (Elt Ideal) ℓ) (c : Dev nD) : Cert.Reference6Ideal.Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## Each step at an index -/

/-- The gelu of a number. -/
def gelu (x : EReal) : EReal :=
  Ideal.ofBits .f32 0x3F000000#32 * x * (Ideal.ofBits .f32 0x3F800000#32 + Ideal.erf (x * Ideal.ofBits .f32 0x3F3504F3#32))

/-- The mean of 128 entries. -/
def rowMean (z : Fin 128 → EReal) : EReal := Ideal.div (∑ k, z k) (Ideal.ofBits .f32 0x43000000#32)

/-- A row of 128 entries normalised, at one of them, with that entry's gain and bias. -/
def rowNorm (z : Fin 128 → EReal) (e : Fin 128) (g b : EReal) : EReal :=
  (z e - rowMean z) * Ideal.rsqrt (rowMean (fun k => (z k - rowMean z) * (z k - rowMean z)) + Ideal.ofBits .f32 0x3727C5AC#32) * g + b

/-- The gated entry at position `i` and column `e` of a block: `u` is the gate, `v` the block's values, `w` the position's weights. -/
def gated (u : EReal) (v : Fin 128 → Fin 128 → EReal) (w : Fin 128 → EReal) (i e : Fin 128) (g b s : EReal) : EReal :=
  gelu u * ((∑ j : Fin 128, rowNorm (fun k => gelu (v j k)) e g b * (if j.val / 64 ≤ i.val / 64 then w j else 0)) + s)

theorem gates_apply (h : FVec Ideal S32768x6528 .bf16) (b : Fin 2) (n i : Fin 128) (g : Fin 4) (e : Fin 128) :
    gates h (ix5 b n i g e) = h (ix2 ⟨b.val * 16384 + n.val * 128 + i.val, by omega⟩ ⟨g.val * 128 + e.val, by omega⟩) := by
  pointwise [gates]

theorem values_apply (h : FVec Ideal S32768x6528 .bf16) (b : Fin 2) (n i : Fin 128) (g : Fin 4) (e : Fin 128) :
    values h (ix5 b n i g e) = h (ix2 ⟨b.val * 16384 + n.val * 128 + i.val, by omega⟩ ⟨512 + (g.val * 128 + e.val), by omega⟩) := by
  pointwise [values]

theorem gelus_apply (x : FVec Ideal S2x128x128x4x128 .f32) (b : Fin 2) (n i : Fin 128) (g : Fin 4) (e : Fin 128) :
    (gelus x (ix5 b n i g e) : EReal) = gelu (x (ix5 b n i g e)) := by
  pointwise [gelus, gelu]

theorem normed_apply (x : FVec Ideal S2x128x128x4x128 .f32) (a c : FVec Ideal S512 .f32) (b : Fin 2) (n i : Fin 128) (g : Fin 4) (e : Fin 128) :
    (normed x a c (ix5 b n i g e) : EReal)
      = rowNorm (fun k => x (ix5 b n i g k)) e (a (ix1 ⟨g.val * 128 + e.val, by omega⟩)) (c (ix1 ⟨g.val * 128 + e.val, by omega⟩)) := by
  pointwise [normed, centred, means, spread, rowNorm, rowMean]

/-- The floored quotient by 64 as the reference computes it on words. -/
def chunkWord (r : BitVec 32) : BitVec 32 :=
  Scalar.select
    (IntOp.andi
      (IntOp.cmpi .ne (if r = 0 then 0 else if r.msb = true then -1 else 1 : BitVec 32)
        (if (64#32 : BitVec 32) = 0 then 0 else if (64#32 : BitVec 32).msb = true then -1 else 1))
      (IntOp.cmpi .ne (IntOp.remsi .host r 64#32) 0#32))
    (IntOp.subi (IntOp.divsi .host r 64#32) 1#32)
    (IntOp.divsi .host r 64#32)

theorem chunkWord_eq : ∀ r : Fin 128, chunkWord (BitVec.ofNat 32 r.val) = BitVec.ofNat 32 (r.val / 64) := by
  decide +kernel

theorem word_le : ∀ a b : Fin 2, IntOp.cmpi .sle (BitVec.ofNat 32 a.val) (BitVec.ofNat 32 b.val) = 1#1 ↔ a.val ≤ b.val := by
  decide +kernel

theorem visible_apply (i j : Fin 128) : visible (ix2 i j) = IntOp.cmpi .sle (chunks (ix1 j)) (chunks (ix1 i)) := by
  pointwise [visible]

theorem chunks_apply (n : Fin 128) : chunks (ix1 n) = BitVec.ofNat 32 (n.val / 64) := by
  have h : chunks (ix1 n) = chunkWord (BitVec.ofNat 32 n.val) := by
    pointwise [chunks, chunkWord]
    rfl
  rw [h, chunkWord_eq]

/-- A position sees its own chunk and the one before. -/
theorem visible_iff (i j : Fin 128) : visible (ix2 i j) = 1#1 ↔ j.val / 64 ≤ i.val / 64 := by
  rw [visible_apply, chunks_apply, chunks_apply]
  exact word_le ⟨j.val / 64, by omega⟩ ⟨i.val / 64, by omega⟩

/-- The word 0 is 0. -/
theorem zero : Ideal.ofBits .f32 0#32 = 0 := by
  simp [Ideal.ofBits, Ideal.ieee]

theorem weights_apply (w : FVec Ideal S4x128x128 .f32) (g : Fin 4) (i j : Fin 128) :
    (weights w (ix3 g i j) : EReal) = if j.val / 64 ≤ i.val / 64 then (w (ix3 g i j) : EReal) else 0 := by
  have h : (weights w (ix3 g i j) : EReal) = if visible (ix2 i j) = 1#1 then (w (ix3 g i j) : EReal) else 0 := by
    pointwise [weights]
    have e : (id (constant (F := Ideal) S_ FTy.f32 0#32) ix0 : EReal) = 0 := zero
    rw [e]
    rfl
  rw [h]
  exact if_congr (visible_iff i j) rfl rfl

theorem mixed_apply (v : FVec Ideal S2x128x128x4x128 .f32) (w : FVec Ideal S4x128x128 .f32) (s : FVec Ideal S4x128 .f32)
    (b : Fin 2) (n i : Fin 128) (g : Fin 4) (e : Fin 128) :
    (mixed v w s (ix5 b n i g e) : EReal) = (∑ j : Fin 128, (v (ix5 b n j g e) : EReal) * w (ix3 g i j)) + s (ix2 g i) := by
  pointwise [mixed]

/-- The result at row `(b, n, i)` and column `(g, e)`. -/
theorem result_split (h : FVec Ideal S32768x6528 .bf16) (a c : FVec Ideal S512 .f32) (w : FVec Ideal S4x128x128 .f32) (s : FVec Ideal S4x128 .f32)
    (b : Fin 2) (n i : Fin 128) (g : Fin 4) (e : Fin 128) :
    (mulf (gelus (gates h)) (mixed (normed (gelus (values h)) a c) (weights w) s) (ix5 b n i g e) : EReal)
      = gated (h (ix2 ⟨b.val * 16384 + n.val * 128 + i.val, by omega⟩ ⟨g.val * 128 + e.val, by omega⟩))
          (fun j k => h (ix2 ⟨b.val * 16384 + n.val * 128 + j.val, by omega⟩ ⟨512 + (g.val * 128 + k.val), by omega⟩))
          (fun j => w (ix3 g i j)) i e (a (ix1 ⟨g.val * 128 + e.val, by omega⟩)) (c (ix1 ⟨g.val * 128 + e.val, by omega⟩)) (s (ix2 g i)) := by
  have e0 : (mulf (gelus (gates h)) (mixed (normed (gelus (values h)) a c) (weights w) s) (ix5 b n i g e) : EReal)
      = (gelus (gates h) (ix5 b n i g e) : EReal) * mixed (normed (gelus (values h)) a c) (weights w) s (ix5 b n i g e) := rfl
  rw [e0, gelus_apply, gates_apply, mixed_apply]
  simp only [normed_apply, gelus_apply, values_apply, weights_apply]
  rfl

theorem result_raw (h : FVec Ideal S32768x6528 .bf16) (a c : FVec Ideal S512 .f32) (w : FVec Ideal S4x128x128 .f32) (s : FVec Ideal S4x128 .f32)
    (r : Fin 32768) (k : Fin 512) :
    (result h a c w s (ix2 r k) : EReal) = mulf (gelus (gates h)) (mixed (normed (gelus (values h)) a c) (weights w) s)
      (ix5 ⟨r.val / 16384, by omega⟩ ⟨r.val / 128 % 128, by omega⟩ ⟨r.val % 128, by omega⟩ ⟨k.val / 128, by omega⟩ ⟨k.val % 128, by omega⟩) := by
  unfold result
  generalize mulf (gelus (gates h)) (mixed (normed (gelus (values h)) a c) (weights w) s) = x
  pointwise

end Cert.Reference6Ideal.Sgu

end
-- ==== Proof.Sgu.lean ====
/-
  The spatial gating (`kernel6`): what its result array holds after the run, at the ideal instance.

  The grid has 32 × 4 points. Point (i, g) gates rows 1024·i … 1024·i + 1023 of column group g, eight blocks of 128 rows,
  each stored apart.
-/
module

public import proofs.«01_k».proof.Proof.Gen.Kernel6Ideal.Value
public import proofs.«01_k».proof.Proof.SguRef

@[expose] public section

set_option maxRecDepth 16384

noncomputable section

open Idealize.ShloMosaic Idealize.ShloMosaic.TcCoe Idealize.SL.Sem
open Idealize.ShloMosaic.Pipeline (Dat)

namespace Cert.Kernel6Ideal.Sgu

open Cert.Kernel6Ideal Cert.Kernel6Ideal.Gen
open Cert.Reference6Ideal.Sgu (gelu rowMean rowNorm gated result result_raw result_split)

variable (m : (ℓ : Loc nD τ sig) → Buf (Elt Ideal) ℓ) (ρ : Dev nD → PrngReg)

/-- The block that each window has at point `t`. -/
theorem idx_val : ∀ t : Fin cfg0.N, win0_0.index t = ![t.val / 4, t.val % 4] ∧ win0_1.index t = ![t.val / 4, 4 + t.val % 4]
    ∧ win0_2.index t = ![0, t.val % 4] ∧ win0_3.index t = ![0, t.val % 4] ∧ win0_4.index t = ![t.val % 4, 0, 0]
    ∧ win0_5.index t = ![t.val % 4, 0, 0] ∧ win0_6.index t = ![t.val / 4, t.val % 4] ∧ t.val < 128 :=
  (by decide +kernel : ∀ t : Fin grid0.N, _)

/-! ## The body at an index -/

/-- The gates' gelu. -/
theorem gate_apply (x : Vec Ideal S1024x128 .bf16) (r : Fin 1024) (e : Fin 128) : (k0_pay1 x (ix2 r e) : EReal) = gelu (x (ix2 r e)) := by
  have h : (k0_pay1 x (ix2 r e) : EReal) = x (ix2 r e) * (Ideal.erf (x (ix2 r e) * Ideal.ofBits .f32 0x3F3504F3#32) + Ideal.ofBits .f32 0x3F800000#32)
      * Ideal.ofBits .f32 0x3F000000#32 := by
    pointwise [k0_pay1]
    rfl
  rw [h, gelu, add_comm (Ideal.ofBits .f32 0x3F800000#32), mul_comm (Ideal.ofBits .f32 0x3F000000#32), mul_right_comm]

/-- The values' gelu, normalised, before the gain. -/
theorem scaled_apply (x : Vec Ideal S1024x128 .bf16) (r : Fin 1024) (e : Fin 128) : (k0_pay2 x (ix2 r e) : EReal)
    = (gelu (x (ix2 r e)) - rowMean fun k => gelu (x (ix2 r k)))
      * Ideal.rsqrt (rowMean (fun k => (gelu (x (ix2 r k)) - rowMean fun k => gelu (x (ix2 r k))) * (gelu (x (ix2 r k)) - rowMean fun k => gelu (x (ix2 r k))))
        + Ideal.ofBits .f32 0x3727C5AC#32) := by
  simp only [← gate_apply]
  pointwise [k0_pay2, k0_pay1, rowMean]

/-- The normalised values. -/
theorem normed_apply (x : Vec Ideal S1024x128 .bf16) (g b : Vec Ideal S1x128 .f32) (r : Fin 1024) (e : Fin 128) :
    (k0_pay4 (k0_pay2 x) (k0_pay3 g) b (ix2 r e) : EReal) = rowNorm (fun k => gelu (x (ix2 r k))) e (g (ix2 0 e)) (b (ix2 0 e)) := by
  have h : (k0_pay4 (k0_pay2 x) (k0_pay3 g) b (ix2 r e) : EReal) = k0_pay2 x (ix2 r e) * g (ix2 0 e) + b (ix2 0 e) := by
    pointwise [k0_pay4, k0_pay3]
  rw [h, scaled_apply]
  rfl

/-- The floored quotient by 64 as the body computes it on words. -/
def chunkWord (r : BitVec 32) : BitVec 32 :=
  Scalar.select
    (IntOp.andi
      (IntOp.cmpi .ne
        (IntOp.subi (BitVec.setWidth 32 (IntOp.cmpi .sgt r 0#32)) (BitVec.setWidth 32 (IntOp.cmpi .slt r 0#32)))
        (Scalar.subi (Scalar.extui (Scalar.cmpi .sgt 64#32 0#32)) (Scalar.extui (Scalar.cmpi .slt 64#32 0#32))))
      (IntOp.cmpi .ne (IntOp.remsi .vector r 64#32) 0#32))
    (IntOp.subi (IntOp.divsi .vector r 64#32) 1#32)
    (IntOp.divsi .vector r 64#32)

theorem chunkWord_eq : ∀ r : Fin 128, chunkWord (BitVec.ofNat 32 r.val) = BitVec.ofNat 32 (r.val / 64) := by
  decide +kernel

theorem chunk_le : ∀ a b : Fin 2, (IntOp.cmpi .sle (BitVec.ofNat 32 a.val) (BitVec.ofNat 32 b.val) = 1#1) ↔ a.val ≤ b.val := by
  decide +kernel

/-- The masked weights of one group as the body computes them. -/
abbrev masked (w : Vec Ideal S1x128x128 .f32) : FVec Ideal S128x128 .bf16 :=
  k0_pay8 (iota .tc S128x128 32 [0] iota_S128x128_d0_w32) k0_pay5 64#32 k0_pay6 k0_pay7
    (Scalar.subi (Scalar.extui (Scalar.cmpi .sgt 64#32 0#32)) (Scalar.extui (Scalar.cmpi .slt 64#32 0#32))) w

/-- The weights at an index: 0 where the column's chunk is later than the row's. -/
theorem masked_apply (w : Vec Ideal S1x128x128 .f32) (i j : Fin 128) :
    (masked w (ix2 i j) : EReal) = if j.val / 64 ≤ i.val / 64 then (w (ix3 0 i j) : EReal) else 0 := by
  have h : (masked w (ix2 i j) : EReal)
      = if IntOp.cmpi .sle (chunkWord (BitVec.ofNat 32 j.val)) (chunkWord (BitVec.ofNat 32 i.val)) = 1#1 then (w (ix3 0 i j) : EReal) else Ideal.ofBits .f32 0#32 := by
    pointwise [k0_pay8, k0_pay5, k0_pay6, k0_pay7, chunkWord]
    rfl
  rw [h, chunkWord_eq, chunkWord_eq, Cert.Reference6Ideal.Sgu.zero]
  exact if_congr (chunk_le ⟨j.val / 64, by omega⟩ ⟨i.val / 64, by omega⟩) rfl rfl

/-- One stored block of 128 rows, from row `o` on. -/
theorem piece_apply (u : FVec Ideal S1024x128 .f32) (v : FVec Ideal S1024x128 .bf16) (w : FVec Ideal S128x128 .bf16) (b : FVec Ideal S128x1 .f32)
    (o : ℕ) (ho : o + 128 ≤ 1024) (hs : S1024x128.Slices ![o, 0] S128x128) (i e : Fin 128) :
    (truncf .bf16 (mulf (extractStridedSlice S128x128 ![o, 0] u hs)
        (addf (matmul dot_S128x128_S128x128_S128x128_1_0_0_1_n_n none w (extractStridedSlice S128x128 ![o, 0] v hs) (constant S128x128 .f32 0x00000000#32))
          (broadcastTo S128x128 b broadcasts_S128x1_S128x128))) bitsLt_bf16_f32 (ix2 i e) : EReal)
      = u (ix2 ⟨o + i.val, by omega⟩ e) * ((∑ j : Fin 128, (w (ix2 i j) : EReal) * v (ix2 ⟨o + j.val, by omega⟩ e)) + b (ix2 i 0)) := by
  pointwise

/-- What the body leaves at row `r` and column `e` of its output block. -/
theorem out_apply (x0 x1 : Vec Ideal S1024x128 .bf16) (x2 x3 : Vec Ideal S1x128 .f32) (x4 : Vec Ideal S1x128x128 .f32) (x5 : Vec Ideal S1x128x1 .f32)
    (r : Fin 1024) (e : Fin 128) :
    (out0_6 x0 x1 x2 x3 x4 x5 (ix2 r e) : EReal)
      = gated (x0 (ix2 r e)) (fun j k => x1 (ix2 ⟨r.val / 128 * 128 + j.val, by omega⟩ k)) (fun j => x4 (ix3 0 ⟨r.val % 128, by omega⟩ j))
          ⟨r.val % 128, by omega⟩ e (x2 (ix2 0 e)) (x3 (ix2 0 e)) (x5 (ix3 0 ⟨r.val % 128, by omega⟩ 0)) := by
  have block : ∀ (o : ℕ) (ho : o + 128 ≤ 1024) (hs : S1024x128.Slices ![o, 0] S128x128) (y : S128x128.Idx) (h0 : r.val = o + (y 0).val)
      (h1 : e.val = (y 1).val) (hd : o % 128 = 0),
      (truncf .bf16 (mulf (extractStridedSlice S128x128 ![o, 0] (k0_pay1 x0) hs)
        (addf (matmul dot_S128x128_S128x128_S128x128_1_0_0_1_n_n none (masked x4)
            (extractStridedSlice S128x128 ![o, 0] (k0_pay4 (k0_pay2 x1) (k0_pay3 x2) x3) hs) (constant S128x128 .f32 0x00000000#32))
          (broadcastTo S128x128 (k0_pay9 x5) broadcasts_S128x1_S128x128))) bitsLt_bf16_f32 y : EReal)
      = gated (x0 (ix2 r e)) (fun j k => x1 (ix2 ⟨r.val / 128 * 128 + j.val, by omega⟩ k)) (fun j => x4 (ix3 0 ⟨r.val % 128, by omega⟩ j))
          ⟨r.val % 128, by omega⟩ e (x2 (ix2 0 e)) (x3 (ix2 0 e)) (x5 (ix3 0 ⟨r.val % 128, by omega⟩ 0)) := by
    intro o ho hs y h0 h1 hd
    obtain ⟨i, e', rfl⟩ : ∃ (i e' : Fin 128), y = ix2 i e' := ⟨y 0, y 1, by ext a; fin_cases a <;> rfl⟩
    replace h0 : r.val = o + i.val := h0
    obtain rfl : e = e' := Fin.ext h1
    obtain rfl : r = ⟨o + i.val, Nat.lt_of_lt_of_le (Nat.add_lt_add_left i.isLt o) ho⟩ := Fin.ext h0
    have b1 : (o + i.val) / 128 * 128 = o := by omega
    have b2 : (o + i.val) % 128 = i.val := by omega
    have hb : (k0_pay9 x5 (ix2 i 0) : EReal) = x5 (ix3 0 i 0) := by
      pointwise [k0_pay9]
    rw [piece_apply _ _ _ _ o ho hs i e, hb, gate_apply]
    simp only [normed_apply, masked_apply, b1, b2, Fin.eta, gated]
    congr 2
    exact Finset.sum_congr rfl fun j _ => mul_comm _ _
  unfold_out out0_6
  canon_tiles y h
  all_goals simp (disch := decide) only [View.ld_unit_lit']
  · exact block 896 (by decide) slices_S1024x128_o896_0_S128x128 y h0 h1 rfl
  · exact block 768 (by decide) slices_S1024x128_o768_0_S128x128 y h0 h1 rfl
  · exact block 640 (by decide) slices_S1024x128_o640_0_S128x128 y h0 h1 rfl
  · exact block 512 (by decide) slices_S1024x128_o512_0_S128x128 y h0 h1 rfl
  · exact block 384 (by decide) slices_S1024x128_o384_0_S128x128 y h0 h1 rfl
  · exact block 256 (by decide) slices_S1024x128_o256_0_S128x128 y h0 h1 rfl
  · exact block 128 (by decide) slices_S1024x128_o128_0_S128x128 y h0 h1 rfl
  · exact block 0 (by decide) slices_S1024x128_o0_0_S128x128 y (h0.trans (Nat.zero_add _).symm) h1 rfl

/-! ## The operands -/

/-- The gain as a row. -/
theorem V_gain (c : Dev nD) (e : Fin 512) : (V m c main_v0 : FVec Ideal S1x512 .f32) (ix2 0 e)
    = (m ((c : Thread nD τ).loc main_arg1) : FVec Ideal S512 .f32) (ix1 e) := by
  entry_read
  pointwise

/-- The bias as a row. -/
theorem V_bias (c : Dev nD) (e : Fin 512) : (V m c main_v1 : FVec Ideal S1x512 .f32) (ix2 0 e)
    = (m ((c : Thread nD τ).loc main_arg2) : FVec Ideal S512 .f32) (ix1 e) := by
  entry_read
  pointwise

/-- The positions' bias under a last axis of extent 1. -/
theorem V_shift (c : Dev nD) (g : Fin 4) (i : Fin 128) : (V m c main_v2 : FVec Ideal S4x128x1 .f32) (ix3 g i 0)
    = (m ((c : Thread nD τ).loc main_arg4) : FVec Ideal S4x128 .f32) (ix2 g i) := by
  entry_read
  pointwise

/-! ## The result array -/

/-- The row of the array that row `r` of point `t`'s blocks is. -/
abbrev rowAt (t : Fin cfg0.N) (r : Fin 1024) : Fin 32768 := ⟨t.val / 4 * 1024 + r.val, by have := (idx_val t).2.2.2.2.2.2.2; omega⟩

/-- The column of the array that column `e` of point `t`'s blocks is. -/
abbrev colAt (t : Fin cfg0.N) (e : Fin 128) : Fin 512 := ⟨t.val % 4 * 128 + e.val, by omega⟩

/-- Point `t`'s block of gates. -/
theorem blk_u (c : Dev nD) (t : Fin cfg0.N) (r : Fin 1024) (e : Fin 128) : iblk m c 0 t (ix2 r e)
    = (m ((c : Thread nD τ).loc main_arg0) : FVec Ideal S32768x6528 .bf16) (ix2 (rowAt t r) ⟨t.val % 4 * 128 + e.val, by omega⟩) := by
  refine Eq.trans ?_ (congrFun (V_main_arg0 m c) (ix2 (rowAt t r) ⟨t.val % 4 * 128 + e.val, by omega⟩))
  blk_ext [iblk, idx_val t]

/-- Point `t`'s block of values. -/
theorem blk_v (c : Dev nD) (t : Fin cfg0.N) (r : Fin 1024) (e : Fin 128) : iblk m c 1 t (ix2 r e)
    = (m ((c : Thread nD τ).loc main_arg0) : FVec Ideal S32768x6528 .bf16) (ix2 (rowAt t r) ⟨512 + (t.val % 4 * 128 + e.val), by omega⟩) := by
  refine Eq.trans ?_ (congrFun (V_main_arg0 m c) (ix2 (rowAt t r) ⟨512 + (t.val % 4 * 128 + e.val), by omega⟩))
  blk_ext [iblk, idx_val t]

/-- Point `t`'s gain. -/
theorem blk_gain (c : Dev nD) (t : Fin cfg0.N) (e : Fin 128) : iblk m c 2 t (ix2 0 e)
    = (m ((c : Thread nD τ).loc main_arg1) : FVec Ideal S512 .f32) (ix1 (colAt t e)) := by
  refine Eq.trans ?_ (V_gain m c (colAt t e))
  blk_ext [iblk, idx_val t]

/-- Point `t`'s bias. -/
theorem blk_bias (c : Dev nD) (t : Fin cfg0.N) (e : Fin 128) : iblk m c 3 t (ix2 0 e)
    = (m ((c : Thread nD τ).loc main_arg2) : FVec Ideal S512 .f32) (ix1 (colAt t e)) := by
  refine Eq.trans ?_ (V_bias m c (colAt t e))
  blk_ext [iblk, idx_val t]

/-- Point `t`'s weights. -/
theorem blk_w (c : Dev nD) (t : Fin cfg0.N) (i j : Fin 128) : iblk m c 4 t (ix3 0 i j)
    = (m ((c : Thread nD τ).loc main_arg3) : FVec Ideal S4x128x128 .f32) (ix3 ⟨t.val % 4, by omega⟩ i j) := by
  refine Eq.trans ?_ (congrFun (V_main_arg3 m c) (ix3 ⟨t.val % 4, by omega⟩ i j))
  blk_ext [iblk, idx_val t]

/-- Point `t`'s bias of the positions. -/
theorem blk_shift (c : Dev nD) (t : Fin cfg0.N) (i : Fin 128) : iblk m c 5 t (ix3 0 i 0)
    = (m ((c : Thread nD τ).loc main_arg4) : FVec Ideal S4x128 .f32) (ix2 ⟨t.val % 4, by omega⟩ i) := by
  refine Eq.trans ?_ (V_shift m c ⟨t.val % 4, by omega⟩ i)
  blk_ext [iblk, idx_val t]

/-- Two gated entries are equal when what they are made of is. -/
theorem gated_congr {u u' : EReal} {v v' : Fin 128 → Fin 128 → EReal} {w w' : Fin 128 → EReal} {i i' e e' : Fin 128} {g g' b b' s s' : EReal}
    (hu : u = u') (hv : ∀ j k, v j k = v' j k) (hw : ∀ j, w j = w' j) (hi : i = i') (he : e = e') (hg : g = g') (hb : b = b') (hs : s = s') :
    gated u v w i e g b s = gated u' v' w' i' e' g' b' s' := by
  obtain rfl : v = v' := funext fun j => funext fun k => hv j k
  obtain rfl : w = w' := funext hw
  subst hu hi he hg hb hs
  rfl

/-- Equal places of a matrix hold the same entry. -/
theorem entry {n k : ℕ} {φ : FTy} (x : FVec Ideal ⟨2, ![n, k]⟩ φ) {r r' : Fin n} {e e' : Fin k} (h0 : r.val = r'.val) (h1 : e.val = e'.val) :
    (x (ix2 r e) : EReal) = x (ix2 r' e') := by
  obtain rfl := Fin.ext h0
  obtain rfl := Fin.ext h1
  rfl

theorem entry1 (x : FVec Ideal S512 .f32) {e e' : Fin 512} (h : e.val = e'.val) : (x (ix1 e) : EReal) = x (ix1 e') := by
  obtain rfl := Fin.ext h
  rfl

theorem entry3 (x : FVec Ideal S4x128x128 .f32) {g g' : Fin 4} {i i' : Fin 128} (j : Fin 128) (h0 : g.val = g'.val) (h1 : i.val = i'.val) :
    (x (ix3 g i j) : EReal) = x (ix3 g' i' j) := by
  obtain rfl := Fin.ext h0
  obtain rfl := Fin.ext h1
  rfl

/-- What the body stores at index (r, e) of point `t`'s block is the reference's entry at its place. -/
theorem point (c : Dev nD) (t : Fin cfg0.N) (r : Fin 1024) (e : Fin 128) :
    (out0_6 (iblk m c 0 t) (iblk m c 1 t) (iblk m c 2 t) (iblk m c 3 t) (iblk m c 4 t) (iblk m c 5 t) (ix2 r e) : EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (ix2 (rowAt t r) (colAt t e)) := by
  have ht := (idx_val t).2.2.2.2.2.2.2
  have hr := r.isLt
  have he := e.isLt
  refine (out_apply _ _ _ _ _ _ r e).trans (Eq.trans ?_ ((result_raw _ _ _ _ _ _ _).trans (result_split _ _ _ _ _ _ _ _ _ _)).symm)
  refine gated_congr ((blk_u m c t r e).trans (entry (φ := .bf16) _ ?_ ?_)) (fun j k => (blk_v m c t _ k).trans (entry (φ := .bf16) _ ?_ ?_)) (fun j => (blk_w m c t _ j).trans (entry3 _ j ?_ ?_))
    (Fin.ext ?_) (Fin.ext ?_) ((blk_gain m c t e).trans (entry1 _ ?_)) ((blk_bias m c t e).trans (entry1 _ ?_)) ((blk_shift m c t _).trans (entry (φ := .f32) _ ?_ ?_))
  all_goals simp only [rowAt, colAt]
  all_goals omega

/-- The result array after the run is the reference's function of the arguments. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, e, rfl⟩ : ∃ (r : Fin 1024) (e : Fin 128), y = ix2 r e := ⟨y 0, y 1, by ext i; fin_cases i <;> rfl⟩
  refine (point m c t r e).trans (congrArg _ ?_)
  blk_ext [idx_val t]

end Cert.Kernel6Ideal.Sgu

end
-- ==== Proof.RopeRef.lean ====
/-
  The rotary positions as `reference7` writes them, at the ideal instance: its steps named, each read at an index.
-/
module

public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem

namespace Cert.Reference7Ideal.Rope

open Cert.Reference7Ideal Cert.Reference7Ideal.Gen

/-- The angle of each position at each of the 32 frequencies. -/
def angles : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

def cosines : FVec Ideal S16384x32 .f32 := Host.cos angles
def sines : FVec Ideal S16384x32 .f32 := Host.sin angles

/-- A table of the positions, spread over the sequences, the heads and the two parts of a head. -/
def spread (t : FVec Ideal S16384x32 .f32) : FVec Ideal S2x16384x6x2x32 .f32 :=
  broadcastInDim S2x16384x6x2x32 ![0, 1, 2, 3, 4] bcast_S1x16384x1x1x32_S2x16384x6x2x32_0_1_2_3_4
    (broadcastInDim S1x16384x1x1x32 ![1, 4] bcast_S16384x32_S1x16384x1x1x32_1_4 t)

/-- The 768 columns as six heads of two parts of 64. -/
def parts (x : FVec Ideal S32768x768 .bf16) : FVec Ideal S2x16384x6x2x64 .f32 :=
  shapeCast _ (extf .f32 x bitsLt_bf16_f32) shapeCasts_S32768x768_S2x16384x6x2x64

def first (x : FVec Ideal S2x16384x6x2x64 .f32) : FVec Ideal S2x16384x6x2x32 .f32 :=
  extractStridedSlice S2x16384x6x2x32 ![0, 0, 0, 0, 0] x slices_S2x16384x6x2x64_S2x16384x6x2x32_0_0_0_0_0
def second (x : FVec Ideal S2x16384x6x2x64 .f32) : FVec Ideal S2x16384x6x2x32 .f32 :=
  extractStridedSlice S2x16384x6x2x32 ![0, 0, 0, 0, 32] x slices_S2x16384x6x2x64_S2x16384x6x2x32_0_0_0_0_32

/-- Each part's two halves turned by the angles. -/
def turned (x : FVec Ideal S2x16384x6x2x64 .f32) (cs sn : FVec Ideal S2x16384x6x2x32 .f32) : FVec Ideal S2x16384x6x2x64 .f32 :=
  concatenate S2x16384x6x2x64 4 [⟨S2x16384x6x2x32, subf (mulf (first x) cs) (mulf (second x) sn)⟩,
    ⟨S2x16384x6x2x32, addf (mulf (first x) sn) (mulf (second x) cs)⟩] concatenates_S2x16384x6x2x32_S2x16384x6x2x32_S2x16384x6x2x64_d4

def flat (x : FVec Ideal S2x16384x6x2x64 .f32) : FVec Ideal S32768x768 .f32 := shapeCast _ x shapeCasts_S2x16384x6x2x64_S32768x768

def rotated (x : FVec Ideal S32768x768 .bf16) : FVec Ideal S32768x768 .f32 := flat (turned (parts x) (spread cosines) (spread sines))

def queries (h : FVec Ideal S32768x6528 .bf16) : FVec Ideal S32768x768 .bf16 :=
  extractStridedSlice S32768x768 ![0, 4096] h slices_S32768x6528_S32768x768_0_4096
def keys (h : FVec Ideal S32768x6528 .bf16) : FVec Ideal S32768x768 .bf16 :=
  extractStridedSlice S32768x768 ![0, 4864] h slices_S32768x6528_S32768x768_0_4864

def scaled (x : FVec Ideal S32768x768 .f32) : FVec Ideal S32768x768 .f32 :=
  mulf x (broadcastInDim S32768x768 ![] bcast_S_S32768x768 (constant S_ .f32 0x3E38AA3B#32))

def joined (q k : FVec Ideal S32768x768 .f32) : FVec Ideal S32768x1536 .bf16 :=
  truncf .bf16 (concatenate S32768x1536 1 [⟨S32768x768, q⟩, ⟨S32768x768, k⟩] concatenates_S32768x768_S32768x768_S32768x1536_d1) bitsLt_bf16_f32

/-- The reference's result as a function of its argument. -/
def result (h : FVec Ideal S32768x6528 .bf16) : FVec Ideal S32768x1536 .bf16 := joined (scaled (rotated (queries h))) (rotated (keys h))

/-- The reference's run ends with `result`. -/
theorem res_eq (m : (ℓ : Loc nD τ sig) → Buf (Elt Ideal) ℓ) (c : Dev nD) : Cert.Reference7Ideal.Value.res_out0 m c
    = result (m ((c.tc : Thread nD τ).loc main_arg0)) := rfl

/-! ## Each step at an index -/

theorem spread_apply (t : FVec Ideal S16384x32 .f32) (b : Fin 2) (s : Fin 16384) (a : Fin 6) (p : Fin 2) (d : Fin 32) :
    (spread t (ix5 b s a p d) : EReal) = t (ix2 s d) := by
  pointwise [spread]

theorem parts_apply (x : FVec Ideal S32768x768 .bf16) (b : Fin 2) (s : Fin 16384) (a : Fin 6) (p : Fin 2) (d : Fin 64) :
    (parts x (ix5 b s a p d) : EReal) = x (ix2 ⟨b.val * 16384 + s.val, by omega⟩ ⟨a.val * 128 + p.val * 64 + d.val, by omega⟩) := by
  pointwise [parts]

theorem turned_first (x : FVec Ideal S2x16384x6x2x64 .f32) (cs sn : FVec Ideal S2x16384x6x2x32 .f32)
    (b : Fin 2) (s : Fin 16384) (a : Fin 6) (p : Fin 2) (d : Fin 32) :
    (turned x cs sn (ix5 b s a p ⟨d.val, by omega⟩) : EReal)
      = x (ix5 b s a p ⟨d.val, by omega⟩) * cs (ix5 b s a p d) - x (ix5 b s a p ⟨32 + d.val, by omega⟩) * sn (ix5 b s a p d) := by
  pointwise [turned, first, second]

theorem turned_second (x : FVec Ideal S2x16384x6x2x64 .f32) (cs sn : FVec Ideal S2x16384x6x2x32 .f32)
    (b : Fin 2) (s : Fin 16384) (a : Fin 6) (p : Fin 2) (d : Fin 32) :
    (turned x cs sn (ix5 b s a p ⟨32 + d.val, by omega⟩) : EReal)
      = x (ix5 b s a p ⟨d.val, by omega⟩) * sn (ix5 b s a p d) + x (ix5 b s a p ⟨32 + d.val, by omega⟩) * cs (ix5 b s a p d) := by
  pointwise [turned, first, second]

theorem flat_apply (x : FVec Ideal S2x16384x6x2x64 .f32) (r : Fin 32768) (k : Fin 768) :
    (flat x (ix2 r k) : EReal) = x (ix5 ⟨r.val / 16384, by omega⟩ ⟨r.val % 16384, by omega⟩ ⟨k.val / 128, by omega⟩ ⟨k.val / 64 % 2, by omega⟩
      ⟨k.val % 64, by omega⟩) := by
  unfold flat
  pointwise

theorem queries_apply (h : FVec Ideal S32768x6528 .bf16) (r : Fin 32768) (k : Fin 768) :
    (queries h (ix2 r k) : EReal) = h (ix2 r ⟨4096 + k.val, by omega⟩) := by
  pointwise [queries]

theorem keys_apply (h : FVec Ideal S32768x6528 .bf16) (r : Fin 32768) (k : Fin 768) :
    (keys h (ix2 r k) : EReal) = h (ix2 r ⟨4864 + k.val, by omega⟩) := by
  pointwise [keys]

theorem joined_query (q k : FVec Ideal S32768x768 .f32) (r : Fin 32768) (e : Fin 768) :
    (joined (scaled q) k (ix2 r ⟨e.val, by omega⟩) : EReal) = q (ix2 r e) * Ideal.ofBits .f32 0x3E38AA3B#32 := by
  pointwise [joined, scaled]

theorem joined_key (q k : FVec Ideal S32768x768 .f32) (r : Fin 32768) (e : Fin 768) :
    (joined (scaled q) k (ix2 r ⟨768 + e.val, by omega⟩) : EReal) = k (ix2 r e) := by
  pointwise [joined, scaled]

/-- Equal places of a matrix hold the same entry. -/
theorem entry {n k : ℕ} {φ : FTy} (x : FVec Ideal ⟨2, ![n, k]⟩ φ) {r r' : Fin n} {e e' : Fin k} (h0 : r.val = r'.val) (h1 : e.val = e'.val) :
    (x (ix2 r e) : EReal) = x (ix2 r' e') := by
  obtain rfl := Fin.ext h0
  obtain rfl := Fin.ext h1
  rfl

theorem rotated_first (x : FVec Ideal S32768x768 .bf16) (r : Fin 32768) (k : Fin 768) (hk : k.val % 64 < 32) :
    (rotated x (ix2 r k) : EReal)
      = x (ix2 r k) * cosines (ix2 ⟨r.val % 16384, by omega⟩ ⟨k.val % 32, by omega⟩)
        - x (ix2 r ⟨k.val + 32, by omega⟩) * sines (ix2 ⟨r.val % 16384, by omega⟩ ⟨k.val % 32, by omega⟩) := by
  unfold rotated
  refine (flat_apply _ r k).trans ((turned_first _ _ _ _ _ _ _ ⟨k.val % 64, hk⟩).trans ?_)
  rw [parts_apply, parts_apply, spread_apply, spread_apply]
  refine congrArg₂ (· - ·) (congrArg₂ (· * ·) (entry (φ := .bf16) _ ?_ ?_) (entry (φ := .f32) _ ?_ ?_))
    (congrArg₂ (· * ·) (entry (φ := .bf16) _ ?_ ?_) (entry (φ := .f32) _ ?_ ?_))
  all_goals dsimp only
  all_goals omega

theorem rotated_second (x : FVec Ideal S32768x768 .bf16) (r : Fin 32768) (k : Fin 768) (hk : ¬ k.val % 64 < 32) :
    (rotated x (ix2 r k) : EReal)
      = x (ix2 r ⟨k.val - 32, by omega⟩) * sines (ix2 ⟨r.val % 16384, by omega⟩ ⟨k.val % 32, by omega⟩)
        + x (ix2 r k) * cosines (ix2 ⟨r.val % 16384, by omega⟩ ⟨k.val % 32, by omega⟩) := by
  unfold rotated
  have e : (⟨k.val % 64, by omega⟩ : Fin 64) = ⟨32 + (k.val % 64 - 32), by omega⟩ := Fin.ext (by dsimp only; omega)
  rw [flat_apply, e]
  refine (turned_second _ _ _ _ _ _ _ ⟨k.val % 64 - 32, by omega⟩).trans ?_
  rw [parts_apply, parts_apply, spread_apply, spread_apply]
  refine congrArg₂ (· + ·) (congrArg₂ (· * ·) (entry (φ := .bf16) _ ?_ ?_) (entry (φ := .f32) _ ?_ ?_))
    (congrArg₂ (· * ·) (entry (φ := .bf16) _ ?_ ?_) (entry (φ := .f32) _ ?_ ?_))
  all_goals dsimp only
  all_goals omega

/-- The turned entry at row `r` and column `k` of the result, before the queries' factor: column `k` is column 4096 + `k` of the projection. -/
def turnedAt (h : FVec Ideal S32768x6528 .bf16) (r : Fin 32768) (k : Fin 1536) : EReal :=
  if k.val % 64 < 32 then
    h (ix2 r ⟨4096 + k.val, by omega⟩) * cosines (ix2 ⟨r.val % 16384, by omega⟩ ⟨k.val % 32, by omega⟩)
      - h (ix2 r ⟨4096 + k.val + 32, by omega⟩) * sines (ix2 ⟨r.val % 16384, by omega⟩ ⟨k.val % 32, by omega⟩)
  else
    h (ix2 r ⟨4096 + k.val - 32, by omega⟩) * sines (ix2 ⟨r.val % 16384, by omega⟩ ⟨k.val % 32, by omega⟩)
      + h (ix2 r ⟨4096 + k.val, by omega⟩) * cosines (ix2 ⟨r.val % 16384, by omega⟩ ⟨k.val % 32, by omega⟩)

theorem result_query (h : FVec Ideal S32768x6528 .bf16) (r : Fin 32768) (k : Fin 1536) (hk : k.val < 768) :
    (result h (ix2 r k) : EReal) = turnedAt h r k * Ideal.ofBits .f32 0x3E38AA3B#32 := by
  unfold result
  refine (joined_query _ _ r ⟨k.val, hk⟩).trans (congrArg (· * _) ?_)
  unfold turnedAt
  by_cases hh : k.val % 64 < 32
  · rw [if_pos hh, rotated_first _ r ⟨k.val, hk⟩ hh, queries_apply, queries_apply]
    rfl
  · rw [if_neg hh, rotated_second _ r ⟨k.val, hk⟩ hh, queries_apply, queries_apply]
    refine congrArg (· + _) (congrArg (· * _) (entry (φ := .bf16) _ rfl ?_))
    dsimp only
    omega

theorem result_key (h : FVec Ideal S32768x6528 .bf16) (r : Fin 32768) (k : Fin 1536) (hk : ¬ k.val < 768) :
    (result h (ix2 r k) : EReal) = turnedAt h r k := by
  unfold result
  have e : k = ⟨768 + (k.val - 768), by omega⟩ := Fin.ext (by dsimp only; omega)
  refine (entry (φ := .bf16) _ rfl (congrArg Fin.val e)).trans ((joined_key _ _ r ⟨k.val - 768, by omega⟩).trans ?_)
  unfold turnedAt
  by_cases hh : k.val % 64 < 32
  · rw [if_pos hh, rotated_first _ r ⟨k.val - 768, by omega⟩ (by dsimp only; omega), keys_apply, keys_apply]
    refine congrArg₂ (· - ·) (congrArg₂ (· * ·) (entry (φ := .bf16) _ rfl ?_) (entry (φ := .f32) _ rfl ?_))
      (congrArg₂ (· * ·) (entry (φ := .bf16) _ rfl ?_) (entry (φ := .f32) _ rfl ?_))
    all_goals dsimp only
    all_goals omega
  · rw [if_neg hh, rotated_second _ r ⟨k.val - 768, by omega⟩ (by dsimp only; omega), keys_apply, keys_apply]
    refine congrArg₂ (· + ·) (congrArg₂ (· * ·) (entry (φ := .bf16) _ rfl ?_) (entry (φ := .f32) _ rfl ?_))
      (congrArg₂ (· * ·) (entry (φ := .bf16) _ rfl ?_) (entry (φ := .f32) _ rfl ?_))
    all_goals dsimp only
    all_goals omega

end Cert.Reference7Ideal.Rope

end
-- ==== Proof.Rope.lean ====
/-
  The rotary positions (`kernel7`): what its result array holds after the run, at the ideal instance.

  The grid has 32 × 6 points. Point (i, j) turns rows 1024·i … 1024·i + 1023 of two heads; the queries' heads come first.
-/
module

public import proofs.«01_k».proof.Proof.Gen.Kernel7Ideal.Value
public import proofs.«01_k».proof.Proof.RopeRef
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel7Ideal.Rope

open Cert.Kernel7Ideal Cert.Kernel7Ideal.Gen
open Cert.Reference7Ideal.Rope (cosines sines result entry turnedAt result_query result_key)

variable (m : (ℓ : Loc nD τ sig) → Buf (Elt Ideal) ℓ) (ρ : Dev nD → PrngReg)

/-- The block that each window has at point `t`, and the point's second coordinate. -/
theorem idx_val : ∀ t : Fin cfg0.N, win0_0.index t = ![t.val / 6, 16 + t.val % 6] ∧ win0_1.index t = ![t.val / 6 % 16, 0]
    ∧ win0_2.index t = ![t.val / 6 % 16, 0] ∧ win0_3.index t = ![t.val / 6, t.val % 6] ∧ (grid0.coords t 1).val = t.val % 6 ∧ t.val < 192 :=
  (by decide +kernel : ∀ t : Fin grid0.N, _)

/-! ## The body at an index -/

/-- Whether a lane is in the first half of its part, as the body computes it on words. -/
def firstWord (r : BitVec 32) : BitVec 1 :=
  IntOp.cmpi .slt
    (Scalar.select
      (IntOp.andi (IntOp.xori (IntOp.cmpi .slt (IntOp.remsi .vector r (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector r (Scalar.select (Scalar.cmpi .eq 64#32 0#32) 1#32 64#32)) 0#32))
      (IntOp.addi (IntOp.remsi .vector r (Scalar.select (Scalar.cmpi .eq 64#32 0#32) 1#32 64#32)) (Scalar.select (Scalar.cmpi .eq 64#32 0#32) 1#32 64#32))
      (IntOp.remsi .vector r (Scalar.select (Scalar.cmpi .eq 64#32 0#32) 1#32 64#32)))
    32#32

theorem firstWord_iff : ∀ r : Fin 128, firstWord (BitVec.ofNat 32 r.val) = 1#1 ↔ r.val % 64 < 32 := by
  decide +kernel

/-- One head's rows turned: `x` the head's lanes, `cs` and `sn` the tables. -/
def turn (x : Fin 128 → EReal) (cs sn : EReal) (e : Fin 128) (f : EReal) : EReal :=
  (x e * cs + (if e.val % 64 < 32 then x ⟨(e.val + 32) % 128, by omega⟩ else x ⟨(e.val + 96) % 128, by omega⟩) * sn) * f

theorem body_apply (i : grid0.Coords) (cs sn : Vec Ideal S1024x128 .f32) (x : Vec Ideal S1024x128 .bf16) (r : Fin 1024) (e : Fin 128) :
    (k0_pay5 i cs sn x (ix2 r e) : EReal) = turn (fun k => x (ix2 r k)) (cs (ix2 r e)) (sn (ix2 r e)) e (k0_pay2 (F := Ideal) i) := by
  have h : (k0_pay5 i cs sn x (ix2 r e) : EReal)
      = (x (ix2 r e) * cs (ix2 r e) + (if firstWord (BitVec.ofNat 32 e.val) = 1#1 then (x (ix2 r ⟨(e.val + 32) % 128, by omega⟩) : EReal)
          else x (ix2 r ⟨(e.val + 96) % 128, by omega⟩)) * sn (ix2 r e)) * k0_pay2 (F := Ideal) i := by
    pointwise [k0_pay5, k0_pay3, k0_pay4, firstWord]
    rfl
  rw [h, turn]
  congr 3
  exact if_congr (firstWord_iff e) rfl rfl

/-- The second head's payload is the first's. -/
theorem pay1_eq (i : grid0.Coords) (cs sn : Vec Ideal S1024x128 .f32) (x : Vec Ideal S1024x128 .bf16) :
    k0_pay1 (k0_pay2 (F := Ideal) i) (k0_pay3 cs) (k0_pay4 sn) (iota .tc S1024x128 32 [1] iota_S1024x128_d1_w32) x = k0_pay5 i cs sn x := rfl

/-- The queries' factor. -/
theorem factor (i : grid0.Coords) : (k0_pay2 (F := Ideal) i : EReal)
    = if (i 1).val < 3 then Ideal.ofBits .f32 0x3E38AA3B#32 else Ideal.ofBits .f32 0x3F800000#32 := by
  have h : (k0_pay2 (F := Ideal) i : EReal) = if Scalar.cmpi .slt (BitVec.ofNat 32 (i 1).val) 3#32 = 1#1 then Ideal.ofBits .f32 0x3E38AA3B#32
      else Ideal.ofBits .f32 0x3F800000#32 := rfl
  rw [h]
  exact if_congr ((by decide +kernel : ∀ n : Fin 6, Scalar.cmpi .slt (BitVec.ofNat 32 n.val) 3#32 = 1#1 ↔ n.val < 3) (i 1)) rfl rfl

/-- What the body leaves at row `r` and column `e` of its output block. -/
theorem out_apply (c : Dev nD) (i : grid0.Coords) (arg2 : Memref sig .tc .vmem S1024x256 .bf16) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S1024x256 .bf16) (harg5 : arg5.IsWhole)
    (x0 : Vec Ideal S1024x256 .bf16) (x1 x2 : Vec Ideal S1024x128 .f32) (r : Fin 1024) (e : Fin 256) :
    (out0_A_3 c i arg2 harg2 arg3 harg3 arg4 harg4 arg5 harg5 x0 x1 x2 (ix2 r e) : EReal)
      = turn (fun k => x0 (ix2 r ⟨e.val / 128 * 128 + k.val, by omega⟩)) (x1 (ix2 r ⟨e.val % 128, by omega⟩)) (x2 (ix2 r ⟨e.val % 128, by omega⟩))
          ⟨e.val % 128, by omega⟩ (k0_pay2 (F := Ideal) i) := by
  unfold out0_A_3 kernelRun0_A
  dsimp only
  unfold kernelRun0_A.sl.r kernelRun0_A.sl.r_1 kernelRun0_A.sl.v6
  simp only [View.readAt_eq_ld, harg2.read_unread, harg3.read_unread, harg4.read_unread]
  have hx1 : View.ld x1 (Rect.unit ![0, 0] ![1024, 128] inb_S1024x128_S1024x128_0_0) = x1 := View.ld_unit_lit _ _ (by decide)
  have hx2 : View.ld x2 (Rect.unit ![0, 0] ![1024, 128] inb_S1024x128_S1024x128_0_0) = x2 := View.ld_unit_lit _ _ (by decide)
  rw [hx1, hx2, pay1_eq]
  by_cases he : e.val < 128
  · rw [View.read_writes_cons_unit_of_not_mem _ _ _ _ _ _ rfl (1 : Fin 2) (.inl he),
      View.read_writes_cons_unit_of_mem _ _ _ _ _ _ (ix2 r ⟨e.val, he⟩) rfl (by
        intro a
        fin_cases a
        · exact (Nat.zero_add _).symm
        · exact (Nat.zero_add _).symm)]
    have h0 : e.val / 128 = 0 := by omega
    have h1 : e.val % 128 = e.val := by omega
    refine (body_apply i x1 x2 _ r ⟨e.val, he⟩).trans ?_
    simp only [h0, h1]
    refine congrArg (fun z => turn z _ _ _ _) (funext fun k => congrArg x0 ?_)
    funext a
    fin_cases a
    · exact Fin.ext (by show 0 + 1 * r.val = r.val; omega)
    · exact Fin.ext (by show 0 + 1 * k.val = 0 * 128 + k.val; omega)
  · rw [View.read_writes_cons_unit_of_mem _ _ _ _ _ _ (ix2 r ⟨e.val - 128, by omega⟩) rfl (by
        intro a
        fin_cases a
        · exact (Nat.zero_add _).symm
        · show e.val = 128 + (e.val - 128)
          omega)]
    have h0 : e.val / 128 = 1 := by omega
    have h1 : e.val % 128 = e.val - 128 := by omega
    refine (body_apply i x1 x2 _ r ⟨e.val - 128, by omega⟩).trans ?_
    simp only [h0, h1]
    refine congrArg (fun z => turn z _ _ _ _) (funext fun k => congrArg x0 ?_)
    funext a
    fin_cases a
    · exact Fin.ext (by show 0 + 1 * r.val = r.val; omega)
    · exact Fin.ext (by show 128 + 1 * k.val = 1 * 128 + k.val; omega)

/-! ## The tables -/

/-- The cosines' table: lane `l` holds frequency `l % 32`. -/
theorem V_cos (c : Dev nD) (s : Fin 16384) (l : Fin 128) : ((V m c main_v16 : FVec Ideal S16384x128 .f32) (ix2 s l) : EReal)
    = cosines (ix2 s ⟨l.val % 32, by omega⟩) := by
  have h : (V m c main_v16 : FVec Ideal S16384x128 .f32) = shapeCast S16384x128 (broadcastInDim S1x16384x4x32 ![0, 1, 2, 3] bcast_S1x16384x1x32_S1x16384x4x32_0_1_2_3
      (shapeCast S1x16384x1x32 cosines shapeCasts_S16384x32_S1x16384x1x32)) shapeCasts_S1x16384x4x32_S16384x128 := by
    entry_read
    rfl
  rw [h]
  generalize cosines = x
  pointwise

/-- The sines' table, the first half of each part negated. -/
theorem V_sin (c : Dev nD) (s : Fin 16384) (l : Fin 128) : ((V m c main_v21 : FVec Ideal S16384x128 .f32) (ix2 s l) : EReal)
    = if l.val % 64 < 32 then -(sines (ix2 s ⟨l.val % 32, by omega⟩) : EReal) else sines (ix2 s ⟨l.val % 32, by omega⟩) := by
  have h : (V m c main_v21 : FVec Ideal S16384x128 .f32) = shapeCast S16384x128 (broadcastInDim S1x16384x2x64 ![0, 1, 2, 3] bcast_S1x16384x1x64_S1x16384x2x64_0_1_2_3
      (shapeCast S1x16384x1x64 (concatenate S16384x64 1 [⟨S16384x32, Host.negf sines⟩, ⟨S16384x32, sines⟩] concatenates_S16384x32_S16384x32_S16384x64_d1)
        shapeCasts_S16384x64_S1x16384x1x64)) shapeCasts_S1x16384x2x64_S16384x128 := by
    entry_read
    rfl
  rw [h]
  generalize sines = x
  pointwise
  by_cases hl : l.val % 64 < 32
  · rw [dif_pos hl, if_pos hl]
    exact congrArg _ (entry (φ := .f32) _ rfl (by dsimp only; omega))
  · rw [dif_neg hl, if_neg hl]
    exact entry (φ := .f32) _ rfl (by dsimp only; omega)

/-! ## The result array -/

/-- The row of the array that row `r` of point `t`'s blocks is. -/
abbrev rowAt (t : Fin cfg0.N) (r : Fin 1024) : Fin 32768 := ⟨t.val / 6 * 1024 + r.val, by have := (idx_val t).2.2.2.2.2; omega⟩

/-- The column of the array that column `e` of point `t`'s blocks is. -/
abbrev colAt (t : Fin cfg0.N) (e : Fin 256) : Fin 1536 := ⟨t.val % 6 * 256 + e.val, by omega⟩

/-- Point `t`'s block of the projection. -/
theorem blk_h (c : Dev nD) (t : Fin cfg0.N) (r : Fin 1024) (e : Fin 256) : (X0_0 m c t (ix2 r e) : EReal)
    = (m ((c : Thread nD τ).loc main_arg0) : FVec Ideal S32768x6528 .bf16) (ix2 (rowAt t r) ⟨4096 + (t.val % 6 * 256 + e.val), by omega⟩) := by
  have h : X0_0 m c t (ix2 r e) = iblk m c 0 t (fun a => ⟨((ix2 r e : S1024x256.Idx) a).val, lt_of_lt_of_eq ((ix2 r e : S1024x256.Idx) a).isLt (xsize0_0 t a).symm⟩) := by
    unfold X0_0 Pipeline.Window.fill
    rw [dif_pos (moved0_0 t _)]
  rw [h]
  refine Eq.trans ?_ (congrFun (V_main_arg0 m c) (ix2 (rowAt t r) ⟨4096 + (t.val % 6 * 256 + e.val), by omega⟩))
  blk_ext [iblk, idx_val t]

/-- Point `t`'s block of the cosines' table. -/
theorem blk_cos (c : Dev nD) (t : Fin cfg0.N) (r : Fin 1024) (l : Fin 128) : (iblk m c 1 t (ix2 r l) : EReal)
    = cosines (ix2 ⟨t.val / 6 % 16 * 1024 + r.val, by omega⟩ ⟨l.val % 32, by omega⟩) := by
  refine Eq.trans ?_ (V_cos m c ⟨t.val / 6 % 16 * 1024 + r.val, by omega⟩ l)
  blk_ext [iblk, idx_val t]

/-- Point `t`'s block of the sines' table. -/
theorem blk_sin (c : Dev nD) (t : Fin cfg0.N) (r : Fin 1024) (l : Fin 128) : (iblk m c 2 t (ix2 r l) : EReal)
    = if l.val % 64 < 32 then -(sines (ix2 ⟨t.val / 6 % 16 * 1024 + r.val, by omega⟩ ⟨l.val % 32, by omega⟩) : EReal)
      else sines (ix2 ⟨t.val / 6 % 16 * 1024 + r.val, by omega⟩ ⟨l.val % 32, by omega⟩) := by
  refine Eq.trans ?_ (V_sin m c ⟨t.val / 6 % 16 * 1024 + r.val, by omega⟩ l)
  blk_ext [iblk, idx_val t]

/-- The word 1.0 is 1. -/
theorem one : Ideal.ofBits .f32 0x3F800000#32 = 1 := by
  simp [Ideal.ofBits, Ideal.ieee, -EReal.coe_mul]
  norm_num

/-- What the body computes at index (r, e) of point `t`'s block is the turned entry at its place, times the point's factor. -/
theorem turn_eq (c : Dev nD) (t : Fin cfg0.N) (r : Fin 1024) (e : Fin 256) (f : EReal) :
    turn (fun k => X0_0 m c t (ix2 r ⟨e.val / 128 * 128 + k.val, by omega⟩)) (iblk m c 1 t (ix2 r ⟨e.val % 128, by omega⟩))
        (iblk m c 2 t (ix2 r ⟨e.val % 128, by omega⟩)) ⟨e.val % 128, by omega⟩ f
      = turnedAt (m ((c : Thread nD τ).loc main_arg0)) (rowAt t r) (colAt t e) * f := by
  have ht := (idx_val t).2.2.2.2.2
  have hr := r.isLt
  have he := e.isLt
  unfold turn turnedAt
  refine congrArg (· * f) ?_
  rw [blk_cos, blk_sin]
  simp only [blk_h]
  by_cases hh : e.val % 128 % 64 < 32
  · have hc : (colAt t e).val % 64 < 32 := by simp only [colAt]; omega
    rw [if_pos hh, if_pos hh, if_pos hc, mul_neg, ← sub_eq_add_neg]
    refine congrArg₂ (· - ·) (congrArg₂ (· * ·) (entry (φ := .bf16) _ ?_ ?_) (entry (φ := .f32) _ ?_ ?_))
      (congrArg₂ (· * ·) (entry (φ := .bf16) _ ?_ ?_) (entry (φ := .f32) _ ?_ ?_))
    all_goals simp only [rowAt, colAt]
    all_goals omega
  · have hc : ¬ (colAt t e).val % 64 < 32 := by simp only [colAt]; omega
    rw [if_neg hh, if_neg hh, if_neg hc, add_comm]
    refine congrArg₂ (· + ·) (congrArg₂ (· * ·) (entry (φ := .bf16) _ ?_ ?_) (entry (φ := .f32) _ ?_ ?_))
      (congrArg₂ (· * ·) (entry (φ := .bf16) _ ?_ ?_) (entry (φ := .f32) _ ?_ ?_))
    all_goals simp only [rowAt, colAt]
    all_goals omega

/-- What the body stores at index (r, e) of point `t`'s block is the reference's entry at its place. -/
theorem point (c : Dev nD) (t : Fin cfg0.N) (r : Fin 1024) (e : Fin 256) :
    (outsAt0 m c t (ix2 r e) : EReal) = result (m ((c : Thread nD τ).loc main_arg0)) (ix2 (rowAt t r) (colAt t e)) := by
  have he := e.isLt
  unfold outsAt0
  refine (out_apply c _ _ _ _ _ _ _ _ _ _ _ _ r e).trans ((turn_eq m c t r e _).trans ?_)
  rw [factor, (idx_val t).2.2.2.2.1]
  by_cases hq : t.val % 6 < 3
  · rw [if_pos hq]
    exact (result_query _ _ _ (by simp only [colAt]; omega)).symm
  · rw [if_neg hq, one, mul_one]
    exact (result_key _ _ _ (by simp only [colAt]; omega)).symm

/-- The result array after the run is the reference's function of the argument. -/
theorem final (c : Dev nD) : (dats m 0 c).arrAt 3 cfg0.N = result (m ((c : Thread nD τ).loc main_arg0)) := by
  refine (dats m 0 c).arrAt_eq_of_covers 3 _ (by decide +kernel) fun t _ y => ?_
  blk_simp
  rw [after0_3]
  obtain ⟨r, e, rfl⟩ : ∃ (r : Fin 1024) (e : Fin 256), y = ix2 r e := ⟨y 0, y 1, by ext i; fin_cases i <;> rfl⟩
  refine (point m c t r e).trans (congrArg _ ?_)
  blk_ext [idx_val t]

end Cert.Kernel7Ideal.Rope

end
-- ==== Proof.GatesRef.lean ====
/-
  The DeltaNet's gates as `reference8` writes them, at the ideal instance: the steps named, each read at an index.
-/
module

public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem

namespace Cert.Reference8Ideal.Gates

open Cert.Reference8Ideal Cert.Reference8Ideal.Gen

/-- Zero at every entry. -/
def zeros : FVec Ideal S32768x6 .f32 := broadcastInDim S32768x6 ![] bcast_S_S32768x6 (constant S_ .f32 0x00000000#32)

/-- Columns 6400 … 6405 of the projection plus the bias of the step. -/
def steps (h : FVec Ideal S32768x6528 .bf16) (d : FVec Ideal S6 .f32) : FVec Ideal S32768x6 .f32 :=
  addf (extf .f32 (extractStridedSlice S32768x6 ![0, 6400] h slices_S32768x6528_S32768x6_0_6400) bitsLt_bf16_f32)
    (broadcastInDim S32768x6 ![0, 1] bcast_S1x6_S32768x6_0_1 (broadcastInDim S1x6 ![1] bcast_S6_S1x6_1 d))

/-- The softplus. -/
def softplus (x : FVec Ideal S32768x6 .f32) : FVec Ideal S32768x6 .f32 :=
  select (cmpf .une (subf x zeros) (subf x zeros)) (addf x zeros)
    (addf (maximumf x zeros) (Host.log1p (Host.exp (Host.negf (Host.absf (subf x zeros))))))

/-- The logarithms of the decays. -/
def decays (h : FVec Ideal S32768x6528 .bf16) (a d : FVec Ideal S6 .f32) : FVec Ideal S32768x6 .f32 :=
  mulf (broadcastInDim S32768x6 ![0, 1] bcast_S1x6_S32768x6_0_1 (broadcastInDim S1x6 ![1] bcast_S6_S1x6_1 (Host.negf (Host.exp a))))
    (softplus (steps h d))

/-- The running sums within each chunk of 64 rows. -/
def chunked (g : FVec Ideal S512x64x6 .f32) : FVec Ideal S512x64x6 .f32 :=
  Host.reduceWindowAdd ![1, 64, 1] ![1, 1, 1] ![0, 63, 0] ![0, 0, 0] g (broadcastInDim S_ ![] bcast_S_S_ (constant S_ .f32 0x00000000#32))
    reduceWindows_S512x64x6_S512x64x6_w1s1p0_0_w64s1p63_0_w1s1p0_0 h_S_

/-- The same over the rows of the array. -/
def sums (g : FVec Ideal S32768x6 .f32) : FVec Ideal S32768x6 .f32 :=
  shapeCast _ (chunked (shapeCast _ g shapeCasts_S32768x6_S512x64x6)) shapeCasts_S512x64x6_S32768x6

/-- The logistic function of the remaining columns. -/
def rates (h : FVec Ideal S32768x6528 .bf16) : FVec Ideal S32768x122 .f32 :=
  Host.divf (broadcastInDim S32768x122 ![] bcast_S_S32768x122 (constant S_ .f32 0x3F800000#32))
    (addf (broadcastInDim S32768x122 ![] bcast_S_S32768x122 (constant S_ .f32 0x3F800000#32))
      (Host.exp (Host.negf (extf .f32 (extractStridedSlice S32768x122 ![0, 6406] h slices_S32768x6528_S32768x122_0_6406) bitsLt_bf16_f32))))

/-- The reference's result as a function of its three arguments. -/
def result (h : FVec Ideal S32768x6528 .bf16) (a d : FVec Ideal S6 .f32) : FVec Ideal S32768x128 .f32 :=
  concatenate S32768x128 1 [⟨S32768x6, sums (decays h a d)⟩, ⟨S32768x122, rates h⟩] concatenates_S32768x6_S32768x122_S32768x128_d1

/-! ## Each step at an index -/

/-- The word 0 is 0. -/
theorem zero : Ideal.ofBits .f32 0#32 = 0 := by
  simp [Ideal.ofBits, Ideal.ieee]

/-- The softplus of a number. -/
def soft (x : EReal) : EReal := max x 0 + Ideal.log1p (Ideal.exp (-max x (-x)))

/-- The logarithm of the decay that the entry `x`, the rate's logarithm `a` and the bias `d` give. -/
def decay (x a d : EReal) : EReal := -Ideal.exp a * soft (x + d)

theorem zeros_apply (r : Fin 32768) (e : Fin 6) : (zeros (ix2 r e) : EReal) = 0 := by
  have h : (zeros (ix2 r e) : EReal) = Ideal.ofBits .f32 0#32 := by
    pointwise [zeros]
  rw [h, zero]

theorem steps_apply (h : FVec Ideal S32768x6528 .bf16) (d : FVec Ideal S6 .f32) (r : Fin 32768) (e : Fin 6) :
    (steps h d (ix2 r e) : EReal) = h (ix2 r ⟨6400 + e.val, by omega⟩) + d (ix1 e) := by
  pointwise [steps]

theorem softplus_apply (x : FVec Ideal S32768x6 .f32) (r : Fin 32768) (e : Fin 6) : (softplus x (ix2 r e) : EReal) = soft (x (ix2 r e)) := by
  have h : (softplus x (ix2 r e) : EReal)
      = if Ideal.cmp .une ((x (ix2 r e) : EReal) - zeros (ix2 r e)) ((x (ix2 r e) : EReal) - zeros (ix2 r e)) = 1#1 then (x (ix2 r e) : EReal) + zeros (ix2 r e)
        else max (x (ix2 r e) : EReal) (zeros (ix2 r e))
          + Ideal.log1p (Ideal.exp (-max ((x (ix2 r e) : EReal) - zeros (ix2 r e)) (-((x (ix2 r e) : EReal) - zeros (ix2 r e))))) := rfl
  rw [h, zeros_apply, if_neg (by simp [Ideal.cmp])]
  simp only [sub_zero, soft]

theorem decays_apply (h : FVec Ideal S32768x6528 .bf16) (a d : FVec Ideal S6 .f32) (r : Fin 32768) (e : Fin 6) :
    (decays h a d (ix2 r e) : EReal) = decay (h (ix2 r ⟨6400 + e.val, by omega⟩)) (a (ix1 e)) (d (ix1 e)) := by
  have h0 : (decays h a d (ix2 r e) : EReal) = -Ideal.exp (a (ix1 e)) * softplus (steps h d) (ix2 r e) := by
    unfold decays
    generalize softplus (steps h d) = s
    pointwise
  rw [h0, softplus_apply, steps_apply, decay]

/-- A fold of sums is a sum. -/
theorem fold_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons k l ih => intro v; simp [ih, add_assoc]
  rw [h, Fin.sum_univ_def]

/-- The positions of the window, by the one coordinate that moves. -/
def places : (⟨3, ![1, 64, 1]⟩ : Shape).Idx ≃ Fin 64 where
  toFun p := p 1
  invFun k := ix3 (n0 := 1) (n1 := 64) (n2 := 1) 0 k 0
  left_inv p := by
    ext a
    fin_cases a
    · exact (Fin.val_eq_zero (p 0 : Fin 1)).symm
    · rfl
    · exact (Fin.val_eq_zero (p 2 : Fin 1)).symm
  right_inv k := rfl

theorem chunked_apply (g : FVec Ideal S512x64x6 .f32) (c : Fin 512) (i : Fin 64) (e : Fin 6) :
    (chunked g (ix3 c i e) : EReal) = ∑ j : Fin 64, if j.val ≤ i.val then (g (ix3 c j e) : EReal) else 0 := by
  have hz : ∀ y, (broadcastInDim S_ ![] bcast_S_S_ (constant (F := Ideal) S_ .f32 0x00000000#32) y : EReal) = 0 := fun _ => zero
  have h0 : (chunked g (ix3 c i e) : EReal) = Ideal.hostReduceWindowAdd ![1, 64, 1] ![1, 1, 1] ![0, 63, 0] ![0, 0, 0]
      reduceWindows_S512x64x6_S512x64x6_w1s1p0_0_w64s1p63_0_w1s1p0_0 g 0 (ix3 c i e) := by
    rw [← hz (Shape.Idx.first h_S_)]
    rfl
  rw [h0]
  unfold Ideal.hostReduceWindowAdd Host.reduceWindow
  dsimp only
  rw [fold_sum, zero_add]
  refine (Fintype.sum_equiv ((⟨3, ![1, 64, 1]⟩ : Shape).rowMajor.symm.trans places) _ (fun k : Fin 64 => if h : 63 ≤ i.val + k.val then (g (ix3 c ⟨i.val + k.val - 63, by omega⟩ e) : EReal) else 0) fun n => ?_).trans ?_
  · rw [Equiv.trans_apply]
    let q := (⟨3, ![1, 64, 1]⟩ : Shape).rowMajor.symm n
    have q0 : (q 0).val = 0 := Fin.val_eq_zero (q 0 : Fin 1)
    have q2 : (q 2).val = 0 := Fin.val_eq_zero (q 2 : Fin 1)
    have q1 : (q 1).val < 64 := (q 1).isLt
    show _ = if h : 63 ≤ i.val + (q 1).val then _ else _
    by_cases hk : 63 ≤ i.val + (q 1).val
    · rw [dif_pos hk, dif_pos]
      · refine congrArg g ?_
        ext a
        fin_cases a
        · show c.val * 1 + (q 0).val - 0 = c.val
          omega
        · show i.val * 1 + (q 1).val - 63 = i.val + (q 1).val - 63
          omega
        · show e.val * 1 + (q 2).val - 0 = e.val
          omega
      · intro a
        fin_cases a
        · show 0 ≤ c.val * 1 + (q 0).val ∧ c.val * 1 + (q 0).val - 0 < 512
          omega
        · show 63 ≤ i.val * 1 + (q 1).val ∧ i.val * 1 + (q 1).val - 63 < 64
          omega
        · show 0 ≤ e.val * 1 + (q 2).val ∧ e.val * 1 + (q 2).val - 0 < 6
          omega
    · rw [dif_neg hk, dif_neg]
      intro hall
      have h1 : 63 ≤ i.val * 1 + (q 1).val := (hall 1).1
      omega
  · refine Fintype.sum_equiv (Equiv.addRight (i + 1)) _ _ fun k => ?_
    have hv : (Equiv.addRight (i + 1) k).val = (k.val + (i.val + 1)) % 64 := by
      simp [Fin.val_add, add_assoc]
    by_cases hk : 63 ≤ i.val + k.val
    · rw [dif_pos hk, if_pos (by rw [hv]; omega)]
      have e1 : (⟨i.val + k.val - 63, by omega⟩ : Fin 64) = Equiv.addRight (i + 1) k := Fin.ext (by rw [hv]; dsimp only; omega)
      rw [e1]
    · rw [dif_neg hk, if_neg (by rw [hv]; omega)]

theorem sums_apply (g : FVec Ideal S32768x6 .f32) (r : Fin 32768) (e : Fin 6) :
    (sums g (ix2 r e) : EReal) = ∑ j : Fin 64, if j.val ≤ r.val % 64 then (g (ix2 ⟨r.val / 64 * 64 + j.val, by omega⟩ e) : EReal) else 0 := by
  have h0 : (sums g (ix2 r e) : EReal) = chunked (shapeCast _ g shapeCasts_S32768x6_S512x64x6) (ix3 ⟨r.val / 64, by omega⟩ ⟨r.val % 64, by omega⟩ e) := by
    unfold sums
    generalize chunked (shapeCast _ g shapeCasts_S32768x6_S512x64x6) = x
    pointwise
  have h1 : ∀ (c : Fin 512) (j : Fin 64), (shapeCast S512x64x6 g shapeCasts_S32768x6_S512x64x6 (ix3 c j e) : EReal) = g (ix2 ⟨c.val * 64 + j.val, by omega⟩ e) := by
    intro c j
    pointwise
  rw [h0, chunked_apply]
  simp only [h1]

theorem rates_apply (h : FVec Ideal S32768x6528 .bf16) (r : Fin 32768) (e : Fin 122) :
    (rates h (ix2 r e) : EReal) = Ideal.logistic (h (ix2 r ⟨6406 + e.val, by omega⟩)) := by
  have one : Ideal.ofBits .f32 0x3F800000#32 = 1 := by
    simp [Ideal.ofBits, Ideal.ieee, -EReal.coe_mul]
    norm_num
  have h0 : (rates h (ix2 r e) : EReal) = Ideal.div (Ideal.ofBits .f32 0x3F800000#32)
      (Ideal.ofBits .f32 0x3F800000#32 + Ideal.exp (-(h (ix2 r ⟨6406 + e.val, by omega⟩) : EReal))) := by
    pointwise [rates]
  rw [h0, one, Ideal.logistic]

/-- The result at row `r` and column `k`: below 6 the running sum of the logarithms of the decays, from 6 on the rates. -/
theorem result_sum (h : FVec Ideal S32768x6528 .bf16) (a d : FVec Ideal S6 .f32) (r : Fin 32768) (k : Fin 128) (hk : k.val < 6) :
    (result h a d (ix2 r k) : EReal) = ∑ j : Fin 64, if j.val ≤ r.val % 64 then
      decay (h (ix2 ⟨r.val / 64 * 64 + j.val, by omega⟩ ⟨6400 + k.val, by omega⟩)) (a (ix1 ⟨k.val, hk⟩)) (d (ix1 ⟨k.val, hk⟩)) else 0 := by
  have h0 : (result h a d (ix2 r k) : EReal) = sums (decays h a d) (ix2 r ⟨k.val, hk⟩) := by
    unfold result
    generalize sums (decays h a d) = x
    generalize rates h = y
    pointwise
    exact dif_pos hk
  rw [h0, sums_apply]
  simp only [decays_apply]

theorem result_rate (h : FVec Ideal S32768x6528 .bf16) (a d : FVec Ideal S6 .f32) (r : Fin 32768) (k : Fin 128) (hk : ¬ k.val < 6) :
    (result h a d (ix2 r k) : EReal) = Ideal.logistic (h (ix2 r ⟨6400 + k.val, by omega⟩)) := by
  have h0 : (result h a d (ix2 r k) : EReal) = rates h (ix2 r ⟨k.val - 6, by omega⟩) := by
    unfold result
    generalize sums (decays h a d) = x
    generalize rates h = y
    pointwise
    exact dif_neg hk
  rw [h0, rates_apply]
  refine congrArg Ideal.logistic (congrArg h ?_)
  ext i
  fin_cases i
  · rfl
  · show 6406 + (k.val - 6) = 6400 + k.val
    omega

end Cert.Reference8Ideal.Gates

end
-- ==== Proof.Gates.lean ====
/-
  The DeltaNet's gates (`kernel8`): what its result array holds after the run, at the ideal instance.

  The grid has 64 points. Point i makes rows 512·i … 512·i + 511, eight chunks of 64 rows, each stored apart.
-/
module

public import proofs.«01_k».proof.Proof.Gen.Kernel8Ideal.Value
public import proofs.«01_k».proof.Proof.GatesRef

@[expose] public section

set_option maxRecDepth 16384

noncomputable section

open Idealize.ShloMosaic Idealize.ShloMosaic.TcCoe Idealize.SL.Sem
open Idealize.ShloMosaic.Pipeline (Dat)

namespace Cert.Kernel8Ideal.Gates

open Cert.Kernel8Ideal Cert.Kernel8Ideal.Gen
open Cert.Reference8Ideal.Gates (soft decay result result_sum result_rate zero)

variable (m : (ℓ : Loc nD τ sig) → Buf (Elt Ideal) ℓ) (ρ : Dev nD → PrngReg)

/-- The block that each window has at point `t`. -/
theorem idx_val : ∀ t : Fin cfg0.N, win0_0.index t = ![t.val, 50] ∧ win0_1.index t = ![0, 0] ∧ win0_2.index t = ![0, 0]
    ∧ win0_3.index t = ![t.val, 0] ∧ t.val < 64 :=
  (by decide +kernel : ∀ t : Fin grid0.N, _)

/-! ## The body at an index -/

/-- The logarithms of the decays. -/
theorem decay_apply (x : Vec Ideal S512x128 .bf16) (a d : Vec Ideal S1x128 .f32) (r : Fin 512) (e : Fin 128) :
    (k0_pay8 x a d (ix2 r e) : EReal) = decay (x (ix2 r e)) (a (ix2 0 e)) (d (ix2 0 e)) := by
  have h : (k0_pay8 x a d (ix2 r e) : EReal) = (Ideal.ofBits .f32 0#32 - Ideal.exp (a (ix2 0 e)))
      * (max ((x (ix2 r e) : EReal) + d (ix2 0 e)) (Ideal.ofBits .f32 0#32)
        + Ideal.log1p (Ideal.exp (Ideal.ofBits .f32 0#32 - max ((x (ix2 r e) : EReal) + d (ix2 0 e)) (-((x (ix2 r e) : EReal) + d (ix2 0 e)))))) := by
    pointwise [k0_pay8, k0_pay7]
    rfl
  rw [h, zero, zero_sub, zero_sub, decay, soft]

/-- The rates. -/
theorem rate_apply (x : Vec Ideal S512x128 .bf16) (r : Fin 512) (e : Fin 128) : (k0_pay9 x (ix2 r e) : EReal) = Ideal.logistic (x (ix2 r e)) := by
  pointwise [k0_pay9, k0_pay7]

theorem word_ge : ∀ i j : Fin 64, (BitVec.setWidth 32 (IntOp.cmpi .sge (BitVec.ofNat 32 i.val) (BitVec.ofNat 32 j.val))).toInt = if j.val ≤ i.val then 1 else 0 := by
  decide +kernel

theorem word_lt : ∀ e : Fin 128, IntOp.cmpi .slt (BitVec.ofNat 32 e.val) 6#32 = 1#1 ↔ e.val < 6 := by
  decide +kernel

/-- The triangle of ones. -/
theorem ones_apply (i j : Fin 64) : (k0_pay10 (F := Ideal) (ix2 i j) : EReal) = if j.val ≤ i.val then 1 else 0 := by
  have h : (k0_pay10 (F := Ideal) (ix2 i j) : EReal)
      = (((BitVec.setWidth 32 (IntOp.cmpi .sge (BitVec.ofNat 32 i.val) (BitVec.ofNat 32 j.val))).toInt : ℝ) : EReal) := by
    pointwise [k0_pay10]
    rfl
  rw [h, word_ge]
  split <;> simp

/-- The lanes of the running sums. -/
theorem lanes_iff (i : Fin 64) (e : Fin 128) : k0_pay11 (ix2 i e) = 1#1 ↔ e.val < 6 := by
  have h : k0_pay11 (ix2 i e) = IntOp.cmpi .slt (BitVec.ofNat 32 e.val) 6#32 := by
    pointwise [k0_pay11]
  rw [h]
  exact word_lt e

/-- One stored chunk of 64 rows, from row `o` on. -/
theorem piece_apply (g b : FVec Ideal S512x128 .f32) (w : FVec Ideal S64x64 .f32) (l : IVec S64x128 1)
    (o : ℕ) (ho : o + 64 ≤ 512) (hs : S512x128.Slices ![o, 0] S64x128) (i : Fin 64) (e : Fin 128) :
    (select l (matmul dot_S64x64_S64x128_S64x128_1_0_0_1_n_n (some .fp32) w (extractStridedSlice S64x128 ![o, 0] g hs) (constant S64x128 .f32 0x00000000#32))
        (extractStridedSlice S64x128 ![o, 0] b hs) (ix2 i e) : EReal)
      = if l (ix2 i e) = 1#1 then ∑ j : Fin 64, (w (ix2 i j) : EReal) * g (ix2 ⟨o + j.val, by omega⟩ e) else b (ix2 ⟨o + i.val, by omega⟩ e) := by
  pointwise
  rfl

/-- What the body leaves at row `r` and column `e` of its output block. -/
def made (x : Vec Ideal S512x128 .bf16) (a d : Vec Ideal S1x128 .f32) (r : Fin 512) (e : Fin 128) : EReal :=
  if e.val < 6 then ∑ j : Fin 64, if j.val ≤ r.val % 64 then
      decay (x (ix2 ⟨r.val / 64 * 64 + j.val, by omega⟩ e)) (a (ix2 0 e)) (d (ix2 0 e)) else 0
    else Ideal.logistic (x (ix2 r e))

theorem out_apply (x0 : Vec Ideal S512x128 .bf16) (x1 x2 : Vec Ideal S1x128 .f32) (r : Fin 512) (e : Fin 128) :
    (out0_3 x0 x1 x2 (ix2 r e) : EReal) = made x0 x1 x2 r e := by
  have block : ∀ (o : ℕ) (ho : o + 64 ≤ 512) (hs : S512x128.Slices ![o, 0] S64x128) (y : S64x128.Idx) (h0 : r.val = o + (y 0).val)
      (h1 : e.val = (y 1).val) (hd : o % 64 = 0),
      (select k0_pay11 (matmul dot_S64x64_S64x128_S64x128_1_0_0_1_n_n (some .fp32) (k0_pay10 (F := Ideal))
          (extractStridedSlice S64x128 ![o, 0] (k0_pay8 x0 x1 x2) hs) (constant S64x128 .f32 0x00000000#32))
        (extractStridedSlice S64x128 ![o, 0] (k0_pay9 x0) hs) y : EReal) = made x0 x1 x2 r e := by
    intro o ho hs y h0 h1 hd
    obtain ⟨i, e', rfl⟩ : ∃ (i : Fin 64) (e' : Fin 128), y = ix2 i e' := ⟨y 0, y 1, by ext a; fin_cases a <;> rfl⟩
    replace h0 : r.val = o + i.val := h0
    obtain rfl : e = e' := Fin.ext h1
    obtain rfl : r = ⟨o + i.val, Nat.lt_of_lt_of_le (Nat.add_lt_add_left i.isLt o) ho⟩ := Fin.ext h0
    have b1 : (o + i.val) / 64 * 64 = o := by omega
    have b2 : (o + i.val) % 64 = i.val := by omega
    rw [piece_apply _ _ _ _ o ho hs i e, made]
    refine (if_congr (lanes_iff i e) rfl rfl).trans ?_
    simp only [decay_apply, rate_apply, ones_apply, b1, b2, ite_mul, one_mul, zero_mul]
  unfold_out out0_3
  canon_tiles y h
  all_goals simp (disch := decide) only [View.ld_unit_lit']
  · exact block 448 (by decide) slices_S512x128_o448_0_S64x128 y h0 h1 rfl
  · exact block 384 (by decide) slices_S512x128_o384_0_S64x128 y h0 h1 rfl
  · exact block 320 (by decide) slices_S512x128_o320_0_S64x128 y h0 h1 rfl
  · exact block 256 (by decide) slices_S512x128_o256_0_S64x128 y h0 h1 rfl
  · exact block 192 (by decide) slices_S512x128_o192_0_S64x128 y h0 h1 rfl
  · exact block 128 (by decide) slices_S512x128_o128_0_S64x128 y h0 h1 rfl
  · exact block 64 (by decide) slices_S512x128_o64_0_S64x128 y h0 h1 rfl
  · exact block 0 (by decide) slices_S512x128_o0_0_S64x128 y (h0.trans (Nat.zero_add _).symm) h1 rfl

/-! ## The operands -/

/-- A word scattered over others keeps its place. -/
theorem scatter_map {α β : Type} (f : α → β) (idx : IVec S2 32) (x : S1x128.Idx → α) (u : S6.Idx → α) (i : S1x128.Idx) :
    Host.scatter scatter_S1x128_S2_S6_0_0_01_0 (fun _ b => b) (fun k => f (x k)) idx (fun k => f (u k)) i
      = f (Host.scatter scatter_S1x128_S2_S6_0_0_01_0 (fun _ b => b) x idx u i) := by
  unfold Host.scatter
  generalize List.finRange S6.numel = l
  induction l generalizing x with
  | nil => rfl
  | cons n l ih =>
    simp only [List.foldl_cons]
    cases h : scatter_S1x128_S2_S6_0_0_01_0.resultIdx? (S6.rowMajor.symm n) idx with
    | none => exact ih x
    | some j =>
      simp only
      rw [← ih]
      refine congrFun (congrArg (fun z => List.foldl _ z l) ?_) i
      funext k
      split <;> rfl

/-- Six words scattered from the row's first place on are its first six. -/
theorem scatter_place : ∀ e : Fin 6, Host.scatter scatter_S1x128_S2_S6_0_0_01_0 (fun _ b => b) (fun _ => (none : Option (Fin 6))) (fun _ => 0#32)
    (fun k => some (k 0)) (ix2 0 ⟨e.val, by omega⟩) = some e := by
  decide +kernel

theorem scatter_apply (idx : IVec S2 32) (hi : ∀ k, idx k = 0#32) (x : S1x128.Idx → EReal) (z : EReal) (hx : ∀ k, x k = z) (u : S6.Idx → EReal) (e : Fin 6) :
    Host.scatter scatter_S1x128_S2_S6_0_0_01_0 (fun _ b => b) x idx u (ix2 0 ⟨e.val, by omega⟩) = u (ix1 e) := by
  obtain rfl : idx = fun _ => 0#32 := funext hi
  obtain rfl : x = fun _ => z := funext hx
  have h := scatter_map (fun o : Option (Fin 6) => o.elim z fun k => u (ix1 k)) (fun _ => 0#32) (fun _ => none) (fun k => some (k 0)) (ix2 0 ⟨e.val, by omega⟩)
  rw [scatter_place e] at h
  refine Eq.trans ?_ h
  refine congrArg (fun v => Host.scatter scatter_S1x128_S2_S6_0_0_01_0 (fun _ b => b) (fun _ => z) (fun _ => 0#32) v (ix2 0 ⟨e.val, by omega⟩)) ?_
  funext k
  show u k = u (ix1 (k 0))
  exact congrArg u (by ext a; fin_cases a; rfl)

/-- The rates' logarithms as a row. -/
theorem V_rates (c : Dev nD) (e : Fin 6) : (V m c main_v4 : FVec Ideal S1x128 .f32) (ix2 0 ⟨e.val, by omega⟩)
    = (m ((c : Thread nD τ).loc main_arg1) : FVec Ideal S6 .f32) (ix1 e) := by
  entry_read
  refine scatter_apply _ ?_ _ (Ideal.ofBits .f32 0#32) ?_ _ e
  · intro k
    obtain ⟨k, rfl⟩ : ∃ k' : Fin 2, k = ix1 k' := ⟨k 0, by ext a; fin_cases a; rfl⟩
    fin_cases k <;> rfl
  · intro k
    rfl

/-- The biases of the step as a row. -/
theorem V_biases (c : Dev nD) (e : Fin 6) : (V m c main_v9 : FVec Ideal S1x128 .f32) (ix2 0 ⟨e.val, by omega⟩)
    = (m ((c : Thread nD τ).loc main_arg2) : FVec Ideal S6 .f32) (ix1 e) := by
  entry_read
  refine scatter_apply _ ?_ _ (Ideal.ofBits .f32 0#32) ?_ _ e
  · intro k
    obtain ⟨k, rfl⟩ : ∃ k' : Fin 2, k = ix1 k' := ⟨k 0, by ext a; fin_cases a; rfl⟩
    fin_cases k <;> rfl
  · intro k
    rfl

/-! ## The result array -/

/-- The row of the array that row `r` of point `t`'s blocks is. -/
abbrev rowAt (t : Fin cfg0.N) (r : Fin 512) : Fin 32768 := ⟨t.val * 512 + r.val, by have := (idx_val t).2.2.2.2; omega⟩

/-- Point `t`'s block of the projection. -/
theorem blk_x (c : Dev nD) (t : Fin cfg0.N) (r : Fin 512) (e : Fin 128) : iblk m c 0 t (ix2 r e)
    = (m ((c : Thread nD τ).loc main_arg0) : FVec Ideal S32768x6528 .bf16) (ix2 (rowAt t r) ⟨6400 + e.val, by omega⟩) := by
  refine Eq.trans ?_ (congrFun (V_main_arg0 m c) (ix2 (rowAt t r) ⟨6400 + e.val, by omega⟩))
  blk_ext [iblk, idx_val t]

/-- Point `t`'s rates' logarithms. -/
theorem blk_a (c : Dev nD) (t : Fin cfg0.N) (e : Fin 128) (he : e.val < 6) : iblk m c 1 t (ix2 0 e)
    = (m ((c : Thread nD τ).loc main_arg1) : FVec Ideal S6 .f32) (ix1 ⟨e.val, he⟩) := by
  refine Eq.trans ?_ (V_rates m c ⟨e.val, he⟩)
  blk_ext [iblk, idx_val t]

/-- Point `t`'s biases of the step. -/
theorem blk_d (c : Dev nD) (t : Fin cfg0.N) (e : Fin 128) (he : e.val < 6) : iblk m c 2 t (ix2 0 e)
    = (m ((c : Thread nD τ).loc main_arg2) : FVec Ideal S6 .f32) (ix1 ⟨e.val, he⟩) := by
  refine Eq.trans ?_ (V_biases m c ⟨e.val, he⟩)
  blk_ext [iblk, idx_val t]

/-- What the body stores at index (r, e) of point `t`'s block is the reference's entry at its place. -/
theorem point (c : Dev nD) (t : Fin cfg0.N) (r : Fin 512) (e : Fin 128) :
    (out0_3 (iblk m c 0 t) (iblk m c 1 t) (iblk m c 2 t) (ix2 r e) : EReal)
      = result (m ((c : Thread nD τ).loc main_arg0)) (m ((c : Thread nD τ).loc main_arg1)) (m ((c : Thread nD τ).loc main_arg2)) (ix2 (rowAt t r) e) := by
  have ht := (idx_val t).2.2.2.2
  have hr := r.isLt
  refine (out_apply _ _ _ r e).trans ?_
  unfold made
  by_cases he : e.val < 6
  · rw [if_pos he, result_sum _ _ _ _ _ he]
    refine Finset.sum_congr rfl fun j _ => ?_
    have e1 : (rowAt t r).val % 64 = r.val % 64 := by
      simp only [rowAt]
      omega
    rw [e1, blk_x, blk_a m c t e he, blk_d m c t e he]
    have e2 : rowAt t ⟨r.val / 64 * 64 + j.val, by omega⟩ = ⟨(rowAt t r).val / 64 * 64 + j.val, by simp only [rowAt]; omega⟩ := by
      apply Fin.ext
      simp only [rowAt]
      omega
    rw [e2]
  · rw [if_neg he, result_rate _ _ _ _ _ he, blk_x]

/-- The result array after the run is the reference's function of the arguments. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, e, rfl⟩ : ∃ (r : Fin 512) (e : Fin 128), y = ix2 r e := ⟨y 0, y 1, by ext i; fin_cases i <;> rfl⟩
  refine (point m c t r e).trans (congrArg _ ?_)
  blk_ext [idx_val t]

end Cert.Kernel8Ideal.Gates

end
-- ==== Proof.ValuesRef.lean ====
/-
  The attention's values as `reference9` lays them out, at the ideal instance, read at an index.
-/
module

public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem

namespace Cert.Reference9Ideal.Values

open Cert.Reference9Ideal Cert.Reference9Ideal.Gen

/-- The values of each head, tile by tile, a tile's positions along the last axis. -/
def turned (h : FVec Ideal S32768x6528 .bf16) : FVec Ideal S12x16x128x1024 .bf16 :=
  shapeCast _ (transpose S2x6x16x128x1024 [0, 3, 1, 4, 2]
    (shapeCast S2x16x1024x6x128 (extractStridedSlice S32768x768 ![0, 5632] h slices_S32768x6528_S32768x768_0_5632) shapeCasts_S32768x768_S2x16x1024x6x128)
    transposes_S2x16x1024x6x128_S2x6x16x128x1024_0_3_1_4_2) shapeCasts_S2x6x16x128x1024_S12x16x128x1024

/-- The reference's result as a function of its argument. -/
def result (h : FVec Ideal S32768x6528 .bf16) : FVec Ideal S12x16x144x1024 .bf16 :=
  concatenate S12x16x144x1024 2 [⟨S12x16x128x1024, turned h⟩,
    ⟨S12x16x1x1024, broadcastInDim S12x16x1x1024 ![] bcast_S_S12x16x1x1024 (constant S_ .bf16 0x3F80#16)⟩,
    ⟨S12x16x15x1024, broadcastInDim S12x16x15x1024 ![] bcast_S_S12x16x15x1024 (constant S_ .bf16 0x0000#16)⟩]
    concatenates_S12x16x128x1024_S12x16x1x1024_S12x16x15x1024_S12x16x144x1024_d2

/-- The entry of head `n`, tile `j`, row `e` and position `k`. -/
def entryAt (h : FVec Ideal S32768x6528 .bf16) (n : Fin 12) (j : Fin 16) (e : Fin 144) (k : Fin 1024) : EReal :=
  if he : e.val < 128 then h (ix2 ⟨n.val / 6 * 16384 + j.val * 1024 + k.val, by omega⟩ ⟨5632 + (n.val % 6 * 128 + e.val), by omega⟩)
  else if e.val = 128 then 1 else 0

theorem turned_apply (h : FVec Ideal S32768x6528 .bf16) (n : Fin 12) (j : Fin 16) (e : Fin 128) (k : Fin 1024) :
    (turned h (ix4 n j e k) : EReal)
      = h (ix2 ⟨n.val / 6 * 16384 + j.val * 1024 + k.val, by omega⟩ ⟨5632 + (n.val % 6 * 128 + e.val), by omega⟩) := by
  pointwise [turned]

theorem result_apply (h : FVec Ideal S32768x6528 .bf16) (n : Fin 12) (j : Fin 16) (e : Fin 144) (k : Fin 1024) :
    (result h (ix4 n j e k) : EReal) = entryAt h n j e k := by
  have h0 : (result h (ix4 n j e k) : EReal) = if he : e.val < 128 then (turned h (ix4 n j ⟨e.val, he⟩ k) : EReal)
      else if he : e.val - 128 < 1 then 1 else 0 := by
    unfold result
    generalize turned h = x
    pointwise
  rw [h0, entryAt]
  by_cases he : e.val < 128
  · rw [dif_pos he, dif_pos he, turned_apply]
  · rw [dif_neg he, dif_neg he]
    by_cases h1 : e.val = 128
    · rw [dif_pos (by omega), if_pos h1]
    · rw [dif_neg (by omega), if_neg h1]

end Cert.Reference9Ideal.Values

end
-- ==== Proof.Values.lean ====
/-
  The attention's values laid out for its tiles (`kernel9`): what its result array holds after the run, at the ideal instance.

  The grid has 2 × 6 × 16 points. Point (b, h, j) transposes the tile j of head h of sequence b, over a row of ones and 15 of zeros.
-/
module

public import proofs.«01_k».proof.Proof.Gen.Kernel9Ideal.Value
public import proofs.«01_k».proof.Proof.ValuesRef
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel9Ideal.Values

open Cert.Kernel9Ideal Cert.Kernel9Ideal.Gen
open Cert.Reference9Ideal.Values (result entryAt result_apply)

variable (m : (ℓ : Loc nD τ sig) → Buf (Elt Ideal) ℓ) (ρ : Dev nD → PrngReg)

/-- The block that each window has at point `t`. -/
theorem idx_val : ∀ t : Fin cfg0.N, win0_0.index t = ![t.val / 96 * 16 + t.val % 16, 44 + t.val / 16 % 6]
    ∧ win0_1.index t = ![t.val / 16, t.val % 16, 0, 0] ∧ t.val < 192 :=
  (by decide +kernel : ∀ t : Fin grid0.N, _)

/-! ## The body at an index -/

/-- The transposed values. -/
theorem turned_apply (x : Vec Ideal S1024x128 .bf16) (e : Fin 128) (k : Fin 1024) : (k0_pay1 x (ix4 0 0 e k) : EReal) = x (ix2 k e) := by
  pointwise [k0_pay1]

theorem word_eq : ∀ e : Fin 16, IntOp.cmpi .eq (BitVec.ofNat 32 e.val) 0#32 = 1#1 ↔ e.val = 0 := by
  decide +kernel

/-- The rows under them: one of ones, then zeros. -/
theorem under_apply (e : Fin 16) (k : Fin 1024) : (k0_pay2 (F := Ideal) (ix4 0 0 e k) : EReal) = if e.val = 0 then 1 else 0 := by
  have one : Ideal.ofBits .f32 0x3F800000#32 = 1 := by
    simp [Ideal.ofBits, Ideal.ieee, -EReal.coe_mul]
    norm_num
  have zero : Ideal.ofBits .f32 0x00000000#32 = 0 := by
    simp [Ideal.ofBits, Ideal.ieee]
  have h : (k0_pay2 (F := Ideal) (ix4 0 0 e k) : EReal)
      = if IntOp.cmpi .eq (BitVec.ofNat 32 e.val) 0#32 = 1#1 then Ideal.ofBits .f32 0x3F800000#32 else Ideal.ofBits .f32 0x00000000#32 := by
    pointwise [k0_pay2]
    rfl
  rw [h, one, zero]
  exact if_congr (word_eq e) rfl rfl

/-- What the body leaves at row `e` and position `k` of its output block. -/
theorem out_apply (c : Dev nD) (i : grid0.Coords) (arg3 : Memref sig .tc .vmem S1024x128 .bf16) (harg3 : arg3.IsWhole)
    (arg4 : Memref sig .tc .vmem S1x1x144x1024 .bf16) (harg4 : arg4.IsWhole) (x0 : Vec Ideal S1024x128 .bf16) (e : Fin 144) (k : Fin 1024) :
    (out0_A_1 c i arg3 harg3 arg4 harg4 x0 (ix4 0 0 e k) : EReal)
      = if he : e.val < 128 then (x0 (ix2 k ⟨e.val, he⟩) : EReal) else if e.val = 128 then 1 else 0 := by
  unfold out0_A_1 kernelRun0_A
  dsimp only
  simp only [View.readAt_eq_ld, harg3.read_unread]
  have hx : View.ld x0 (Rect.unit ![0, 0] ![1024, 128] inb_S1024x128_S1024x128_0_0) = x0 := View.ld_unit_lit _ _ (by decide)
  rw [hx]
  by_cases he : e.val < 128
  · rw [View.read_writes_cons_unit_of_not_mem _ _ _ _ _ _ rfl (2 : Fin 4) (.inl he),
      View.read_writes_cons_unit_of_mem _ _ _ _ _ _ (ix4 0 0 ⟨e.val, he⟩ k) rfl (by
        intro a
        fin_cases a <;> exact (Nat.zero_add _).symm), dif_pos he]
    exact turned_apply x0 ⟨e.val, he⟩ k
  · rw [View.read_writes_cons_unit_of_mem _ _ _ _ _ _ (ix4 0 0 ⟨e.val - 128, by omega⟩ k) rfl (by
        intro a
        fin_cases a
        · exact (Nat.zero_add _).symm
        · exact (Nat.zero_add _).symm
        · show e.val = 128 + (e.val - 128)
          omega
        · exact (Nat.zero_add _).symm), dif_neg he]
    refine (under_apply ⟨e.val - 128, by omega⟩ k).trans (if_congr ?_ rfl rfl)
    show e.val - 128 = 0 ↔ e.val = 128
    omega

/-! ## The result array -/

/-- Point `t`'s block of the projection. -/
theorem blk_h (c : Dev nD) (t : Fin cfg0.N) (r : Fin 1024) (e : Fin 128) : (iblk m c 0 t (ix2 r e) : EReal)
    = (m ((c : Thread nD τ).loc main_arg0) : FVec Ideal S32768x6528 .bf16)
        (ix2 ⟨(t.val / 96 * 16 + t.val % 16) * 1024 + r.val, by have := (idx_val t).2.2; omega⟩ ⟨5632 + (t.val / 16 % 6 * 128 + e.val), by omega⟩) := by
  have ht := (idx_val t).2.2
  refine Eq.trans ?_ (congrFun (V_main_arg0 m c)
    (ix2 ⟨(t.val / 96 * 16 + t.val % 16) * 1024 + r.val, by omega⟩ ⟨5632 + (t.val / 16 % 6 * 128 + e.val), by omega⟩))
  blk_ext [iblk, idx_val t]

/-- What the body stores at (e, k) of point `t`'s block is the reference's entry at its place. -/
theorem point (c : Dev nD) (t : Fin cfg0.N) (e : Fin 144) (k : Fin 1024) : (outsAt0 m c t (ix4 0 0 e k) : EReal)
    = result (m ((c : Thread nD τ).loc main_arg0)) (ix4 ⟨t.val / 16, by have := (idx_val t).2.2; omega⟩ ⟨t.val % 16, by omega⟩ e k) := by
  have ht := (idx_val t).2.2
  unfold outsAt0
  rw [result_apply, entryAt]
  refine (out_apply c _ _ _ _ _ _ e k).trans ?_
  by_cases he : e.val < 128
  · rw [dif_pos he, dif_pos he, blk_h]
    refine congrArg _ ?_
    funext a
    fin_cases a
    · refine Fin.ext ?_
      show (t.val / 96 * 16 + t.val % 16) * 1024 + k.val = t.val / 16 / 6 * 16384 + t.val % 16 * 1024 + k.val
      omega
    · rfl
  · rw [dif_neg he, dif_neg he]

/-- The result array after the run is the reference's function of the argument. -/
theorem final (c : Dev nD) : (dats m 0 c).arrAt 1 cfg0.N = result (m ((c : Thread nD τ).loc main_arg0)) := by
  refine (dats m 0 c).arrAt_eq_of_covers 1 _ (by decide +kernel) fun t _ y => ?_
  blk_simp
  rw [after0_1]
  obtain ⟨e, k, rfl⟩ : ∃ (e : Fin 144) (k : Fin 1024), y = ix4 0 0 e k := ⟨y 2, y 3, by
    ext i
    fin_cases i
    · exact Fin.val_eq_zero (y 0 : Fin 1)
    · exact Fin.val_eq_zero (y 1 : Fin 1)
    · rfl
    · rfl⟩
  refine (point m c t e k).trans (congrArg _ ?_)
  blk_ext [idx_val t]

end Cert.Kernel9Ideal.Values

end
-- ==== Proof.BackWords.lean ====
/-
  The kernel's index arithmetic at the words the loop carries. Vector subcore `(i₀, i₁)` is worker `w = 16·i₀ + i₁` of 32;
  it fetches 64 blocks of 128 row numbers, block `k` being block `64·w + k` of the 2048. Before trip `k` the loop carries
  the number of fetches issued, `min (k+1) 64`, the numbers of blocks consumed and produced, `k` and `k`, the number of
  write-outs waited for, `k - 1`, and the block's number `k` (64 wraps to 0). Each theorem here says what one printed
  offset, condition or side condition is at those words, for all workers and all trips; each is a finite check.
-/
module

public import proofs.«01_k».proof.Proof.Gen.Kernel10Ideal
public import proofs.«01_k».proof.Proof.Gen.Kernel10Ideal.Skeleton

@[expose] public section

namespace Cert.Proof.GatherBack

open Cert.Kernel10Ideal Cert.Kernel10Ideal.Gen Idealize.ShloMosaic

/-- The grid's coordinates of core `c`, subcore `s`. -/
def at2 (c : Fin 2) (s : Fin 16) : grid0.Coords :=
  fun | 0 => c | 1 => s | ⟨_ + 2, h⟩ => absurd h (Nat.not_lt.2 (Nat.le_add_left _ _))

/-- Worker `(c, s)`'s first block of the 2048. -/
def blk0 (c : Fin 2) (s : Fin 16) : ℕ := 64 * (16 * c.val + s.val)

/-- The words carried before trip `k`. -/
def w6 (k : ℕ) : BitVec 32 := BitVec.ofNat 32 (min (k + 1) 64)
def w7 (k : ℕ) : BitVec 32 := BitVec.ofNat 32 k
def w9 (k : ℕ) : BitVec 32 := BitVec.ofNat 32 (k - 1)
def w10 (k : ℕ) : BitVec 32 := BitVec.ofNat 32 (k % 64)

theorem trips_eq : k0_t1_loop.trips = 64 := rfl

/-- The next block is fetched at every trip but the last. -/
theorem cond1_at : ∀ (c : Fin 2) (s : Fin 16) (t : Fin 64), k0_cond1 (at2 c s) t (w10 t) = if t.val < 63 then 1#1 else 0#1 := by
  decide +kernel
/-- Every trip waits for its block. -/
theorem cond2_at : ∀ (c : Fin 2) (s : Fin 16) (t : Fin 64), k0_cond2 (at2 c s) t (w10 t) = 1#1 := by decide +kernel
/-- Every trip writes its block out. -/
theorem cond5_at : ∀ (c : Fin 2) (s : Fin 16) (t : Fin 64), k0_cond5 (at2 c s) t (w10 t) = 1#1 := by decide +kernel
/-- Every trip but the first waits for the block before its own to be written out. -/
theorem cond7_at : ∀ (c : Fin 2) (s : Fin 16) (t : Fin 64), k0_cond7 (at2 c s) t (w10 t) = if t.val = 0 then 0#1 else 1#1 := by
  decide +kernel

theorem off4_at : ∀ t : Fin 63, k0_off4 (w6 t) = ![(t.val + 1) % 2, 0, 0] := by decide +kernel
theorem off5_at : ∀ (c : Fin 2) (s : Fin 16) (t : Fin 63), k0_off5 (at2 c s) (w10 t) = ![0, 128 * (blk0 c s + (t.val + 1))] := by decide +kernel
theorem off6_at : ∀ t : Fin 63, k0_off6 (w6 t) = ![(t.val + 1) % 2] := by decide +kernel
theorem off7_at : ∀ t : Fin 64, k0_off7 (w7 t) = ![t.val % 2, 0, 0] := by decide +kernel
theorem off9_at : ∀ t : Fin 64, k0_off9 (w7 t) = ![t.val % 2] := by decide +kernel
theorem off10_at : ∀ t : Fin 64, k0_off10 (w7 t) = ![t.val % 2, 0, 0] := by decide +kernel
theorem off11_at : ∀ t : Fin 64, k0_off11 (w7 t) = ![t.val % 2, 0, 0] := by decide +kernel
theorem off12_at : ∀ t : Fin 64, k0_off12 (w7 t) = ![t.val % 2, 0, 0] := by decide +kernel
theorem off13_at : ∀ (c : Fin 2) (s : Fin 16) (t : Fin 64), k0_off13 (at2 c s) (w10 t) = ![128 * (blk0 c s + t.val), 0] := by decide +kernel
theorem off14_at : ∀ t : Fin 64, k0_off14 (w7 t) = ![t.val % 2] := by decide +kernel
theorem off17_at : ∀ t : Fin 64, t.val ≠ 0 → k0_off17 (w9 t) = ![(t.val + 1) % 2] := by decide +kernel
theorem off20_at : k0_off20 (w9 64) = ![1] := by decide +kernel
theorem off2_at (c : Fin 2) (s : Fin 16) : k0_off2 (at2 c s) = ![0, 128 * (blk0 c s + 0)] := by
  revert c s; decide +kernel

/-- The loop's side conditions hold at the words of every trip, -/
theorem chk1_at : ∀ (c : Fin 2) (s : Fin 16) (t : Fin 64), k0_chk1 (at2 c s) t (w6 t) (w7 t) (w7 t) (w9 t) (w10 t) := by
  unfold k0_chk1; decide +kernel
theorem chk2_at : ∀ t : Fin 64, k0_chk2 (w7 t) := by
  unfold k0_chk2; decide +kernel
theorem chk3_at : ∀ t : Fin 64, k0_chk3 (w7 t) := by
  unfold k0_chk3; decide +kernel
/-- and those behind the loop at the words it leaves. -/
theorem chk4_at : k0_chk4 (w9 64) := by
  unfold k0_chk4; decide +kernel
theorem chk5_at : ∀ (c : Fin 2) (s : Fin 16), k0_chk5 (at2 c s) (w10 64) := by
  unfold k0_chk5; decide +kernel

end Cert.Proof.GatherBack

end
-- ==== Proof.BackViews.lean ====
/-
  The pieces of the arrays the transfers move, and what each transfer leaves. The row numbers are a 1 × 262144 array, the
  table a 294912 × 256 array, the result a 262144 × 256 array; each subcore holds two slots of 128 row numbers and two
  slots of 128 × 256 words. For each piece: which elements it covers and where its index `x` lies; then, for each
  transfer, that the piece it writes holds, element by element, the words the result should have there.
-/
module

public import proofs.«01_k».proof.Proof.Gen.Kernel10Ideal
public import Idealize.ShloMosaic.Lib.ValueIdxCore
public import Idealize.ShloMosaic.Lib.Pipeline.Value
public import Idealize.ShloMosaic.Lib.SparseCore.Stream

@[expose] public section

noncomputable section

namespace Cert.Proof.GatherBack

open Cert.Kernel10Ideal Cert.Kernel10Ideal.Gen Idealize.ShloMosaic
open Idealize.ShloMosaic.ValueIdx (ix2 ix3)

variable {F : FTy → Type}

/-! ## The words -/

/-- Word `(r, c)` of the table. -/
def xAt (X : S294912x256.Idx → BitVec 32) (r c : ℕ) : BitVec 32 :=
  X (ix2 (n0 := 294912) (n1 := 256) ⟨r % 294912, Nat.mod_lt _ (by decide)⟩ ⟨c % 256, Nat.mod_lt _ (by decide)⟩)
/-- Row number `n`. -/
def iAt (I : S1x262144.Idx → BitVec 32) (n : ℕ) : BitVec 32 :=
  I (ix2 (n0 := 1) (n1 := 262144) ⟨0, by decide⟩ ⟨n % 262144, Nat.mod_lt _ (by decide)⟩)
/-- The result: row `n` is the table's row whose number is row number `n`. -/
def outC (X : S294912x256.Idx → BitVec 32) (I : S1x262144.Idx → BitVec 32) : S262144x256.Idx → BitVec 32 :=
  fun y => xAt X (iAt I (y 0).val).toNat (y 1).val
/-- A slot's row numbers after fetching block `b`. -/
def idxC (I : S1x262144.Idx → BitVec 32) (b : ℕ) : S2x1x128.Idx → BitVec 32 := fun y => iAt I (128 * b + (y 2).val)
/-- A slot's rows after gathering block `b`. -/
def slotC (X : S294912x256.Idx → BitVec 32) (I : S1x262144.Idx → BitVec 32) (b : ℕ) : S2x128x256.Idx → BitVec 32 :=
  fun y => xAt X (iAt I (128 * b + (y 1).val)).toNat (y 2).val

/-! ## The pieces -/

abbrev xM : Memref sig .scVector .hbm S294912x256 .i32 := Memref.whole main_v9_scv
abbrev iM : Memref sig .scVector .hbm S1x262144 .i32 := Memref.whole main_v10_scv
abbrev oM : Memref sig .scVector .hbm S262144x256 .i32 := Memref.whole main_v11_scv
abbrev iB : Memref sig .scVector .vmem S2x1x128 .i32 := Memref.whole cc0_scoped0
abbrev oB : Memref sig .scVector .vmem S2x128x256 .i32 := Memref.whole cc0_scoped2

abbrev iSlot (off : Fin 3 → ℕ) (h : ∀ a, off a + S1x1x128.size a ≤ S2x1x128.size a) : Memref sig .scVector .vmem S1x128 .i32 :=
  (iB.slice (Rect.unit (s := S2x1x128) off S1x1x128.size h) (fun _ => rfl)).squeeze S1x128 squeezes_S1x1x128_S1x128
abbrev iBlk (off : Fin 2 → ℕ) (h : ∀ a, off a + S1x128.size a ≤ S1x262144.size a) : Memref sig .scVector .hbm S1x128 .i32 :=
  iM.slice (Rect.unit (s := S1x262144) off S1x128.size h) (fun _ => rfl)
abbrev oSlot (off : Fin 3 → ℕ) (h : ∀ a, off a + S1x128x256.size a ≤ S2x128x256.size a) : Memref sig .scVector .vmem S128x256 .i32 :=
  (oB.slice (Rect.unit (s := S2x128x256) off S1x128x256.size h) (fun _ => rfl)).squeeze S128x256 squeezes_S1x128x256_S128x256
abbrev oBlk (off : Fin 2 → ℕ) (h : ∀ a, off a + S128x256.size a ≤ S262144x256.size a) : Memref sig .scVector .hbm S128x256 .i32 :=
  oM.slice (Rect.unit (s := S262144x256) off S128x256.size h) (fun _ => rfl)
abbrev iList (off : Fin 3 → ℕ) (h : ∀ a, off a + S1x1x128.size a ≤ S2x1x128.size a) (hl : ∀ a, (![0, 0] : Fin 2 → ℕ) a + S1x128.size a ≤ S1x128.size a) :
    Memref sig .scVector .vmem S128 .i32 :=
  ((iSlot off h).slice (Rect.unit (s := S1x128) ![0, 0] S1x128.size hl) (fun _ => rfl)).squeeze S128 squeezes_S1x128_S128
abbrev oHalf (off : Fin 3 → ℕ) (h : ∀ a, off a + S1x128x256.size a ≤ S2x128x256.size a) (c : ℕ)
    (hc : ∀ a, (![0, c] : Fin 2 → ℕ) a + S128x128.size a ≤ S128x256.size a) : Memref sig .scVector .vmem S128x128 .i32 :=
  (oSlot off h).slice (Rect.unit (s := S128x256) ![0, c] S128x128.size hc) (fun _ => rfl)
abbrev xHalf (c : ℕ) (hc : ∀ a, (![0, c] : Fin 2 → ℕ) a + S294912x128.size a ≤ S294912x256.size a) : Memref sig .scVector .hbm S294912x128 .i32 :=
  xM.slice (Rect.unit (s := S294912x256) ![0, c] S294912x128.size hc) (fun _ => rfl)

/-! ## Their elements -/

/-- Slot `p` of the row numbers. -/
def iSlotSet (p : ℕ) : Finset S2x1x128.Idx := Finset.univ.filter fun y => (y 0).val = p
/-- Slot `p` of the rows. -/
def oSlotSet (p : ℕ) : Finset S2x128x256.Idx := Finset.univ.filter fun y => (y 0).val = p
/-- Columns `c … c + 127` of slot `p` of the rows. -/
def oHalfSet (p c : ℕ) : Finset S2x128x256.Idx := Finset.univ.filter fun y => (y 0).val = p ∧ c ≤ (y 2).val ∧ (y 2).val < c + 128
/-- Rows `a … b - 1` of the result. -/
def rowsSet (a b : ℕ) : Finset S262144x256.Idx := Finset.univ.filter fun y => a ≤ (y 0).val ∧ (y 0).val < b

variable (off3 : Fin 3 → ℕ) (off2 : Fin 2 → ℕ) (p r c : ℕ)

theorem iSlot_set (h) (e : off3 = ![p, 0, 0]) : (iSlot off3 h).view.set = iSlotSet p := by
  subst e
  show (((View.whole (cc0_scoped0 : Ref sig .scVector)).slice (Rect.unit (s := S2x1x128) ![p, 0, 0] S1x1x128.size h)).reshape S1x128 squeezes_S1x1x128_S1x128.numel_eq).set = _
  rw [View.set_reshape, View.set_slice_whole]
  ext y
  have h1 : (y 1).val < 1 := (y 1).isLt
  have h2 : (y 2).val < 128 := (y 2).isLt
  simp only [iSlotSet, Finset.mem_filter, Finset.mem_univ, true_and]
  refine Rect.mem_set_unit.trans ⟨fun k => ?_, fun k a => ?_⟩
  · have := k 0; change p ≤ (y 0).val ∧ (y 0).val < p + 1 at this; omega
  · match a with
    | 0 => show p ≤ (y 0).val ∧ (y 0).val < p + 1; omega
    | 1 => show 0 ≤ (y 1).val ∧ (y 1).val < 0 + 1; omega
    | 2 => show 0 ≤ (y 2).val ∧ (y 2).val < 0 + 128; omega

theorem oSlot_set (h) (e : off3 = ![p, 0, 0]) : (oSlot off3 h).view.set = oSlotSet p := by
  subst e
  show (((View.whole (cc0_scoped2 : Ref sig .scVector)).slice (Rect.unit (s := S2x128x256) ![p, 0, 0] S1x128x256.size h)).reshape S128x256 squeezes_S1x128x256_S128x256.numel_eq).set = _
  rw [View.set_reshape, View.set_slice_whole]
  ext y
  have h1 : (y 1).val < 128 := (y 1).isLt
  have h2 : (y 2).val < 256 := (y 2).isLt
  simp only [oSlotSet, Finset.mem_filter, Finset.mem_univ, true_and]
  refine Rect.mem_set_unit.trans ⟨fun k => ?_, fun k a => ?_⟩
  · have := k 0; change p ≤ (y 0).val ∧ (y 0).val < p + 1 at this; omega
  · match a with
    | 0 => show p ≤ (y 0).val ∧ (y 0).val < p + 1; omega
    | 1 => show 0 ≤ (y 1).val ∧ (y 1).val < 0 + 128; omega
    | 2 => show 0 ≤ (y 2).val ∧ (y 2).val < 0 + 256; omega

theorem oBlk_set (h) (e : off2 = ![r, 0]) : (oBlk off2 h).view.set = rowsSet r (r + 128) := by
  subst e
  show ((View.whole (main_v11_scv : Ref sig .scVector)).slice (Rect.unit (s := S262144x256) ![r, 0] S128x256.size h)).set = _
  rw [View.set_slice_whole]
  ext y
  have h2 : (y 1).val < 256 := (y 1).isLt
  simp only [rowsSet, Finset.mem_filter, Finset.mem_univ, true_and]
  refine Rect.mem_set_unit.trans ⟨fun k => k 0, fun k a => ?_⟩
  match a with
  | 0 => exact k
  | 1 => show 0 ≤ (y 1).val ∧ (y 1).val < 0 + 256; omega

theorem iList_set (h hl) (e : off3 = ![p, 0, 0]) : (iList off3 h hl).view.set = iSlotSet p := by
  rw [← iSlot_set off3 p h e]
  show ((((iSlot off3 h).view.slice (Rect.unit (s := S1x128) ![0, 0] S1x128.size hl))).reshape S128 squeezes_S1x128_S128.numel_eq).set = _
  rw [View.set_reshape, View.set_slice]
  have : (Rect.unit (s := S1x128) ![0, 0] S1x128.size hl).set = Finset.univ := by
    ext y
    simp only [Finset.mem_univ, iff_true]
    refine Rect.mem_set_unit.mpr fun a => ?_
    match a with
    | 0 => show 0 ≤ (y 0).val ∧ (y 0).val < 0 + 1; have : (y 0).val < 1 := (y 0).isLt; omega
    | 1 => show 0 ≤ (y 1).val ∧ (y 1).val < 0 + 128; have : (y 1).val < 128 := (y 1).isLt; omega
  rw [this]; rfl

/-! ## Where their indices lie -/

theorem iSlot_emb (h) (e : off3 = ![p, 0, 0]) (x : S1x128.Idx) :
    (((iSlot off3 h).view.emb x : S2x1x128.Idx) 2).val = (x 1).val := by
  subst e
  show 0 + 1 * ((Shape.reshapeEquiv squeezes_S1x1x128_S1x128.numel_eq x) 2).val = _
  rw [Shape.reshapeEquiv_cons_one]
  show 0 + 1 * (x 1).val = _; omega

theorem oSlot_emb (h) (e : off3 = ![p, 0, 0]) (x : S128x256.Idx) :
    (((oSlot off3 h).view.emb x : S2x128x256.Idx) 0).val = p ∧ (((oSlot off3 h).view.emb x : S2x128x256.Idx) 1).val = (x 0).val
      ∧ (((oSlot off3 h).view.emb x : S2x128x256.Idx) 2).val = (x 1).val := by
  subst e
  refine ⟨?_, ?_, ?_⟩
  · show p + 1 * ((Shape.reshapeEquiv squeezes_S1x128x256_S128x256.numel_eq x) 0).val = _
    rw [Shape.reshapeEquiv_cons_one]; show p + 1 * 0 = _; omega
  · show 0 + 1 * ((Shape.reshapeEquiv squeezes_S1x128x256_S128x256.numel_eq x) 1).val = _
    rw [Shape.reshapeEquiv_cons_one]; show 0 + 1 * (x 0).val = _; omega
  · show 0 + 1 * ((Shape.reshapeEquiv squeezes_S1x128x256_S128x256.numel_eq x) 2).val = _
    rw [Shape.reshapeEquiv_cons_one]; show 0 + 1 * (x 1).val = _; omega

theorem oHalf_emb (h hc) (e : off3 = ![p, 0, 0]) (x : S128x128.Idx) :
    (((oHalf off3 h c hc).view.emb x : S2x128x256.Idx) 0).val = p ∧ (((oHalf off3 h c hc).view.emb x : S2x128x256.Idx) 1).val = (x 0).val
      ∧ (((oHalf off3 h c hc).view.emb x : S2x128x256.Idx) 2).val = c + (x 1).val := by
  have k := oSlot_emb off3 p h e ((Rect.unit (s := S128x256) ![0, c] S128x128.size hc).emb x)
  refine ⟨k.1, k.2.1.trans ?_, k.2.2.trans ?_⟩
  · show 0 + 1 * (x 0).val = _; omega
  · show c + 1 * (x 1).val = _; omega

theorem iList_emb (h hl) (e : off3 = ![p, 0, 0]) (x : S128.Idx) :
    (((iList off3 h hl).view.emb x : S2x1x128.Idx) 2).val = (x 0).val := by
  refine (iSlot_emb off3 p h e ((Rect.unit (s := S1x128) ![0, 0] S1x128.size hl).emb (Shape.reshapeEquiv squeezes_S1x128_S128.numel_eq x))).trans ?_
  show 0 + 1 * ((Shape.reshapeEquiv squeezes_S1x128_S128.numel_eq x) 1).val = _
  rw [Shape.reshapeEquiv_cons_one]; show 0 + 1 * (x 0).val = _; omega

theorem oHalf_set (h hc) (e : off3 = ![p, 0, 0]) : (oHalf off3 h c hc).view.set = oHalfSet p c := by
  ext y
  simp only [oHalfSet, Finset.mem_filter, Finset.mem_univ, true_and]
  constructor
  · intro hy
    obtain ⟨x, rfl⟩ := View.exists_emb_of_mem_set (oHalf off3 h c hc).view hy
    have k := oHalf_emb off3 p c h hc e x
    have hx : (x 1).val < 128 := (x 1).isLt
    exact ⟨k.1, by omega, by omega⟩
  · rintro ⟨h0, h1, h2⟩
    have h3 : (y 1).val < 128 := (y 1).isLt
    have k := oHalf_emb off3 p c h hc e (ix2 (n0 := 128) (n1 := 128) ⟨(y 1).val, h3⟩ ⟨(y 2).val - c, by omega⟩)
    have : (oHalf off3 h c hc).view.emb (ix2 (n0 := 128) (n1 := 128) ⟨(y 1).val, h3⟩ ⟨(y 2).val - c, by omega⟩) = y := by
      funext a; apply Fin.ext
      match a with
      | 0 => exact k.1.trans h0.symm
      | 1 => exact k.2.1
      | 2 => refine k.2.2.trans ?_; show c + ((y 2).val - c) = _; omega
    rw [← this]; exact Finset.mem_map_of_mem _ (Finset.mem_univ _)

/-! ## What each transfer leaves -/

variable (X : S294912x256.Idx → BitVec 32) (I : S1x262144.Idx → BitVec 32) (b : ℕ)

/-- Fetching block `b` of the row numbers into slot `p` leaves them there. -/
theorem fetch_eq (fd : S2x1x128.Idx → BitVec 32) (h hb) (e : off3 = ![p, 0, 0]) (eb : off2 = ![0, 128 * b]) :
    ∀ y ∈ iSlotSet p, (iSlot off3 h).view.write (Elt F) fd ((iBlk off2 hb).view.read (Elt F) I) Finset.univ y = idxC I b y := by
  intro y hy
  rw [← iSlot_set off3 p h e] at hy
  obtain ⟨x, rfl⟩ := View.exists_emb_of_mem_set (iSlot off3 h).view hy
  refine (View.write_emb_of_mem _ _ (Finset.mem_univ x)).trans ?_
  show I ((iBlk off2 hb).view.emb x) = iAt I (128 * b + _)
  rw [iSlot_emb off3 p h e x]
  subst eb
  have hx : (x 1).val < 128 := (x 1).isLt
  have hb1 : 128 * b + 128 ≤ 262144 := hb 1
  refine congrArg I (funext fun a => Fin.ext ?_)
  match a with
  | 0 => show 0 + 1 * (x 0).val = 0; have : (x 0).val < 1 := (x 0).isLt; omega
  | 1 => show 128 * b + 1 * (x 1).val = (128 * b + (x 1).val) % 262144; omega

/-- A slot holding block `b`'s row numbers lists them. -/
theorem list_read (h hl) (e : off3 = ![p, 0, 0]) (x : S128.Idx) :
    (iList off3 h hl).view.read (Elt F) (idxC I b) x = iAt I (128 * b + (x 0).val) := by
  show idxC I b ((iList off3 h hl).view.emb x) = _
  unfold idxC; rw [iList_emb off3 p h hl e x]

/-- Every listed row is a row of the table. -/
theorem list_lt (hI : ∀ j, (I j).toNat < 294912) (h hl) (e : off3 = ![p, 0, 0]) :
    ∀ x, ((iList off3 h hl).view.read (Elt F) (idxC I b) x).toNat < S294912x128.size gathers_S294912x128_S128x128.axis := by
  intro x; rw [list_read off3 p I b h hl e x]; exact hI _

/-- Gathering columns `c …` at the listed rows leaves slot `p`'s columns `c …` at block `b`'s rows. -/
theorem gather_eq (hI : ∀ j, (I j).toNat < 294912) (fd : S2x128x256.Idx → BitVec 32) (off3' : Fin 3 → ℕ) (h hc h' hl hx hn hin)
    (e : off3 = ![p, 0, 0]) (e' : off3' = ![p, 0, 0]) :
    ∀ y ∈ oHalfSet p c, (oHalf off3 h c hc).view.write (Elt F) fd
      (SparseCore.gatherPayload gathers_S294912x128_S128x128 ((xHalf c hx).view.read (Elt F) X)
        (SparseCore.rows ((iList off3' h' hl).view.read (Elt F) (idxC I b)) hn hin)) Finset.univ y = slotC X I b y := by
  intro y hy
  rw [← oHalf_set off3 p c h hc e] at hy
  obtain ⟨x, rfl⟩ := View.exists_emb_of_mem_set (oHalf off3 h c hc).view hy
  refine (View.write_emb_of_mem _ _ (Finset.mem_univ x)).trans ?_
  have k := oHalf_emb off3 p c h hc e x
  unfold slotC
  rw [k.2.1, k.2.2]
  have hx1 : (x 1).val < 128 := (x 1).isLt
  have hc1 : c + 128 ≤ 256 := hc 1
  have hr : ∀ j : Fin 128, (SparseCore.rows (F := F) ((iList off3' h' hl).view.read (Elt F) (idxC I b)) hn hin j).val = (iAt I (128 * b + j.val)).toNat := by
    intro j
    show (((iList off3' h' hl).view.read (Elt F) (idxC I b)) (S128.rowMajor.symm (j.cast hn.symm))).toNat = _
    rw [list_read off3' p I b h' hl e']
    have : ((S128.rowMajor.symm (j.cast hn.symm)) 0).val = j.val := by
      have := Shape.rowMajor_val_one (S128.rowMajor.symm (j.cast hn.symm))
      rw [Equiv.apply_symm_apply] at this
      exact this.symm
    rw [this]
  show X ((xHalf c hx).view.emb (Shape.Gathers.idx gathers_S294912x128_S128x128 _ x)) = xAt X _ _
  refine congrArg X (funext fun a => Fin.ext ?_)
  match a with
  | 0 =>
    show 0 + 1 * ((Shape.Gathers.idx gathers_S294912x128_S128x128 _ x) 0).val = (iAt I (128 * b + (x 0).val)).toNat % 294912
    rw [Nat.mod_eq_of_lt (show (iAt I (128 * b + (x 0).val)).toNat < 294912 from hI _), ← hr (x 0)]
    have := Shape.Gathers.idx_axis gathers_S294912x128_S128x128 (SparseCore.rows (F := F) ((iList off3' h' hl).view.read (Elt F) (idxC I b)) hn hin) x
    have := congrArg Fin.val this
    rw [Nat.zero_add, Nat.one_mul]
    exact this
  | 1 =>
    show c + 1 * ((Shape.Gathers.idx gathers_S294912x128_S128x128 _ x) 1).val = (c + (x 1).val) % 256
    have := Shape.Gathers.idx_of_ne gathers_S294912x128_S128x128 (SparseCore.rows (F := F) ((iList off3' h' hl).view.read (Elt F) (idxC I b)) hn hin) x (b := 1) (by decide)
    rw [this]
    show c + 1 * (x 1).val = _; omega

/-- Writing slot `p`, at block `b`'s rows, out to rows `128·b …` leaves them at the result's. -/
theorem store_eq (fd : S262144x256.Idx → BitVec 32) (h hb) (e : off3 = ![p, 0, 0]) (eb : off2 = ![128 * b, 0]) :
    ∀ y ∈ rowsSet (128 * b) (128 * b + 128),
      (oBlk off2 hb).view.write (Elt F) fd ((oSlot off3 h).view.read (Elt F) (slotC X I b)) Finset.univ y = outC X I y := by
  intro y hy
  rw [← oBlk_set off2 (128 * b) hb eb] at hy
  obtain ⟨x, rfl⟩ := View.exists_emb_of_mem_set (oBlk off2 hb).view hy
  refine (View.write_emb_of_mem _ _ (Finset.mem_univ x)).trans ?_
  show slotC X I b ((oSlot off3 h).view.emb x) = _
  have k := oSlot_emb off3 p h e x
  unfold slotC outC
  rw [k.2.1, k.2.2]
  subst eb
  have k0 : (((oBlk ![128 * b, 0] hb).view.emb x : S262144x256.Idx) 0).val = 128 * b + (x 0).val := by
    show 128 * b + 1 * (x 0).val = _; omega
  have k1 : (((oBlk ![128 * b, 0] hb).view.emb x : S262144x256.Idx) 1).val = (x 1).val := by
    show 0 + 1 * (x 1).val = _; omega
  rw [k0, k1]

/-! ## Splitting -/

theorem rows_split {a b c : ℕ} (h1 : a ≤ b) (h2 : b ≤ c) : rowsSet a c = rowsSet a b ∪ rowsSet b c ∧ Disjoint (rowsSet a b) (rowsSet b c) := by
  constructor
  · ext y; simp only [rowsSet, Finset.mem_union, Finset.mem_filter, Finset.mem_univ, true_and]; omega
  · rw [Finset.disjoint_left]; intro y; simp only [rowsSet, Finset.mem_filter, Finset.mem_univ, true_and]; omega

theorem rows_empty (a : ℕ) : rowsSet a a = ∅ := by
  ext y; simp only [rowsSet, Finset.mem_filter, Finset.mem_univ, true_and, Finset.notMem_empty, iff_false]; omega

theorem rows_all : rowsSet 0 262144 = Finset.univ := by
  ext y
  have : (y 0).val < 262144 := (y 0).isLt
  simp only [rowsSet, Finset.mem_filter, Finset.mem_univ, true_and, iff_true]; omega

theorem halves : oSlotSet p = oHalfSet p 0 ∪ oHalfSet p 128 ∧ Disjoint (oHalfSet p 0) (oHalfSet p 128) := by
  constructor
  · ext y
    have : (y 2).val < 256 := (y 2).isLt
    simp only [oSlotSet, oHalfSet, Finset.mem_union, Finset.mem_filter, Finset.mem_univ, true_and]; omega
  · rw [Finset.disjoint_left]; intro y; simp only [oHalfSet, Finset.mem_filter, Finset.mem_univ, true_and]; omega

theorem iSlots : (Finset.univ : Finset S2x1x128.Idx) = iSlotSet 0 ∪ iSlotSet 1 ∧ Disjoint (iSlotSet 0) (iSlotSet 1) := by
  constructor
  · ext y
    have : (y 0).val < 2 := (y 0).isLt
    refine ⟨fun _ => ?_, fun _ => Finset.mem_univ _⟩
    rcases (by omega : (y 0).val = 0 ∨ (y 0).val = 1) with h | h
    · exact Finset.mem_union_left _ (Finset.mem_filter.mpr ⟨Finset.mem_univ _, h⟩)
    · exact Finset.mem_union_right _ (Finset.mem_filter.mpr ⟨Finset.mem_univ _, h⟩)
  · rw [Finset.disjoint_left]; intro y h h'; have := (Finset.mem_filter.mp h).2; have := (Finset.mem_filter.mp h').2; omega

theorem oSlots : (Finset.univ : Finset S2x128x256.Idx) = oSlotSet 0 ∪ oSlotSet 1 ∧ Disjoint (oSlotSet 0) (oSlotSet 1) := by
  constructor
  · ext y
    have : (y 0).val < 2 := (y 0).isLt
    refine ⟨fun _ => ?_, fun _ => Finset.mem_univ _⟩
    rcases (by omega : (y 0).val = 0 ∨ (y 0).val = 1) with h | h
    · exact Finset.mem_union_left _ (Finset.mem_filter.mpr ⟨Finset.mem_univ _, h⟩)
    · exact Finset.mem_union_right _ (Finset.mem_filter.mpr ⟨Finset.mem_univ _, h⟩)
  · rw [Finset.disjoint_left]; intro y h h'; have := (Finset.mem_filter.mp h).2; have := (Finset.mem_filter.mp h').2; omega

end Cert.Proof.GatherBack

end
-- ==== Proof.BackSetup.lean ====
/-
  The gather's launch as the SparseCore launch theorem sees it: the program's labels and definitions, the resource algebra
  (the launch's handshakes and the transfers' counters), the arrays' places, and vector subcore `(c, s)`'s thread.
-/
module

public import proofs.«01_k».proof.Defs
public import proofs.«01_k».proof.Proof.BackWords
public import proofs.«01_k».proof.Proof.BackViews
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The table's, the row numbers' and the result's places on device `d`. -/
abbrev xLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0
/-- The thread of the vector subcore at grid coordinates `L`. -/
abbrev th (d : Dev nD) (L : grid0.Coords) : Thread nD τ := V d (cV L) (jV L)

/-- The semaphores of row-number slot and row slot `n % 2`. -/
def iSem (n : ℕ) : DmaSem sig :=
  ((cc0_scoped1.slice (Rect.unit (s := S2) ![n % 2] S1.size
    (fun a => match a with | 0 => by show n % 2 + 1 ≤ 2; omega))).squeeze S_ squeezes_S1_S_).sem
def oSem (n : ℕ) : DmaSem sig :=
  ((cc0_scoped3.slice (Rect.unit (s := S2) ![n % 2] S1.size
    (fun a => match a with | 0 => by show n % 2 + 1 ≤ 2; omega))).squeeze S_ squeezes_S1_S_).sem

theorem iSem_eq {off : Fin 1 → ℕ} {n : ℕ} (h) (e : off = ![n % 2]) :
    ((cc0_scoped1.slice (Rect.unit (s := S2) off S1.size h)).squeeze S_ squeezes_S1_S_).sem = iSem n := by subst e; rfl
theorem oSem_eq {off : Fin 1 → ℕ} {n : ℕ} (h) (e : off = ![n % 2]) :
    ((cc0_scoped3.slice (Rect.unit (s := S2) off S1.size h)).squeeze S_ squeezes_S1_S_).sem = oSem n := by subst e; rfl

/-- Half `n % 2` of a share. -/
def half (q : PosShare TreeShare) (n : ℕ) : PosShare TreeShare := pieceOf q 2 (by decide) ⟨n % 2, Nat.mod_lt _ (by decide)⟩

end Cert.Proof.GatherBack

end
-- ==== Proof.BackMoves.lean ====
/-
  One vector subcore's transfers, each as a step: fetching a block of row numbers into a slot and waiting for it, the two
  indirect copies of the listed rows' column halves and their waits, and writing a slot out and waiting for it. What a slot
  is between its steps is named: idle, or in flight with what it will hold.
-/
module

public import proofs.«01_k».proof.Proof.BackSetup

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S294912x256.Idx → BitVec 32) (I : S1x262144.Idx → BitVec 32)
  (o0 : S262144x256.Idx → BitVec 32) (q : PosShare TreeShare)

/-- The words the transfers move, as contents of the arrays and slots. -/
abbrev xC : Buf (Elt F) (xM.view.loc (th d L)) := X
abbrev iC : Buf (Elt F) (iM.view.loc (th d L)) := I
abbrev oC (f : S262144x256.Idx → BitVec 32) : Buf (Elt F) (oM.view.loc (th d L)) := f
abbrev ibC (f : S2x1x128.Idx → BitVec 32) : Buf (Elt F) (iB.view.loc (th d L)) := f
abbrev obC (f : S2x128x256.Idx → BitVec 32) : Buf (Elt F) (oB.view.loc (th d L)) := f

abbrev iCredit : ℕ := (iSlot ![0, 0, 0] (by decide)).view.dmaCredit
abbrev oCredit : ℕ := (oBlk ![0, 0] (by decide)).view.dmaCredit
abbrev gCredit : ℕ := (oHalf ![0, 0, 0] (by decide) 0 (by decide)).view.dmaCredit

/-- Row-number slot `n % 2` at rest, with its half of the subcore's share of the row numbers. -/
def iIdle (n : ℕ) : sProp 𝕄 :=
  iprop((∃ f, iB.view.loc (th d L) ↦[iSlotSet (n % 2)]{fullShare} f) ∗ semVal (th d L, .dma (iSem n)) 0
    ∗ iM.view.loc (th d L) ↦[Finset.univ]{half q n} iC (F := F) d L I)
/-- The same, holding block `b`'s row numbers. -/
def iHas (n b : ℕ) : sProp 𝕄 :=
  iprop((iB.view.loc (th d L) ↦[iSlotSet (n % 2)]{fullShare} ibC (F := F) d L (idxC I b)) ∗ semVal (th d L, .dma (iSem n)) 0
    ∗ iM.view.loc (th d L) ↦[Finset.univ]{half q n} iC (F := F) d L I)
/-- Row-number slot `n % 2` being filled with block `b`. -/
def iFly (n b : ℕ) : sProp 𝕄 :=
  iprop(∃ A, Transfers.Flight countersEmb (th d L) (.dma (iSem n)) (default : HIx 1) iCredit
      iprop((iB.view.loc (th d L) ↦[iSlotSet (n % 2)]{fullShare} ibC (F := F) d L (idxC I b)) ∗ iM.view.loc (th d L) ↦[A]{half q n} iC (F := F) d L I)
    ∗ iM.view.loc (th d L) ↦[Finset.univ \ A]{half q n} iC (F := F) d L I)
/-- Row slot `n % 2` at rest. -/
def oIdle (n : ℕ) : sProp 𝕄 :=
  iprop((∃ f, oB.view.loc (th d L) ↦[oSlotSet (n % 2)]{fullShare} f) ∗ semVal (th d L, .dma (oSem n)) 0)
/-- Row slot `n % 2` being written out to block `b` of the result. -/
def oFly (n b : ℕ) : sProp 𝕄 :=
  Transfers.Flight countersEmb (th d L) (.dma (oSem n)) (default : HIx 1) oCredit
    iprop((oM.view.loc (th d L) ↦[rowsSet (128 * b) (128 * b + 128)]{fullShare} oC (F := F) d L (outC X I))
      ∗ ∃ f, oB.view.loc (th d L) ↦[oSlotSet (n % 2)]{fullShare} f)
/-- Columns `c …` of row slot `n % 2` being gathered at block `b`'s row numbers. -/
def gFly (n b c : ℕ) (sm : DmaSem sig) : sProp 𝕄 :=
  iprop(∃ A, Transfers.Flight countersEmb (th d L) (.dma sm) (default : HIx 1) gCredit
      iprop((oB.view.loc (th d L) ↦[oHalfSet (n % 2) c]{fullShare} obC (F := F) d L (slotC X I b))
        ∗ (xM.view.loc (th d L) ↦[A]{q} xC (F := F) d L X)
        ∗ iB.view.loc (th d L) ↦[iSlotSet (n % 2)]{fullShare} ibC (F := F) d L (idxC I b))
    ∗ xM.view.loc (th d L) ↦[Finset.univ \ A]{q} xC (F := F) d L X)

/-- What the subcore owes, its waits so far recorded. -/
def ow (O : CellTallies nD τ sig (HIx 1)) (W : Waits sig (HIx 1)) : sProp 𝕄 :=
  iprop(∃ W', ⌜∀ p ∈ W', p ∈ W ∨ p.2 = none⌝ ∗ owes (th d L) O W')

variable {d L X I o0 q}
variable {O : CellTallies nD τ sig (HIx 1)} {W : Waits sig (HIx 1)}

/-- Starting the fetch of block `b`. -/
theorem fetch (n b : ℕ) {off3 : Fin 3 → ℕ} {off2 : Fin 2 → ℕ} {h h2} {sm : DmaSem sig} (e3 : off3 = ![n % 2, 0, 0]) (e2 : off2 = ![0, 128 * b])
    (es : sm = iSem n) {hsrc hdst hsem} {Q : PUnit → sProp 𝕄} :
    iIdle (F := F) d L I q n ⊢ iprop((iFly (F := F) d L I q n b -∗ Q ⟨⟩) -∗
      wp frame (wpE (defs₀ (F := F)) 𝒱₀ (th d L) none) Set.univ
        (Prog.lift (TpuEff.enqueueDma (iBlk off2 h2) (.here (iSlot off3 h)) (.dma sm) hsrc hdst hsem)) Q) := by
  subst es
  unfold iIdle
  iintro ⟨⟨%f, Hb⟩, Hs, Hi⟩ Hk
  ihave Hi2 := (pointsTo_split_subset (q := half q n) (f := iC (F := F) d L I) (S := Finset.univ) (Finset.subset_univ (iBlk off2 h2).view.set)).1 $$ Hi
  icases Hi2 with ⟨Hi, Hr⟩
  have hset := iSlot_set off3 (n % 2) h e3
  iapply (Transfers.wp_dmaLocal countersEmb 𝒱₀ (th d L) none (k := .ret) (src := iBlk off2 h2) (dst := iSlot off3 h) (Sd := iSlotSet (n % 2)) (via := .same)
    (default : HIx 1) iCredit rfl (by decide) (le_of_eq hset)) $$ [Hb Hs Hi]
  · isplitl [Hi]; · iexact Hi
    isplitl [Hb]; · iexact Hb
    iexact Hs
  iintro Hfl
  rw [wp_ret]; imodintro
  iapply Hk
  unfold iFly
  iexists (iBlk off2 h2).view.set
  isplitl [Hfl]
  · iapply (Transfers.Flight_mono countersEmb (th d L)
      (D := iprop((iB.view.loc (th d L) ↦[iSlotSet (n % 2)]{fullShare} (iSlot off3 h).view.write (Elt F) f ((iBlk off2 h2).view.read (Elt F) I) Finset.univ)
        ∗ iM.view.loc (th d L) ↦[(iBlk off2 h2).view.set]{half q n} iC (F := F) d L I)) ?_) $$ Hfl
    rw [pointsTo_congr (fetch_eq (F := F) off3 off2 (n % 2) I b f h h2 e3 e2)]
  · iexact Hr

/-- Waiting for it. -/
theorem fetchWait (n b : ℕ) {sm : DmaSem sig} (es : sm = iSem n) {sp' : Space} {s' : Shape} {e' : EltTy}
    {srcw : Memref sig .scVector sp' s' e'} {dstw : Memref sig .scVector .vmem S1x128 .i32} {hsrc hdst} {Q : PUnit → sProp 𝕄} :
    iprop(Transfers.MayWaits (th d L) (default : HIx 1) O ∗ iFly (F := F) d L I q n b ∗ ow (F := F) d L O W) ⊢
      iprop((iprop(iHas (F := F) d L I q n b ∗ ow (F := F) d L O W) -∗ Q ⟨⟩) -∗
        wp frame (wpE (defs₀ (F := F)) 𝒱₀ (th d L) none) Set.univ (Prog.lift (TpuEff.waitDma2 sm srcw dstw hsrc hdst)) Q) := by
  subst es
  unfold iFly ow
  iintro ⟨#Hmw, ⟨%A, Hfl, Hr⟩, ⟨%W', %hW, HO⟩⟩ Hk
  iapply (Transfers.wp_waitLocalO countersEmb 𝒱₀ (th d L) none (k := .ret) (default : HIx 1) rfl) $$ [Hfl HO]
  · isplitl [Hfl]; · iexact Hfl
    isplitl [HO]; · iexact HO
    iapply (Transfers.MayWaits.elim (SemLoc.dma (iSem n))) $$ Hmw
  iintro ⟨⟨Hb, Hi⟩, Hs, HO⟩
  rw [wp_ret]; imodintro
  iapply Hk
  isplitr [HO]
  · unfold iHas
    isplitl [Hb]; · iexact Hb
    isplitl [Hs]; · iexact Hs
    iapply (pointsTo_split_subset (q := half q n) (f := iC (F := F) d L I) (S := Finset.univ) (Finset.subset_univ A)).2
    isplitl [Hi] <;> iassumption
  · iexists _; isplitr
    swap; · iexact HO
    ipureintro; intro p hp
    rcases Finset.mem_insert.mp hp with hp | hp
    · exact .inr (hp ▸ rfl)
    · exact hW p hp

/-- The indirect copy's rows together credit what its destination does. -/
theorem gather_credit (off3 c) (h hc) : ∑ j, ((oHalf off3 h c hc).slice (S128x128.rowRect gathers_S294912x128_S128x128.axis' j) (S128x128.stride_rowRect gathers_S294912x128_S128x128.axis' j)).view.dmaCredit
      = (oHalf ![0, 0, 0] (by decide) 0 (by decide)).view.dmaCredit := by
  have e : ∀ (s : Shape) (v : View sig .scVector .vmem s .i32), v.dmaCredit = s.numel * 32 := fun s v => rfl
  simp only [e]
  have e' : ∀ j, (S128x128.rowRect gathers_S294912x128_S128x128.axis' j).shape.numel * 32 = 4096 := by
    intro j
    show (S128x128.rowShape gathers_S294912x128_S128x128.axis').numel * 32 = 4096
    decide
  rw [Finset.sum_congr rfl fun j _ => e' j, Finset.sum_const]; decide

set_option maxHeartbeats 1000000 in
/-- Starting the indirect copy of columns `c …`. -/
theorem gather (hI : ∀ j, (I j).toNat < 294912) (n b c : ℕ) {off3 off3' : Fin 3 → ℕ} {h hc h' hl hx} {sm : DmaSem sig}
    (e3 : off3 = ![n % 2, 0, 0]) (e3' : off3' = ![n % 2, 0, 0]) {hp hn hsrc he hsp hr} {Q : PUnit → sProp 𝕄} :
    iprop((∃ f, oB.view.loc (th d L) ↦[oHalfSet (n % 2) c]{fullShare} f)
        ∗ (iB.view.loc (th d L) ↦[iSlotSet (n % 2)]{fullShare} ibC (F := F) d L (idxC I b))
        ∗ (xM.view.loc (th d L) ↦[Finset.univ]{q} xC (F := F) d L X) ∗ semVal (th d L, .dma sm) 0)
      ⊢ iprop((gFly (F := F) d L X I q n b c sm -∗ Q ⟨⟩) -∗
        wp frame (wpE (defs₀ (F := F)) 𝒱₀ (th d L) none) Set.univ
          (SparseCore.enqueueIndirectGather hp (xHalf c hx) (oHalf off3 h c hc) gathers_S294912x128_S128x128 (iList off3' h' hl) hn sm hsrc he hsp hr) Q) := by
  iintro ⟨⟨%f, Hb⟩, Hi, Hx, Hs⟩ Hk
  ihave Hx2 := (pointsTo_split_subset (q := q) (f := xC (F := F) d L X) (S := Finset.univ) (Finset.subset_univ (xHalf c hx).view.set)).1 $$ Hx
  icases Hx2 with ⟨Hx, Hr⟩
  have hset := oHalf_set off3 (n % 2) c h hc e3
  have hset' := iList_set off3' (n % 2) h' hl e3'
  rw [← bind_pure (SparseCore.enqueueIndirectGather hp (xHalf c hx) (oHalf off3 h c hc) gathers_S294912x128_S128x128 (iList off3' h' hl) hn sm hsrc he hsp hr)]
  iapply (SparseCore.wp_indirectGatherLocal countersEmb 𝒱₀ (th d L) none (src := xHalf c hx) (dst := oHalf off3 h c hc) (offs := iList off3' h' hl)
    (hg := gathers_S294912x128_S128x128) (q := q) (qo := fullShare) (fs := xC (F := F) d L X) (fd := f)
    (fo := ibC (F := F) d L (idxC I b)) (default : HIx 1)
      gCredit (gather_credit off3 c h hc) (by decide) (list_lt (F := F) off3' (n % 2) I b hI h' hl e3')) $$ [Hx Hb Hi Hs]
  · isplitl [Hx]; · iexact Hx
    isplitl [Hb]; · rw [hset]; iexact Hb
    isplitl [Hi]; · rw [hset']; iexact Hi
    iexact Hs
  iintro Hfl
  rw [wp_pure]; imodintro
  iapply Hk
  unfold gFly
  iexists (xHalf c hx).view.set
  isplitl [Hfl]
  · iapply (Transfers.Flight_mono countersEmb (th d L)
      (D := iprop((oB.view.loc (th d L) ↦[(oHalf off3 h c hc).view.set]{fullShare} (oHalf off3 h c hc).view.write (Elt F) f
          (SparseCore.gatherPayload gathers_S294912x128_S128x128 ((xHalf c hx).view.read (Elt F) X)
            (SparseCore.rows ((iList off3' h' hl).view.read (Elt F) (idxC I b)) hn (list_lt (F := F) off3' (n % 2) I b hI h' hl e3'))) Finset.univ)
        ∗ (xM.view.loc (th d L) ↦[(xHalf c hx).view.set]{q} xC (F := F) d L X)
        ∗ iB.view.loc (th d L) ↦[(iList off3' h' hl).view.set]{fullShare} ibC (F := F) d L (idxC I b))) ?_) $$ Hfl
    rw [hset, hset', pointsTo_congr (gather_eq (F := F) off3 (n % 2) c X I b hI f off3' h hc h' hl hx hn _ e3 e3')]
  · iexact Hr

set_option maxHeartbeats 1000000 in
/-- Waiting for it. -/
theorem gatherWait (n b c : ℕ) {sm : DmaSem sig} {sp : Space} {s' : Shape} {e' : EltTy}
    {srcw : Memref sig .scVector sp s' e'} {dstw : Memref sig .scVector .vmem S128x128 .i32} {hsrc hdst} {Q : PUnit → sProp 𝕄} :
    iprop(Transfers.MayWaits (th d L) (default : HIx 1) O ∗ gFly (F := F) d L X I q n b c sm ∗ ow (F := F) d L O W) ⊢
      iprop((iprop((oB.view.loc (th d L) ↦[oHalfSet (n % 2) c]{fullShare} obC (F := F) d L (slotC X I b))
          ∗ (iB.view.loc (th d L) ↦[iSlotSet (n % 2)]{fullShare} ibC (F := F) d L (idxC I b))
          ∗ (xM.view.loc (th d L) ↦[Finset.univ]{q} xC (F := F) d L X) ∗ semVal (th d L, .dma sm) 0 ∗ ow (F := F) d L O W) -∗ Q ⟨⟩) -∗
        wp frame (wpE (defs₀ (F := F)) 𝒱₀ (th d L) none) Set.univ (SparseCore.waitIndirectGather sm srcw dstw hsrc hdst) Q) := by
  unfold gFly ow SparseCore.waitIndirectGather
  iintro ⟨#Hmw, ⟨%A, Hfl, Hr⟩, ⟨%W', %hW, HO⟩⟩ Hk
  iapply (Transfers.wp_waitLocalO countersEmb 𝒱₀ (th d L) none (k := fun _ => .ret ⟨⟩) (default : HIx 1) rfl) $$ [Hfl HO]
  · isplitl [Hfl]; · iexact Hfl
    isplitl [HO]; · iexact HO
    iapply (Transfers.MayWaits.elim (SemLoc.dma sm)) $$ Hmw
  iintro ⟨⟨Hb, Hx, Hi⟩, Hs, HO⟩
  rw [wp_ret]; imodintro
  iapply Hk
  isplitl [Hb]; · iexact Hb
  isplitl [Hi]; · iexact Hi
  isplitl [Hx Hr]
  · iapply (pointsTo_split_subset (q := q) (f := xC (F := F) d L X) (S := Finset.univ) (Finset.subset_univ A)).2
    isplitl [Hx] <;> iassumption
  isplitl [Hs]; · iexact Hs
  iexists _; isplitr
  swap; · iexact HO
  ipureintro; intro p hp
  rcases Finset.mem_insert.mp hp with hp | hp
  · exact .inr (hp ▸ rfl)
  · exact hW p hp

/-- Starting the write-out of row slot `n % 2`, at block `b`'s rows. -/
theorem store (n b : ℕ) {off3 : Fin 3 → ℕ} {off2 : Fin 2 → ℕ} {h h2} {sm : DmaSem sig} (e3 : off3 = ![n % 2, 0, 0]) (e2 : off2 = ![128 * b, 0])
    (es : sm = oSem n) {hsrc hdst hsem} {Q : PUnit → sProp 𝕄} :
    iprop((oB.view.loc (th d L) ↦[oSlotSet (n % 2)]{fullShare} obC (F := F) d L (slotC X I b)) ∗ semVal (th d L, .dma (oSem n)) 0
        ∗ oM.view.loc (th d L) ↦[rowsSet (128 * b) (128 * b + 128)]{fullShare} oC (F := F) d L o0)
      ⊢ iprop((oFly (F := F) d L X I n b -∗ Q ⟨⟩) -∗
        wp frame (wpE (defs₀ (F := F)) 𝒱₀ (th d L) none) Set.univ
          (Prog.lift (TpuEff.enqueueDma (oSlot off3 h) (.here (oBlk off2 h2)) (.dma sm) hsrc hdst hsem)) Q) := by
  subst es
  iintro ⟨Hb, Hs, Ho⟩ Hk
  have hset := oSlot_set off3 (n % 2) h e3
  have hset' := oBlk_set off2 (128 * b) h2 e2
  iapply (Transfers.wp_dmaLocal countersEmb 𝒱₀ (th d L) none (k := .ret) (src := oSlot off3 h) (dst := oBlk off2 h2) (Sd := rowsSet (128 * b) (128 * b + 128)) (via := .same)
    (q := fullShare) (fs := obC (F := F) d L (slotC X I b)) (fd := oC (F := F) d L o0)
    (default : HIx 1) oCredit rfl (by decide) (le_of_eq hset')) $$ [Hb Hs Ho]
  · isplitl [Hb]; · rw [hset]; iexact Hb
    isplitl [Ho]; · iexact Ho
    iexact Hs
  iintro Hfl
  rw [wp_ret]; imodintro
  iapply Hk
  unfold oFly
  iapply (Transfers.Flight_mono countersEmb (th d L)
    (D := iprop((oM.view.loc (th d L) ↦[rowsSet (128 * b) (128 * b + 128)]{fullShare} (oBlk off2 h2).view.write (Elt F) o0 ((oSlot off3 h).view.read (Elt F) (slotC X I b)) Finset.univ)
      ∗ oB.view.loc (th d L) ↦[(oSlot off3 h).view.set]{fullShare} obC (F := F) d L (slotC X I b))) ?_) $$ Hfl
  rw [hset, pointsTo_congr (store_eq (F := F) off3 off2 (n % 2) X I b o0 h h2 e3 e2)]
  iintro ⟨Ho, Hb⟩
  isplitl [Ho]; · iexact Ho
  iexists _; iexact Hb

/-- Waiting for it. -/
theorem storeWait (n b : ℕ) {sm : DmaSem sig} (es : sm = oSem n) {sp' : Space} {s' : Shape} {e' : EltTy}
    {srcw : Memref sig .scVector sp' s' e'} {dstw : Memref sig .scVector .hbm S128x256 .i32} {hsrc hdst} {Q : PUnit → sProp 𝕄} :
    iprop(Transfers.MayWaits (th d L) (default : HIx 1) O ∗ oFly (F := F) d L X I n b ∗ ow (F := F) d L O W) ⊢
      iprop((iprop(oIdle (F := F) d L n ∗ (oM.view.loc (th d L) ↦[rowsSet (128 * b) (128 * b + 128)]{fullShare} oC (F := F) d L (outC X I))
          ∗ ow (F := F) d L O W) -∗ Q ⟨⟩) -∗
        wp frame (wpE (defs₀ (F := F)) 𝒱₀ (th d L) none) Set.univ (Prog.lift (TpuEff.waitDma2 sm srcw dstw hsrc hdst)) Q) := by
  subst es
  unfold oFly ow
  iintro ⟨#Hmw, Hfl, ⟨%W', %hW, HO⟩⟩ Hk
  iapply (Transfers.wp_waitLocalO countersEmb 𝒱₀ (th d L) none (k := .ret) (default : HIx 1) rfl) $$ [Hfl HO]
  · isplitl [Hfl]; · iexact Hfl
    isplitl [HO]; · iexact HO
    iapply (Transfers.MayWaits.elim (SemLoc.dma (oSem n))) $$ Hmw
  iintro ⟨⟨Ho, Hb⟩, Hs, HO⟩
  rw [wp_ret]; imodintro
  iapply Hk
  isplitl [Hb Hs]
  · unfold oIdle
    isplitl [Hb]; · iexact Hb
    iexact Hs
  isplitl [Ho]; · iexact Ho
  iexists _; isplitr
  swap; · iexact HO
  ipureintro; intro p hp
  rcases Finset.mem_insert.mp hp with hp | hp
  · exact .inr (hp ▸ rfl)
  · exact hW p hp

end Cert.Proof.GatherBack

end
-- ==== Proof.BackCarry.lean ====
/-
  The words a trip of the subcore's loop carries to the next one: the numbers of the slots and of the block, each the
  one before plus one, the block number starting over behind the last.
-/
module

public import proofs.«01_k».proof.Proof.BackWords
public import proofs.«01_k».proof.Proof.Gen.Kernel10Ideal.Skeleton

@[expose] public section

namespace Cert.Proof.GatherBack

open Cert.Kernel10Ideal Cert.Kernel10Ideal.Gen Idealize.ShloMosaic

/-- The worker's first block as a word. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 64#32

/-- The words carried before trip `k`. -/
def words (k : ℕ) : BitVec 32 × BitVec 32 × BitVec 32 × BitVec 32 × BitVec 32 := (w6 k, w7 k, w7 k, w9 k, w10 k)

/-- The words the loop starts from. -/
theorem words_zero : ((Scalar.addi 0#32 1#32, 0#32, 0#32, 0#32, 0#32) : BitVec 32 × BitVec 32 × BitVec 32 × BitVec 32 × BitVec 32) = words 0 := by
  decide +kernel

/-- What a trip carries on: each word from the ones it was given. -/
theorem words_next : ∀ (c : Fin 2) (s : Fin 16) (t : Fin 64),
    (let v4 := v4w (at2 c s)
     let v5 := Scf.iv 0#32 1#32 t.val
     let v64 := Scalar.cmpi .eq v5 0#32
     let v65 := Scalar.cmpi .eq v5 63#32
     let v66 := Scalar.addi (w10 t) v4
     let v68 := Scalar.select 1#1 (Scalar.subi (w10 t) 1#32) (w10 t)
     let v71 := Scalar.addi (Scalar.select (Scalar.cmpi .eq v68 4294967295#32) 63#32 v68) v4
     let v73 := Scalar.select 1#1 (Scalar.addi (w10 t) 1#32) (w10 t)
     let v75 := Scalar.select (Scalar.cmpi .eq v73 64#32) 0#32 v73
     let v76 := Scalar.addi v75 v4
     let v85 := Scalar.andi (Scalar.cmpi .ne v66 v76) (Scalar.xori (Scalar.cmpi .sge v5 63#32) 1#1)
     let v116 := Scalar.ori (Scalar.cmpi .ne v66 v76) v65
     let v130 := Scalar.andi (Scalar.cmpi .ne v66 v71) (Scalar.xori v64 1#1)
     ((Scalar.select (Scalar.andi v85 1#1) (Scalar.addi (w6 t) 1#32) (w6 t),
       Scalar.select v116 (Scalar.addi (w7 t) 1#32) (w7 t),
       Scalar.select (Scalar.andi v116 1#1) (Scalar.addi (w7 t) 1#32) (w7 t),
       Scalar.select (Scalar.andi v130 1#1) (Scalar.addi (w9 t) 1#32) (w9 t),
       v75) : BitVec 32 × BitVec 32 × BitVec 32 × BitVec 32 × BitVec 32)) = words (t.val + 1) := by
  decide +kernel

end Cert.Proof.GatherBack

end
-- ==== Proof.BackTrip.lean ====
/-
  One trip of the subcore's loop. Before trip `k` block `k`'s row numbers are being fetched into slot `k % 2`, the other
  row-number slot is idle, row slot `k % 2` is idle, the other one is being written out to block `k - 1`, and the blocks
  before that one hold the result. The trip starts the next fetch, waits for its own, gathers the two column halves of
  its rows, starts writing them out and waits for the block before to be out.
-/
module

public import proofs.«01_k».proof.Proof.BackMoves
public import proofs.«01_k».proof.Proof.BackCarry

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin 2) (s : Fin 16) (X : S294912x256.Idx → BitVec 32) (I : S1x262144.Idx → BitVec 32)
  (o0 : S262144x256.Idx → BitVec 32) (qi qx : PosShare TreeShare) (O : CellTallies nD τ sig (HIx 1)) (W : Waits sig (HIx 1))

/-- What the subcore holds before trip `k`. -/
def Held (k : ℕ) : sProp 𝕄 :=
  iprop(Transfers.MayWaits (th d (at2 c s)) (default : HIx 1) O
    ∗ (if k < 64 then iFly (F := F) d (at2 c s) I qi k (blk0 c s + k) else iIdle (F := F) d (at2 c s) I qi k)
    ∗ iIdle (F := F) d (at2 c s) I qi (k + 1) ∗ oIdle (F := F) d (at2 c s) k
    ∗ (if k = 0 then oIdle (F := F) d (at2 c s) (k + 1) else oFly (F := F) d (at2 c s) X I (k + 1) (blk0 c s + (k - 1)))
    ∗ (oM.view.loc (th d (at2 c s)) ↦[rowsSet (128 * blk0 c s) (128 * (blk0 c s + (k - 1)))]{fullShare} oC (F := F) d (at2 c s) (outC X I))
    ∗ (oM.view.loc (th d (at2 c s)) ↦[rowsSet (128 * (blk0 c s + k)) (128 * (blk0 c s + 64))]{fullShare} oC (F := F) d (at2 c s) o0)
    ∗ (xM.view.loc (th d (at2 c s)) ↦[Finset.univ]{qx} xC (F := F) d (at2 c s) X)
    ∗ semVal (th d (at2 c s), .dma cc0_scoped4.sem) 0 ∗ semVal (th d (at2 c s), .dma cc0_scoped5.sem) 0
    ∗ ow (F := F) d (at2 c s) O W)

/-- The same with the words carried. -/
def Inv (k : ℕ) (acc : BitVec 32 × BitVec 32 × BitVec 32 × BitVec 32 × BitVec 32) : sProp 𝕄 :=
  iprop(⌜acc = words k⌝ ∗ Held (F := F) d c s X I o0 qi qx O W k)

omit [FloatOps F] in
theorem iSem_add_two (n : ℕ) : iSem (n + 2) = iSem n := iSem_eq _ (by rw [Nat.add_mod_right])
omit [FloatOps F] in
theorem oSem_add_two (n : ℕ) : oSem (n + 2) = oSem n := oSem_eq _ (by rw [Nat.add_mod_right])
theorem iIdle_add_two (L : grid0.Coords) (n : ℕ) : iIdle (F := F) d L I qi (n + 2) = iIdle (F := F) d L I qi n := by
  unfold iIdle half; simp only [iSem_add_two, Nat.add_mod_right]
theorem oIdle_add_two (L : grid0.Coords) (n : ℕ) : oIdle (F := F) d L (n + 2) = oIdle (F := F) d L n := by
  unfold oIdle; simp only [oSem_add_two, Nat.add_mod_right]
theorem oFly_add_two (L : grid0.Coords) (n b : ℕ) : oFly (F := F) d L X I (n + 2) b = oFly (F := F) d L X I n b := by
  unfold oFly; simp only [oSem_add_two, Nat.add_mod_right]
theorem iHas_idle (L : grid0.Coords) (n b : ℕ) : iHas (F := F) d L I qi n b ⊢ iIdle (F := F) d L I qi n := by
  unfold iHas iIdle
  iintro ⟨Hb, Hs, Hi⟩
  isplitl [Hb]; · iexists _; iexact Hb
  isplitl [Hs] <;> iassumption

/-- A row slot at rest is its two column halves. -/
theorem slot_halves (L : grid0.Coords) (n : ℕ) :
    oIdle (F := F) d L n ⊢ iprop((∃ f, oB.view.loc (th d L) ↦[oHalfSet (n % 2) 0]{fullShare} f)
      ∗ (∃ f, oB.view.loc (th d L) ↦[oHalfSet (n % 2) 128]{fullShare} f) ∗ semVal (th d L, .dma (oSem n)) 0) := by
  unfold oIdle
  iintro ⟨⟨%f, H⟩, Hs⟩
  rw [(halves (n % 2)).1]
  ihave H2 := (pointsTo_union (q := fullShare) (f := f) (halves (n % 2)).2).1 $$ H
  icases H2 with ⟨Ha, Hb⟩
  isplitl [Ha]
  · iexists f; iexact Ha
  isplitl [Hb]
  · iexists f; iexact Hb
  iexact Hs

/-- Rows cut in two. -/
theorem rows_cut (L : grid0.Coords) {o : S262144x256.Idx → BitVec 32} {a b e : ℕ} (h1 : a ≤ b) (h2 : b ≤ e) :
    (oM.view.loc (th d L) ↦[rowsSet a e]{fullShare} oC (F := F) d L o : sProp 𝕄)
      ⊣⊢ iprop((oM.view.loc (th d L) ↦[rowsSet a b]{fullShare} oC (F := F) d L o) ∗ oM.view.loc (th d L) ↦[rowsSet b e]{fullShare} oC (F := F) d L o) := by
  rw [(rows_split h1 h2).1]
  exact pointsTo_union (rows_split h1 h2).2

/-- A condition checked at run time that holds. -/
theorem assume_step {thr : Thread nD τ} {P : Prop} {dec : Decidable P} (h : P) {Q : PLift P → sProp 𝕄} :
    Q ⟨h⟩ ⊢ wp frame (wpE (defs₀ (F := F)) 𝒱₀ thr none) Set.univ (Prog.lift (TpuEff.assume P dec)) Q := by
  iintro H
  iapply (wp_assume 𝒱₀ thr none Set.univ h (k := .ret))
  rw [wp_ret]
  imodintro; iexact H

/-- A step taken only under a condition, the same result either way: it turns `P` into `R` where the condition holds, and
    where it does not `P` is `R` already. -/
theorem when_step {thr : Thread nD τ} {α : Type} {cnd : Prop} [Decidable cnd] {op : cnd → Prog (TpuEff nD τ sig (Elt F) Λ₀ thr.2) PUnit} {a : α}
    {Q : α → sProp 𝕄} {P R : sProp 𝕄}
    (h1 : ∀ h : cnd, P ⊢ iprop((R -∗ Q a) -∗ wp frame (wpE (defs₀ (F := F)) 𝒱₀ thr none) Set.univ (op h) (fun _ => iprop(|={Set.univ}=> Q a))))
    (h2 : ¬ cnd → P ⊢ R) :
    P ⊢ iprop((R -∗ Q a) -∗ wp frame (wpE (defs₀ (F := F)) 𝒱₀ thr none) Set.univ (if h : cnd then op h >>= fun _ => pure a else pure a) Q) := by
  by_cases h : cnd
  · rw [dif_pos h, wp_bind]
    exact h1 h
  · rw [dif_neg h, wp_pure]
    iintro HP Hk
    imodintro
    iapply Hk
    iapply (h2 h); iexact HP

set_option maxRecDepth 16384 in
set_option maxHeartbeats 4000000 in
/-- Trip `t`, at the words it carries. -/
theorem trip_held (hI : ∀ j, (I j).toNat < 294912) (t : Fin 64) :
    Held (F := F) d c s X I o0 qi qx O W t.val
      ⊢ wp frame (wpE (defs₀ (F := F)) 𝒱₀ (th d (at2 c s)) none) Set.univ
          (k0_t1_body (F := F) (at2 c s) xM (Memref.isWhole_whole _) iM (Memref.isWhole_whole _) oM (Memref.isWhole_whole _)
            iB (Memref.isWhole_whole _) cc0_scoped1 oB (Memref.isWhole_whole _) cc0_scoped3 cc0_scoped4 cc0_scoped5 (v4w (at2 c s)) t (words t))
          (Inv (F := F) d c s X I o0 qi qx O W (t.val + 1)) := by
  rw [Held]
  generalize hQ : Inv (F := F) d c s X I o0 qi qx O W (t.val + 1) = Q
  unfold k0_t1_body words
  simp only [t.isLt, ↓reduceIte, k0_part1_eq_skeleton, k0_part2_eq_skeleton, k0_part3_eq_skeleton, k0_part1_skel, k0_part2_skel, k0_part3_skel, wp_bind, wp_pure,
    ite_self, cond2_at, cond5_at, ↓reduceDIte]
  iintro ⟨#Hmw, Hif, Hii, Hoi, Hof, Hdone, Htodo, Hx, Hs4, Hs5, HO⟩
  iapply (assume_step (F := F) (chk3_at t))
  iapply (assume_step (F := F) (chk2_at t))
  iapply (assume_step (F := F) (chk1_at c s t))
  -- the next block's fetch
  iapply (when_step (F := F) (R := if t.val + 1 < 64 then iFly (F := F) d (at2 c s) I qi (t.val + 1) (blk0 c s + (t.val + 1)) else iIdle (F := F) d (at2 c s) I qi (t.val + 1))
    (h1 := ?h1) (h2 := ?h2)) $$ Hii
  case h1 =>
    intro h
    rw [cond1_at] at h
    have ht : t.val < 63 := by by_contra hn; rw [if_neg hn] at h; exact absurd h (by decide)
    rw [if_pos (show t.val + 1 < 64 by omega)]
    iintro Hi Hk
    iapply (fetch (F := F) (t.val + 1) (blk0 c s + (t.val + 1)) (off4_at ⟨t.val, ht⟩) (off5_at c s ⟨t.val, ht⟩) (iSem_eq _ (off6_at ⟨t.val, ht⟩))) $$ Hi
    iintro Hf
    imodintro
    iapply Hk; iexact Hf
  case h2 =>
    intro h
    rw [cond1_at] at h
    have ht : ¬ t.val < 63 := by intro hn; rw [if_pos hn] at h; exact absurd rfl h
    rw [if_neg (show ¬ t.val + 1 < 64 by omega)]
  iintro Hii
  -- its own block's row numbers
  iapply (fetchWait (F := F) t.val (blk0 c s + t.val) (iSem_eq _ (off9_at t))) $$ [Hif HO]
  · isplitr [Hif HO]; · iexact Hmw
    isplitl [Hif] <;> iassumption
  iintro ⟨Hif, HO⟩
  -- the two column halves
  ihave Hif' := (show iHas (F := F) d (at2 c s) I qi t.val (blk0 c s + t.val) ⊢ iprop((iB.view.loc (th d (at2 c s)) ↦[iSlotSet (t.val % 2)]{fullShare} ibC (F := F) d (at2 c s) (idxC I (blk0 c s + t.val)))
    ∗ semVal (th d (at2 c s), .dma (iSem t.val)) 0 ∗ iM.view.loc (th d (at2 c s)) ↦[Finset.univ]{half qi t.val} iC (F := F) d (at2 c s) I) by rw [iHas]) $$ Hif
  icases Hif' with ⟨Hib, His, Him⟩
  ihave Hoi' := (slot_halves (F := F) d (at2 c s) t.val) $$ Hoi
  icases Hoi' with ⟨Ha, Hb, Hos⟩
  iapply (gather (F := F) (X := X) hI t.val (blk0 c s + t.val) 0 (off10_at t) (off11_at t)) $$ [Ha Hib Hx Hs4]
  · isplitl [Ha]; · iexact Ha
    isplitl [Hib]; · iexact Hib
    isplitl [Hx] <;> iassumption
  iintro Hg
  iapply (gatherWait (F := F) t.val (blk0 c s + t.val) 0) $$ [Hg HO]
  · isplitr [Hg HO]; · iexact Hmw
    isplitl [Hg] <;> iassumption
  iintro ⟨Ha, Hib, Hx, Hs4, HO⟩
  imodintro
  iapply (gather (F := F) (X := X) hI t.val (blk0 c s + t.val) 128 (off10_at t) (off11_at t)) $$ [Hb Hib Hx Hs5]
  · isplitl [Hb]; · iexact Hb
    isplitl [Hib]; · iexact Hib
    isplitl [Hx] <;> iassumption
  iintro Hg
  iapply (gatherWait (F := F) t.val (blk0 c s + t.val) 128) $$ [Hg HO]
  · isplitr [Hg HO]; · iexact Hmw
    isplitl [Hg] <;> iassumption
  iintro ⟨Hb, Hib, Hx, Hs5, HO⟩
  -- the filled slot starts out to its block's rows
  ihave Hslot := (show iprop((oB.view.loc (th d (at2 c s)) ↦[oHalfSet (t.val % 2) 0]{fullShare} obC (F := F) d (at2 c s) (slotC X I (blk0 c s + t.val)))
      ∗ oB.view.loc (th d (at2 c s)) ↦[oHalfSet (t.val % 2) 128]{fullShare} obC (F := F) d (at2 c s) (slotC X I (blk0 c s + t.val)))
      ⊢ (oB.view.loc (th d (at2 c s)) ↦[oSlotSet (t.val % 2)]{fullShare} obC (F := F) d (at2 c s) (slotC X I (blk0 c s + t.val)) : sProp 𝕄) by
    rw [(halves (t.val % 2)).1]; exact (pointsTo_union (halves (t.val % 2)).2).2) $$ [Ha Hb]
  · isplitl [Ha] <;> iassumption
  ihave Hrows := (rows_cut (F := F) d (at2 c s) (o := o0) (a := 128 * (blk0 c s + t.val)) (b := 128 * (blk0 c s + t.val) + 128) (e := 128 * (blk0 c s + 64))
    (by omega) (by have := t.isLt; omega)).1 $$ Htodo
  icases Hrows with ⟨Hrow, Htodo⟩
  iapply (store (F := F) (X := X) (I := I) (o0 := o0) t.val (blk0 c s + t.val) (off12_at t) (off13_at c s t) (oSem_eq _ (off14_at t))) $$ [Hslot Hos Hrow]
  · isplitl [Hslot]; · iexact Hslot
    isplitl [Hos] <;> iassumption
  iintro Hfly
  imodintro
  -- the block before is out
  iapply (when_step (F := F)
    (P := iprop(Transfers.MayWaits (th d (at2 c s)) (default : HIx 1) O
      ∗ (if t.val = 0 then oIdle (F := F) d (at2 c s) (t.val + 1) else oFly (F := F) d (at2 c s) X I (t.val + 1) (blk0 c s + (t.val - 1)))
      ∗ (oM.view.loc (th d (at2 c s)) ↦[rowsSet (128 * blk0 c s) (128 * (blk0 c s + (t.val - 1)))]{fullShare} oC (F := F) d (at2 c s) (outC X I))
      ∗ ow (F := F) d (at2 c s) O W))
    (R := iprop(oIdle (F := F) d (at2 c s) (t.val + 1)
      ∗ (oM.view.loc (th d (at2 c s)) ↦[rowsSet (128 * blk0 c s) (128 * (blk0 c s + t.val))]{fullShare} oC (F := F) d (at2 c s) (outC X I))
      ∗ ow (F := F) d (at2 c s) O W)) (h1 := ?h1) (h2 := ?h2)) $$ [Hof Hdone HO]
  case h1 =>
    intro h
    rw [cond7_at] at h
    have ht : t.val ≠ 0 := by intro hn; rw [if_pos hn] at h; exact absurd h (by decide)
    rw [if_neg ht]
    iintro ⟨#Hmw, Hf, Hd, HO⟩ Hk
    iapply (storeWait (F := F) (t.val + 1) (blk0 c s + (t.val - 1)) (oSem_eq _ (off17_at t ht))) $$ [Hf HO]
    · isplitr [Hf HO]; · iexact Hmw
      isplitl [Hf] <;> iassumption
    iintro ⟨Hf, Hr, HO⟩
    imodintro
    iapply Hk
    isplitl [Hf]; · iexact Hf
    isplitr [HO]
    · have e : 128 * (blk0 c s + (t.val - 1)) + 128 = 128 * (blk0 c s + t.val) := by omega
      rw [← e]
      iapply (rows_cut (F := F) d (at2 c s) (o := outC X I) (a := 128 * blk0 c s) (b := 128 * (blk0 c s + (t.val - 1)))
        (e := 128 * (blk0 c s + (t.val - 1)) + 128) (by omega) (by omega)).2
      isplitl [Hd] <;> iassumption
    · iexact HO
  case h2 =>
    intro h
    rw [cond7_at] at h
    have ht : t.val = 0 := by by_contra hn; rw [if_neg hn] at h; exact absurd rfl h
    rw [if_pos ht, show blk0 c s + (t.val - 1) = blk0 c s + t.val by omega]
    iintro ⟨#Hmw, Hf, Hd, HO⟩
    isplitl [Hf]; · iexact Hf
    isplitl [Hd] <;> iassumption
  · isplitr [Hof Hdone HO]; · iexact Hmw
    isplitl [Hof]; · iexact Hof
    isplitl [Hdone] <;> iassumption
  iintro ⟨Hof, Hdone, HO⟩
  subst hQ
  rw [Inv, Held]
  isplitr
  · ipureintro
    exact words_next c s t
  isplitr; · iexact Hmw
  isplitl [Hii]; · iexact Hii
  isplitl [His Him Hib]
  · rw [show t.val + 1 + 1 = t.val + 2 from rfl, iIdle_add_two]
    unfold iIdle
    isplitl [Hib]; · iexists _; iexact Hib
    isplitl [His] <;> iassumption
  isplitl [Hof]; · iexact Hof
  rw [if_neg (Nat.succ_ne_zero t.val), show t.val + 1 + 1 = t.val + 2 from rfl, oFly_add_two, Nat.add_sub_cancel]
  isplitl [Hfly]; · iexact Hfly
  isplitl [Hdone]; · iexact Hdone
  isplitl [Htodo]
  · rw [show 128 * (blk0 c s + (t.val + 1)) = 128 * (blk0 c s + t.val) + 128 by omega]; iexact Htodo
  isplitl [Hx]; · iexact Hx
  isplitl [Hs4]; · iexact Hs4
  isplitl [Hs5] <;> iassumption

end Cert.Proof.GatherBack

end
-- ==== Proof.BackTile.lean ====
/-
  One vector subcore's task: it starts the first fetch, runs its 64 trips and waits for the last write-out. From shares of
  the table and of the row numbers and its own rows of the result it leaves those rows holding the gathered ones, and its
  slots and semaphores as it found them.
-/
module

public import proofs.«01_k».proof.Proof.BackTrip

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin 2) (s : Fin 16) (X : S294912x256.Idx → BitVec 32) (I : S1x262144.Idx → BitVec 32)
  (o0 : S262144x256.Idx → BitVec 32) (qi qx : PosShare TreeShare) (O : CellTallies nD τ sig (HIx 1)) (W : Waits sig (HIx 1))

section Own

variable (L : grid0.Coords)

omit [FloatOps F] in
theorem cell_mem (sm : DmaSem sig) (h : (SemLoc.dma sm : SemLoc sig).isScoped .scVector = true) :
    ((th d L, .dma sm) : GSem nD τ sig) ∈ ownCells (th d L) := mem_ownCells.mpr ⟨rfl, h⟩
omit [FloatOps F] in
theorem cell_ne {sm sm' : DmaSem sig} (h : sm ≠ sm') : ((th d L, .dma sm) : GSem nD τ sig) ≠ (th d L, .dma sm') := by
  intro e; exact h (SemLoc.dma.inj (Prod.mk.inj e).2)

/-- The cells of the subcore's own semaphores the kernel names. -/
abbrev cell (sm : DmaSem sig) : GSem nD τ sig := (th d L, .dma sm)

omit [FloatOps F] in
/-- The subcore's own semaphores at zero: the six the kernel names, and the rest. -/
theorem own_sems :
    (ownSems0 (th d L) : sProp 𝕄)
      = iprop(semVal (cell d L (iSem 0)) 0 ∗ semVal (cell d L (iSem 1)) 0 ∗ semVal (cell d L (oSem 0)) 0 ∗ semVal (cell d L (oSem 1)) 0
          ∗ semVal (cell d L cc0_scoped4.sem) 0 ∗ semVal (cell d L cc0_scoped5.sem) 0
          ∗ bigSep (((((((ownCells (th d L)).erase (cell d L (iSem 0))).erase (cell d L (iSem 1))).erase (cell d L (oSem 0))).erase (cell d L (oSem 1))).erase
              (cell d L cc0_scoped4.sem)).erase (cell d L cc0_scoped5.sem)) fun g => semVal g 0) := by
  unfold SparseCore.Cfg.ownSems0
  rw [SparseCore.bigSep_erase' (cell_mem d L (iSem 0) (by decide)),
    SparseCore.bigSep_erase' (Finset.mem_erase.mpr ⟨cell_ne d L (sm := iSem 1) (sm' := iSem 0) (by decide), cell_mem d L (iSem 1) (by decide)⟩),
    SparseCore.bigSep_erase' (Finset.mem_erase.mpr ⟨cell_ne d L (sm := oSem 0) (sm' := iSem 1) (by decide),
      Finset.mem_erase.mpr ⟨cell_ne d L (sm := oSem 0) (sm' := iSem 0) (by decide), cell_mem d L (oSem 0) (by decide)⟩⟩),
    SparseCore.bigSep_erase' (Finset.mem_erase.mpr ⟨cell_ne d L (sm := oSem 1) (sm' := oSem 0) (by decide),
      Finset.mem_erase.mpr ⟨cell_ne d L (sm := oSem 1) (sm' := iSem 1) (by decide),
      Finset.mem_erase.mpr ⟨cell_ne d L (sm := oSem 1) (sm' := iSem 0) (by decide), cell_mem d L (oSem 1) (by decide)⟩⟩⟩),
    SparseCore.bigSep_erase' (Finset.mem_erase.mpr ⟨cell_ne d L (sm := cc0_scoped4.sem) (sm' := oSem 1) (by decide),
      Finset.mem_erase.mpr ⟨cell_ne d L (sm := cc0_scoped4.sem) (sm' := oSem 0) (by decide),
      Finset.mem_erase.mpr ⟨cell_ne d L (sm := cc0_scoped4.sem) (sm' := iSem 1) (by decide),
      Finset.mem_erase.mpr ⟨cell_ne d L (sm := cc0_scoped4.sem) (sm' := iSem 0) (by decide), cell_mem d L cc0_scoped4.sem (by decide)⟩⟩⟩⟩),
    SparseCore.bigSep_erase' (Finset.mem_erase.mpr ⟨cell_ne d L (sm := cc0_scoped5.sem) (sm' := cc0_scoped4.sem) (by decide),
      Finset.mem_erase.mpr ⟨cell_ne d L (sm := cc0_scoped5.sem) (sm' := oSem 1) (by decide),
      Finset.mem_erase.mpr ⟨cell_ne d L (sm := cc0_scoped5.sem) (sm' := oSem 0) (by decide),
      Finset.mem_erase.mpr ⟨cell_ne d L (sm := cc0_scoped5.sem) (sm' := iSem 1) (by decide),
      Finset.mem_erase.mpr ⟨cell_ne d L (sm := cc0_scoped5.sem) (sm' := iSem 0) (by decide), cell_mem d L cc0_scoped5.sem (by decide)⟩⟩⟩⟩⟩)]

omit [FloatOps F] in
/-- The subcore's own buffers: the two slot pairs, at some contents, and the rest. -/
theorem own_bufs :
    (ownBufs (th d L) : sProp 𝕄)
      = iprop((∃ f, iB.view.loc (th d L) ↦[Finset.univ]{fullShare} f) ∗ (∃ f, oB.view.loc (th d L) ↦[Finset.univ]{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

/-- Trip `t`, at whatever words it is given. -/
theorem trip (hI : ∀ j, (I j).toNat < 294912) (t : Fin 64) (acc : BitVec 32 × BitVec 32 × BitVec 32 × BitVec 32 × BitVec 32) :
    Inv (F := F) d c s X I o0 qi qx O W t.val acc
      ⊢ wp frame (wpE (defs₀ (F := F)) 𝒱₀ (th d (at2 c s)) none) Set.univ
          (k0_t1_body (F := F) (at2 c s) xM (Memref.isWhole_whole _) iM (Memref.isWhole_whole _) oM (Memref.isWhole_whole _)
            iB (Memref.isWhole_whole _) cc0_scoped1 oB (Memref.isWhole_whole _) cc0_scoped3 cc0_scoped4 cc0_scoped5 (v4w (at2 c s)) t acc)
          (Inv (F := F) d c s X I o0 qi qx O W (t.val + 1)) := by
  rw [Inv]
  iintro ⟨%h, H⟩
  subst h
  iapply (trip_held (F := F) d c s X I o0 qi qx O W hI t); iexact H

section Slots

variable (L : grid0.Coords)

/-- A share of the row numbers is its two halves. -/
theorem share_halves :
    (iM.view.loc (th d L) ↦[Finset.univ]{qi} iC (F := F) d L I : sProp 𝕄)
      = iprop((iM.view.loc (th d L) ↦[Finset.univ]{half qi 0} iC (F := F) d L I) ∗ iM.view.loc (th d L) ↦[Finset.univ]{half qi 1} iC (F := F) d L I) := by
  rw [pointsTo_piecesOf (ℓ := iM.view.loc (th d L)) Finset.univ (iC (F := F) d L I) (o := 2) (by decide) qi, bigSep_univ_succ,
    bigSep_univ_of_subsingleton (0 : Fin 1)]
  rfl

/-- The row-number slots at rest, from the buffer, the semaphores and the share of the row numbers, -/
theorem i_open :
    iprop((∃ f, iB.view.loc (th d L) ↦[Finset.univ]{fullShare} f) ∗ semVal (cell d L (iSem 0)) 0 ∗ semVal (cell d L (iSem 1)) 0
        ∗ (iM.view.loc (th d L) ↦[Finset.univ]{qi} iC (F := F) d L I))
      ⊢ iprop(iIdle (F := F) d L I qi 0 ∗ iIdle (F := F) d L I qi 1) := by
  unfold iIdle
  iintro ⟨⟨%f, H⟩, H0, H1, Hi⟩
  ihave Hs := (show (iB.view.loc (th d L) ↦[Finset.univ]{fullShare} f : sProp 𝕄)
      ⊢ iprop((iB.view.loc (th d L) ↦[iSlotSet 0]{fullShare} f) ∗ iB.view.loc (th d L) ↦[iSlotSet 1]{fullShare} f) by
    rw [show (Finset.univ : Finset (Idx (iB.view.loc (th d L)))) = iSlotSet 0 ∪ iSlotSet 1 from iSlots.1]
    exact (pointsTo_union (q := fullShare) (f := f) iSlots.2).1) $$ H
  icases Hs with ⟨Ha, Hb⟩
  ihave Hq := (Entails.of_eq (share_halves (F := F) d I qi L)) $$ Hi
  icases Hq with ⟨Hq0, Hq1⟩
  isplitl [Ha H0 Hq0]
  · isplitl [Ha]; · iexists f; iexact Ha
    isplitl [H0]; · iexact H0
    iexact Hq0
  · isplitl [Hb]; · iexists f; iexact Hb
    isplitl [H1]; · iexact H1
    iexact Hq1

/-- and back. -/
theorem i_close :
    iprop(iIdle (F := F) d L I qi 0 ∗ iIdle (F := F) d L I qi 1)
      ⊢ iprop((∃ f, iB.view.loc (th d L) ↦[Finset.univ]{fullShare} f) ∗ semVal (cell d L (iSem 0)) 0 ∗ semVal (cell d L (iSem 1)) 0
        ∗ (iM.view.loc (th d L) ↦[Finset.univ]{qi} iC (F := F) d L I)) := by
  unfold iIdle
  iintro ⟨⟨⟨%f, Ha⟩, H0, Hq0⟩, ⟨⟨%g, Hb⟩, H1, Hq1⟩⟩
  isplitl [Ha Hb]
  · iexists ((iSlotSet 1).piecewise g f)
    rw [show (Finset.univ : Finset (Idx (iB.view.loc (th d L)))) = iSlotSet 0 ∪ iSlotSet 1 from iSlots.1]
    iapply (pointsTo_join (q := fullShare) (f := f) (g := g) iSlots.2)
    isplitl [Ha]; · iexact Ha
    iexact Hb
  isplitl [H0]; · iexact H0
  isplitl [H1]; · iexact H1
  iapply (Entails.of_eq (share_halves (F := F) d I qi L).symm)
  isplitl [Hq0]; · iexact Hq0
  iexact Hq1

/-- The row slots at rest, from the buffer and the semaphores, -/
theorem o_open :
    iprop((∃ f, oB.view.loc (th d L) ↦[Finset.univ]{fullShare} f) ∗ semVal (cell d L (oSem 0)) 0 ∗ semVal (cell d L (oSem 1)) 0)
      ⊢ iprop(oIdle (F := F) d L 0 ∗ oIdle (F := F) d L 1) := by
  unfold oIdle
  iintro ⟨⟨%f, H⟩, H0, H1⟩
  ihave Hs := (show (oB.view.loc (th d L) ↦[Finset.univ]{fullShare} f : sProp 𝕄)
      ⊢ iprop((oB.view.loc (th d L) ↦[oSlotSet 0]{fullShare} f) ∗ oB.view.loc (th d L) ↦[oSlotSet 1]{fullShare} f) by
    rw [show (Finset.univ : Finset (Idx (oB.view.loc (th d L)))) = oSlotSet 0 ∪ oSlotSet 1 from oSlots.1]
    exact (pointsTo_union (q := fullShare) (f := f) oSlots.2).1) $$ H
  icases Hs with ⟨Ha, Hb⟩
  isplitl [Ha H0]
  · isplitl [Ha]; · iexists f; iexact Ha
    iexact H0
  · isplitl [Hb]; · iexists f; iexact Hb
    iexact H1

/-- and back. -/
theorem o_close :
    iprop(oIdle (F := F) d L 0 ∗ oIdle (F := F) d L 1)
      ⊢ iprop((∃ f, oB.view.loc (th d L) ↦[Finset.univ]{fullShare} f) ∗ semVal (cell d L (oSem 0)) 0 ∗ semVal (cell d L (oSem 1)) 0) := by
  unfold oIdle
  iintro ⟨⟨⟨%f, Ha⟩, H0⟩, ⟨⟨%g, Hb⟩, H1⟩⟩
  isplitl [Ha Hb]
  · iexists ((oSlotSet 1).piecewise g f)
    rw [show (Finset.univ : Finset (Idx (oB.view.loc (th d L)))) = oSlotSet 0 ∪ oSlotSet 1 from oSlots.1]
    iapply (pointsTo_join (q := fullShare) (f := f) (g := g) oSlots.2)
    isplitl [Ha]; · iexact Ha
    iexact Hb
  isplitl [H0]; · iexact H0
  iexact H1

end Slots

/-- Behind the last trip both row-number slots are at rest, one row slot is, and the other is on its way to the last block. -/
theorem held_end {n : ℕ} (hn : n = 64) (acc : BitVec 32 × BitVec 32 × BitVec 32 × BitVec 32 × BitVec 32) :
    Inv (F := F) d c s X I o0 qi qx O W n acc
      ⊢ iprop(⌜acc = words 64⌝ ∗ iIdle (F := F) d (at2 c s) I qi 0 ∗ iIdle (F := F) d (at2 c s) I qi 1 ∗ oIdle (F := F) d (at2 c s) 0
        ∗ oFly (F := F) d (at2 c s) X I 65 (blk0 c s + 63)
        ∗ (oM.view.loc (th d (at2 c s)) ↦[rowsSet (128 * blk0 c s) (128 * (blk0 c s + 63))]{fullShare} oC (F := F) d (at2 c s) (outC X I))
        ∗ (xM.view.loc (th d (at2 c s)) ↦[Finset.univ]{qx} xC (F := F) d (at2 c s) X)
        ∗ semVal (cell d (at2 c s) cc0_scoped4.sem) 0 ∗ semVal (cell d (at2 c s) cc0_scoped5.sem) 0
        ∗ ow (F := F) d (at2 c s) O W) := by
  subst hn
  have e0 : iIdle (F := F) d (at2 c s) I qi 64 = iIdle (F := F) d (at2 c s) I qi 0 := rfl
  have e1 : iIdle (F := F) d (at2 c s) I qi (64 + 1) = iIdle (F := F) d (at2 c s) I qi 1 := rfl
  have e2 : oIdle (F := F) d (at2 c s) 64 = oIdle (F := F) d (at2 c s) 0 := rfl
  rw [Inv, Held, if_neg (show ¬ 64 < 64 by omega), if_neg (show ¬ 64 = 0 by omega), e0, e1, e2]
  iintro ⟨%h, -, Hi0, Hi1, Ho0, Hf, Hd, -, Hx, Hs4, Hs5, HO⟩
  isplitr; · ipureintro; exact h
  isplitl [Hi0]; · iexact Hi0
  isplitl [Hi1]; · iexact Hi1
  isplitl [Ho0]; · iexact Ho0
  isplitl [Hf]; · iexact Hf
  isplitl [Hd]; · iexact Hd
  isplitl [Hx]; · iexact Hx
  isplitl [Hs4]; · iexact Hs4
  isplitl [Hs5] <;> iassumption

set_option maxRecDepth 16384 in
set_option maxHeartbeats 4000000 in
/-- The task of subcore `(c, s)` on device `d`: its rows of the result hold what the row numbers name. -/
theorem tile (hF : (K (F := F)).Facts) (hI : ∀ j, (I j).toNat < 294912) (hO : ∀ g, O g none = 0) :
    iprop((levAts (K (F := F)).L (K (F := F)).lev : sProp 𝕄) ∗ emp
        ∗ ((xLoc d ↦{qx} (X : Buf (Elt F) (xLoc d))) ∗ (iLoc d ↦{qi} (I : Buf (Elt F) (iLoc d)))
          ∗ oLoc d ↦[rowsSet (128 * blk0 c s) (128 * (blk0 c s + 64))]{fullShare} (o0 : Buf (Elt F) (oLoc d)))
        ∗ scopedBufs (th d (at2 c s)) ∗ scopedSems0 (th d (at2 c s)) ∗ owes (th d (at2 c s)) O W)
      ⊢ wp frame (wpE (defs₀ (F := F)) 𝒱₀ (th d (at2 c s)) none) Set.univ
          (cc0_gather_kernel (at2 c s) xM (Memref.isWhole_whole _) iM (Memref.isWhole_whole _) oM (Memref.isWhole_whole _)
            iB (Memref.isWhole_whole _) cc0_scoped1 oB (Memref.isWhole_whole _) cc0_scoped3 cc0_scoped4 cc0_scoped5)
          fun _ => iprop(((xLoc d ↦{qx} (X : Buf (Elt F) (xLoc d))) ∗ (iLoc d ↦{qi} (I : Buf (Elt F) (iLoc d)))
              ∗ oLoc d ↦[rowsSet (128 * blk0 c s) (128 * (blk0 c s + 64))]{fullShare} (outC X I : Buf (Elt F) (oLoc d)))
            ∗ scopedBufs (th d (at2 c s)) ∗ scopedSems0 (th d (at2 c s))
            ∗ ∃ W', ⌜∀ p ∈ W', p ∈ W ∨ p.2 = none⌝ ∗ owes (th d (at2 c s)) O W') := by
  simp only [cc0_gather_kernel_eq_skeleton, cc0_gather_kernel_skel, k0_part4_eq_skeleton, k0_part4_skel, k0_part5_eq_skeleton, k0_part5_skel, wp_bind, wp_pure]
  rw [(K (F := F)).scopedBufs_V hF d (cV (at2 c s)) (jV (at2 c s)), SparseCore.Cfg.scopedSems0_V (Val := Elt F) d (cV (at2 c s)) (jV (at2 c s)), own_sems, own_bufs]
  iintro ⟨#Hlv, -, ⟨Hx, Hi, Ho⟩, ⟨Hib, Hob, Hbufs⟩, ⟨Hi0, Hi1, Ho0, Ho1, Hs4, Hs5, Hsems⟩, HO⟩
  ihave Hmw := (show (levAts (K (F := F)).L (K (F := F)).lev : sProp 𝕄) ⊢ Transfers.MayWaits (th d (at2 c s)) (default : HIx 1) O from
    (K (F := F)).mayWaits_none (thr := th d (at2 c s)) hO) $$ Hlv
  ihave Hi' := (i_open (F := F) d I qi (at2 c s)) $$ [Hib Hi0 Hi1 Hi]
  · isplitl [Hib]; · iexact Hib
    isplitl [Hi0]; · iexact Hi0
    isplitl [Hi1]; · iexact Hi1
    iexact Hi
  icases Hi' with ⟨Hi0, Hi1⟩
  ihave Ho' := (o_open (F := F) d (at2 c s)) $$ [Hob Ho0 Ho1]
  · isplitl [Hob]; · iexact Hob
    isplitl [Ho0]; · iexact Ho0
    iexact Ho1
  icases Ho' with ⟨Ho0, Ho1⟩
  -- the first fetch
  iapply (fetch (F := F) (L := at2 c s) (I := I) (q := qi) 0 (blk0 c s + 0) k0_off1_eq (off2_at c s) (iSem_eq _ k0_off3_eq)) $$ Hi0
  iintro Hf
  imodintro
  -- the trips
  iapply (Scf.wp_for frame (wpE (defs₀ (F := F)) 𝒱₀ (th d (at2 c s)) none) Set.univ _ _ _ k0_t1_ok _ _ (Inv (F := F) d c s X I o0 qi qx O W)
    (fun k acc => trip (F := F) d c s X I o0 qi qx O W hI k acc))
  isplitl [Hf Hi1 Ho0 Ho1 Ho Hx Hs4 Hs5 HO]
  · rw [Inv, Held, if_pos (show 0 < 64 by omega), if_pos (rfl : 0 = 0)]
    isplitr; · ipureintro; exact words_zero
    isplitr; · iexact Hmw
    isplitl [Hf]; · iexact Hf
    isplitl [Hi1]; · iexact Hi1
    isplitl [Ho0]; · iexact Ho0
    isplitl [Ho1]; · iexact Ho1
    isplitr [Ho Hx Hs4 Hs5 HO]
    · rw [show blk0 c s + (0 - 1) = blk0 c s by omega, rows_empty, pointsTo_empty]; iempintro
    isplitl [Ho]; · iexact Ho
    isplitl [Hx]; · iexact Hx
    isplitl [Hs4]; · iexact Hs4
    isplitl [Hs5]; · iexact Hs5
    unfold ow
    iexists W
    isplitr
    · ipureintro; exact fun p hp => .inl hp
    · iexact HO
  iintro %acc HI
  ihave HI' := (held_end (F := F) d c s X I o0 qi qx O W trips_eq acc) $$ HI
  icases HI' with ⟨%hacc, Hi0, Hi1, Ho0, Hfly, Hdone, Hx, Hs4, Hs5, HO⟩
  subst hacc
  iapply (assume_step (F := F) (chk5_at c s))
  iapply (assume_step (F := F) chk4_at)
  imodintro
  -- the last write-out
  iapply (storeWait (F := F) 65 (blk0 c s + 63) (oSem_eq _ off20_at)) $$ [Hfly HO]
  · isplitr [Hfly HO]; · iexact Hmw
    isplitl [Hfly] <;> iassumption
  iintro ⟨Ho1, Hlast, HO⟩
  imodintro
  ihave Hi := (i_close (F := F) d I qi (at2 c s)) $$ [Hi0 Hi1]
  · isplitl [Hi0] <;> iassumption
  icases Hi with ⟨Hib, Hi0, Hi1, Hi⟩
  ihave Ho := (o_close (F := F) d (at2 c s)) $$ [Ho0 Ho1]
  · isplitl [Ho0]; · iexact Ho0
    iexact Ho1
  icases Ho with ⟨Hob, Ho0, Ho1⟩
  isplitl [Hx Hi Hdone Hlast]
  · isplitl [Hx]; · iexact Hx
    isplitl [Hi]; · iexact Hi
    rw [show 128 * (blk0 c s + 64) = 128 * (blk0 c s + 63) + 128 by omega]
    iapply (rows_cut (F := F) d (at2 c s) (o := outC X I) (a := 128 * blk0 c s) (b := 128 * (blk0 c s + 63))
      (e := 128 * (blk0 c s + 63) + 128) (by omega) (by omega)).2
    isplitl [Hdone] <;> iassumption
  isplitl [Hib Hob Hbufs]
  · isplitl [Hib]; · iexact Hib
    isplitl [Hob]; · iexact Hob
    iexact Hbufs
  isplitl [Hi0 Hi1 Ho0 Ho1 Hs4 Hs5 Hsems]
  · isplitl [Hi0]; · iexact Hi0
    isplitl [Hi1]; · iexact Hi1
    isplitl [Ho0]; · iexact Ho0
    isplitl [Ho1]; · iexact Ho1
    isplitl [Hs4]; · iexact Hs4
    isplitl [Hs5]; · iexact Hs5
    iexact Hsems
  unfold ow
  iexact HO

end Cert.Proof.GatherBack

end
-- ==== Proof.BackShares.lean ====
/-
  How the three arrays of the gather are dealt out: the table and the row numbers in shares, the result in blocks of rows, first
  to the two SparseCores and then to each one's sixteen vector subcores.
-/
module

public import proofs.«01_k».proof.Proof.BackSetup

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- SparseCore `c`'s share of an array both read, and subcore `s`'s share of that. -/
def coreQ (c : Fin 2) : PosShare TreeShare := pieceOf fullShare 2 (by decide) c
def taskQ (c : Fin 2) (s : Fin 16) : PosShare TreeShare := pieceOf (coreQ c) 16 (by decide) s

/-- The result's rows SparseCore `c` writes, and those of its subcore `s`. -/
def coreRows (c : Fin 2) : Finset S262144x256.Idx := rowsSet (8192 * (16 * c.val)) (8192 * (16 * c.val + 16))
def taskRows (c : Fin 2) (s : Fin 16) : Finset S262144x256.Idx := rowsSet (128 * blk0 c s) (128 * (blk0 c s + 64))

theorem mem_coreRows (c : Fin 2) (y : S262144x256.Idx) : y ∈ coreRows c ↔ (y 0).val / 131072 = c.val := by
  have : (y 0).val < 262144 := (y 0).isLt
  simp only [coreRows, rowsSet, Finset.mem_filter, Finset.mem_univ, true_and]; omega
theorem mem_taskRows (c : Fin 2) (s : Fin 16) (y : S262144x256.Idx) : y ∈ taskRows c s ↔ (y 0).val / 8192 = 16 * c.val + s.val := by
  have : (y 0).val < 262144 := (y 0).isLt
  simp only [taskRows, rowsSet, Finset.mem_filter, Finset.mem_univ, true_and]
  unfold blk0
  omega

theorem coreRows_disjoint : ∀ c ∈ (Finset.univ : Finset (Fin 2)), ∀ c' ∈ (Finset.univ : Finset (Fin 2)), c ≠ c' → Disjoint (coreRows c) (coreRows c') := by
  intro c _ c' _ h
  rw [Finset.disjoint_left]; intro y hy hy'
  rw [mem_coreRows] at hy hy'
  exact h (Fin.ext (hy.symm.trans hy'))
theorem coreRows_cover : (Finset.univ : Finset (Fin 2)).biUnion coreRows = Finset.univ := by
  ext y
  have : (y 0).val < 262144 := (y 0).isLt
  simp only [Finset.mem_biUnion, Finset.mem_univ, true_and, mem_coreRows, iff_true]
  exact ⟨⟨(y 0).val / 131072, by omega⟩, rfl⟩
theorem taskRows_disjoint (c : Fin 2) :
    ∀ s ∈ (Finset.univ : Finset (Fin 16)), ∀ s' ∈ (Finset.univ : Finset (Fin 16)), s ≠ s' → Disjoint (taskRows c s) (taskRows c s') := by
  intro s _ s' _ h
  rw [Finset.disjoint_left]; intro y hy hy'
  rw [mem_taskRows] at hy hy'
  exact h (Fin.ext (by omega))
theorem taskRows_cover (c : Fin 2) : (Finset.univ : Finset (Fin 16)).biUnion (taskRows c) = coreRows c := by
  ext y
  have : (y 0).val < 262144 := (y 0).isLt
  simp only [Finset.mem_biUnion, Finset.mem_univ, true_and, mem_coreRows, mem_taskRows]
  constructor
  · rintro ⟨s, hs⟩; have := s.isLt; omega
  · intro h; exact ⟨⟨(y 0).val / 8192 - 16 * c.val, by omega⟩, by show _ = 16 * c.val + ((y 0).val / 8192 - 16 * c.val); omega⟩

variable (d : Dev nD) (X : S294912x256.Idx → BitVec 32) (I : S1x262144.Idx → BitVec 32) (o : S262144x256.Idx → BitVec 32)

/-- The three arrays whole. -/
abbrev wholeP : sProp 𝕄 :=
  iprop((xLoc d ↦{fullShare} (X : Buf (Elt F) (xLoc d))) ∗ (iLoc d ↦{fullShare} (I : Buf (Elt F) (iLoc d))) ∗ (oLoc d ↦{fullShare} (o : Buf (Elt F) (oLoc d))))
/-- SparseCore `c`'s part of them. -/
abbrev coreP (c : Fin 2) : sProp 𝕄 :=
  iprop((xLoc d ↦{coreQ c} (X : Buf (Elt F) (xLoc d))) ∗ (iLoc d ↦{coreQ c} (I : Buf (Elt F) (iLoc d))) ∗ oLoc d ↦[coreRows c]{fullShare} (o : Buf (Elt F) (oLoc d)))
/-- Subcore `s`'s part of that. -/
abbrev taskP (c : Fin 2) (s : Fin 16) : sProp 𝕄 :=
  iprop((xLoc d ↦{taskQ c s} (X : Buf (Elt F) (xLoc d))) ∗ (iLoc d ↦{taskQ c s} (I : Buf (Elt F) (iLoc d)))
    ∗ oLoc d ↦[taskRows c s]{fullShare} (o : Buf (Elt F) (oLoc d)))

/-- The arrays whole are the two SparseCores' parts. -/
theorem wholeP_eq : (wholeP d X I o : sProp 𝕄) = bigSep Finset.univ fun c : Fin 2 => coreP d X I o c := by
  rw [bigSep_sep', bigSep_sep']
  unfold coreQ
  rw [← pointsTo_piecesOf, ← pointsTo_piecesOf, ← pointsTo_biUnion Finset.univ (ℓ := oLoc d) coreRows coreRows_disjoint, coreRows_cover]

/-- A SparseCore's part is its sixteen subcores' parts. -/
theorem coreP_eq (c : Fin 2) : (coreP d X I o c : sProp 𝕄) = bigSep Finset.univ fun s : Fin 16 => taskP d X I o c s := by
  rw [bigSep_sep', bigSep_sep']
  unfold taskQ
  rw [← pointsTo_piecesOf, ← pointsTo_piecesOf, ← pointsTo_biUnion Finset.univ (ℓ := oLoc d) (taskRows c) (taskRows_disjoint c), taskRows_cover]

end Cert.Proof.GatherBack

end
-- ==== Proof.BackLaunch.lean ====
/-
  The gather's launch: what the TensorCore hands each SparseCore and each SparseCore its subcores, every subcore's obligation
  from `tile`, the host operations before and after the call, and the run of the whole program.
-/
module

public import proofs.«01_k».proof.Proof.BackTile
public import proofs.«01_k».proof.Proof.BackShares
public import Idealize.ShloMosaic.Lib.Pipeline.Frame

@[expose] public section

noncomputable section

namespace Cert.Proof.GatherBack

open Cert.Kernel10Ideal Cert.Kernel10Ideal.Gen
open Idealize.ShloMosaic
open Idealize.ShloMosaic.SparseCore (S V T)
open Idealize.ShloMosaic.SparseCore.Cfg (HIx Pay)
open Idealize.ShloMosaic.StableHlo (held held_sub_split held_congr wp_hlo_within wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Call

variable (X : Dev nD → S294912x256.Idx → BitVec 32) (I : Dev nD → S1x262144.Idx → BitVec 32) (o0 : Dev nD → S262144x256.Idx → BitVec 32)

/-- What the handshakes carry: parts of the three arrays on the way in, the same parts back with the result's rows gathered. -/
def P : (K (F := F)).Pay (nD := nD) (Val := Elt F) (Name := ℕ) (U := UU) where
  st := fun q d c => match q with | 0 => coreP d (X d) (I d) (o0 d) (Fin.cast nCore_zero c)
  dn := fun q d c => match q with | 0 => coreP d (X d) (I d) (outC (X d) (I d)) (Fin.cast nCore_zero c)
  go := fun q d c i => match q with | 0 => taskP d (X d) (I d) (o0 d) (Fin.cast nCore_zero c) (Fin.cast nSub_zero i)
  td := fun q d c i => match q with | 0 => taskP d (X d) (I d) (outC (X d) (I d)) (Fin.cast nCore_zero c) (Fin.cast nSub_zero i)
  x := fun _ _ => iprop(emp)

instance P_storable : (P (F := F) X I o0).IsStorable where
  st q d c := match q with
    | 0 => (inferInstance : BI.Storable (upEmb : UEmb _ 𝕄) (coreP d (X d) (I d) (o0 d) (Fin.cast nCore_zero c)))
  dn q d c := match q with
    | 0 => (inferInstance : BI.Storable (upEmb : UEmb _ 𝕄) (coreP d (X d) (I d) (outC (X d) (I d)) (Fin.cast nCore_zero c)))
  go q d c i := match q with
    | 0 => (inferInstance : BI.Storable (upEmb : UEmb _ 𝕄) (taskP d (X d) (I d) (o0 d) (Fin.cast nCore_zero c) (Fin.cast nSub_zero i)))
  td q d c i := match q with
    | 0 => (inferInstance : BI.Storable (upEmb : UEmb _ 𝕄) (taskP d (X d) (I d) (outC (X d) (I d)) (Fin.cast nCore_zero c) (Fin.cast nSub_zero i)))

/-- The launch calls the kernel on subcore `s` of SparseCore `c` at those grid coordinates. -/
theorem defs₀_at (c : Fin τ.nSC) (s : Fin τ.nSub) :
    defs₀ (F := F) (.scVector c s) 0 ()
      = SparseCore.onTile hcore0 hsub0 (fun c s => cc0_gather_kernel (at2 c s) xM (Memref.isWhole_whole _) iM (Memref.isWhole_whole _) oM (Memref.isWhole_whole _)
            iB (Memref.isWhole_whole _) cc0_scoped1 oB (Memref.isWhole_whole _) cc0_scoped3 cc0_scoped4 cc0_scoped5) ⟨⟩ c s := rfl

/-- A task's waits, all on its own transfers, are among those the launch allows. -/
theorem waits_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

set_option maxRecDepth 16384 in
/-- Every subcore's task runs: it gathers its rows. -/
theorem tileObl (hI : ∀ d j, (I d j).toNat < 294912) : (K (F := F)).TileObl (D (F := F)) 𝒱 (P X I o0) v₀ 0 := by
  intro d c i O W hO _ _
  simp only [show (P (F := F) X I o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_at]; simp only [SparseCore.onTile, hci, and_self, ↓reduceDIte]
  exact (tile d (Fin.cast nCore_zero c) (Fin.cast nSub_zero i) (X d) (I d) (o0 d) _ _ O W facts (hI d) hO).trans (wp_mono frame _ _ fun _ => waits_post)

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem cores_eq (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part goes to its sixteen subcores and comes back from them. -/
theorem vecSplit : (K (F := F)).VecSplit' (P X I o0) 0 := by
  intro d c
  show coreP d (X d) (I d) (o0 d) (Fin.cast nCore_zero c) ⊢ |={Set.univ}=> iprop(
      (bigSep Finset.univ fun i : Fin ((K (F := F)).nSub 0) => taskP d (X d) (I d) (o0 d) (Fin.cast nCore_zero c) (Fin.cast nSub_zero i))
      ∗ ((bigSep Finset.univ fun i : Fin ((K (F := F)).nSub 0) => taskP d (X d) (I d) (outC (X d) (I d)) (Fin.cast nCore_zero c) (Fin.cast nSub_zero i))
          -∗ coreP d (X d) (I d) (outC (X d) (I d)) (Fin.cast nCore_zero c)))
  rw [tasks_eq (F := F) (fun i => taskP d (X d) (I d) (o0 d) (Fin.cast nCore_zero c) i),
    tasks_eq (F := F) (fun i => taskP d (X d) (I d) (outC (X d) (I d)) (Fin.cast nCore_zero c) i), ← coreP_eq, ← coreP_eq]
  iintro H; imodintro
  isplitl [H]; · iexact H
  iintro H; iexact H

/-- The call takes the three arrays whole and gives them back with the result gathered. -/
theorem st_eq (d : Dev nD) : (bigSep Finset.univ fun c : Fin ((K (F := F)).nCore 0) => (P (F := F) X I o0).st 0 d c) = wholeP d (X d) (I d) (o0 d) :=
  (cores_eq (F := F) fun c => coreP d (X d) (I d) (o0 d) c).trans (wholeP_eq d (X d) (I d) (o0 d)).symm
theorem dn_eq (d : Dev nD) :
    (bigSep Finset.univ fun c : Fin ((K (F := F)).nCore 0) => (P (F := F) X I o0).dn 0 d c) = wholeP d (X d) (I d) (outC (X d) (I d)) :=
  (cores_eq (F := F) fun c => coreP d (X d) (I d) (outC (X d) (I d)) c).trans (wholeP_eq d (X d) (I d) (outC (X d) (I d))).symm

/-- The launch's ghost state: the handshakes' rounds, no counter. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X I o0).x q thr) := by
  have hemp : (bigSep Finset.univ fun thr : Thread nD τ => bigSep Finset.univ fun q : Fin 1 => (P (F := F) X I o0).x q thr) = (iprop(emp) : sProp 𝕄) :=
    (bigSep_congr fun _ _ => bigSep_univ_of_subsingleton (0 : Fin 1)).trans (bigSep_emp_const _)
  have hemp' : (bigSep Finset.univ fun _ : Dev nD => iprop(emp)) = (iprop(emp) : sProp 𝕄) := bigSep_emp_const _
  rw [hemp, hemp']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Call

/-! ## The program on the TensorCore -/

variable (m : (ℓ : Loc nD τ sig) → Buf (Elt F) ℓ) (ρ : Dev nD → PrngReg)

/-- The host operations before the call: the row numbers, and the two arrays flattened. -/
abbrev pre : List (HloOp τ sig (Elt F)) :=
  [ StableHlo.nullary main_v0 (iotaInDim S4 32 0),
    StableHlo.unary main_v0 main_v1 (broadcastInDim S4x1 ![0] bcast_S4_S4x1_0 : (⟨S4, .i32⟩ : BufTy).Contents (Elt F) → (⟨S4x1, .i32⟩ : BufTy).Contents (Elt F)),
    StableHlo.nullary main_c (constantI S_ 32 73728#32),
    StableHlo.unary main_c main_v2 (broadcastInDim S4x1 ![] bcast_S_S4x1 : (⟨S_, .i32⟩ : BufTy).Contents (Elt F) → (⟨S4x1, .i32⟩ : BufTy).Contents (Elt F)),
    StableHlo.binary main_v1 main_v2 main_v3 (muli : (⟨S4x1, .i32⟩ : BufTy).Contents (Elt F) → (⟨S4x1, .i32⟩ : BufTy).Contents (Elt F) → (⟨S4x1, .i32⟩ : BufTy).Contents (Elt F)),
    StableHlo.unary main_arg1 main_v4 (broadcastInDim S1x65536 ![1] bcast_S65536_S1x65536_1 : (⟨S65536, .i32⟩ : BufTy).Contents (Elt F) → (⟨S1x65536, .i32⟩ : BufTy).Contents (Elt F)),
    StableHlo.unary main_v3 main_v5 (broadcastInDim S4x65536 ![0, 1] bcast_S4x1_S4x65536_0_1 : (⟨S4x1, .i32⟩ : BufTy).Contents (Elt F) → (⟨S4x65536, .i32⟩ : BufTy).Contents (Elt F)),
    StableHlo.unary main_v4 main_v6 (broadcastInDim S4x65536 ![0, 1] bcast_S1x65536_S4x65536_0_1 : (⟨S1x65536, .i32⟩ : BufTy).Contents (Elt F) → (⟨S4x65536, .i32⟩ : BufTy).Contents (Elt F)),
    StableHlo.binary main_v5 main_v6 main_v7 (addi : (⟨S4x65536, .i32⟩ : BufTy).Contents (Elt F) → (⟨S4x65536, .i32⟩ : BufTy).Contents (Elt F) → (⟨S4x65536, .i32⟩ : BufTy).Contents (Elt F)),
    StableHlo.reshape main_v7 main_v8 (rfl : (.i32 : EltTy) = .i32) shapeCasts_S4x65536_S262144,
    StableHlo.reshape main_arg0 main_v9 (rfl : (.i32 : EltTy) = .i32) shapeCasts_S4x73728x256_S294912x256,
    StableHlo.reshape main_v8 main_v10 (rfl : (.i32 : EltTy) = .i32) shapeCasts_S262144_S1x262144 ]

/-- The operation after it: the result's rows back in planes. -/
abbrev opOut : HloOp τ sig (Elt F) := StableHlo.reshape main_v11 main_v12 (rfl : (.i32 : EltTy) = .i32) shapeCasts_S262144x256_S4x65536x256

/-- The program is those operations, the call and the last operation. -/
theorem main_eq (d : Dev nD) : main (F := F) d = seq pre >>= fun _ => (K (F := F)).run d 0 >>= fun _ => seq [opOut] := rfl

/-- The references the program names. -/
abbrev a0' : DevRef τ sig := Proc.devRef .tc main_arg0
abbrev a1' : DevRef τ sig := Proc.devRef .tc main_arg1
abbrev x' : DevRef τ sig := Proc.devRef .tc main_v9
abbrev i' : DevRef τ sig := Proc.devRef .tc main_v10
abbrev o' : DevRef τ sig := Proc.devRef .tc main_v11
abbrev r' : DevRef τ sig := Proc.devRef .tc main_v12

/-- The buffers at the launch, and when the call starts. -/
def V0 (d : Dev nD) : Valuation τ sig (Elt F) := fun b => m (d, b)
def V1 (d : Dev nD) : Valuation τ sig (Elt F) := after pre (V0 m d)

/-- The call's table and row numbers, and what its result holds before. -/
def Xv (d : Dev nD) : S294912x256.Idx → BitVec 32 := V1 m d x'
def Iv (d : Dev nD) : S1x262144.Idx → BitVec 32 := V1 m d i'
def Ov (d : Dev nD) : S262144x256.Idx → BitVec 32 := V1 m d o'

/-- The buffers when the call ends, and at the end of the program. -/
def V2 (d : Dev nD) : Valuation τ sig (Elt F) := Function.update (V1 m d) o' (outC (Xv m d) (Iv m d) : Buf (Elt F) (oLoc d))
def V3 (d : Dev nD) : Valuation τ sig (Elt F) := after [opOut] (V2 m d)

abbrev callRefs : Finset (DevRef τ sig) := {x', i', o'}
abbrev endRefs : Finset (DevRef τ sig) := {a0', a1', r'}

theorem call_sub : callRefs ⊆ Pipeline.ucRefs τ sig := by
  intro b hb
  simp only [callRefs, Finset.mem_insert, Finset.mem_singleton] at hb
  rcases hb with rfl | rfl | rfl <;> exact Finset.mem_filter.mpr ⟨StableHlo.devRef_mem_tcRefs _, by decide⟩
theorem end_sub : endRefs ⊆ Pipeline.ucRefs τ sig := by
  intro b hb
  simp only [endRefs, Finset.mem_insert, Finset.mem_singleton] at hb
  rcases hb with rfl | rfl | rfl <;> exact Finset.mem_filter.mpr ⟨StableHlo.devRef_mem_tcRefs _, by decide⟩

theorem held_call (d : Dev nD) (W : Valuation τ sig (Elt F)) :
    (held (SparseCore.T d) callRefs W : sProp 𝕄) = iprop((xLoc d ↦{fullShare} W x') ∗ (iLoc d ↦{fullShare} W i') ∗ oLoc d ↦{fullShare} W o') := by
  unfold held callRefs
  rw [SparseCore.bigSep_insert' (by decide), SparseCore.bigSep_insert' (by decide), bigSep_singleton]
theorem held_fin (d : Dev nD) (W : Valuation τ sig (Elt F)) :
    (held (SparseCore.T d) endRefs W : sProp 𝕄)
      = iprop(((SparseCore.T d).loc main_arg0 ↦{fullShare} W a0') ∗ ((SparseCore.T d).loc main_arg1 ↦{fullShare} W a1') ∗ (SparseCore.T d).loc main_v12 ↦{fullShare} W r') := by
  unfold held endRefs
  rw [SparseCore.bigSep_insert' (by decide), SparseCore.bigSep_insert' (by decide), bigSep_singleton]

/-- Before the call: the three arrays, and the other buffers. -/
theorem held_V1 (d : Dev nD) :
    (held (d.tc : Thread nD τ) (Pipeline.ucRefs τ sig) (after pre (V0 m d)) : sProp 𝕄)
      = iprop(wholeP d (Xv m d) (Iv m d) (Ov m d) ∗ held (SparseCore.T d) (Pipeline.ucRefs τ sig \ callRefs) (V1 m d)) := by
  show held (SparseCore.T d) (Pipeline.ucRefs τ sig) (V1 m d) = _
  rw [held_sub_split (SparseCore.T d) call_sub, held_call]; rfl
/-- After it: the same with the result gathered. -/
theorem held_V2 (d : Dev nD) :
    iprop(wholeP d (Xv m d) (Iv m d) (outC (Xv m d) (Iv m d)) ∗ held (SparseCore.T d) (Pipeline.ucRefs τ sig \ callRefs) (V1 m d))
      = (held (d.tc : Thread nD τ) (Pipeline.ucRefs τ sig) (V2 m d) : sProp 𝕄) := by
  show _ = held (SparseCore.T d) (Pipeline.ucRefs τ sig) (V2 m d)
  have hne : ∀ b ∈ Pipeline.ucRefs τ sig \ callRefs, V1 m d b = V2 m d b := fun b hb =>
    (Function.update_of_ne (fun e => (Finset.mem_sdiff.mp hb).2 (by rw [e]; simp only [callRefs, Finset.mem_insert, Finset.mem_singleton, or_true])) _ _).symm
  rw [held_sub_split (SparseCore.T d) call_sub (V2 m d), held_call, held_congr (SparseCore.T d) hne,
    show V2 m d x' = V1 m d x' from Function.update_of_ne (by decide) _ _, show V2 m d i' = V1 m d i' from Function.update_of_ne (by decide) _ _,
    show V2 m d o' = (outC (Xv m d) (Iv m d) : Buf (Elt F) (oLoc d)) from Function.update_self _ _ _]
  rfl

theorem pre_sub : ∀ op ∈ (pre : List (HloOp τ sig (Elt F))), op.bufs ⊆ Pipeline.ucRefs τ sig := fun op h =>
  Pipeline.sub_ucRefs op (List.forall_iff_forall_mem.mp (show (pre : List (HloOp τ sig (Elt F))).Forall fun op => op.bufs ⊆ StableHlo.tcRefs τ sig from
    ⟨StableHlo.nullary_bufs_sub .., StableHlo.unary_bufs_sub .., StableHlo.nullary_bufs_sub .., StableHlo.unary_bufs_sub .., StableHlo.binary_bufs_sub ..,
      StableHlo.unary_bufs_sub .., StableHlo.unary_bufs_sub .., StableHlo.unary_bufs_sub .., StableHlo.binary_bufs_sub .., StableHlo.reshape_bufs_sub ..,
      StableHlo.reshape_bufs_sub .., StableHlo.reshape_bufs_sub ..⟩) op h)
theorem out_sub : ∀ op ∈ ([opOut] : List (HloOp τ sig (Elt F))), op.bufs ⊆ Pipeline.ucRefs τ sig := fun op h =>
  Pipeline.sub_ucRefs op (by rw [List.mem_singleton.mp h]; exact StableHlo.reshape_bufs_sub ..)
theorem pre_fresh : ∀ op ∈ (pre : List (HloOp τ sig (Elt F))), op.fresh = ∅ :=
  List.forall_iff_forall_mem.mp (show (pre : List (HloOp τ sig (Elt F))).Forall fun op => op.fresh = ∅ from
    ⟨rfl, rfl, rfl, rfl, rfl, rfl, rfl, rfl, rfl, rfl, rfl, rfl⟩)
theorem out_fresh : ∀ op ∈ ([opOut] : List (HloOp τ sig (Elt F))), op.fresh = ∅ := fun op h => by rw [List.mem_singleton.mp h]; rfl

/-- What the program leaves for the claims: the two arguments and the result. -/
abbrev FIN (d : Dev nD) : sProp 𝕄 := held (SparseCore.T d) endRefs (V3 m d)

theorem held_V3 (d : Dev nD) : (held (d.tc : Thread nD τ) (Pipeline.ucRefs τ sig) (after [opOut] (V2 m d)) : sProp 𝕄) ⊢ FIN m d := by
  show held (SparseCore.T d) (Pipeline.ucRefs τ sig) (V3 m d) ⊢ _
  rw [held_sub_split (SparseCore.T d) end_sub]
  exact sep_elim_left

theorem unscoped_held (d : Dev nD) : (unscopedBufs d (fun b => m ((SparseCore.T d).loc b)) : sProp 𝕄) = held (SparseCore.T d) (Pipeline.ucRefs τ sig) (V0 m d) :=
  Pipeline.unscopedBufs_held d (V0 m d)

/-- The program on device `d`'s TensorCore. -/
theorem hmain (κ : GSem nD τ sig → ℕ) (d : Dev nD) :
    iprop((K (F := F)).ctx EH (P (Xv m) (Iv m) (Ov m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ pre pre_sub pre_fresh (V0 m d)) $$ [Hb Hheld]
  · isplitl [Hb] <;> iassumption
  iintro ⟨Hb, Hheld⟩
  ihave Hh := (Entails.of_eq (held_V1 m d)) $$ Hheld
  icases Hh with ⟨Hw, Hrest⟩
  rw [wp_bind]
  iapply ((K (F := F)).wp_run (D (F := F)) 𝒱 (EH := EH) (P := P (Xv m) (Iv m) (Ov m)) κ d 0) $$ [Hst Hw Hb Hrest Hts]
  isplitr; · iexact Hctx
  isplitl [Hst]; · iexact Hst
  isplitl [Hw]
  · rw [st_eq]; iexact Hw
  iintro ⟨Hst, Hdn⟩
  ihave Hw := (Entails.of_eq (dn_eq (Xv m) (Iv m) (Ov m) d)) $$ Hdn
  ihave Hheld := (Entails.of_eq (held_V2 m d)) $$ [Hw Hrest]
  · isplitl [Hw] <;> iassumption
  rw [← bind_pure (seq [opOut])]
  iapply (wp_seq 𝒱 none Set.univ d (Pipeline.ucRefs τ sig) _ [opOut] out_sub out_fresh (V2 m d)) $$ [Hb Hheld]
  · isplitl [Hb] <;> iassumption
  iintro ⟨Hb, Hheld⟩
  ihave HF := (held_V3 m d) $$ Hheld
  rw [wp_pure]; imodintro
  isplitl [Hst]; · iexact Hst
  isplitl [HF]; · iexact HF
  isplitl [Hb] <;> iassumption

/-- What the claims read of device `d`'s final state. -/
def fq (d : Dev nD) (s' : Phys nD τ sig (Elt F)) : Prop :=
  s'.mem.mem ((SparseCore.T d).loc main_arg0) = V3 m d a0' ∧ s'.mem.mem ((SparseCore.T d).loc main_arg1) = V3 m d a1' ∧ s'.mem.mem ((SparseCore.T d).loc main_v12) = V3 m d r'

theorem hfin (d : Dev nD) (s' : Phys nD τ sig (Elt F)) : iprop(FIN m d ∗ SI s') ⊢ (⌜fq m d s'⌝ : sProp 𝕄) := by
  unfold FIN
  rw [held_fin]
  iintro ⟨⟨H0, H1, H2⟩, HSI⟩
  ihave H := (persistent_entails_right (SI_pointsTo_agree (st := s') (ℓ := (SparseCore.T d).loc main_arg0) (I := Finset.univ) (q := fullShare) (f := V3 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d a1'))) $$ [HSI H1]
  · isplitl [HSI] <;> iassumption
  icases H with ⟨%h1, HSI, -⟩
  ihave H := (SI_pointsTo_agree (st := s') (ℓ := (SparseCore.T d).loc main_v12) (I := Finset.univ) (q := fullShare) (f := V3 m d r')) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- How the program ends: on every device the arguments and the result at their final contents, every counter at zero. -/
def Ends : PUnit × MemSt nD τ sig (Elt F) → Prop := fun r =>
  (∀ c : Dev nD, r.2.mem ((SparseCore.T c).loc main_arg0) = V3 m c a0' ∧ r.2.mem ((SparseCore.T c).loc main_arg1) = V3 m c a1' ∧ r.2.mem ((SparseCore.T c).loc main_v12) = V3 m c r')
    ∧ r.2.sem = fun _ => 0

/-- Every execution of the program ends so, if the row numbers lie in the table. -/
theorem run_ends [∀ e, Nonempty (Elt F e)] (hI : ∀ d j, (Iv m d j).toNat < 294912) :
    θ_run (Cert.Kernel10Ideal.defs (F := F)) (Cert.Kernel10Ideal.threads (F := F)) ⟨m, fun _ => 0, ρ⟩ (Ends m) :=
  SparseCore.Cfg.θ_run_sc_quiescent (K := K (F := F)) (D := D (F := F)) (𝒱 := 𝒱) (EH := EH) (P := P (Xv m) (Iv m) (Ov m)) (A := ∅) facts v₀
    (fun q hq => match q with | 0 => nomatch hq)
    (fun q _ => match q with | 0 => tileObl (Xv m) (Iv m) (Ov m) hI)
    (fun q _ => match q with | 0 => SparseCore.Cfg.VecSplit.of_plain (vecSplit (Xv m) (Iv m) (Ov m)))
    m ρ main (fun _ => iprop(emp)) (FIN m) (u₀ (F := F)) (sep_elim_left.trans (hu₀ (Xv m) (Iv m) (Ov m))) (hmain m ρ) (fq m) (hfin m) (Ends m) (fun _ h hz => ⟨h, hz⟩)

end Cert.Proof.GatherBack

end
-- ==== Proof.BackValue.lean ====
/-
  What the program computes: entry `(p, j, c)` of its result is entry `(p, idx j, c)` of the table, where every `idx j` lies
  below 73728. The row numbers' host operations give `73728 p + idx j`; the flattened table's row of that number is plane `p`'s
  row `idx j`; and the last reshape puts gathered row `65536 p + j` at `(p, j)`.
-/
module

public import proofs.«01_k».proof.Proof.BackLaunch

@[expose] public section

noncomputable section

namespace Cert.Proof.GatherBack

open Cert.Kernel10Ideal Cert.Kernel10Ideal.Gen
open Idealize.ShloMosaic Idealize.SL.Sem
open Idealize.ShloMosaic.StableHlo
open Idealize.ShloMosaic.ValueIdx (ix1 ix2 ix3 eq_ix3)

variable {F : FTy → Type} [FloatOps F]

/-- The result: at `(p, j, c)` the table's `(p, idx j, c)`. -/
def picked (A : S4x73728x256.Idx → BitVec 32) (J : S65536.Idx → BitVec 32) : S4x65536x256.Idx → BitVec 32 := fun y =>
  A (ix3 (n0 := 4) (n1 := 73728) (n2 := 256) (y 0)
    ⟨(J (ix1 (n := 65536) (y 1))).toNat % 73728, Nat.mod_lt _ (by decide)⟩ (y 2))

/-- The row numbers the host operations compute from the indices. -/
def rowNo (J : S65536.Idx → BitVec 32) : S1x262144.Idx → BitVec 32 :=
  shapeCast S1x262144 (shapeCast S262144
    (addi
      (broadcastInDim S4x65536 ![0, 1] bcast_S4x1_S4x65536_0_1
        (muli (broadcastInDim S4x1 ![0] bcast_S4_S4x1_0 (iotaInDim S4 32 0)) (broadcastInDim S4x1 ![] bcast_S_S4x1 (constantI S_ 32 73728#32))))
      (broadcastInDim S4x65536 ![0, 1] bcast_S1x65536_S4x65536_0_1 (broadcastInDim S1x65536 ![1] bcast_S65536_S1x65536_1 J)))
    shapeCasts_S4x65536_S262144) shapeCasts_S262144_S1x262144

/-- Row number `65536 p + j` is `73728 p + idx j`. -/
theorem rowNo_at (J : S65536.Idx → BitVec 32) (p : Fin 4) (j : Fin 65536) (h : 65536 * p.val + j.val < 262144) :
    rowNo J (ix2 (n0 := 1) (n1 := 262144) ⟨0, by decide⟩ ⟨65536 * p.val + j.val, h⟩) = BitVec.ofNat 32 p.val * 73728#32 + J (ix1 (n := 65536) j) := by
  unfold rowNo
  rw [shapeCast_apply _ _ _ (ix1 (n := 262144) ⟨65536 * p.val + j.val, h⟩)
      (by rw [Shape.rowMajor_val_one, Shape.rowMajor_val_two]; show 65536 * p.val + j.val = 0 * 262144 + (65536 * p.val + j.val); omega),
    shapeCast_apply _ _ _ (ix2 (n0 := 4) (n1 := 65536) p j)
      (by rw [Shape.rowMajor_val_one, Shape.rowMajor_val_two]; show p.val * 65536 + j.val = 65536 * p.val + j.val; omega)]
  show IntOp.addi _ _ = _
  rw [broadcastInDim_apply _ _ _ _ (ix2 (n0 := 4) (n1 := 1) p ⟨0, by decide⟩) (fun a => match a with | ⟨0, _⟩ => rfl | ⟨1, _⟩ => rfl),
    broadcastInDim_apply _ _ _ _ (ix2 (n0 := 1) (n1 := 65536) ⟨0, by decide⟩ j) (fun a => match a with | ⟨0, _⟩ => rfl | ⟨1, _⟩ => rfl),
    broadcastInDim_apply _ _ J _ (ix1 (n := 65536) j) (fun a => match a with | ⟨0, _⟩ => rfl)]
  show IntOp.addi (IntOp.muli _ _) _ = _
  rw [broadcastInDim_apply _ _ (iotaInDim S4 32 0) _ (ix1 (n := 4) p) (fun a => match a with | ⟨0, _⟩ => rfl)]
  rfl

/-- It lies in the flattened table, as a number too. -/
theorem rowNo_toNat (J : S65536.Idx → BitVec 32) (hJ : ∀ j, (J j).toNat < 73728) (p : Fin 4) (j : Fin 65536) :
    (BitVec.ofNat 32 p.val * 73728#32 + J (ix1 (n := 65536) j)).toNat = 73728 * p.val + (J (ix1 (n := 65536) j)).toNat := by
  have h1 := p.isLt
  have h2 := hJ (ix1 (n := 65536) j)
  rw [BitVec.toNat_add, BitVec.toNat_mul, BitVec.toNat_ofNat, BitVec.toNat_ofNat]
  omega

theorem rowNo_lt (J : S65536.Idx → BitVec 32) (hJ : ∀ j, (J j).toNat < 73728) (y : S1x262144.Idx) : (rowNo J y).toNat < 294912 := by
  have hy : (y 1).val < 262144 := (y 1).isLt
  have e : y = ix2 (n0 := 1) (n1 := 262144) ⟨0, by decide⟩ ⟨65536 * ((y 1).val / 65536) + (y 1).val % 65536, by omega⟩ := by
    funext a
    match a with
    | ⟨0, _⟩ => exact Fin.ext (by have : (y 0).val < 1 := (y 0).isLt; show (y 0).val = 0; omega)
    | ⟨1, _⟩ => exact Fin.ext (by show (y 1).val = 65536 * ((y 1).val / 65536) + (y 1).val % 65536; omega)
  have h := rowNo_at J ⟨(y 1).val / 65536, by omega⟩ ⟨(y 1).val % 65536, Nat.mod_lt _ (by decide)⟩ (by show 65536 * ((y 1).val / 65536) + (y 1).val % 65536 < 262144; omega)
  rw [e]
  refine lt_of_eq_of_lt (congrArg BitVec.toNat h) ?_
  rw [rowNo_toNat J hJ]
  have := hJ (ix1 (n := 65536) ⟨(y 1).val % 65536, Nat.mod_lt _ (by decide)⟩)
  show 73728 * ((y 1).val / 65536) + _ < _
  omega

/-- The gathered rows put in planes are the result. -/
theorem gathered_eq (A : S4x73728x256.Idx → BitVec 32) (J : S65536.Idx → BitVec 32) (hJ : ∀ j, (J j).toNat < 73728) :
    shapeCast S4x65536x256 (outC (shapeCast S294912x256 A shapeCasts_S4x73728x256_S294912x256) (rowNo J)) shapeCasts_S262144x256_S4x65536x256 = picked A J := by
  funext y
  have h0 : (y 0).val < 4 := (y 0).isLt
  have h1 : (y 1).val < 65536 := (y 1).isLt
  have h2 : (y 2).val < 256 := (y 2).isLt
  have hn : 65536 * (y 0).val + (y 1).val < 262144 := by omega
  rw [shapeCast_apply _ _ _ (ix2 (n0 := 262144) (n1 := 256) ⟨65536 * (y 0).val + (y 1).val, hn⟩ (y 2))
      (by rw [Shape.rowMajor_val_two, Shape.rowMajor_val_three]
          show (65536 * (y 0).val + (y 1).val) * 256 + (y 2).val = ((y 0).val * 65536 + (y 1).val) * 256 + (y 2).val; omega)]
  have hrow : iAt (rowNo J) (65536 * (y 0).val + (y 1).val) = BitVec.ofNat 32 (y 0).val * 73728#32 + J (ix1 (n := 65536) (y 1)) := by
    unfold iAt
    simp only [Nat.mod_eq_of_lt hn]
    exact rowNo_at J (y 0) (y 1) hn
  have hnum := rowNo_toNat J hJ (y 0) (y 1)
  have hj := hJ (ix1 (n := 65536) (y 1))
  show xAt _ (iAt (rowNo J) (65536 * (y 0).val + (y 1).val)).toNat (y 2).val = _
  rw [hrow, hnum]
  unfold xAt picked
  refine shapeCast_apply _ _ _ _ ?_
  rw [Shape.rowMajor_val_two, Shape.rowMajor_val_three]
  show ((y 0).val * 73728 + (J (ix1 (n := 65536) (y 1))).toNat % 73728) * 256 + (y 2).val
    = ((73728 * (y 0).val + (J (ix1 (n := 65536) (y 1))).toNat) % 294912) * 256 + (y 2).val % 256
  rw [Nat.mod_eq_of_lt hj, Nat.mod_eq_of_lt h2, Nat.mod_eq_of_lt (show 73728 * (y 0).val + (J (ix1 (n := 65536) (y 1))).toNat < 294912 by omega)]
  omega

variable (m : (ℓ : Loc nD τ sig) → Buf (Elt F) ℓ) (d : Dev nD)

/-- The two arguments on device `d`. -/
abbrev tbl : S4x73728x256.Idx → BitVec 32 := m ((d.tc : Thread nD τ).loc main_arg0)
abbrev idx : S65536.Idx → BitVec 32 := m ((d.tc : Thread nD τ).loc main_arg1)

theorem Xv_eq : Xv m d = shapeCast S294912x256 (tbl m d) shapeCasts_S4x73728x256_S294912x256 := by
  unfold Xv V1 pre
  after_results <;> rfl
theorem Iv_eq : Iv m d = rowNo (idx m d) := by
  unfold Iv V1 pre
  after_results <;> rfl

theorem V2_of_ne (r : DevRef τ sig) (h : r ≠ o') : V2 m d r = V1 m d r := Function.update_of_ne h _ _

theorem V3_arg0 : V3 m d a0' = tbl m d := by
  unfold V3
  refine (show after [opOut] (V2 m d) a0' = V2 m d a0' from by after_results).trans ((V2_of_ne m d a0' (by decide)).trans ?_)
  unfold V1 pre
  after_results <;> rfl
theorem V3_arg1 : V3 m d a1' = idx m d := by
  unfold V3
  refine (show after [opOut] (V2 m d) a1' = V2 m d a1' from by after_results).trans ((V2_of_ne m d a1' (by decide)).trans ?_)
  unfold V1 pre
  after_results <;> rfl
theorem V3_res : V3 m d r' = (shapeCast S4x65536x256 (outC (Xv m d) (Iv m d)) shapeCasts_S262144x256_S4x65536x256 : S4x65536x256.Idx → BitVec 32) := by
  unfold V3
  refine (show after [opOut] (V2 m d) r' = (shapeCast S4x65536x256 (V2 m d o' : S262144x256.Idx → BitVec 32) shapeCasts_S262144x256_S4x65536x256 : S4x65536x256.Idx → BitVec 32)
    from by after_results <;> rfl).trans ?_
  rw [show V2 m d o' = (outC (Xv m d) (Iv m d) : Buf (Elt F) (oLoc d)) from Function.update_self _ _ _]

variable (ρ : Dev nD → PrngReg)

/-- EVERY execution of the program ends with the result at `picked`, the arguments as they were and every counter at zero, if
    every index lies below 73728. -/
theorem run_picked [∀ e, Nonempty (Elt F e)] (hJ : ∀ (d : Dev nD) j, (idx m d j).toNat < 73728) :
    θ_run (Cert.Kernel10Ideal.defs (F := F)) (Cert.Kernel10Ideal.threads (F := F)) ⟨m, fun _ => 0, ρ⟩ fun r =>
      (∀ c : Dev nD, r.2.mem ((c.tc : Thread nD τ).loc main_v12) = picked (tbl m c) (idx m c)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run Cert.Kernel10Ideal.defs _ _).mono (fun r h => ⟨fun c => ⟨?_, ?_, ?_⟩, h.2⟩)
    (run_ends m ρ fun d j => by rw [Iv_eq]; exact rowNo_lt (idx m d) (hJ d) j)
  · refine (h.1 c).2.2.trans ((V3_res m c).trans ?_)
    rw [Xv_eq, Iv_eq]
    exact gathered_eq (tbl m c) (idx m c) (hJ c)
  · exact (h.1 c).1.trans (V3_arg0 m c)
  · exact (h.1 c).2.1.trans (V3_arg1 m c)

end Cert.Proof.GatherBack

end
-- ==== Proof.BackRefValue.lean ====
/-
  What the reference computes: its host gather, read at `(p, j, c)`, is the table's `(p, idx j, c)` where `idx j`, a signed
  word, lies in `[0, 73728)`; and what the precondition says of `idx`.
-/
module

public import proofs.«01_k».proof.Defs
public import proofs.«01_k».proof.Proof.BackValue
public import proofs.«01_k».proof.Proof.Gen.Reference10Ideal.Run
public import proofs.«01_k».proof.Proof.Gen.Reference10.Run

@[expose] public section

noncomputable section

namespace Cert.Proof.GatherBack

open Cert.Kernel10Ideal (S4x73728x256 S65536 S4x65536x256 S_)
open Idealize.ShloMosaic Idealize.SL.Sem
open Idealize.ShloMosaic.ValueIdx (ix1 ix2 ix3 eq_ix1)

abbrev S65536x1 : Shape := ⟨2, ![65536, 1]⟩

/-- The reference's gather: along axis 1 of the table, one start index a row of the result's axis 1, slices of all 4 planes and
    all 256 columns. -/
abbrev pickDims (wf : GatherDims.WF S4x73728x256 S65536x1 S4x65536x256 [0, 2] [1] [] [1] [] 1 ![4, 1, 256]) :
    GatherDims S4x73728x256 S65536x1 S4x65536x256 where
  offsetDims := [0, 2]
  collapsedSliceDims := [1]
  operandBatchingDims := []
  startIndicesBatchingDims := []
  startIndexMap := [1]
  indexVectorDim := 1
  sliceSizes := ![4, 1, 256]
  wf := wf

/-- A non-negative signed word below 73728 clamps to its own value. -/
theorem clamp_word (v : BitVec 32) (h : v.toNat < 73728) : min v.toInt.toNat (73728 - 1) = v.toNat % 73728 := by
  rw [BitVec.toInt_eq_toNat_cond]
  omega

theorem gather_picked (wf : GatherDims.WF S4x73728x256 S65536x1 S4x65536x256 [0, 2] [1] [] [1] [] 1 ![4, 1, 256])
    (hb : S65536.BroadcastsInDim S65536x1 (![0] : Fin 1 → Fin S65536x1.rank))
    (A : S4x73728x256.Idx → BitVec 32) (J : S65536.Idx → BitVec 32) (hJ : ∀ j, (J j).toNat < 73728) :
    Host.gather (pickDims wf) A (broadcastInDim S65536x1 ![0] hb J) = picked A J := by
  funext y
  unfold Host.gather picked
  refine congrArg A (funext fun a => Fin.ext ?_)
  show (pickDims wf).start y (broadcastInDim S65536x1 ![0] hb J) a + (pickDims wf).batchCoord y a + (pickDims wf).offCoord y a = _
  rw [GatherDims.batchCoord_eq_zero _ _ _ List.not_mem_nil]
  match a with
  | ⟨0, _⟩ =>
    show (pickDims wf).start y _ 0 + 0 + (pickDims wf).offCoord y 0 = (y 0).val
    unfold GatherDims.start
    rw [dif_neg (show (0 : Fin 3) ∉ (pickDims wf).startIndexMap from show (0 : Fin 3) ∉ ([1] : List (Fin 3)) by decide)]
    unfold GatherDims.offCoord
    rw [dif_pos (show (0 : Fin 3) ∈ (pickDims wf).sKept from (GatherDims.mem_sKept _ _).mpr ⟨show (0 : Fin 3) ∉ ([1] : List (Fin 3)) by decide, List.not_mem_nil⟩)]
    simp only [Nat.zero_add, Nat.add_zero]
    rfl
  | ⟨2, _⟩ =>
    show (pickDims wf).start y _ 2 + 0 + (pickDims wf).offCoord y 2 = (y 2).val
    unfold GatherDims.start
    rw [dif_neg (show (2 : Fin 3) ∉ (pickDims wf).startIndexMap from show (2 : Fin 3) ∉ ([1] : List (Fin 3)) by decide)]
    unfold GatherDims.offCoord
    rw [dif_pos (show (2 : Fin 3) ∈ (pickDims wf).sKept from (GatherDims.mem_sKept _ _).mpr ⟨show (2 : Fin 3) ∉ ([1] : List (Fin 3)) by decide, List.not_mem_nil⟩)]
    simp only [Nat.zero_add, Nat.add_zero]
    rfl
  | ⟨1, _⟩ =>
    show (pickDims wf).start y _ 1 + 0 + (pickDims wf).offCoord y 1 = (J (ix1 (n := 65536) (y 1))).toNat % 73728
    rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (pickDims wf).startIndexMap from List.mem_singleton.mpr rfl)]
    have hsi : broadcastInDim S65536x1 ![0] hb J ((pickDims wf).siIdx y ⟨List.idxOf (1 : Fin 3) (pickDims wf).startIndexMap,
        List.idxOf_lt_length_iff.2 (List.mem_singleton.mpr rfl)⟩) = J (ix1 (n := 65536) (y 1)) :=
      broadcastInDim_apply _ _ _ _ _ (fun b => match b with | ⟨0, _⟩ => rfl)
    rw [hsi]
    exact clamp_word _ (hJ _)

instance preFacts : Cert.Pre_back_rows_in_range.Facts where
  bcast_S_S65536 := by decide

/-- The precondition — `(0 ≤ idx) & (idx < 73728)` at every index, all ones — says every `idx j` lies below 73728. -/
theorem idx_lt {F : FTy → Type} [FloatOps F] (A : S4x73728x256.Idx → BitVec 32) (J : S65536.Idx → BitVec 32)
    (h : Cert.Pre_back_rows_in_range.fn (F := F) A J = fun _ => 1#1) (j : S65536.Idx) : (J j).toNat < 73728 := by
  have e : IntOp.andi (IntOp.cmpi .sge (J j) 0#32) (IntOp.cmpi .slt (J j) 73728#32) = 1#1 := congrFun h j
  have both : ∀ p q : Bool, IntOp.andi (BitVec.ofBool p) (BitVec.ofBool q) = 1#1 → p = true ∧ q = true := by decide
  obtain ⟨h0, h1⟩ := both _ _ e
  change (0#32).sle (J j) = true at h0
  change (J j).slt 73728#32 = true at h1
  rw [BitVec.sle_eq_decide, decide_eq_true_eq] at h0
  rw [BitVec.slt_eq_decide, decide_eq_true_eq] at h1
  rw [BitVec.toInt_eq_toNat_cond, BitVec.toInt_eq_toNat_cond] at h0 h1
  simp only [BitVec.toNat_ofNat, Nat.reducePow, Nat.reduceMod] at h0 h1
  omega

end Cert.Proof.GatherBack

end
-- ==== Proof.lean ====
module

public import proofs.«01_k».proof.Defs
public import proofs.«01_k».proof.Proof.Gen.Kernel
public import proofs.«01_k».proof.Proof.Gen.KernelIdeal
public import proofs.«01_k».proof.Proof.Gen.Reference.Run
public import proofs.«01_k».proof.Proof.Gen.ReferenceIdeal.Run
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal
public import proofs.«01_k».proof.Proof.Gen.Reference10.Run
public import proofs.«01_k».proof.Proof.Gen.Reference10Ideal.Run
public import proofs.«01_k».proof.Proof.Gen.Pre_finite_args
public import proofs.«01_k».proof.Proof.Value
public import proofs.«01_k».proof.Proof.RefValue
public import proofs.«01_k».proof.Proof.InProj
public import proofs.«01_k».proof.Proof.AttnFinal
public import proofs.«01_k».proof.Proof.AttnPre
public import proofs.«01_k».proof.Proof.Attn1Final
public import proofs.«01_k».proof.Proof.OutProj
public import proofs.«01_k».proof.Proof.Sgu
public import proofs.«01_k».proof.Proof.Rope
public import proofs.«01_k».proof.Proof.Gates
public import proofs.«01_k».proof.Proof.Values
public import proofs.«01_k».proof.Proof.BackValue
public import proofs.«01_k».proof.Proof.BackRefValue
public import Idealize.ShloMosaic.Lib.Bf16PairInverse

@[expose] public section

noncomputable section

namespace Cert.Proof

open Idealize.ShloMosaic Idealize.SL.Sem Cert.Proof.Gather

/-- The kernel at `Bits` terminates quiescent with its arguments unchanged. -/
theorem frame_kernel : Cert.quiescent_Kernel (hKernel := Cert.Kernel.Gen.facts) (hPre_rows_in_range := preFacts) := fun m ρ h =>
  (θ_run Cert.KernelIdeal.defs _ _).mono (fun _ h => ⟨fun c => (h.1 c).2, h.2⟩)
    (run_picked (F := Bits) m ρ fun d j => idx_lt _ _ (h d) j)

/-- The kernel at `Ideal` terminates quiescent with its arguments unchanged. -/
theorem frame_kernelIdeal : Cert.quiescent_KernelIdeal (hKernelIdeal := Cert.KernelIdeal.Gen.facts) (hPre_rows_in_range := preFacts) := fun m ρ h =>
  (θ_run Cert.KernelIdeal.defs _ _).mono (fun _ h => ⟨fun c => (h.1 c).2, h.2⟩)
    (run_picked (F := Ideal) m ρ fun d j => idx_lt _ _ (h d) j)

/-- At `Ideal` the kernel's result is the reference's. -/
theorem algebraic : Cert.algebraic_KernelIdeal_ReferenceIdeal (hKernelIdeal := Cert.KernelIdeal.Gen.facts)
    (hReferenceIdeal := Cert.ReferenceIdeal.Gen.facts) (hPre_rows_in_range := preFacts) := by
  intro m ρ m' ρ' h hargs
  have hJ : ∀ (d : Dev Cert.KernelIdeal.nD) j, (idx m d j).toNat < 32768 := fun d j => idx_lt _ _ (h d) j
  refine ⟨fun c => picked (tbl m c) (idx m c), (θ_run Cert.KernelIdeal.defs _ _).mono (fun _ h c => h.1 c) (run_picked m ρ hJ),
    (θ_run Cert.ReferenceIdeal.defs _ _).mono (fun _ h c => ⟨(h c).1.trans ?_, (h c).2⟩) (Cert.ReferenceIdeal.Value.run m' ρ')⟩
  rw [(hargs c).1, (hargs c).2]
  exact gather_picked _ _ (tbl m c) (idx m c) (hJ c)

/-- Bit for bit the kernel's result is the reference's. -/
theorem bitexact : Cert.bitexact_Kernel_Reference (hKernel := Cert.Kernel.Gen.facts)
    (hReference := Cert.Reference.Gen.facts) (hPre_rows_in_range := preFacts) := by
  intro m ρ m' ρ' h hargs
  have hJ : ∀ (d : Dev Cert.KernelIdeal.nD) j, (idx (F := Bits) m d j).toNat < 32768 := fun d j => idx_lt _ _ (h d) j
  refine ⟨fun c => picked (tbl (F := Bits) m c) (idx (F := Bits) m c),
    (θ_run Cert.KernelIdeal.defs _ _).mono (fun _ h c => h.1 c) (run_picked (F := Bits) m ρ hJ),
    (θ_run Cert.Reference.defs _ _).mono (fun _ h c => ⟨(h c).1.trans ?_, (h c).2⟩) (Cert.Reference.Value.run m' ρ')⟩
  rw [(hargs c).1, (hargs c).2]
  exact gather_picked _ _ (tbl (F := Bits) m c) (idx (F := Bits) m c) (hJ c)

/-- The references terminate with their arguments unchanged; they have no counter. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)
theorem frame_ref_pre : Cert.quiescent_ReferenceIdeal_pre_rows_in_range (hReferenceIdeal := Cert.ReferenceIdeal.Gen.facts)
    (hPre_rows_in_range := preFacts) := fun m ρ _ =>
  (θ_run Cert.ReferenceIdeal.defs _ _).mono (fun r h => ⟨fun c => (h c).2, sem_eq_zero_of_no_sems (by decide) r.2⟩)
    (Cert.ReferenceIdeal.Value.run m ρ)
theorem frame_refBits : Cert.quiescent_Reference (hReference := Cert.Reference.Gen.facts) (hPre_rows_in_range := preFacts) := fun m ρ _ =>
  (θ_run Cert.Reference.defs _ _).mono (fun r h => ⟨fun c => (h c).2, sem_eq_zero_of_no_sems (by decide) r.2⟩)
    (Cert.Reference.Value.run m ρ)

/-- The input projection terminates quiescent with its arguments unchanged, at `Bits` and at `Ideal`. -/
theorem frame_inProj : Cert.quiescent_Kernel2 (hKernel2 := Cert.Kernel2.Gen.facts) := fun m ρ _ => Cert.Kernel2.Gen.frame m ρ
theorem frame_inProjIdeal : Cert.quiescent_Kernel2Ideal (hKernel2Ideal := Cert.Kernel2Ideal.Gen.facts) := fun m ρ _ =>
  Cert.Kernel2Ideal.Gen.frame m ρ

/-- The input projection's reference terminates with its arguments unchanged; it has no counter. -/
theorem frame_inProjRef : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- At `Ideal` the input projection's result is its reference's. -/
theorem algebraic_inProj : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.InProj.product _ _,
    (θ_run Cert.Kernel2Ideal.defs _ _).mono (fun _ h c => ⟨(h c).1.trans (Cert.Kernel2Ideal.InProj.final m c), (h c).2⟩)
      (Cert.Kernel2Ideal.Value.run_blocks m ρ),
    (θ_run Cert.Reference2Ideal.defs _ _).mono (fun _ h c => ⟨(h c).1.trans ?_, (h c).2⟩) (Cert.Reference2Ideal.Value.run m' ρ')⟩
  rw [(hargs c).1, (hargs c).2]

/-- The attention terminates quiescent with its arguments unchanged, at `Bits` and at `Ideal`. -/
theorem frame_attn : Cert.quiescent_Kernel3 (hKernel3 := Cert.Kernel3.Gen.facts) := fun m ρ _ => Cert.Kernel3.Gen.frame m ρ
theorem frame_attnIdeal : Cert.quiescent_Kernel3Ideal (hKernel3Ideal := Cert.Kernel3Ideal.Gen.facts) := fun m ρ _ =>
  Cert.Kernel3Ideal.Gen.frame m ρ
theorem frame_attnIdeal_pre : Cert.quiescent_Kernel3Ideal_pre_finite_args (hKernel3Ideal := Cert.Kernel3Ideal.Gen.facts)
    (hPre_finite_args := Cert.Pre_finite_args.Gen.facts) := fun m ρ _ => Cert.Kernel3Ideal.Gen.frame m ρ

/-- The attention's reference terminates with its arguments unchanged; it has no counter. -/
theorem frame_attnRef : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)
theorem frame_attnRef_pre : Cert.quiescent_Reference3Ideal_pre_finite_args (hReference3Ideal := Cert.Reference3Ideal.Gen.facts)
    (hPre_finite_args := Cert.Pre_finite_args.Gen.facts) := fun m ρ _ =>
  (θ_run Cert.Reference3Ideal.defs _ _).mono (fun r h => ⟨fun c => (h c).2, sem_eq_zero_of_no_sems (by decide) r.2⟩)
    (Cert.Reference3Ideal.Value.run m ρ)

/-- At `Ideal`, of real arguments, the attention's result is its reference's. -/
theorem algebraic_attn : Cert.algebraic_Kernel3Ideal_Reference3Ideal_pre_finite_args (hKernel3Ideal := Cert.Kernel3Ideal.Gen.facts)
    (hReference3Ideal := Cert.Reference3Ideal.Gen.facts) (hPre_finite_args := Cert.Pre_finite_args.Gen.facts) := by
  intro m ρ m' ρ' hpre hargs
  refine ⟨fun c => Cert.Reference3Ideal.Attn.attention
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)),
    (θ_run Cert.Kernel3Ideal.defs _ _).mono (fun _ h c => ⟨(h c).1.trans ?_, (h c).2⟩) (Cert.Kernel3Ideal.Value.run_blocks m ρ),
    (θ_run Cert.Reference3Ideal.defs _ _).mono (fun _ h c => ⟨(h c).1.trans ((Cert.Reference3Ideal.Attn.res_eq m' c).trans ?_), (h c).2⟩)
      (Cert.Reference3Ideal.Value.run m' ρ')⟩
  · have r := Cert.Pre_finite_args.Attn.real_args _ _ _ _ _ _ _ (hpre c)
    exact Cert.Kernel3Ideal.Attn.final m c r.1 r.2.1 r.2.2.1 r.2.2.2.1 r.2.2.2.2.1 r.2.2.2.2.2
  · have e := hargs c
    rw [e.1, e.2.1, e.2.2.1, e.2.2.2.1, e.2.2.2.2.1, e.2.2.2.2.2.1, e.2.2.2.2.2.2]

/-- Layer 1's attention terminates quiescent with its arguments unchanged, at `Bits` and at `Ideal`. -/
theorem frame_attn1 : Cert.quiescent_Kernel4 (hKernel4 := Cert.Kernel4.Gen.facts) := fun m ρ _ => Cert.Kernel4.Gen.frame m ρ
theorem frame_attn1Ideal : Cert.quiescent_Kernel4Ideal (hKernel4Ideal := Cert.Kernel4Ideal.Gen.facts) := fun m ρ _ =>
  Cert.Kernel4Ideal.Gen.frame m ρ
theorem frame_attn1Ideal_pre : Cert.quiescent_Kernel4Ideal_pre_finite_args (hKernel4Ideal := Cert.Kernel4Ideal.Gen.facts)
    (hPre_finite_args := Cert.Pre_finite_args.Gen.facts) := fun m ρ _ => Cert.Kernel4Ideal.Gen.frame m ρ

/-- Layer 1's attention's reference terminates with its arguments unchanged; it has no counter. -/
theorem frame_attn1Ref : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)
theorem frame_attn1Ref_pre : Cert.quiescent_Reference4Ideal_pre_finite_args (hReference4Ideal := Cert.Reference4Ideal.Gen.facts)
    (hPre_finite_args := Cert.Pre_finite_args.Gen.facts) := fun m ρ _ =>
  (θ_run Cert.Reference4Ideal.defs _ _).mono (fun r h => ⟨fun c => (h c).2, sem_eq_zero_of_no_sems (by decide) r.2⟩)
    (Cert.Reference4Ideal.Value.run m ρ)

/-- At `Ideal`, of real arguments, layer 1's attention's result is its reference's. -/
theorem algebraic_attn1 : Cert.algebraic_Kernel4Ideal_Reference4Ideal_pre_finite_args (hKernel4Ideal := Cert.Kernel4Ideal.Gen.facts)
    (hReference4Ideal := Cert.Reference4Ideal.Gen.facts) (hPre_finite_args := Cert.Pre_finite_args.Gen.facts) := by
  intro m ρ m' ρ' hpre hargs
  refine ⟨fun c => Cert.Reference4Ideal.Attn.attention
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)),
    (θ_run Cert.Kernel4Ideal.defs _ _).mono (fun _ h c => ⟨(h c).1.trans ?_, (h c).2⟩) (Cert.Kernel4Ideal.Value.run_blocks m ρ),
    (θ_run Cert.Reference4Ideal.defs _ _).mono (fun _ h c => ⟨(h c).1.trans ((Cert.Reference4Ideal.Attn.res_eq m' c).trans ?_), (h c).2⟩)
      (Cert.Reference4Ideal.Value.run m' ρ')⟩
  · have r := Cert.Pre_finite_args.Attn.real_args _ _ _ _ _ _ _ (hpre c)
    exact Cert.Kernel4Ideal.Attn.final m c r.1 r.2.1 r.2.2.1 r.2.2.2.1 r.2.2.2.2.1 r.2.2.2.2.2
  · have e := hargs c
    rw [e.1, e.2.1, e.2.2.1, e.2.2.2.1, e.2.2.2.2.1, e.2.2.2.2.2.1, e.2.2.2.2.2.2]

/-- The output projection terminates quiescent with its arguments unchanged, at `Bits` and at `Ideal`. -/
theorem frame_outProj : Cert.quiescent_Kernel5 (hKernel5 := Cert.Kernel5.Gen.facts) := fun m ρ _ => Cert.Kernel5.Gen.frame m ρ
theorem frame_outProjIdeal : Cert.quiescent_Kernel5Ideal (hKernel5Ideal := Cert.Kernel5Ideal.Gen.facts) := fun m ρ _ =>
  Cert.Kernel5Ideal.Gen.frame m ρ

/-- The output projection's reference terminates with its arguments unchanged; it has no counter. -/
theorem frame_outProjRef : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The rewrites of the output projection's packed words are the rules' own statements. -/
theorem preserves_outProj : Cert.preserves_Kernel5_Kernel5Ideal :=
  ⟨IdealRules.bf16_pair.bufferStatement _ _, IdealRules.bf16_pair.bufferStatement _ _, IdealRules.bf16_pair.packStatement _,
    IdealRules.bf16_pair.statement _ _⟩

/-- At `Ideal` the output projection's normalised rows are its reference's. -/
theorem algebraic_outProj : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => Cert.Reference5Ideal.Out.result
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6)),
    (θ_run Cert.Kernel5Ideal.defs _ _).mono (fun _ h c => ⟨(h c).1.trans (Cert.Kernel5Ideal.Out.final m c), (h c).2.2.2⟩)
      (Cert.Kernel5Ideal.Value.run_blocks m ρ),
    (θ_run Cert.Reference5Ideal.defs _ _).mono (fun _ h c => ⟨(h c).1.trans ((Cert.Reference5Ideal.Out.res_eq m' c).trans ?_), (h c).2⟩)
      (Cert.Reference5Ideal.Value.run m' ρ')⟩
  have e := hargs c
  rw [e.1, e.2.1, e.2.2.1, e.2.2.2.1, e.2.2.2.2.1, e.2.2.2.2.2.1, e.2.2.2.2.2.2.1]

/-- The spatial gating terminates quiescent with its arguments unchanged, at `Bits` and at `Ideal`. -/
theorem frame_sgu : Cert.quiescent_Kernel6 (hKernel6 := Cert.Kernel6.Gen.facts) := fun m ρ _ => Cert.Kernel6.Gen.frame m ρ
theorem frame_sguIdeal : Cert.quiescent_Kernel6Ideal (hKernel6Ideal := Cert.Kernel6Ideal.Gen.facts) := fun m ρ _ =>
  Cert.Kernel6Ideal.Gen.frame m ρ

/-- The spatial gating's reference terminates with its arguments unchanged; it has no counter. -/
theorem frame_sguRef : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- At `Ideal` the spatial gating's result is its reference's. -/
theorem algebraic_sgu : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => Cert.Reference6Ideal.Sgu.result
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    (θ_run Cert.Kernel6Ideal.defs _ _).mono (fun _ h c => ⟨(h c).1.trans (Cert.Kernel6Ideal.Sgu.final m c), (h c).2⟩)
      (Cert.Kernel6Ideal.Value.run_blocks m ρ),
    (θ_run Cert.Reference6Ideal.defs _ _).mono (fun _ h c => ⟨(h c).1.trans ((Cert.Reference6Ideal.Sgu.res_eq m' c).trans ?_), (h c).2⟩)
      (Cert.Reference6Ideal.Value.run m' ρ')⟩
  have e := hargs c
  rw [e.1, e.2.1, e.2.2.1, e.2.2.2.1, e.2.2.2.2]

/-- The rotary positions' program terminates quiescent with its argument unchanged, at `Bits` and at `Ideal`. -/
theorem frame_rope : Cert.quiescent_Kernel7 (hKernel7 := Cert.Kernel7.Gen.facts) := fun m ρ _ => Cert.Kernel7.Gen.frame m ρ
theorem frame_ropeIdeal : Cert.quiescent_Kernel7Ideal (hKernel7Ideal := Cert.Kernel7Ideal.Gen.facts) := fun m ρ _ =>
  Cert.Kernel7Ideal.Gen.frame m ρ

/-- The rotary positions' reference terminates with its argument unchanged; it has no counter. -/
theorem frame_ropeRef : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

/-- At `Ideal` the rotary positions' result is their reference's. -/
theorem algebraic_rope : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => Cert.Reference7Ideal.Rope.result
      (m ((c.tc : Thread Cert.Kernel7Ideal.nD Cert.Kernel7Ideal.τ).loc Cert.Kernel7Ideal.main_arg0)),
    (θ_run Cert.Kernel7Ideal.defs _ _).mono (fun _ h c => ⟨(h c).1.trans (Cert.Kernel7Ideal.Rope.final m c), (h c).2⟩)
      (Cert.Kernel7Ideal.Value.run_blocks m ρ),
    (θ_run Cert.Reference7Ideal.defs _ _).mono (fun _ h c => ⟨(h c).1.trans ((Cert.Reference7Ideal.Rope.res_eq m' c).trans ?_), (h c).2⟩)
      (Cert.Reference7Ideal.Value.run m' ρ')⟩
  rw [hargs c]

/-- The DeltaNet's gates terminate quiescent with their arguments unchanged, at `Bits` and at `Ideal`. -/
theorem frame_gates : Cert.quiescent_Kernel8 (hKernel8 := Cert.Kernel8.Gen.facts) := fun m ρ _ => Cert.Kernel8.Gen.frame m ρ
theorem frame_gatesIdeal : Cert.quiescent_Kernel8Ideal (hKernel8Ideal := Cert.Kernel8Ideal.Gen.facts) := fun m ρ _ =>
  Cert.Kernel8Ideal.Gen.frame m ρ

/-- The gates' reference terminates with its arguments unchanged; it has no counter. -/
theorem frame_gatesRef : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- At `Ideal` the gates' result is their reference's. -/
theorem algebraic_gates : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => Cert.Reference8Ideal.Gates.result
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2)),
    (θ_run Cert.Kernel8Ideal.defs _ _).mono (fun _ h c => ⟨(h c).1.trans (Cert.Kernel8Ideal.Gates.final m c), (h c).2⟩)
      (Cert.Kernel8Ideal.Value.run_blocks m ρ),
    (θ_run Cert.Reference8Ideal.defs _ _).mono (fun _ h c => ⟨(h c).1.trans ?_, (h c).2⟩)
      (Cert.Reference8Ideal.Value.run m' ρ')⟩
  have e := hargs c
  rw [e.1, e.2.1, e.2.2]
  rfl

/-- The layout of the attention's values terminates quiescent with its arguments unchanged, at `Bits` and at `Ideal`. -/
theorem frame_values : Cert.quiescent_Kernel9 (hKernel9 := Cert.Kernel9.Gen.facts) := fun m ρ _ => Cert.Kernel9.Gen.frame m ρ
theorem frame_valuesIdeal : Cert.quiescent_Kernel9Ideal (hKernel9Ideal := Cert.Kernel9Ideal.Gen.facts) := fun m ρ _ =>
  Cert.Kernel9Ideal.Gen.frame m ρ

/-- The layout's reference terminates with its arguments unchanged; it has no counter. -/
theorem frame_valuesRef : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- At `Ideal` the layout's result is its reference's. -/
theorem algebraic_values : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => Cert.Reference9Ideal.Values.result
      (m ((c.tc : Thread Cert.Kernel9Ideal.nD Cert.Kernel9Ideal.τ).loc Cert.Kernel9Ideal.main_arg0)),
    (θ_run Cert.Kernel9Ideal.defs _ _).mono (fun _ h c => ⟨(h c).1.trans (Cert.Kernel9Ideal.Values.final m c), (h c).2⟩)
      (Cert.Kernel9Ideal.Value.run_blocks m ρ),
    (θ_run Cert.Reference9Ideal.defs _ _).mono (fun _ h c => ⟨(h c).1.trans ?_, (h c).2⟩)
      (Cert.Reference9Ideal.Value.run m' ρ')⟩
  rw [hargs c]
  rfl

/-- The second gather at `Bits` terminates quiescent with its arguments unchanged. -/
theorem back_frame_kernel : Cert.quiescent_Kernel10 (hKernel10 := Cert.Kernel10.Gen.facts) (hPre_back_rows_in_range := GatherBack.preFacts) := fun m ρ h =>
  (θ_run Cert.Kernel10Ideal.defs _ _).mono (fun _ h => ⟨fun c => (h.1 c).2, h.2⟩)
    (GatherBack.run_picked (F := Bits) m ρ fun d j => GatherBack.idx_lt _ _ (h d) j)

/-- The second gather at `Ideal` terminates quiescent with its arguments unchanged. -/
theorem back_frame_kernelIdeal : Cert.quiescent_Kernel10Ideal (hKernel10Ideal := Cert.Kernel10Ideal.Gen.facts) (hPre_back_rows_in_range := GatherBack.preFacts) := fun m ρ h =>
  (θ_run Cert.Kernel10Ideal.defs _ _).mono (fun _ h => ⟨fun c => (h.1 c).2, h.2⟩)
    (GatherBack.run_picked (F := Ideal) m ρ fun d j => GatherBack.idx_lt _ _ (h d) j)

/-- At `Ideal` the second gather's result is the reference's. -/
theorem back_algebraic : Cert.algebraic_Kernel10Ideal_Reference10Ideal (hKernel10Ideal := Cert.Kernel10Ideal.Gen.facts)
    (hReference10Ideal := Cert.Reference10Ideal.Gen.facts) (hPre_back_rows_in_range := GatherBack.preFacts) := by
  intro m ρ m' ρ' h hargs
  have hJ : ∀ (d : Dev Cert.Kernel10Ideal.nD) j, (GatherBack.idx m d j).toNat < 73728 := fun d j => GatherBack.idx_lt _ _ (h d) j
  refine ⟨fun c => GatherBack.picked (GatherBack.tbl m c) (GatherBack.idx m c), (θ_run Cert.Kernel10Ideal.defs _ _).mono (fun _ h c => h.1 c) (GatherBack.run_picked m ρ hJ),
    (θ_run Cert.Reference10Ideal.defs _ _).mono (fun _ h c => ⟨(h c).1.trans ?_, (h c).2⟩) (Cert.Reference10Ideal.Value.run m' ρ')⟩
  rw [(hargs c).1, (hargs c).2]
  exact GatherBack.gather_picked _ _ (GatherBack.tbl m c) (GatherBack.idx m c) (hJ c)

/-- Bit for bit the second gather's result is the reference's. -/
theorem back_bitexact : Cert.bitexact_Kernel10_Reference10 (hKernel10 := Cert.Kernel10.Gen.facts)
    (hReference10 := Cert.Reference10.Gen.facts) (hPre_back_rows_in_range := GatherBack.preFacts) := by
  intro m ρ m' ρ' h hargs
  have hJ : ∀ (d : Dev Cert.Kernel10Ideal.nD) j, (GatherBack.idx (F := Bits) m d j).toNat < 73728 := fun d j => GatherBack.idx_lt _ _ (h d) j
  refine ⟨fun c => GatherBack.picked (GatherBack.tbl (F := Bits) m c) (GatherBack.idx (F := Bits) m c),
    (θ_run Cert.Kernel10Ideal.defs _ _).mono (fun _ h c => h.1 c) (GatherBack.run_picked (F := Bits) m ρ hJ),
    (θ_run Cert.Reference10.defs _ _).mono (fun _ h c => ⟨(h c).1.trans ?_, (h c).2⟩) (Cert.Reference10.Value.run m' ρ')⟩
  rw [(hargs c).1, (hargs c).2]
  exact GatherBack.gather_picked _ _ (GatherBack.tbl (F := Bits) m c) (GatherBack.idx (F := Bits) m c) (hJ c)

/-- The second gather's references terminate with their arguments unchanged; they have no counter. -/
theorem back_frame_ref : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)
theorem back_frame_ref_pre : Cert.quiescent_Reference10Ideal_pre_back_rows_in_range (hReference10Ideal := Cert.Reference10Ideal.Gen.facts)
    (hPre_back_rows_in_range := GatherBack.preFacts) := fun m ρ _ =>
  (θ_run Cert.Reference10Ideal.defs _ _).mono (fun r h => ⟨fun c => (h c).2, sem_eq_zero_of_no_sems (by decide) r.2⟩)
    (Cert.Reference10Ideal.Value.run m ρ)
theorem back_frame_refBits : Cert.quiescent_Reference10 (hReference10 := Cert.Reference10.Gen.facts) (hPre_back_rows_in_range := GatherBack.preFacts) := fun m ρ _ =>
  (θ_run Cert.Reference10.defs _ _).mono (fun r h => ⟨fun c => (h c).2, sem_eq_zero_of_no_sems (by decide) r.2⟩)
    (Cert.Reference10.Value.run m ρ)

/-- Everything the certificate claims. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Reference10.Gen.facts,
    preFacts, Cert.Pre_finite_args.Gen.facts, GatherBack.preFacts,
    frame_kernel, frame_kernelIdeal,
    frame_ref, frame_ref_pre, frame_refBits,
    frame_inProj, frame_inProjIdeal, frame_inProjRef,
    frame_attn, frame_attnIdeal, frame_attnIdeal_pre, frame_attnRef, frame_attnRef_pre,
    frame_attn1, frame_attn1Ideal, frame_attn1Ideal_pre, frame_attn1Ref, frame_attn1Ref_pre,
    frame_outProj, frame_outProjIdeal, frame_outProjRef,
    frame_sgu, frame_sguIdeal, frame_sguRef,
    frame_rope, frame_ropeIdeal, frame_ropeRef,
    frame_gates, frame_gatesIdeal, frame_gatesRef,
    frame_values, frame_valuesIdeal, frame_valuesRef,
    back_frame_kernel, back_frame_kernelIdeal,
    back_frame_ref, back_frame_ref_pre, back_frame_refBits,
    trivial, algebraic, bitexact,
    trivial, algebraic_inProj,
    trivial, algebraic_attn,
    trivial, algebraic_attn1,
    preserves_outProj, algebraic_outProj,
    trivial, algebraic_sgu,
    trivial, algebraic_rope,
    trivial, algebraic_gates,
    trivial, algebraic_values,
    trivial, back_algebraic, back_bitexact⟩

end Cert.Proof

end
